-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_InProjP (m : (ℓ : Loc Cert.InProjP.nD Cert.InProjP.τ Cert.InProjP.sig) → Buf (Elt Bits) ℓ) : Prop :=
  True

def Pre_InProjPIdeal (m : (ℓ : Loc Cert.InProjPIdeal.nD Cert.InProjPIdeal.τ Cert.InProjPIdeal.sig) → Buf (Elt Ideal) ℓ) : Prop :=
  True

def Pre_InProjPRefIdeal (m : (ℓ : Loc Cert.InProjPRefIdeal.nD Cert.InProjPRefIdeal.τ Cert.InProjPRefIdeal.sig) → Buf (Elt Ideal) ℓ) : Prop :=
  True

def Pre_MergeP (m : (ℓ : Loc Cert.MergeP.nD Cert.MergeP.τ Cert.MergeP.sig) → Buf (Elt Bits) ℓ) : Prop :=
  True

def Pre_MergePIdeal (m : (ℓ : Loc Cert.MergePIdeal.nD Cert.MergePIdeal.τ Cert.MergePIdeal.sig) → Buf (Elt Ideal) ℓ) : Prop :=
  True

def Pre_MergePRefIdeal (m : (ℓ : Loc Cert.MergePRefIdeal.nD Cert.MergePRefIdeal.τ Cert.MergePRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_PrepP (m : (ℓ : Loc Cert.PrepP.nD Cert.PrepP.τ Cert.PrepP.sig) → Buf (Elt Bits) ℓ) : Prop :=
  True

def Pre_PrepPIdeal (m : (ℓ : Loc Cert.PrepPIdeal.nD Cert.PrepPIdeal.τ Cert.PrepPIdeal.sig) → Buf (Elt Ideal) ℓ) : Prop :=
  True

def Pre_PrepPRefIdeal (m : (ℓ : Loc Cert.PrepPRefIdeal.nD Cert.PrepPRefIdeal.τ Cert.PrepPRefIdeal.sig) → Buf (Elt Ideal) ℓ) : Prop :=
  True

def Pre_ScanP (m : (ℓ : Loc Cert.ScanP.nD Cert.ScanP.τ Cert.ScanP.sig) → Buf (Elt Bits) ℓ) : Prop :=
  True

def Pre_ScanPIdeal (m : (ℓ : Loc Cert.ScanPIdeal.nD Cert.ScanPIdeal.τ Cert.ScanPIdeal.sig) → Buf (Elt Ideal) ℓ) : Prop :=
  True

def Pre_ScanPRefIdeal (m : (ℓ : Loc Cert.ScanPRefIdeal.nD Cert.ScanPRefIdeal.τ Cert.ScanPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_InProjP [hInProjP : Cert.InProjP.Facts] : Prop :=
  ∀ (m : (ℓ : Loc Cert.InProjP.nD Cert.InProjP.τ Cert.InProjP.sig) → Buf (Elt Bits) ℓ) (g : Dev Cert.InProjP.nD → PrngReg), Pre_InProjP m →
    θ_run (Cert.InProjP.defs (F := Bits)) (onTc (τ := Cert.InProjP.τ) (Cert.InProjP.main (F := Bits))) ⟨m, fun _ => 0, g⟩ (fun r => (∀ c : Dev Cert.InProjP.nD,
      r.2.mem ((c.tc : Thread Cert.InProjP.nD Cert.InProjP.τ).loc Cert.InProjP.main_arg0) = m ((c.tc : Thread Cert.InProjP.nD Cert.InProjP.τ).loc Cert.InProjP.main_arg0)
      ∧ r.2.mem ((c.tc : Thread Cert.InProjP.nD Cert.InProjP.τ).loc Cert.InProjP.main_arg1) = m ((c.tc : Thread Cert.InProjP.nD Cert.InProjP.τ).loc Cert.InProjP.main_arg1)
      ∧ r.2.mem ((c.tc : Thread Cert.InProjP.nD Cert.InProjP.τ).loc Cert.InProjP.main_arg2) = m ((c.tc : Thread Cert.InProjP.nD Cert.InProjP.τ).loc Cert.InProjP.main_arg2))
      ∧ r.2.sem = fun _ => 0)

def quiescent_InProjPIdeal [hInProjPIdeal : Cert.InProjPIdeal.Facts] : Prop :=
  ∀ (m : (ℓ : Loc Cert.InProjPIdeal.nD Cert.InProjPIdeal.τ Cert.InProjPIdeal.sig) → Buf (Elt Ideal) ℓ) (g : Dev Cert.InProjPIdeal.nD → PrngReg), Pre_InProjPIdeal m →
    θ_run (Cert.InProjPIdeal.defs (F := Ideal)) (onTc (τ := Cert.InProjPIdeal.τ) (Cert.InProjPIdeal.main (F := Ideal))) ⟨m, fun _ => 0, g⟩ (fun r => (∀ c : Dev Cert.InProjPIdeal.nD,
      r.2.mem ((c.tc : Thread Cert.InProjPIdeal.nD Cert.InProjPIdeal.τ).loc Cert.InProjPIdeal.main_arg0) = m ((c.tc : Thread Cert.InProjPIdeal.nD Cert.InProjPIdeal.τ).loc Cert.InProjPIdeal.main_arg0)
      ∧ r.2.mem ((c.tc : Thread Cert.InProjPIdeal.nD Cert.InProjPIdeal.τ).loc Cert.InProjPIdeal.main_arg1) = m ((c.tc : Thread Cert.InProjPIdeal.nD Cert.InProjPIdeal.τ).loc Cert.InProjPIdeal.main_arg1)
      ∧ r.2.mem ((c.tc : Thread Cert.InProjPIdeal.nD Cert.InProjPIdeal.τ).loc Cert.InProjPIdeal.main_arg2) = m ((c.tc : Thread Cert.InProjPIdeal.nD Cert.InProjPIdeal.τ).loc Cert.InProjPIdeal.main_arg2))
      ∧ r.2.sem = fun _ => 0)

def quiescent_InProjPRefIdeal [hInProjPRefIdeal : Cert.InProjPRefIdeal.Facts] : Prop :=
  ∀ (m : (ℓ : Loc Cert.InProjPRefIdeal.nD Cert.InProjPRefIdeal.τ Cert.InProjPRefIdeal.sig) → Buf (Elt Ideal) ℓ) (g : Dev Cert.InProjPRefIdeal.nD → PrngReg), Pre_InProjPRefIdeal m →
    θ_run (Cert.InProjPRefIdeal.defs (F := Ideal)) (onTc (τ := Cert.InProjPRefIdeal.τ) (Cert.InProjPRefIdeal.main (F := Ideal))) ⟨m, fun _ => 0, g⟩ (fun r => (∀ c : Dev Cert.InProjPRefIdeal.nD,
      r.2.mem ((c.tc : Thread Cert.InProjPRefIdeal.nD Cert.InProjPRefIdeal.τ).loc Cert.InProjPRefIdeal.main_arg0) = m ((c.tc : Thread Cert.InProjPRefIdeal.nD Cert.InProjPRefIdeal.τ).loc Cert.InProjPRefIdeal.main_arg0)
      ∧ r.2.mem ((c.tc : Thread Cert.InProjPRefIdeal.nD Cert.InProjPRefIdeal.τ).loc Cert.InProjPRefIdeal.main_arg1) = m ((c.tc : Thread Cert.InProjPRefIdeal.nD Cert.InProjPRefIdeal.τ).loc Cert.InProjPRefIdeal.main_arg1)
      ∧ r.2.mem ((c.tc : Thread Cert.InProjPRefIdeal.nD Cert.InProjPRefIdeal.τ).loc Cert.InProjPRefIdeal.main_arg2) = m ((c.tc : Thread Cert.InProjPRefIdeal.nD Cert.InProjPRefIdeal.τ).loc Cert.InProjPRefIdeal.main_arg2))
      ∧ r.2.sem = fun _ => 0)

def quiescent_MergeP [hMergeP : Cert.MergeP.Facts] : Prop :=
  ∀ (m : (ℓ : Loc Cert.MergeP.nD Cert.MergeP.τ Cert.MergeP.sig) → Buf (Elt Bits) ℓ) (g : Dev Cert.MergeP.nD → PrngReg), Pre_MergeP m →
    θ_run (Cert.MergeP.defs (F := Bits)) (onTc (τ := Cert.MergeP.τ) (Cert.MergeP.main (F := Bits))) ⟨m, fun _ => 0, g⟩ (fun r => (∀ c : Dev Cert.MergeP.nD,
      r.2.mem ((c.tc : Thread Cert.MergeP.nD Cert.MergeP.τ).loc Cert.MergeP.main_arg0) = m ((c.tc : Thread Cert.MergeP.nD Cert.MergeP.τ).loc Cert.MergeP.main_arg0)
      ∧ r.2.mem ((c.tc : Thread Cert.MergeP.nD Cert.MergeP.τ).loc Cert.MergeP.main_arg1) = m ((c.tc : Thread Cert.MergeP.nD Cert.MergeP.τ).loc Cert.MergeP.main_arg1)
      ∧ r.2.mem ((c.tc : Thread Cert.MergeP.nD Cert.MergeP.τ).loc Cert.MergeP.main_arg2) = m ((c.tc : Thread Cert.MergeP.nD Cert.MergeP.τ).loc Cert.MergeP.main_arg2)
      ∧ r.2.mem ((c.tc : Thread Cert.MergeP.nD Cert.MergeP.τ).loc Cert.MergeP.main_arg3) = m ((c.tc : Thread Cert.MergeP.nD Cert.MergeP.τ).loc Cert.MergeP.main_arg3)
      ∧ r.2.mem ((c.tc : Thread Cert.MergeP.nD Cert.MergeP.τ).loc Cert.MergeP.main_arg4) = m ((c.tc : Thread Cert.MergeP.nD Cert.MergeP.τ).loc Cert.MergeP.main_arg4)
      ∧ r.2.mem ((c.tc : Thread Cert.MergeP.nD Cert.MergeP.τ).loc Cert.MergeP.main_arg5) = m ((c.tc : Thread Cert.MergeP.nD Cert.MergeP.τ).loc Cert.MergeP.main_arg5)
      ∧ r.2.mem ((c.tc : Thread Cert.MergeP.nD Cert.MergeP.τ).loc Cert.MergeP.main_arg6) = m ((c.tc : Thread Cert.MergeP.nD Cert.MergeP.τ).loc Cert.MergeP.main_arg6)
      ∧ r.2.mem ((c.tc : Thread Cert.MergeP.nD Cert.MergeP.τ).loc Cert.MergeP.main_arg7) = m ((c.tc : Thread Cert.MergeP.nD Cert.MergeP.τ).loc Cert.MergeP.main_arg7)
      ∧ r.2.mem ((c.tc : Thread Cert.MergeP.nD Cert.MergeP.τ).loc Cert.MergeP.main_arg8) = m ((c.tc : Thread Cert.MergeP.nD Cert.MergeP.τ).loc Cert.MergeP.main_arg8))
      ∧ r.2.sem = fun _ => 0)

def quiescent_MergePIdeal [hMergePIdeal : Cert.MergePIdeal.Facts] : Prop :=
  ∀ (m : (ℓ : Loc Cert.MergePIdeal.nD Cert.MergePIdeal.τ Cert.MergePIdeal.sig) → Buf (Elt Ideal) ℓ) (g : Dev Cert.MergePIdeal.nD → PrngReg), Pre_MergePIdeal m →
    θ_run (Cert.MergePIdeal.defs (F := Ideal)) (onTc (τ := Cert.MergePIdeal.τ) (Cert.MergePIdeal.main (F := Ideal))) ⟨m, fun _ => 0, g⟩ (fun r => (∀ c : Dev Cert.MergePIdeal.nD,
      r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
      ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
      ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
      ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
      ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
      ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
      ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
      ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
      ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8))
      ∧ r.2.sem = fun _ => 0)

def quiescent_MergePRefIdeal [hMergePRefIdeal : Cert.MergePRefIdeal.Facts] : Prop :=
  ∀ (m : (ℓ : Loc Cert.MergePRefIdeal.nD Cert.MergePRefIdeal.τ Cert.MergePRefIdeal.sig) → Buf (Elt Ideal) ℓ) (g : Dev Cert.MergePRefIdeal.nD → PrngReg), Pre_MergePRefIdeal m →
    θ_run (Cert.MergePRefIdeal.defs (F := Ideal)) (onTc (τ := Cert.MergePRefIdeal.τ) (Cert.MergePRefIdeal.main (F := Ideal))) ⟨m, fun _ => 0, g⟩ (fun r => (∀ c : Dev Cert.MergePRefIdeal.nD,
      r.2.mem ((c.tc : Thread Cert.MergePRefIdeal.nD Cert.MergePRefIdeal.τ).loc Cert.MergePRefIdeal.main_arg0) = m ((c.tc : Thread Cert.MergePRefIdeal.nD Cert.MergePRefIdeal.τ).loc Cert.MergePRefIdeal.main_arg0)
      ∧ r.2.mem ((c.tc : Thread Cert.MergePRefIdeal.nD Cert.MergePRefIdeal.τ).loc Cert.MergePRefIdeal.main_arg1) = m ((c.tc : Thread Cert.MergePRefIdeal.nD Cert.MergePRefIdeal.τ).loc Cert.MergePRefIdeal.main_arg1)
      ∧ r.2.mem ((c.tc : Thread Cert.MergePRefIdeal.nD Cert.MergePRefIdeal.τ).loc Cert.MergePRefIdeal.main_arg2) = m ((c.tc : Thread Cert.MergePRefIdeal.nD Cert.MergePRefIdeal.τ).loc Cert.MergePRefIdeal.main_arg2)
      ∧ r.2.mem ((c.tc : Thread Cert.MergePRefIdeal.nD Cert.MergePRefIdeal.τ).loc Cert.MergePRefIdeal.main_arg3) = m ((c.tc : Thread Cert.MergePRefIdeal.nD Cert.MergePRefIdeal.τ).loc Cert.MergePRefIdeal.main_arg3)
      ∧ r.2.mem ((c.tc : Thread Cert.MergePRefIdeal.nD Cert.MergePRefIdeal.τ).loc Cert.MergePRefIdeal.main_arg4) = m ((c.tc : Thread Cert.MergePRefIdeal.nD Cert.MergePRefIdeal.τ).loc Cert.MergePRefIdeal.main_arg4)
      ∧ r.2.mem ((c.tc : Thread Cert.MergePRefIdeal.nD Cert.MergePRefIdeal.τ).loc Cert.MergePRefIdeal.main_arg5) = m ((c.tc : Thread Cert.MergePRefIdeal.nD Cert.MergePRefIdeal.τ).loc Cert.MergePRefIdeal.main_arg5)
      ∧ r.2.mem ((c.tc : Thread Cert.MergePRefIdeal.nD Cert.MergePRefIdeal.τ).loc Cert.MergePRefIdeal.main_arg6) = m ((c.tc : Thread Cert.MergePRefIdeal.nD Cert.MergePRefIdeal.τ).loc Cert.MergePRefIdeal.main_arg6)
      ∧ r.2.mem ((c.tc : Thread Cert.MergePRefIdeal.nD Cert.MergePRefIdeal.τ).loc Cert.MergePRefIdeal.main_arg7) = m ((c.tc : Thread Cert.MergePRefIdeal.nD Cert.MergePRefIdeal.τ).loc Cert.MergePRefIdeal.main_arg7)
      ∧ r.2.mem ((c.tc : Thread Cert.MergePRefIdeal.nD Cert.MergePRefIdeal.τ).loc Cert.MergePRefIdeal.main_arg8) = m ((c.tc : Thread Cert.MergePRefIdeal.nD Cert.MergePRefIdeal.τ).loc Cert.MergePRefIdeal.main_arg8))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1)
      ∧ r.2.mem ((c.tc : Thread Cert.FinalP.nD Cert.FinalP.τ).loc Cert.FinalP.main_arg2) = m ((c.tc : Thread Cert.FinalP.nD Cert.FinalP.τ).loc Cert.FinalP.main_arg2))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
      ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1)
      ∧ r.2.mem ((c.tc : Thread Cert.FinalPRefIdeal.nD Cert.FinalPRefIdeal.τ).loc Cert.FinalPRefIdeal.main_arg2) = m ((c.tc : Thread Cert.FinalPRefIdeal.nD Cert.FinalPRefIdeal.τ).loc Cert.FinalPRefIdeal.main_arg2))
      ∧ r.2.sem = fun _ => 0)

def quiescent_PrepP [hPrepP : Cert.PrepP.Facts] : Prop :=
  ∀ (m : (ℓ : Loc Cert.PrepP.nD Cert.PrepP.τ Cert.PrepP.sig) → Buf (Elt Bits) ℓ) (g : Dev Cert.PrepP.nD → PrngReg), Pre_PrepP m →
    θ_run (Cert.PrepP.defs (F := Bits)) (onTc (τ := Cert.PrepP.τ) (Cert.PrepP.main (F := Bits))) ⟨m, fun _ => 0, g⟩ (fun r => (∀ c : Dev Cert.PrepP.nD,
      r.2.mem ((c.tc : Thread Cert.PrepP.nD Cert.PrepP.τ).loc Cert.PrepP.main_arg0) = m ((c.tc : Thread Cert.PrepP.nD Cert.PrepP.τ).loc Cert.PrepP.main_arg0)
      ∧ r.2.mem ((c.tc : Thread Cert.PrepP.nD Cert.PrepP.τ).loc Cert.PrepP.main_arg1) = m ((c.tc : Thread Cert.PrepP.nD Cert.PrepP.τ).loc Cert.PrepP.main_arg1)
      ∧ r.2.mem ((c.tc : Thread Cert.PrepP.nD Cert.PrepP.τ).loc Cert.PrepP.main_arg2) = m ((c.tc : Thread Cert.PrepP.nD Cert.PrepP.τ).loc Cert.PrepP.main_arg2)
      ∧ r.2.mem ((c.tc : Thread Cert.PrepP.nD Cert.PrepP.τ).loc Cert.PrepP.main_arg3) = m ((c.tc : Thread Cert.PrepP.nD Cert.PrepP.τ).loc Cert.PrepP.main_arg3))
      ∧ r.2.sem = fun _ => 0)

def quiescent_PrepPIdeal [hPrepPIdeal : Cert.PrepPIdeal.Facts] : Prop :=
  ∀ (m : (ℓ : Loc Cert.PrepPIdeal.nD Cert.PrepPIdeal.τ Cert.PrepPIdeal.sig) → Buf (Elt Ideal) ℓ) (g : Dev Cert.PrepPIdeal.nD → PrngReg), Pre_PrepPIdeal m →
    θ_run (Cert.PrepPIdeal.defs (F := Ideal)) (onTc (τ := Cert.PrepPIdeal.τ) (Cert.PrepPIdeal.main (F := Ideal))) ⟨m, fun _ => 0, g⟩ (fun r => (∀ c : Dev Cert.PrepPIdeal.nD,
      r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
      ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1)
      ∧ r.2.mem ((c.tc : Thread Cert.PrepPIdeal.nD Cert.PrepPIdeal.τ).loc Cert.PrepPIdeal.main_arg2) = m ((c.tc : Thread Cert.PrepPIdeal.nD Cert.PrepPIdeal.τ).loc Cert.PrepPIdeal.main_arg2)
      ∧ r.2.mem ((c.tc : Thread Cert.PrepPIdeal.nD Cert.PrepPIdeal.τ).loc Cert.PrepPIdeal.main_arg3) = m ((c.tc : Thread Cert.PrepPIdeal.nD Cert.PrepPIdeal.τ).loc Cert.PrepPIdeal.main_arg3))
      ∧ r.2.sem = fun _ => 0)

def quiescent_PrepPRefIdeal [hPrepPRefIdeal : Cert.PrepPRefIdeal.Facts] : Prop :=
  ∀ (m : (ℓ : Loc Cert.PrepPRefIdeal.nD Cert.PrepPRefIdeal.τ Cert.PrepPRefIdeal.sig) → Buf (Elt Ideal) ℓ) (g : Dev Cert.PrepPRefIdeal.nD → PrngReg), Pre_PrepPRefIdeal m →
    θ_run (Cert.PrepPRefIdeal.defs (F := Ideal)) (onTc (τ := Cert.PrepPRefIdeal.τ) (Cert.PrepPRefIdeal.main (F := Ideal))) ⟨m, fun _ => 0, g⟩ (fun r => (∀ c : Dev Cert.PrepPRefIdeal.nD,
      r.2.mem ((c.tc : Thread Cert.PrepPRefIdeal.nD Cert.PrepPRefIdeal.τ).loc Cert.PrepPRefIdeal.main_arg0) = m ((c.tc : Thread Cert.PrepPRefIdeal.nD Cert.PrepPRefIdeal.τ).loc Cert.PrepPRefIdeal.main_arg0)
      ∧ r.2.mem ((c.tc : Thread Cert.PrepPRefIdeal.nD Cert.PrepPRefIdeal.τ).loc Cert.PrepPRefIdeal.main_arg1) = m ((c.tc : Thread Cert.PrepPRefIdeal.nD Cert.PrepPRefIdeal.τ).loc Cert.PrepPRefIdeal.main_arg1)
      ∧ r.2.mem ((c.tc : Thread Cert.PrepPRefIdeal.nD Cert.PrepPRefIdeal.τ).loc Cert.PrepPRefIdeal.main_arg2) = m ((c.tc : Thread Cert.PrepPRefIdeal.nD Cert.PrepPRefIdeal.τ).loc Cert.PrepPRefIdeal.main_arg2)
      ∧ r.2.mem ((c.tc : Thread Cert.PrepPRefIdeal.nD Cert.PrepPRefIdeal.τ).loc Cert.PrepPRefIdeal.main_arg3) = m ((c.tc : Thread Cert.PrepPRefIdeal.nD Cert.PrepPRefIdeal.τ).loc Cert.PrepPRefIdeal.main_arg3))
      ∧ r.2.sem = fun _ => 0)

def quiescent_ScanP [hScanP : Cert.ScanP.Facts] : Prop :=
  ∀ (m : (ℓ : Loc Cert.ScanP.nD Cert.ScanP.τ Cert.ScanP.sig) → Buf (Elt Bits) ℓ) (g : Dev Cert.ScanP.nD → PrngReg), Pre_ScanP m →
    θ_run (Cert.ScanP.defs (F := Bits)) (onTc (τ := Cert.ScanP.τ) (Cert.ScanP.main (F := Bits))) ⟨m, fun _ => 0, g⟩ (fun r => (∀ c : Dev Cert.ScanP.nD,
      r.2.mem ((c.tc : Thread Cert.ScanP.nD Cert.ScanP.τ).loc Cert.ScanP.main_arg0) = m ((c.tc : Thread Cert.ScanP.nD Cert.ScanP.τ).loc Cert.ScanP.main_arg0)
      ∧ r.2.mem ((c.tc : Thread Cert.ScanP.nD Cert.ScanP.τ).loc Cert.ScanP.main_arg1) = m ((c.tc : Thread Cert.ScanP.nD Cert.ScanP.τ).loc Cert.ScanP.main_arg1)
      ∧ r.2.mem ((c.tc : Thread Cert.ScanP.nD Cert.ScanP.τ).loc Cert.ScanP.main_arg2) = m ((c.tc : Thread Cert.ScanP.nD Cert.ScanP.τ).loc Cert.ScanP.main_arg2)
      ∧ r.2.mem ((c.tc : Thread Cert.ScanP.nD Cert.ScanP.τ).loc Cert.ScanP.main_arg3) = m ((c.tc : Thread Cert.ScanP.nD Cert.ScanP.τ).loc Cert.ScanP.main_arg3)
      ∧ r.2.mem ((c.tc : Thread Cert.ScanP.nD Cert.ScanP.τ).loc Cert.ScanP.main_arg4) = m ((c.tc : Thread Cert.ScanP.nD Cert.ScanP.τ).loc Cert.ScanP.main_arg4)
      ∧ r.2.mem ((c.tc : Thread Cert.ScanP.nD Cert.ScanP.τ).loc Cert.ScanP.main_arg5) = m ((c.tc : Thread Cert.ScanP.nD Cert.ScanP.τ).loc Cert.ScanP.main_arg5)
      ∧ r.2.mem ((c.tc : Thread Cert.ScanP.nD Cert.ScanP.τ).loc Cert.ScanP.main_arg6) = m ((c.tc : Thread Cert.ScanP.nD Cert.ScanP.τ).loc Cert.ScanP.main_arg6)
      ∧ r.2.mem ((c.tc : Thread Cert.ScanP.nD Cert.ScanP.τ).loc Cert.ScanP.main_arg7) = m ((c.tc : Thread Cert.ScanP.nD Cert.ScanP.τ).loc Cert.ScanP.main_arg7)
      ∧ r.2.mem ((c.tc : Thread Cert.ScanP.nD Cert.ScanP.τ).loc Cert.ScanP.main_arg8) = m ((c.tc : Thread Cert.ScanP.nD Cert.ScanP.τ).loc Cert.ScanP.main_arg8)
      ∧ r.2.mem ((c.tc : Thread Cert.ScanP.nD Cert.ScanP.τ).loc Cert.ScanP.main_arg9) = m ((c.tc : Thread Cert.ScanP.nD Cert.ScanP.τ).loc Cert.ScanP.main_arg9)
      ∧ r.2.mem ((c.tc : Thread Cert.ScanP.nD Cert.ScanP.τ).loc Cert.ScanP.main_arg10) = m ((c.tc : Thread Cert.ScanP.nD Cert.ScanP.τ).loc Cert.ScanP.main_arg10))
      ∧ r.2.sem = fun _ => 0)

def quiescent_ScanPIdeal [hScanPIdeal : Cert.ScanPIdeal.Facts] : Prop :=
  ∀ (m : (ℓ : Loc Cert.ScanPIdeal.nD Cert.ScanPIdeal.τ Cert.ScanPIdeal.sig) → Buf (Elt Ideal) ℓ) (g : Dev Cert.ScanPIdeal.nD → PrngReg), Pre_ScanPIdeal m →
    θ_run (Cert.ScanPIdeal.defs (F := Ideal)) (onTc (τ := Cert.ScanPIdeal.τ) (Cert.ScanPIdeal.main (F := Ideal))) ⟨m, fun _ => 0, g⟩ (fun r => (∀ c : Dev Cert.ScanPIdeal.nD,
      r.2.mem ((c.tc : Thread Cert.ScanPIdeal.nD Cert.ScanPIdeal.τ).loc Cert.ScanPIdeal.main_arg0) = m ((c.tc : Thread Cert.ScanPIdeal.nD Cert.ScanPIdeal.τ).loc Cert.ScanPIdeal.main_arg0)
      ∧ r.2.mem ((c.tc : Thread Cert.ScanPIdeal.nD Cert.ScanPIdeal.τ).loc Cert.ScanPIdeal.main_arg1) = m ((c.tc : Thread Cert.ScanPIdeal.nD Cert.ScanPIdeal.τ).loc Cert.ScanPIdeal.main_arg1)
      ∧ r.2.mem ((c.tc : Thread Cert.ScanPIdeal.nD Cert.ScanPIdeal.τ).loc Cert.ScanPIdeal.main_arg2) = m ((c.tc : Thread Cert.ScanPIdeal.nD Cert.ScanPIdeal.τ).loc Cert.ScanPIdeal.main_arg2)
      ∧ r.2.mem ((c.tc : Thread Cert.ScanPIdeal.nD Cert.ScanPIdeal.τ).loc Cert.ScanPIdeal.main_arg3) = m ((c.tc : Thread Cert.ScanPIdeal.nD Cert.ScanPIdeal.τ).loc Cert.ScanPIdeal.main_arg3)
      ∧ r.2.mem ((c.tc : Thread Cert.ScanPIdeal.nD Cert.ScanPIdeal.τ).loc Cert.ScanPIdeal.main_arg4) = m ((c.tc : Thread Cert.ScanPIdeal.nD Cert.ScanPIdeal.τ).loc Cert.ScanPIdeal.main_arg4)
      ∧ r.2.mem ((c.tc : Thread Cert.ScanPIdeal.nD Cert.ScanPIdeal.τ).loc Cert.ScanPIdeal.main_arg5) = m ((c.tc : Thread Cert.ScanPIdeal.nD Cert.ScanPIdeal.τ).loc Cert.ScanPIdeal.main_arg5)
      ∧ r.2.mem ((c.tc : Thread Cert.ScanPIdeal.nD Cert.ScanPIdeal.τ).loc Cert.ScanPIdeal.main_arg6) = m ((c.tc : Thread Cert.ScanPIdeal.nD Cert.ScanPIdeal.τ).loc Cert.ScanPIdeal.main_arg6)
      ∧ r.2.mem ((c.tc : Thread Cert.ScanPIdeal.nD Cert.ScanPIdeal.τ).loc Cert.ScanPIdeal.main_arg7) = m ((c.tc : Thread Cert.ScanPIdeal.nD Cert.ScanPIdeal.τ).loc Cert.ScanPIdeal.main_arg7)
      ∧ r.2.mem ((c.tc : Thread Cert.ScanPIdeal.nD Cert.ScanPIdeal.τ).loc Cert.ScanPIdeal.main_arg8) = m ((c.tc : Thread Cert.ScanPIdeal.nD Cert.ScanPIdeal.τ).loc Cert.ScanPIdeal.main_arg8)
      ∧ r.2.mem ((c.tc : Thread Cert.ScanPIdeal.nD Cert.ScanPIdeal.τ).loc Cert.ScanPIdeal.main_arg9) = m ((c.tc : Thread Cert.ScanPIdeal.nD Cert.ScanPIdeal.τ).loc Cert.ScanPIdeal.main_arg9)
      ∧ r.2.mem ((c.tc : Thread Cert.ScanPIdeal.nD Cert.ScanPIdeal.τ).loc Cert.ScanPIdeal.main_arg10) = m ((c.tc : Thread Cert.ScanPIdeal.nD Cert.ScanPIdeal.τ).loc Cert.ScanPIdeal.main_arg10))
      ∧ r.2.sem = fun _ => 0)

def quiescent_ScanPRefIdeal [hScanPRefIdeal : Cert.ScanPRefIdeal.Facts] : Prop :=
  ∀ (m : (ℓ : Loc Cert.ScanPRefIdeal.nD Cert.ScanPRefIdeal.τ Cert.ScanPRefIdeal.sig) → Buf (Elt Ideal) ℓ) (g : Dev Cert.ScanPRefIdeal.nD → PrngReg), Pre_ScanPRefIdeal m →
    θ_run (Cert.ScanPRefIdeal.defs (F := Ideal)) (onTc (τ := Cert.ScanPRefIdeal.τ) (Cert.ScanPRefIdeal.main (F := Ideal))) ⟨m, fun _ => 0, g⟩ (fun r => (∀ c : Dev Cert.ScanPRefIdeal.nD,
      r.2.mem ((c.tc : Thread Cert.ScanPRefIdeal.nD Cert.ScanPRefIdeal.τ).loc Cert.ScanPRefIdeal.main_arg0) = m ((c.tc : Thread Cert.ScanPRefIdeal.nD Cert.ScanPRefIdeal.τ).loc Cert.ScanPRefIdeal.main_arg0)
      ∧ r.2.mem ((c.tc : Thread Cert.ScanPRefIdeal.nD Cert.ScanPRefIdeal.τ).loc Cert.ScanPRefIdeal.main_arg1) = m ((c.tc : Thread Cert.ScanPRefIdeal.nD Cert.ScanPRefIdeal.τ).loc Cert.ScanPRefIdeal.main_arg1)
      ∧ r.2.mem ((c.tc : Thread Cert.ScanPRefIdeal.nD Cert.ScanPRefIdeal.τ).loc Cert.ScanPRefIdeal.main_arg2) = m ((c.tc : Thread Cert.ScanPRefIdeal.nD Cert.ScanPRefIdeal.τ).loc Cert.ScanPRefIdeal.main_arg2)
      ∧ r.2.mem ((c.tc : Thread Cert.ScanPRefIdeal.nD Cert.ScanPRefIdeal.τ).loc Cert.ScanPRefIdeal.main_arg3) = m ((c.tc : Thread Cert.ScanPRefIdeal.nD Cert.ScanPRefIdeal.τ).loc Cert.ScanPRefIdeal.main_arg3)
      ∧ r.2.mem ((c.tc : Thread Cert.ScanPRefIdeal.nD Cert.ScanPRefIdeal.τ).loc Cert.ScanPRefIdeal.main_arg4) = m ((c.tc : Thread Cert.ScanPRefIdeal.nD Cert.ScanPRefIdeal.τ).loc Cert.ScanPRefIdeal.main_arg4)
      ∧ r.2.mem ((c.tc : Thread Cert.ScanPRefIdeal.nD Cert.ScanPRefIdeal.τ).loc Cert.ScanPRefIdeal.main_arg5) = m ((c.tc : Thread Cert.ScanPRefIdeal.nD Cert.ScanPRefIdeal.τ).loc Cert.ScanPRefIdeal.main_arg5)
      ∧ r.2.mem ((c.tc : Thread Cert.ScanPRefIdeal.nD Cert.ScanPRefIdeal.τ).loc Cert.ScanPRefIdeal.main_arg6) = m ((c.tc : Thread Cert.ScanPRefIdeal.nD Cert.ScanPRefIdeal.τ).loc Cert.ScanPRefIdeal.main_arg6)
      ∧ r.2.mem ((c.tc : Thread Cert.ScanPRefIdeal.nD Cert.ScanPRefIdeal.τ).loc Cert.ScanPRefIdeal.main_arg7) = m ((c.tc : Thread Cert.ScanPRefIdeal.nD Cert.ScanPRefIdeal.τ).loc Cert.ScanPRefIdeal.main_arg7)
      ∧ r.2.mem ((c.tc : Thread Cert.ScanPRefIdeal.nD Cert.ScanPRefIdeal.τ).loc Cert.ScanPRefIdeal.main_arg8) = m ((c.tc : Thread Cert.ScanPRefIdeal.nD Cert.ScanPRefIdeal.τ).loc Cert.ScanPRefIdeal.main_arg8)
      ∧ r.2.mem ((c.tc : Thread Cert.ScanPRefIdeal.nD Cert.ScanPRefIdeal.τ).loc Cert.ScanPRefIdeal.main_arg9) = m ((c.tc : Thread Cert.ScanPRefIdeal.nD Cert.ScanPRefIdeal.τ).loc Cert.ScanPRefIdeal.main_arg9)
      ∧ r.2.mem ((c.tc : Thread Cert.ScanPRefIdeal.nD Cert.ScanPRefIdeal.τ).loc Cert.ScanPRefIdeal.main_arg10) = m ((c.tc : Thread Cert.ScanPRefIdeal.nD Cert.ScanPRefIdeal.τ).loc Cert.ScanPRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Prep_PrepIdeal : Prop :=
  IdealRules.named_const.Statement Cert.PrepIdeal.κ "inv_sqrt_dk" .f32 0x3DB504F3#32 (((Real.sqrt 128)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v14_0)) (v1 : (c : Dev Cert.PrepIdeal.nD) → Buf (Elt Ideal) ((c.tc : Thread Cert.PrepIdeal.nD Cert.PrepIdeal.τ).loc Cert.PrepIdeal.main_v14_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v14_0) = v0 c
          ∧ r.2.mem ((c.tc : Thread Cert.PrepIdeal.nD Cert.PrepIdeal.τ).loc Cert.PrepIdeal.main_v14_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v103) = v0 c
          ∧ r.2.mem ((c.tc : Thread Cert.PrepRefIdeal.nD Cert.PrepRefIdeal.τ).loc Cert.PrepRefIdeal.main_v104) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_InProjP_InProjPIdeal : Prop :=
  True

def algebraic_InProjPIdeal_InProjPRefIdeal [hInProjPIdeal : Cert.InProjPIdeal.Facts] [hInProjPRefIdeal : Cert.InProjPRefIdeal.Facts] : Prop :=
  ∀ (m : (ℓ : Loc Cert.InProjPIdeal.nD Cert.InProjPIdeal.τ Cert.InProjPIdeal.sig) → Buf (Elt Ideal) ℓ) (g : Dev Cert.InProjPIdeal.nD → PrngReg)
    (m' : (ℓ : Loc Cert.InProjPRefIdeal.nD Cert.InProjPRefIdeal.τ Cert.InProjPRefIdeal.sig) → Buf (Elt Ideal) ℓ) (g' : Dev Cert.InProjPRefIdeal.nD → PrngReg), Pre_InProjPIdeal m →
    (∀ c : Dev Cert.InProjPIdeal.nD,
      m' ((c.tc : Thread Cert.InProjPRefIdeal.nD Cert.InProjPRefIdeal.τ).loc Cert.InProjPRefIdeal.main_arg0) = m ((c.tc : Thread Cert.InProjPIdeal.nD Cert.InProjPIdeal.τ).loc Cert.InProjPIdeal.main_arg0)
      ∧ m' ((c.tc : Thread Cert.InProjPRefIdeal.nD Cert.InProjPRefIdeal.τ).loc Cert.InProjPRefIdeal.main_arg1) = m ((c.tc : Thread Cert.InProjPIdeal.nD Cert.InProjPIdeal.τ).loc Cert.InProjPIdeal.main_arg1)
      ∧ m' ((c.tc : Thread Cert.InProjPRefIdeal.nD Cert.InProjPRefIdeal.τ).loc Cert.InProjPRefIdeal.main_arg2) = m ((c.tc : Thread Cert.InProjPIdeal.nD Cert.InProjPIdeal.τ).loc Cert.InProjPIdeal.main_arg2)) →
    ∃ (v0 : (c : Dev Cert.InProjPIdeal.nD) → Buf (Elt Ideal) ((c.tc : Thread Cert.InProjPIdeal.nD Cert.InProjPIdeal.τ).loc Cert.InProjPIdeal.main_v9)),
      θ_run (Cert.InProjPIdeal.defs (F := Ideal)) (onTc (τ := Cert.InProjPIdeal.τ) (Cert.InProjPIdeal.main (F := Ideal))) ⟨m, fun _ => 0, g⟩ (fun r => ∀ c : Dev Cert.InProjPIdeal.nD,
          r.2.mem ((c.tc : Thread Cert.InProjPIdeal.nD Cert.InProjPIdeal.τ).loc Cert.InProjPIdeal.main_v9) = v0 c
          ∧ r.2.mem ((c.tc : Thread Cert.InProjPIdeal.nD Cert.InProjPIdeal.τ).loc Cert.InProjPIdeal.main_arg0) = m ((c.tc : Thread Cert.InProjPIdeal.nD Cert.InProjPIdeal.τ).loc Cert.InProjPIdeal.main_arg0)
          ∧ r.2.mem ((c.tc : Thread Cert.InProjPIdeal.nD Cert.InProjPIdeal.τ).loc Cert.InProjPIdeal.main_arg1) = m ((c.tc : Thread Cert.InProjPIdeal.nD Cert.InProjPIdeal.τ).loc Cert.InProjPIdeal.main_arg1)
          ∧ r.2.mem ((c.tc : Thread Cert.InProjPIdeal.nD Cert.InProjPIdeal.τ).loc Cert.InProjPIdeal.main_arg2) = m ((c.tc : Thread Cert.InProjPIdeal.nD Cert.InProjPIdeal.τ).loc Cert.InProjPIdeal.main_arg2))
      ∧ θ_run (Cert.InProjPRefIdeal.defs (F := Ideal)) (onTc (τ := Cert.InProjPRefIdeal.τ) (Cert.InProjPRefIdeal.main (F := Ideal))) ⟨m', fun _ => 0, g'⟩ (fun r => ∀ c : Dev Cert.InProjPRefIdeal.nD,
          r.2.mem ((c.tc : Thread Cert.InProjPRefIdeal.nD Cert.InProjPRefIdeal.τ).loc Cert.InProjPRefIdeal.main_v20) = v0 c
          ∧ r.2.mem ((c.tc : Thread Cert.InProjPRefIdeal.nD Cert.InProjPRefIdeal.τ).loc Cert.InProjPRefIdeal.main_arg0) = m' ((c.tc : Thread Cert.InProjPRefIdeal.nD Cert.InProjPRefIdeal.τ).loc Cert.InProjPRefIdeal.main_arg0)
          ∧ r.2.mem ((c.tc : Thread Cert.InProjPRefIdeal.nD Cert.InProjPRefIdeal.τ).loc Cert.InProjPRefIdeal.main_arg1) = m' ((c.tc : Thread Cert.InProjPRefIdeal.nD Cert.InProjPRefIdeal.τ).loc Cert.InProjPRefIdeal.main_arg1)
          ∧ r.2.mem ((c.tc : Thread Cert.InProjPRefIdeal.nD Cert.InProjPRefIdeal.τ).loc Cert.InProjPRefIdeal.main_arg2) = m' ((c.tc : Thread Cert.InProjPRefIdeal.nD Cert.InProjPRefIdeal.τ).loc Cert.InProjPRefIdeal.main_arg2))

def preserves_MergeP_MergePIdeal : Prop :=
  True

def algebraic_MergePIdeal_MergePRefIdeal [hMergePIdeal : Cert.MergePIdeal.Facts] [hMergePRefIdeal : Cert.MergePRefIdeal.Facts] : Prop :=
  ∀ (m : (ℓ : Loc Cert.MergePIdeal.nD Cert.MergePIdeal.τ Cert.MergePIdeal.sig) → Buf (Elt Ideal) ℓ) (g : Dev Cert.MergePIdeal.nD → PrngReg)
    (m' : (ℓ : Loc Cert.MergePRefIdeal.nD Cert.MergePRefIdeal.τ Cert.MergePRefIdeal.sig) → Buf (Elt Ideal) ℓ) (g' : Dev Cert.MergePRefIdeal.nD → PrngReg), Pre_MergePIdeal m →
    (∀ c : Dev Cert.MergePIdeal.nD,
      m' ((c.tc : Thread Cert.MergePRefIdeal.nD Cert.MergePRefIdeal.τ).loc Cert.MergePRefIdeal.main_arg0) = m ((c.tc : Thread Cert.MergePIdeal.nD Cert.MergePIdeal.τ).loc Cert.MergePIdeal.main_arg0)
      ∧ m' ((c.tc : Thread Cert.MergePRefIdeal.nD Cert.MergePRefIdeal.τ).loc Cert.MergePRefIdeal.main_arg1) = m ((c.tc : Thread Cert.MergePIdeal.nD Cert.MergePIdeal.τ).loc Cert.MergePIdeal.main_arg1)
      ∧ m' ((c.tc : Thread Cert.MergePRefIdeal.nD Cert.MergePRefIdeal.τ).loc Cert.MergePRefIdeal.main_arg2) = m ((c.tc : Thread Cert.MergePIdeal.nD Cert.MergePIdeal.τ).loc Cert.MergePIdeal.main_arg2)
      ∧ m' ((c.tc : Thread Cert.MergePRefIdeal.nD Cert.MergePRefIdeal.τ).loc Cert.MergePRefIdeal.main_arg3) = m ((c.tc : Thread Cert.MergePIdeal.nD Cert.MergePIdeal.τ).loc Cert.MergePIdeal.main_arg3)
      ∧ m' ((c.tc : Thread Cert.MergePRefIdeal.nD Cert.MergePRefIdeal.τ).loc Cert.MergePRefIdeal.main_arg4) = m ((c.tc : Thread Cert.MergePIdeal.nD Cert.MergePIdeal.τ).loc Cert.MergePIdeal.main_arg4)
      ∧ m' ((c.tc : Thread Cert.MergePRefIdeal.nD Cert.MergePRefIdeal.τ).loc Cert.MergePRefIdeal.main_arg5) = m ((c.tc : Thread Cert.MergePIdeal.nD Cert.MergePIdeal.τ).loc Cert.MergePIdeal.main_arg5)
      ∧ m' ((c.tc : Thread Cert.MergePRefIdeal.nD Cert.MergePRefIdeal.τ).loc Cert.MergePRefIdeal.main_arg6) = m ((c.tc : Thread Cert.MergePIdeal.nD Cert.MergePIdeal.τ).loc Cert.MergePIdeal.main_arg6)
      ∧ m' ((c.tc : Thread Cert.MergePRefIdeal.nD Cert.MergePRefIdeal.τ).loc Cert.MergePRefIdeal.main_arg7) = m ((c.tc : Thread Cert.MergePIdeal.nD Cert.MergePIdeal.τ).loc Cert.MergePIdeal.main_arg7)
      ∧ m' ((c.tc : Thread Cert.MergePRefIdeal.nD Cert.MergePRefIdeal.τ).loc Cert.MergePRefIdeal.main_arg8) = m ((c.tc : Thread Cert.MergePIdeal.nD Cert.MergePIdeal.τ).loc Cert.MergePIdeal.main_arg8)) →
    ∃ (v0 : (c : Dev Cert.MergePIdeal.nD) → Buf (Elt Ideal) ((c.tc : Thread Cert.MergePIdeal.nD Cert.MergePIdeal.τ).loc Cert.MergePIdeal.main_v4)),
      θ_run (Cert.MergePIdeal.defs (F := Ideal)) (onTc (τ := Cert.MergePIdeal.τ) (Cert.MergePIdeal.main (F := Ideal))) ⟨m, fun _ => 0, g⟩ (fun r => ∀ c : Dev Cert.MergePIdeal.nD,
          r.2.mem ((c.tc : Thread Cert.MergePIdeal.nD Cert.MergePIdeal.τ).loc Cert.MergePIdeal.main_v4) = v0 c
          ∧ r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
          ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
          ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
          ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
          ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
          ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
          ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
          ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
          ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8))
      ∧ θ_run (Cert.MergePRefIdeal.defs (F := Ideal)) (onTc (τ := Cert.MergePRefIdeal.τ) (Cert.MergePRefIdeal.main (F := Ideal))) ⟨m', fun _ => 0, g'⟩ (fun r => ∀ c : Dev Cert.MergePRefIdeal.nD,
          r.2.mem ((c.tc : Thread Cert.MergePRefIdeal.nD Cert.MergePRefIdeal.τ).loc Cert.MergePRefIdeal.main_v41) = v0 c
          ∧ r.2.mem ((c.tc : Thread Cert.MergePRefIdeal.nD Cert.MergePRefIdeal.τ).loc Cert.MergePRefIdeal.main_arg0) = m' ((c.tc : Thread Cert.MergePRefIdeal.nD Cert.MergePRefIdeal.τ).loc Cert.MergePRefIdeal.main_arg0)
          ∧ r.2.mem ((c.tc : Thread Cert.MergePRefIdeal.nD Cert.MergePRefIdeal.τ).loc Cert.MergePRefIdeal.main_arg1) = m' ((c.tc : Thread Cert.MergePRefIdeal.nD Cert.MergePRefIdeal.τ).loc Cert.MergePRefIdeal.main_arg1)
          ∧ r.2.mem ((c.tc : Thread Cert.MergePRefIdeal.nD Cert.MergePRefIdeal.τ).loc Cert.MergePRefIdeal.main_arg2) = m' ((c.tc : Thread Cert.MergePRefIdeal.nD Cert.MergePRefIdeal.τ).loc Cert.MergePRefIdeal.main_arg2)
          ∧ r.2.mem ((c.tc : Thread Cert.MergePRefIdeal.nD Cert.MergePRefIdeal.τ).loc Cert.MergePRefIdeal.main_arg3) = m' ((c.tc : Thread Cert.MergePRefIdeal.nD Cert.MergePRefIdeal.τ).loc Cert.MergePRefIdeal.main_arg3)
          ∧ r.2.mem ((c.tc : Thread Cert.MergePRefIdeal.nD Cert.MergePRefIdeal.τ).loc Cert.MergePRefIdeal.main_arg4) = m' ((c.tc : Thread Cert.MergePRefIdeal.nD Cert.MergePRefIdeal.τ).loc Cert.MergePRefIdeal.main_arg4)
          ∧ r.2.mem ((c.tc : Thread Cert.MergePRefIdeal.nD Cert.MergePRefIdeal.τ).loc Cert.MergePRefIdeal.main_arg5) = m' ((c.tc : Thread Cert.MergePRefIdeal.nD Cert.MergePRefIdeal.τ).loc Cert.MergePRefIdeal.main_arg5)
          ∧ r.2.mem ((c.tc : Thread Cert.MergePRefIdeal.nD Cert.MergePRefIdeal.τ).loc Cert.MergePRefIdeal.main_arg6) = m' ((c.tc : Thread Cert.MergePRefIdeal.nD Cert.MergePRefIdeal.τ).loc Cert.MergePRefIdeal.main_arg6)
          ∧ r.2.mem ((c.tc : Thread Cert.MergePRefIdeal.nD Cert.MergePRefIdeal.τ).loc Cert.MergePRefIdeal.main_arg7) = m' ((c.tc : Thread Cert.MergePRefIdeal.nD Cert.MergePRefIdeal.τ).loc Cert.MergePRefIdeal.main_arg7)
          ∧ r.2.mem ((c.tc : Thread Cert.MergePRefIdeal.nD Cert.MergePRefIdeal.τ).loc Cert.MergePRefIdeal.main_arg8) = m' ((c.tc : Thread Cert.MergePRefIdeal.nD Cert.MergePRefIdeal.τ).loc Cert.MergePRefIdeal.main_arg8))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)
      ∧ m' ((c.tc : Thread Cert.FinalPRefIdeal.nD Cert.FinalPRefIdeal.τ).loc Cert.FinalPRefIdeal.main_arg2) = m ((c.tc : Thread Cert.FinalPIdeal.nD Cert.FinalPIdeal.τ).loc Cert.FinalPIdeal.main_arg2)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
          ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v13) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1)
          ∧ r.2.mem ((c.tc : Thread Cert.FinalPRefIdeal.nD Cert.FinalPRefIdeal.τ).loc Cert.FinalPRefIdeal.main_arg2) = m' ((c.tc : Thread Cert.FinalPRefIdeal.nD Cert.FinalPRefIdeal.τ).loc Cert.FinalPRefIdeal.main_arg2))

def preserves_PrepP_PrepPIdeal : Prop :=
  IdealRules.named_const.Statement Cert.PrepPIdeal.κ "inv_sqrt_dk" .f32 0x3DB504F3#32 (((Real.sqrt 128)⁻¹ : ℝ) : EReal)

def algebraic_PrepPIdeal_PrepPRefIdeal [hPrepPIdeal : Cert.PrepPIdeal.Facts] [hPrepPRefIdeal : Cert.PrepPRefIdeal.Facts] : Prop :=
  ∀ (m : (ℓ : Loc Cert.PrepPIdeal.nD Cert.PrepPIdeal.τ Cert.PrepPIdeal.sig) → Buf (Elt Ideal) ℓ) (g : Dev Cert.PrepPIdeal.nD → PrngReg)
    (m' : (ℓ : Loc Cert.PrepPRefIdeal.nD Cert.PrepPRefIdeal.τ Cert.PrepPRefIdeal.sig) → Buf (Elt Ideal) ℓ) (g' : Dev Cert.PrepPRefIdeal.nD → PrngReg), Pre_PrepPIdeal m →
    (∀ c : Dev Cert.PrepPIdeal.nD,
      m' ((c.tc : Thread Cert.PrepPRefIdeal.nD Cert.PrepPRefIdeal.τ).loc Cert.PrepPRefIdeal.main_arg0) = m ((c.tc : Thread Cert.PrepPIdeal.nD Cert.PrepPIdeal.τ).loc Cert.PrepPIdeal.main_arg0)
      ∧ m' ((c.tc : Thread Cert.PrepPRefIdeal.nD Cert.PrepPRefIdeal.τ).loc Cert.PrepPRefIdeal.main_arg1) = m ((c.tc : Thread Cert.PrepPIdeal.nD Cert.PrepPIdeal.τ).loc Cert.PrepPIdeal.main_arg1)
      ∧ m' ((c.tc : Thread Cert.PrepPRefIdeal.nD Cert.PrepPRefIdeal.τ).loc Cert.PrepPRefIdeal.main_arg2) = m ((c.tc : Thread Cert.PrepPIdeal.nD Cert.PrepPIdeal.τ).loc Cert.PrepPIdeal.main_arg2)
      ∧ m' ((c.tc : Thread Cert.PrepPRefIdeal.nD Cert.PrepPRefIdeal.τ).loc Cert.PrepPRefIdeal.main_arg3) = m ((c.tc : Thread Cert.PrepPIdeal.nD Cert.PrepPIdeal.τ).loc Cert.PrepPIdeal.main_arg3)) →
    ∃ (v0 : (c : Dev Cert.PrepPIdeal.nD) → Buf (Elt Ideal) ((c.tc : Thread Cert.PrepPIdeal.nD Cert.PrepPIdeal.τ).loc Cert.PrepPIdeal.main_v14_0)) (v1 : (c : Dev Cert.PrepPIdeal.nD) → Buf (Elt Ideal) ((c.tc : Thread Cert.PrepPIdeal.nD Cert.PrepPIdeal.τ).loc Cert.PrepPIdeal.main_v14_1)),
      θ_run (Cert.PrepPIdeal.defs (F := Ideal)) (onTc (τ := Cert.PrepPIdeal.τ) (Cert.PrepPIdeal.main (F := Ideal))) ⟨m, fun _ => 0, g⟩ (fun r => ∀ c : Dev Cert.PrepPIdeal.nD,
          r.2.mem ((c.tc : Thread Cert.PrepPIdeal.nD Cert.PrepPIdeal.τ).loc Cert.PrepPIdeal.main_v14_0) = v0 c
          ∧ r.2.mem ((c.tc : Thread Cert.PrepPIdeal.nD Cert.PrepPIdeal.τ).loc Cert.PrepPIdeal.main_v14_1) = v1 c
          ∧ r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
          ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1)
          ∧ r.2.mem ((c.tc : Thread Cert.PrepPIdeal.nD Cert.PrepPIdeal.τ).loc Cert.PrepPIdeal.main_arg2) = m ((c.tc : Thread Cert.PrepPIdeal.nD Cert.PrepPIdeal.τ).loc Cert.PrepPIdeal.main_arg2)
          ∧ r.2.mem ((c.tc : Thread Cert.PrepPIdeal.nD Cert.PrepPIdeal.τ).loc Cert.PrepPIdeal.main_arg3) = m ((c.tc : Thread Cert.PrepPIdeal.nD Cert.PrepPIdeal.τ).loc Cert.PrepPIdeal.main_arg3))
      ∧ θ_run (Cert.PrepPRefIdeal.defs (F := Ideal)) (onTc (τ := Cert.PrepPRefIdeal.τ) (Cert.PrepPRefIdeal.main (F := Ideal))) ⟨m', fun _ => 0, g'⟩ (fun r => ∀ c : Dev Cert.PrepPRefIdeal.nD,
          r.2.mem ((c.tc : Thread Cert.PrepPRefIdeal.nD Cert.PrepPRefIdeal.τ).loc Cert.PrepPRefIdeal.main_v103) = v0 c
          ∧ r.2.mem ((c.tc : Thread Cert.PrepPRefIdeal.nD Cert.PrepPRefIdeal.τ).loc Cert.PrepPRefIdeal.main_v104) = v1 c
          ∧ r.2.mem ((c.tc : Thread Cert.PrepPRefIdeal.nD Cert.PrepPRefIdeal.τ).loc Cert.PrepPRefIdeal.main_arg0) = m' ((c.tc : Thread Cert.PrepPRefIdeal.nD Cert.PrepPRefIdeal.τ).loc Cert.PrepPRefIdeal.main_arg0)
          ∧ r.2.mem ((c.tc : Thread Cert.PrepPRefIdeal.nD Cert.PrepPRefIdeal.τ).loc Cert.PrepPRefIdeal.main_arg1) = m' ((c.tc : Thread Cert.PrepPRefIdeal.nD Cert.PrepPRefIdeal.τ).loc Cert.PrepPRefIdeal.main_arg1)
          ∧ r.2.mem ((c.tc : Thread Cert.PrepPRefIdeal.nD Cert.PrepPRefIdeal.τ).loc Cert.PrepPRefIdeal.main_arg2) = m' ((c.tc : Thread Cert.PrepPRefIdeal.nD Cert.PrepPRefIdeal.τ).loc Cert.PrepPRefIdeal.main_arg2)
          ∧ r.2.mem ((c.tc : Thread Cert.PrepPRefIdeal.nD Cert.PrepPRefIdeal.τ).loc Cert.PrepPRefIdeal.main_arg3) = m' ((c.tc : Thread Cert.PrepPRefIdeal.nD Cert.PrepPRefIdeal.τ).loc Cert.PrepPRefIdeal.main_arg3))

def preserves_ScanP_ScanPIdeal : Prop :=
  True

def algebraic_ScanPIdeal_ScanPRefIdeal [hScanPIdeal : Cert.ScanPIdeal.Facts] [hScanPRefIdeal : Cert.ScanPRefIdeal.Facts] : Prop :=
  ∀ (m : (ℓ : Loc Cert.ScanPIdeal.nD Cert.ScanPIdeal.τ Cert.ScanPIdeal.sig) → Buf (Elt Ideal) ℓ) (g : Dev Cert.ScanPIdeal.nD → PrngReg)
    (m' : (ℓ : Loc Cert.ScanPRefIdeal.nD Cert.ScanPRefIdeal.τ Cert.ScanPRefIdeal.sig) → Buf (Elt Ideal) ℓ) (g' : Dev Cert.ScanPRefIdeal.nD → PrngReg), Pre_ScanPIdeal m →
    (∀ c : Dev Cert.ScanPIdeal.nD,
      m' ((c.tc : Thread Cert.ScanPRefIdeal.nD Cert.ScanPRefIdeal.τ).loc Cert.ScanPRefIdeal.main_arg0) = m ((c.tc : Thread Cert.ScanPIdeal.nD Cert.ScanPIdeal.τ).loc Cert.ScanPIdeal.main_arg0)
      ∧ m' ((c.tc : Thread Cert.ScanPRefIdeal.nD Cert.ScanPRefIdeal.τ).loc Cert.ScanPRefIdeal.main_arg1) = m ((c.tc : Thread Cert.ScanPIdeal.nD Cert.ScanPIdeal.τ).loc Cert.ScanPIdeal.main_arg1)
      ∧ m' ((c.tc : Thread Cert.ScanPRefIdeal.nD Cert.ScanPRefIdeal.τ).loc Cert.ScanPRefIdeal.main_arg2) = m ((c.tc : Thread Cert.ScanPIdeal.nD Cert.ScanPIdeal.τ).loc Cert.ScanPIdeal.main_arg2)
      ∧ m' ((c.tc : Thread Cert.ScanPRefIdeal.nD Cert.ScanPRefIdeal.τ).loc Cert.ScanPRefIdeal.main_arg3) = m ((c.tc : Thread Cert.ScanPIdeal.nD Cert.ScanPIdeal.τ).loc Cert.ScanPIdeal.main_arg3)
      ∧ m' ((c.tc : Thread Cert.ScanPRefIdeal.nD Cert.ScanPRefIdeal.τ).loc Cert.ScanPRefIdeal.main_arg4) = m ((c.tc : Thread Cert.ScanPIdeal.nD Cert.ScanPIdeal.τ).loc Cert.ScanPIdeal.main_arg4)
      ∧ m' ((c.tc : Thread Cert.ScanPRefIdeal.nD Cert.ScanPRefIdeal.τ).loc Cert.ScanPRefIdeal.main_arg5) = m ((c.tc : Thread Cert.ScanPIdeal.nD Cert.ScanPIdeal.τ).loc Cert.ScanPIdeal.main_arg5)
      ∧ m' ((c.tc : Thread Cert.ScanPRefIdeal.nD Cert.ScanPRefIdeal.τ).loc Cert.ScanPRefIdeal.main_arg6) = m ((c.tc : Thread Cert.ScanPIdeal.nD Cert.ScanPIdeal.τ).loc Cert.ScanPIdeal.main_arg6)
      ∧ m' ((c.tc : Thread Cert.ScanPRefIdeal.nD Cert.ScanPRefIdeal.τ).loc Cert.ScanPRefIdeal.main_arg7) = m ((c.tc : Thread Cert.ScanPIdeal.nD Cert.ScanPIdeal.τ).loc Cert.ScanPIdeal.main_arg7)
      ∧ m' ((c.tc : Thread Cert.ScanPRefIdeal.nD Cert.ScanPRefIdeal.τ).loc Cert.ScanPRefIdeal.main_arg8) = m ((c.tc : Thread Cert.ScanPIdeal.nD Cert.ScanPIdeal.τ).loc Cert.ScanPIdeal.main_arg8)
      ∧ m' ((c.tc : Thread Cert.ScanPRefIdeal.nD Cert.ScanPRefIdeal.τ).loc Cert.ScanPRefIdeal.main_arg9) = m ((c.tc : Thread Cert.ScanPIdeal.nD Cert.ScanPIdeal.τ).loc Cert.ScanPIdeal.main_arg9)
      ∧ m' ((c.tc : Thread Cert.ScanPRefIdeal.nD Cert.ScanPRefIdeal.τ).loc Cert.ScanPRefIdeal.main_arg10) = m ((c.tc : Thread Cert.ScanPIdeal.nD Cert.ScanPIdeal.τ).loc Cert.ScanPIdeal.main_arg10)) →
    ∃ (v0 : (c : Dev Cert.ScanPIdeal.nD) → Buf (Elt Ideal) ((c.tc : Thread Cert.ScanPIdeal.nD Cert.ScanPIdeal.τ).loc Cert.ScanPIdeal.main_v0_0)) (v1 : (c : Dev Cert.ScanPIdeal.nD) → Buf (Elt Ideal) ((c.tc : Thread Cert.ScanPIdeal.nD Cert.ScanPIdeal.τ).loc Cert.ScanPIdeal.main_v0_1)),
      θ_run (Cert.ScanPIdeal.defs (F := Ideal)) (onTc (τ := Cert.ScanPIdeal.τ) (Cert.ScanPIdeal.main (F := Ideal))) ⟨m, fun _ => 0, g⟩ (fun r => ∀ c : Dev Cert.ScanPIdeal.nD,
          r.2.mem ((c.tc : Thread Cert.ScanPIdeal.nD Cert.ScanPIdeal.τ).loc Cert.ScanPIdeal.main_v0_0) = v0 c
          ∧ r.2.mem ((c.tc : Thread Cert.ScanPIdeal.nD Cert.ScanPIdeal.τ).loc Cert.ScanPIdeal.main_v0_1) = v1 c
          ∧ r.2.mem ((c.tc : Thread Cert.ScanPIdeal.nD Cert.ScanPIdeal.τ).loc Cert.ScanPIdeal.main_arg0) = m ((c.tc : Thread Cert.ScanPIdeal.nD Cert.ScanPIdeal.τ).loc Cert.ScanPIdeal.main_arg0)
          ∧ r.2.mem ((c.tc : Thread Cert.ScanPIdeal.nD Cert.ScanPIdeal.τ).loc Cert.ScanPIdeal.main_arg1) = m ((c.tc : Thread Cert.ScanPIdeal.nD Cert.ScanPIdeal.τ).loc Cert.ScanPIdeal.main_arg1)
          ∧ r.2.mem ((c.tc : Thread Cert.ScanPIdeal.nD Cert.ScanPIdeal.τ).loc Cert.ScanPIdeal.main_arg2) = m ((c.tc : Thread Cert.ScanPIdeal.nD Cert.ScanPIdeal.τ).loc Cert.ScanPIdeal.main_arg2)
          ∧ r.2.mem ((c.tc : Thread Cert.ScanPIdeal.nD Cert.ScanPIdeal.τ).loc Cert.ScanPIdeal.main_arg3) = m ((c.tc : Thread Cert.ScanPIdeal.nD Cert.ScanPIdeal.τ).loc Cert.ScanPIdeal.main_arg3)
          ∧ r.2.mem ((c.tc : Thread Cert.ScanPIdeal.nD Cert.ScanPIdeal.τ).loc Cert.ScanPIdeal.main_arg4) = m ((c.tc : Thread Cert.ScanPIdeal.nD Cert.ScanPIdeal.τ).loc Cert.ScanPIdeal.main_arg4)
          ∧ r.2.mem ((c.tc : Thread Cert.ScanPIdeal.nD Cert.ScanPIdeal.τ).loc Cert.ScanPIdeal.main_arg5) = m ((c.tc : Thread Cert.ScanPIdeal.nD Cert.ScanPIdeal.τ).loc Cert.ScanPIdeal.main_arg5)
          ∧ r.2.mem ((c.tc : Thread Cert.ScanPIdeal.nD Cert.ScanPIdeal.τ).loc Cert.ScanPIdeal.main_arg6) = m ((c.tc : Thread Cert.ScanPIdeal.nD Cert.ScanPIdeal.τ).loc Cert.ScanPIdeal.main_arg6)
          ∧ r.2.mem ((c.tc : Thread Cert.ScanPIdeal.nD Cert.ScanPIdeal.τ).loc Cert.ScanPIdeal.main_arg7) = m ((c.tc : Thread Cert.ScanPIdeal.nD Cert.ScanPIdeal.τ).loc Cert.ScanPIdeal.main_arg7)
          ∧ r.2.mem ((c.tc : Thread Cert.ScanPIdeal.nD Cert.ScanPIdeal.τ).loc Cert.ScanPIdeal.main_arg8) = m ((c.tc : Thread Cert.ScanPIdeal.nD Cert.ScanPIdeal.τ).loc Cert.ScanPIdeal.main_arg8)
          ∧ r.2.mem ((c.tc : Thread Cert.ScanPIdeal.nD Cert.ScanPIdeal.τ).loc Cert.ScanPIdeal.main_arg9) = m ((c.tc : Thread Cert.ScanPIdeal.nD Cert.ScanPIdeal.τ).loc Cert.ScanPIdeal.main_arg9)
          ∧ r.2.mem ((c.tc : Thread Cert.ScanPIdeal.nD Cert.ScanPIdeal.τ).loc Cert.ScanPIdeal.main_arg10) = m ((c.tc : Thread Cert.ScanPIdeal.nD Cert.ScanPIdeal.τ).loc Cert.ScanPIdeal.main_arg10))
      ∧ θ_run (Cert.ScanPRefIdeal.defs (F := Ideal)) (onTc (τ := Cert.ScanPRefIdeal.τ) (Cert.ScanPRefIdeal.main (F := Ideal))) ⟨m', fun _ => 0, g'⟩ (fun r => ∀ c : Dev Cert.ScanPRefIdeal.nD,
          r.2.mem ((c.tc : Thread Cert.ScanPRefIdeal.nD Cert.ScanPRefIdeal.τ).loc Cert.ScanPRefIdeal.main_v46) = v0 c
          ∧ r.2.mem ((c.tc : Thread Cert.ScanPRefIdeal.nD Cert.ScanPRefIdeal.τ).loc Cert.ScanPRefIdeal.main_v50) = v1 c
          ∧ r.2.mem ((c.tc : Thread Cert.ScanPRefIdeal.nD Cert.ScanPRefIdeal.τ).loc Cert.ScanPRefIdeal.main_arg0) = m' ((c.tc : Thread Cert.ScanPRefIdeal.nD Cert.ScanPRefIdeal.τ).loc Cert.ScanPRefIdeal.main_arg0)
          ∧ r.2.mem ((c.tc : Thread Cert.ScanPRefIdeal.nD Cert.ScanPRefIdeal.τ).loc Cert.ScanPRefIdeal.main_arg1) = m' ((c.tc : Thread Cert.ScanPRefIdeal.nD Cert.ScanPRefIdeal.τ).loc Cert.ScanPRefIdeal.main_arg1)
          ∧ r.2.mem ((c.tc : Thread Cert.ScanPRefIdeal.nD Cert.ScanPRefIdeal.τ).loc Cert.ScanPRefIdeal.main_arg2) = m' ((c.tc : Thread Cert.ScanPRefIdeal.nD Cert.ScanPRefIdeal.τ).loc Cert.ScanPRefIdeal.main_arg2)
          ∧ r.2.mem ((c.tc : Thread Cert.ScanPRefIdeal.nD Cert.ScanPRefIdeal.τ).loc Cert.ScanPRefIdeal.main_arg3) = m' ((c.tc : Thread Cert.ScanPRefIdeal.nD Cert.ScanPRefIdeal.τ).loc Cert.ScanPRefIdeal.main_arg3)
          ∧ r.2.mem ((c.tc : Thread Cert.ScanPRefIdeal.nD Cert.ScanPRefIdeal.τ).loc Cert.ScanPRefIdeal.main_arg4) = m' ((c.tc : Thread Cert.ScanPRefIdeal.nD Cert.ScanPRefIdeal.τ).loc Cert.ScanPRefIdeal.main_arg4)
          ∧ r.2.mem ((c.tc : Thread Cert.ScanPRefIdeal.nD Cert.ScanPRefIdeal.τ).loc Cert.ScanPRefIdeal.main_arg5) = m' ((c.tc : Thread Cert.ScanPRefIdeal.nD Cert.ScanPRefIdeal.τ).loc Cert.ScanPRefIdeal.main_arg5)
          ∧ r.2.mem ((c.tc : Thread Cert.ScanPRefIdeal.nD Cert.ScanPRefIdeal.τ).loc Cert.ScanPRefIdeal.main_arg6) = m' ((c.tc : Thread Cert.ScanPRefIdeal.nD Cert.ScanPRefIdeal.τ).loc Cert.ScanPRefIdeal.main_arg6)
          ∧ r.2.mem ((c.tc : Thread Cert.ScanPRefIdeal.nD Cert.ScanPRefIdeal.τ).loc Cert.ScanPRefIdeal.main_arg7) = m' ((c.tc : Thread Cert.ScanPRefIdeal.nD Cert.ScanPRefIdeal.τ).loc Cert.ScanPRefIdeal.main_arg7)
          ∧ r.2.mem ((c.tc : Thread Cert.ScanPRefIdeal.nD Cert.ScanPRefIdeal.τ).loc Cert.ScanPRefIdeal.main_arg8) = m' ((c.tc : Thread Cert.ScanPRefIdeal.nD Cert.ScanPRefIdeal.τ).loc Cert.ScanPRefIdeal.main_arg8)
          ∧ r.2.mem ((c.tc : Thread Cert.ScanPRefIdeal.nD Cert.ScanPRefIdeal.τ).loc Cert.ScanPRefIdeal.main_arg9) = m' ((c.tc : Thread Cert.ScanPRefIdeal.nD Cert.ScanPRefIdeal.τ).loc Cert.ScanPRefIdeal.main_arg9)
          ∧ r.2.mem ((c.tc : Thread Cert.ScanPRefIdeal.nD Cert.ScanPRefIdeal.τ).loc Cert.ScanPRefIdeal.main_arg10) = m' ((c.tc : Thread Cert.ScanPRefIdeal.nD Cert.ScanPRefIdeal.τ).loc Cert.ScanPRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hPrep : Cert.Prep.Facts) (hPrepIdeal : Cert.PrepIdeal.Facts) (hPrepRefIdeal : Cert.PrepRefIdeal.Facts) (hInProjP : Cert.InProjP.Facts) (hInProjPIdeal : Cert.InProjPIdeal.Facts) (hInProjPRefIdeal : Cert.InProjPRefIdeal.Facts) (hMergeP : Cert.MergeP.Facts) (hMergePIdeal : Cert.MergePIdeal.Facts) (hMergePRefIdeal : Cert.MergePRefIdeal.Facts) (hFinalP : Cert.FinalP.Facts) (hFinalPIdeal : Cert.FinalPIdeal.Facts) (hFinalPRefIdeal : Cert.FinalPRefIdeal.Facts) (hPrepP : Cert.PrepP.Facts) (hPrepPIdeal : Cert.PrepPIdeal.Facts) (hPrepPRefIdeal : Cert.PrepPRefIdeal.Facts) (hScanP : Cert.ScanP.Facts) (hScanPIdeal : Cert.ScanPIdeal.Facts) (hScanPRefIdeal : Cert.ScanPRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_Prep (hPrep := hPrep)
    ∧ quiescent_PrepIdeal (hPrepIdeal := hPrepIdeal)
    ∧ quiescent_PrepRefIdeal (hPrepRefIdeal := hPrepRefIdeal)
    ∧ quiescent_InProjP (hInProjP := hInProjP)
    ∧ quiescent_InProjPIdeal (hInProjPIdeal := hInProjPIdeal)
    ∧ quiescent_InProjPRefIdeal (hInProjPRefIdeal := hInProjPRefIdeal)
    ∧ quiescent_MergeP (hMergeP := hMergeP)
    ∧ quiescent_MergePIdeal (hMergePIdeal := hMergePIdeal)
    ∧ quiescent_MergePRefIdeal (hMergePRefIdeal := hMergePRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_PrepP (hPrepP := hPrepP)
    ∧ quiescent_PrepPIdeal (hPrepPIdeal := hPrepPIdeal)
    ∧ quiescent_PrepPRefIdeal (hPrepPRefIdeal := hPrepPRefIdeal)
    ∧ quiescent_ScanP (hScanP := hScanP)
    ∧ quiescent_ScanPIdeal (hScanPIdeal := hScanPIdeal)
    ∧ quiescent_ScanPRefIdeal (hScanPRefIdeal := hScanPRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_Prep_PrepIdeal
    ∧ algebraic_PrepIdeal_PrepRefIdeal (hPrepIdeal := hPrepIdeal) (hPrepRefIdeal := hPrepRefIdeal)
    ∧ preserves_InProjP_InProjPIdeal
    ∧ algebraic_InProjPIdeal_InProjPRefIdeal (hInProjPIdeal := hInProjPIdeal) (hInProjPRefIdeal := hInProjPRefIdeal)
    ∧ preserves_MergeP_MergePIdeal
    ∧ algebraic_MergePIdeal_MergePRefIdeal (hMergePIdeal := hMergePIdeal) (hMergePRefIdeal := hMergePRefIdeal)
    ∧ preserves_FinalP_FinalPIdeal
    ∧ algebraic_FinalPIdeal_FinalPRefIdeal (hFinalPIdeal := hFinalPIdeal) (hFinalPRefIdeal := hFinalPRefIdeal)
    ∧ preserves_PrepP_PrepPIdeal
    ∧ algebraic_PrepPIdeal_PrepPRefIdeal (hPrepPIdeal := hPrepPIdeal) (hPrepPRefIdeal := hPrepPRefIdeal)
    ∧ preserves_ScanP_ScanPIdeal
    ∧ algebraic_ScanPIdeal_ScanPRefIdeal (hScanPIdeal := hScanPIdeal) (hScanPRefIdeal := hScanPRefIdeal)
-- ==== Kernel.lean ====
abbrev S1x16384x512 : Shape := ⟨3, ![1, 16384, 512]⟩
abbrev S1x256x4x128x64 : Shape := ⟨5, ![1, 256, 4, 128, 64]⟩
abbrev S1x256x4x64x64 : Shape := ⟨5, ![1, 256, 4, 64, 64]⟩
abbrev S1x256x8x128 : Shape := ⟨4, ![1, 256, 8, 128]⟩
abbrev S1x64x512 : Shape := ⟨3, ![1, 64, 512]⟩
abbrev S1x1x4x128x64 : Shape := ⟨5, ![1, 1, 4, 128, 64]⟩
abbrev S1x1x4x64x64 : Shape := ⟨5, ![1, 1, 4, 64, 64]⟩
abbrev S1x1x8x128 : Shape := ⟨4, ![1, 1, 8, 128]⟩
abbrev S1x2x4x128x128 : Shape := ⟨5, ![1, 2, 4, 128, 128]⟩
abbrev S1x1x1x128x128 : Shape := ⟨5, ![1, 1, 1, 128, 128]⟩
abbrev S128x128 : Shape := ⟨2, ![128, 128]⟩
abbrev S1x64x128 : Shape := ⟨3, ![1, 64, 128]⟩
abbrev S64x128 : Shape := ⟨2, ![64, 128]⟩
abbrev S1x1x1x64x64 : Shape := ⟨5, ![1, 1, 1, 64, 64]⟩
abbrev S64x64 : Shape := ⟨2, ![64, 64]⟩
abbrev S1x1x1x128x64 : Shape := ⟨5, ![1, 1, 1, 128, 64]⟩
abbrev S128x64 : Shape := ⟨2, ![128, 64]⟩
abbrev S1x1x1x128 : Shape := ⟨4, ![1, 1, 1, 128]⟩
abbrev S1x128 : Shape := ⟨2, ![1, 128]⟩

abbrev nBuf : Space → Nat
  | .hbm => 13
  | .vmem => 29
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .bf16⟩
  | .hbm, ⟨2, _⟩ => ⟨S1x16384x512, .bf16⟩
  | .hbm, ⟨3, _⟩ => ⟨S1x256x4x128x64, .bf16⟩
  | .hbm, ⟨4, _⟩ => ⟨S1x256x4x64x64, .bf16⟩
  | .hbm, ⟨5, _⟩ => ⟨S1x16384x512, .f32⟩
  | .hbm, ⟨6, _⟩ => ⟨S1x16384x512, .bf16⟩
  | .hbm, ⟨7, _⟩ => ⟨S1x16384x512, .bf16⟩
  | .hbm, ⟨8, _⟩ => ⟨S1x256x4x128x64, .bf16⟩
  | .hbm, ⟨9, _⟩ => ⟨S1x256x4x64x64, .bf16⟩
  | .hbm, ⟨10, _⟩ => ⟨S1x256x8x128, .f32⟩
  | .hbm, ⟨11, _⟩ => ⟨S1x16384x512, .f32⟩
  | .hbm, ⟨12, _⟩ => ⟨S1x16384x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .bf16⟩
  | .local _ .vmem, ⟨3, _⟩ => ⟨S1x64x512, .bf16⟩
  | .local _ .vmem, ⟨4, _⟩ => ⟨S1x64x512, .bf16⟩
  | .local _ .vmem, ⟨5, _⟩ => ⟨S1x64x512, .bf16⟩
  | .local _ .vmem, ⟨6, _⟩ => ⟨S1x1x4x128x64, .bf16⟩
  | .local _ .vmem, ⟨7, _⟩ => ⟨S1x1x4x128x64, .bf16⟩
  | .local _ .vmem, ⟨8, _⟩ => ⟨S1x1x4x64x64, .bf16⟩
  | .local _ .vmem, ⟨9, _⟩ => ⟨S1x1x4x64x64, .bf16⟩
  | .local _ .vmem, ⟨10, _⟩ => ⟨S1x1x8x128, .f32⟩
  | .local _ .vmem, ⟨11, _⟩ => ⟨S1x1x8x128, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .bf16⟩
  | .local _ .vmem, ⟨15, _⟩ => ⟨S1x64x512, .bf16⟩
  | .local _ .vmem, ⟨16, _⟩ => ⟨S1x64x512, .bf16⟩
  | .local _ .vmem, ⟨17, _⟩ => ⟨S1x64x512, .bf16⟩
  | .local _ .vmem, ⟨18, _⟩ => ⟨S1x1x4x128x64, .bf16⟩
  | .local _ .vmem, ⟨19, _⟩ => ⟨S1x1x4x128x64, .bf16⟩
  | .local _ .vmem, ⟨20, _⟩ => ⟨S1x1x4x64x64, .bf16⟩
  | .local _ .vmem, ⟨21, _⟩ => ⟨S1x1x4x64x64, .bf16⟩
  | .local _ .vmem, ⟨22, _⟩ => ⟨S1x1x8x128, .f32⟩
  | .local _ .vmem, ⟨23, _⟩ => ⟨S1x1x8x128, .f32⟩
  | .local _ .vmem, ⟨24, _⟩ => ⟨S1x64x512, .f32⟩
  | .local _ .vmem, ⟨25, _⟩ => ⟨S1x64x512, .f32⟩
  | .local _ .vmem, ⟨26, _⟩ => ⟨S1x64x512, .f32⟩
  | .local _ .vmem, ⟨27, _⟩ => ⟨S1x64x512, .f32⟩
  | .local _ .vmem, ⟨28, _⟩ => ⟨S1x2x4x128x128, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![1, 256], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  ![arg0.toNat, v0.toNat, c0_i32.toNat]

def cc0_transform_9 (i : grid0.Coords) : Fin 5 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c255_i32 : BitVec 32 := 255#32
  let v0 : BitVec 32 := Scalar.subi c255_i32 arg1
  let c0_i32 : BitVec 32 := 0#32
  let c0_i32_0 : BitVec 32 := 0#32
  ![arg0.toNat, v0.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x4x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S1x16384x512 : Shape := ⟨3, ![1, 16384, 512]⟩
abbrev S1x256x4x128x64 : Shape := ⟨5, ![1, 256, 4, 128, 64]⟩
abbrev S1x256x4x64x64 : Shape := ⟨5, ![1, 256, 4, 64, 64]⟩
abbrev S1x256x8x128 : Shape := ⟨4, ![1, 256, 8, 128]⟩
abbrev S256x64x4x128 : Shape := ⟨4, ![256, 64, 4, 128]⟩
abbrev S256x4x64x128 : Shape := ⟨4, ![256, 4, 64, 128]⟩
abbrev S256x8x64x128 : Shape := ⟨4, ![256, 8, 64, 128]⟩
abbrev S256x4x128x64 : Shape := ⟨4, ![256, 4, 128, 64]⟩
abbrev S256x8x128x64 : Shape := ⟨4, ![256, 8, 128, 64]⟩
abbrev S256x4x64x64 : Shape := ⟨4, ![256, 4, 64, 64]⟩
abbrev S256x8x64x64 : Shape := ⟨4, ![256, 8, 64, 64]⟩
abbrev S1x256x4x128 : Shape := ⟨4, ![1, 256, 4, 128]⟩
abbrev S256x4x128 : Shape := ⟨3, ![256, 4, 128]⟩
abbrev S256x8x128 : Shape := ⟨3, ![256, 8, 128]⟩
abbrev S256x8x1x128 : Shape := ⟨4, ![256, 8, 1, 128]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128x64 : Shape := ⟨4, ![1, 8, 128, 64]⟩
abbrev S8x128x64 : Shape := ⟨3, ![8, 128, 64]⟩
abbrev S1x8x1x128 : Shape := ⟨4, ![1, 8, 1, 128]⟩
abbrev S8x1x128 : Shape := ⟨3, ![8, 1, 128]⟩

abbrev nBuf : Space → Nat
  | .hbm => 121
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .bf16⟩
  | .hbm, ⟨2, _⟩ => ⟨S1x16384x512, .bf16⟩
  | .hbm, ⟨3, _⟩ => ⟨S1x256x4x128x64, .bf16⟩
  | .hbm, ⟨4, _⟩ => ⟨S1x256x4x64x64, .bf16⟩
  | .hbm, ⟨5, _⟩ => ⟨S1x16384x512, .f32⟩
  | .hbm, ⟨6, _⟩ => ⟨S1x16384x512, .bf16⟩
  | .hbm, ⟨7, _⟩ => ⟨S1x16384x512, .bf16⟩
  | .hbm, ⟨8, _⟩ => ⟨S1x256x4x128x64, .bf16⟩
  | .hbm, ⟨9, _⟩ => ⟨S1x256x4x64x64, .bf16⟩
  | .hbm, ⟨10, _⟩ => ⟨S1x256x8x128, .f32⟩
  | .hbm, ⟨11, _⟩ => ⟨S256x64x4x128, .f32⟩
  | .hbm, ⟨12, _⟩ => ⟨S256x4x64x128, .f32⟩
  | .hbm, ⟨13, _⟩ => ⟨S256x64x4x128, .f32⟩
  | .hbm, ⟨14, _⟩ => ⟨S256x4x64x128, .f32⟩
  | .hbm, ⟨15, _⟩ => ⟨S256x4x64x128, .f32⟩
  | .hbm, ⟨16, _⟩ => ⟨S256x8x64x128, .f32⟩
  | .hbm, ⟨17, _⟩ => ⟨S1x16384x512, .f32⟩
  | .hbm, ⟨18, _⟩ => ⟨S256x64x4x128, .f32⟩
  | .hbm, ⟨19, _⟩ => ⟨S256x4x64x128, .f32⟩
  | .hbm, ⟨20, _⟩ => ⟨S1x16384x512, .f32⟩
  | .hbm, ⟨21, _⟩ => ⟨S256x64x4x128, .f32⟩
  | .hbm, ⟨22, _⟩ => ⟨S256x4x64x128, .f32⟩
  | .hbm, ⟨23, _⟩ => ⟨S256x4x64x128, .f32⟩
  | .hbm, ⟨24, _⟩ => ⟨S256x8x64x128, .f32⟩
  | .hbm, ⟨25, _⟩ => ⟨S1x16384x512, .f32⟩
  | .hbm, ⟨26, _⟩ => ⟨S256x64x4x128, .f32⟩
  | .hbm, ⟨27, _⟩ => ⟨S256x4x64x128, .f32⟩
  | .hbm, ⟨28, _⟩ => ⟨S1x16384x512, .f32⟩
  | .hbm, ⟨29, _⟩ => ⟨S256x64x4x128, .f32⟩
  | .hbm, ⟨30, _⟩ => ⟨S256x4x64x128, .f32⟩
  | .hbm, ⟨31, _⟩ => ⟨S256x4x64x128, .f32⟩
  | .hbm, ⟨32, _⟩ => ⟨S256x8x64x128, .f32⟩
  | .hbm, ⟨33, _⟩ => ⟨S1x256x4x128x64, .f32⟩
  | .hbm, ⟨34, _⟩ => ⟨S256x4x128x64, .f32⟩
  | .hbm, ⟨35, _⟩ => ⟨S1x256x4x128x64, .f32⟩
  | .hbm, ⟨36, _⟩ => ⟨S256x4x128x64, .f32⟩
  | .hbm, ⟨37, _⟩ => ⟨S256x4x128x64, .f32⟩
  | .hbm, ⟨38, _⟩ => ⟨S256x8x128x64, .f32⟩
  | .hbm, ⟨39, _⟩ => ⟨S1x256x4x64x64, .f32⟩
  | .hbm, ⟨40, _⟩ => ⟨S256x4x64x64, .f32⟩
  | .hbm, ⟨41, _⟩ => ⟨S1x256x4x64x64, .f32⟩
  | .hbm, ⟨42, _⟩ => ⟨S256x4x64x64, .f32⟩
  | .hbm, ⟨43, _⟩ => ⟨S256x4x64x64, .f32⟩
  | .hbm, ⟨44, _⟩ => ⟨S256x8x64x64, .f32⟩
  | .hbm, ⟨45, _⟩ => ⟨S1x256x4x128, .f32⟩
  | .hbm, ⟨46, _⟩ => ⟨S256x4x128, .f32⟩
  | .hbm, ⟨47, _⟩ => ⟨S1x256x4x128, .f32⟩
  | .hbm, ⟨48, _⟩ => ⟨S256x4x128, .f32⟩
  | .hbm, ⟨49, _⟩ => ⟨S256x4x128, .f32⟩
  | .hbm, ⟨50, _⟩ => ⟨S256x8x128, .f32⟩
  | .hbm, ⟨51, _⟩ => ⟨S256x8x1x128, .f32⟩
  | .hbm, ⟨52, _⟩ => ⟨S_, .f32⟩
  | .hbm, ⟨53, _⟩ => ⟨S8x128x128, .f32⟩
  | .hbm, ⟨54, _⟩ => ⟨S_, .f32⟩
  | .hbm, ⟨55, _⟩ => ⟨S256x8x64x128, .f32⟩
  | .hbm, ⟨56, _⟩ => ⟨S_, .i32⟩
  | .hbm, ⟨57, _⟩ => ⟨S256x8x64x128, .f32⟩
  | .hbm, ⟨58, _⟩ => ⟨S256x8x64x128, .f32⟩
  | .hbm, ⟨59, _⟩ => ⟨S256x8x64x64, .f32⟩
  | .hbm, ⟨60, _⟩ => ⟨S256x8x64x128, .f32⟩
  | .hbm, ⟨61, _⟩ => ⟨S256x8x128x64, .f32⟩
  | .hbm, ⟨62, _⟩ => ⟨S256x8x1x128, .f32⟩
  | .hbm, ⟨63, _⟩ => ⟨S_, .i32⟩
  | .hbm, ⟨64, _⟩ => ⟨S8x128x128, .f32⟩
  | .hbm, ⟨65, _⟩ => ⟨S256x8x64x128, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x8x64x128, .f32⟩
  | .hbm, ⟨72, _⟩ => ⟨S8x64x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x8x64x128, .f32⟩
  | .hbm, ⟨77, _⟩ => ⟨S8x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x8x64x64, .f32⟩
  | .hbm, ⟨82, _⟩ => ⟨S8x64x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x8x64x128, .f32⟩
  | .hbm, ⟨87, _⟩ => ⟨S8x64x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x8x128x64, .f32⟩
  | .hbm, ⟨92, _⟩ => ⟨S8x128x64, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x8x1x128, .f32⟩
  | .hbm, ⟨97, _⟩ => ⟨S8x1x128, .f32⟩
  | .hbm, ⟨98, _⟩ => ⟨S8x64x128, .f32⟩
  | .hbm, ⟨99, _⟩ => ⟨S8x64x128, .f32⟩
  | .hbm, ⟨100, _⟩ => ⟨S8x64x128, .f32⟩
  | .hbm, ⟨101, _⟩ => ⟨S8x64x128, .f32⟩
  | .hbm, ⟨102, _⟩ => ⟨S8x64x128, .f32⟩
  | .hbm, ⟨103, _⟩ => ⟨S8x128x128, .f32⟩
  | .hbm, ⟨104, _⟩ => ⟨S8x128x128, .f32⟩
  | .hbm, ⟨105, _⟩ => ⟨S8x128x128, .f32⟩
  | .hbm, ⟨106, _⟩ => ⟨S8x128x128, .f32⟩
  | .hbm, ⟨107, _⟩ => ⟨S1x8x64x128, .f32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S256x8x64x128, .f32⟩
  | .hbm, ⟨112, _⟩ => ⟨S_, .i32⟩
  | .hbm, ⟨113, _⟩ => ⟨S_, .i32⟩
  | .hbm, ⟨114, _⟩ => ⟨S256x4x64x128, .f32⟩
  | .hbm, ⟨115, _⟩ => ⟨S256x64x4x128, .f32⟩
  | .hbm, ⟨116, _⟩ => ⟨S1x16384x512, .f32⟩
  | .hbm, ⟨117, _⟩ => ⟨S256x4x64x128, .f32⟩
  | .hbm, ⟨118, _⟩ => ⟨S256x4x64x128, .f32⟩
  | .hbm, ⟨119, _⟩ => ⟨S256x64x4x128, .f32⟩
  | .hbm, ⟨120, _⟩ => ⟨S1x16384x512, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_c : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_v43_5 : Ref sig .tc := ⟨.hbm, 62, rfl⟩
abbrev main_v43_6 : Ref sig .tc := ⟨.hbm, 63, rfl⟩
abbrev main_v43_7 : Ref sig .tc := ⟨.hbm, 64, rfl⟩
abbrev main_v43_8 : Ref sig .tc := ⟨.hbm, 65, rfl⟩
abbrev main_while0c_c_9 : Ref sig .tc := ⟨.hbm, 66, rfl⟩
abbrev main_while0c_v51 : Ref sig .tc := ⟨.hbm, 67, rfl⟩
abbrev main_while0b_call6_c : Ref sig .tc := ⟨.hbm, 68, rfl⟩
abbrev main_while0b_call6_c_0 : Ref sig .tc := ⟨.hbm, 69, rfl⟩
abbrev main_while0b_call6_c_1 : Ref sig .tc := ⟨.hbm, 70, rfl⟩
abbrev main_while0b_call6_v0 : Ref sig .tc := ⟨.hbm, 71, rfl⟩
abbrev main_while0b_v51 : Ref sig .tc := ⟨.hbm, 72, rfl⟩
abbrev main_while0b_call7_c : Ref sig .tc := ⟨.hbm, 73, rfl⟩
abbrev main_while0b_call7_c_0 : Ref sig .tc := ⟨.hbm, 74, rfl⟩
abbrev main_while0b_call7_c_1 : Ref sig .tc := ⟨.hbm, 75, rfl⟩
abbrev main_while0b_call7_v0 : Ref sig .tc := ⟨.hbm, 76, rfl⟩
abbrev main_while0b_v52 : Ref sig .tc := ⟨.hbm, 77, rfl⟩
abbrev main_while0b_call8_c : Ref sig .tc := ⟨.hbm, 78, rfl⟩
abbrev main_while0b_call8_c_0 : Ref sig .tc := ⟨.hbm, 79, rfl⟩
abbrev main_while0b_call8_c_1 : Ref sig .tc := ⟨.hbm, 80, rfl⟩
abbrev main_while0b_call8_v0 : Ref sig .tc := ⟨.hbm, 81, rfl⟩
abbrev main_while0b_v53 : Ref sig .tc := ⟨.hbm, 82, rfl⟩
abbrev main_while0b_call9_c : Ref sig .tc := ⟨.hbm, 83, rfl⟩
abbrev main_while0b_call9_c_0 : Ref sig .tc := ⟨.hbm, 84, rfl⟩
abbrev main_while0b_call9_c_1 : Ref sig .tc := ⟨.hbm, 85, rfl⟩
abbrev main_while0b_call9_v0 : Ref sig .tc := ⟨.hbm, 86, rfl⟩
abbrev main_while0b_v54 : Ref sig .tc := ⟨.hbm, 87, rfl⟩
abbrev main_while0b_call10_c : Ref sig .tc := ⟨.hbm, 88, rfl⟩
abbrev main_while0b_call10_c_0 : Ref sig .tc := ⟨.hbm, 89, rfl⟩
abbrev main_while0b_call10_c_1 : Ref sig .tc := ⟨.hbm, 90, rfl⟩
abbrev main_while0b_call10_v0 : Ref sig .tc := ⟨.hbm, 91, rfl⟩
abbrev main_while0b_v55 : Ref sig .tc := ⟨.hbm, 92, rfl⟩
abbrev main_while0b_call11_c : Ref sig .tc := ⟨.hbm, 93, rfl⟩
abbrev main_while0b_call11_c_0 : Ref sig .tc := ⟨.hbm, 94, rfl⟩
abbrev main_while0b_call11_c_1 : Ref sig .tc := ⟨.hbm, 95, rfl⟩
abbrev main_while0b_call11_v0 : Ref sig .tc := ⟨.hbm, 96, rfl⟩
abbrev main_while0b_v56 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_call12_v0 : Ref sig .tc := ⟨.hbm, 107, rfl⟩
abbrev main_while0b_call12_c : Ref sig .tc := ⟨.hbm, 108, rfl⟩
abbrev main_while0b_call12_c_0 : Ref sig .tc := ⟨.hbm, 109, rfl⟩
abbrev main_while0b_call12_c_1 : Ref sig .tc := ⟨.hbm, 110, rfl⟩
abbrev main_while0b_v66 : Ref sig .tc := ⟨.hbm, 111, rfl⟩
abbrev main_while0b_c_9 : Ref sig .tc := ⟨.hbm, 112, rfl⟩
abbrev main_while0b_v67 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩

abbrev nD : Nat := 1
abbrev τ : Topo := Topo.v7x

variable {F : FTy → Type} [FloatOps F]

abbrev main_while0_count : Scf.Loop 32 := ⟨0#32, 256#32, 1#32⟩
-- ==== InProj.lean ====
abbrev S16384x1024 : Shape := ⟨2, ![16384, 1024]⟩
abbrev S1024 : Shape := ⟨1, ![1024]⟩
abbrev S1024x6160 : Shape := ⟨2, ![1024, 6160]⟩
abbrev S1024x1536 : Shape := ⟨2, ![1024, 1536]⟩
abbrev S1024x2048 : Shape := ⟨2, ![1024, 2048]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x6272 : Shape := ⟨2, ![1024, 6272]⟩
abbrev S1x1024 : Shape := ⟨2, ![1, 1024]⟩
abbrev S16384x6272 : Shape := ⟨2, ![16384, 6272]⟩
abbrev S256x1024 : Shape := ⟨2, ![256, 1024]⟩
abbrev S256x6272 : Shape := ⟨2, ![256, 6272]⟩
abbrev S256 : Shape := ⟨1, ![256]⟩
abbrev S256x1 : Shape := ⟨2, ![256, 1]⟩
abbrev S1024x896 : Shape := ⟨2, ![1024, 896]⟩
abbrev S256x896 : Shape := ⟨2, ![256, 896]⟩

abbrev nBuf : Space → Nat
  | .hbm => 14
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6160, .f32⟩
  | .hbm, ⟨3, _⟩ => ⟨S1024x1536, .f32⟩
  | .hbm, ⟨4, _⟩ => ⟨S1024x2048, .f32⟩
  | .hbm, ⟨5, _⟩ => ⟨S1024x512, .f32⟩
  | .hbm, ⟨6, _⟩ => ⟨S1024x2048, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x6272, .f32⟩
  | .hbm, ⟨11, _⟩ => ⟨S1024x6272, .bf16⟩
  | .hbm, ⟨12, _⟩ => ⟨S1x1024, .f32⟩
  | .hbm, ⟨13, _⟩ => ⟨S16384x6272, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6272, .bf16⟩
  | .local _ .vmem, ⟨4, _⟩ => ⟨S256x6272, .f32⟩
  | .local _ .vmem, ⟨5, _⟩ => ⟨S256x6272, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjIdeal.lean ====
abbrev S16384x1024 : Shape := ⟨2, ![16384, 1024]⟩
abbrev S1024 : Shape := ⟨1, ![1024]⟩
abbrev S1024x6160 : Shape := ⟨2, ![1024, 6160]⟩
abbrev S1024x1536 : Shape := ⟨2, ![1024, 1536]⟩
abbrev S1024x2048 : Shape := ⟨2, ![1024, 2048]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x6272 : Shape := ⟨2, ![1024, 6272]⟩
abbrev S1x1024 : Shape := ⟨2, ![1, 1024]⟩
abbrev S16384x6272 : Shape := ⟨2, ![16384, 6272]⟩
abbrev S256x1024 : Shape := ⟨2, ![256, 1024]⟩
abbrev S256x6272 : Shape := ⟨2, ![256, 6272]⟩
abbrev S256 : Shape := ⟨1, ![256]⟩
abbrev S256x1 : Shape := ⟨2, ![256, 1]⟩
abbrev S1024x896 : Shape := ⟨2, ![1024, 896]⟩
abbrev S256x896 : Shape := ⟨2, ![256, 896]⟩

abbrev nBuf : Space → Nat
  | .hbm => 14
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6160, .f32⟩
  | .hbm, ⟨3, _⟩ => ⟨S1024x1536, .f32⟩
  | .hbm, ⟨4, _⟩ => ⟨S1024x2048, .f32⟩
  | .hbm, ⟨5, _⟩ => ⟨S1024x512, .f32⟩
  | .hbm, ⟨6, _⟩ => ⟨S1024x2048, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x6272, .f32⟩
  | .hbm, ⟨11, _⟩ => ⟨S1024x6272, .bf16⟩
  | .hbm, ⟨12, _⟩ => ⟨S1x1024, .f32⟩
  | .hbm, ⟨13, _⟩ => ⟨S16384x6272, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6272, .bf16⟩
  | .local _ .vmem, ⟨4, _⟩ => ⟨S256x6272, .f32⟩
  | .local _ .vmem, ⟨5, _⟩ => ⟨S256x6272, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S16384x1024 : Shape := ⟨2, ![16384, 1024]⟩
abbrev S1024 : Shape := ⟨1, ![1024]⟩
abbrev S1024x6160 : Shape := ⟨2, ![1024, 6160]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6160 : Shape := ⟨2, ![16384, 6160]⟩
abbrev S16384x1536 : Shape := ⟨2, ![16384, 1536]⟩
abbrev S16384x2048 : Shape := ⟨2, ![16384, 2048]⟩
abbrev S16384x512 : Shape := ⟨2, ![16384, 512]⟩
abbrev S16384x16 : Shape := ⟨2, ![16384, 16]⟩
abbrev S16384x112 : Shape := ⟨2, ![16384, 112]⟩
abbrev S16384x6272 : Shape := ⟨2, ![16384, 6272]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6160, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6160, .f32⟩
  | .hbm, ⟨20, _⟩ => ⟨S16384x1536, .f32⟩
  | .hbm, ⟨21, _⟩ => ⟨S16384x2048, .f32⟩
  | .hbm, ⟨22, _⟩ => ⟨S16384x512, .f32⟩
  | .hbm, ⟨23, _⟩ => ⟨S16384x2048, .f32⟩
  | .hbm, ⟨24, _⟩ => ⟨S16384x16, .f32⟩
  | .hbm, ⟨25, _⟩ => ⟨S_, .f32⟩
  | .hbm, ⟨26, _⟩ => ⟨S16384x112, .f32⟩
  | .hbm, ⟨27, _⟩ => ⟨S16384x6272, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x6272 : Shape := ⟨2, ![16384, 6272]⟩
abbrev S128 : Shape := ⟨1, ![128]⟩
abbrev S512x1024 : Shape := ⟨2, ![512, 1024]⟩
abbrev S1024x1024 : Shape := ⟨2, ![1024, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x6272, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x128, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeIdeal.lean ====
abbrev S16384x1024 : Shape := ⟨2, ![16384, 1024]⟩
abbrev S16384x512 : Shape := ⟨2, ![16384, 512]⟩
abbrev S16384x6272 : Shape := ⟨2, ![16384, 6272]⟩
abbrev S128 : Shape := ⟨1, ![128]⟩
abbrev S512x1024 : Shape := ⟨2, ![512, 1024]⟩
abbrev S1024x1024 : Shape := ⟨2, ![1024, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x6272, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x128, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x1024 : Shape := ⟨2, ![16384, 1024]⟩
abbrev S16384x512 : Shape := ⟨2, ![16384, 512]⟩
abbrev S16384x6272 : Shape := ⟨2, ![16384, 6272]⟩
abbrev S128 : Shape := ⟨1, ![128]⟩
abbrev S512x1024 : Shape := ⟨2, ![512, 1024]⟩
abbrev S1024x1024 : Shape := ⟨2, ![1024, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x6272, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x512, .f32⟩
  | .hbm, ⟨10, _⟩ => ⟨S16384x4x128, .f32⟩
  | .hbm, ⟨11, _⟩ => ⟨S16384x512, .f32⟩
  | .hbm, ⟨12, _⟩ => ⟨S16384x4x128, .f32⟩
  | .hbm, ⟨13, _⟩ => ⟨S16384x4x128, .f32⟩
  | .hbm, ⟨14, _⟩ => ⟨S_, .f32⟩
  | .hbm, ⟨15, _⟩ => ⟨S16384x4, .f32⟩
  | .hbm, ⟨16, _⟩ => ⟨S16384x4x1, .f32⟩
  | .hbm, ⟨17, _⟩ => ⟨S_, .f32⟩
  | .hbm, ⟨18, _⟩ => ⟨S16384x4x1, .f32⟩
  | .hbm, ⟨19, _⟩ => ⟨S16384x4x1, .f32⟩
  | .hbm, ⟨20, _⟩ => ⟨S_, .f32⟩
  | .hbm, ⟨21, _⟩ => ⟨S16384x4x1, .f32⟩
  | .hbm, ⟨22, _⟩ => ⟨S16384x4x1, .f32⟩
  | .hbm, ⟨23, _⟩ => ⟨S16384x4x1, .f32⟩
  | .hbm, ⟨24, _⟩ => ⟨S16384x4x128, .f32⟩
  | .hbm, ⟨25, _⟩ => ⟨S16384x4x128, .f32⟩
  | .hbm, ⟨26, _⟩ => ⟨S1x1x128, .f32⟩
  | .hbm, ⟨27, _⟩ => ⟨S16384x4x128, .f32⟩
  | .hbm, ⟨28, _⟩ => ⟨S16384x4x128, .f32⟩
  | .hbm, ⟨29, _⟩ => ⟨S16384x4x128, .f32⟩
  | .hbm, ⟨30, _⟩ => ⟨S16384x4x128, .f32⟩
  | .hbm, ⟨31, _⟩ => ⟨S_, .f32⟩
  | .hbm, ⟨32, _⟩ => ⟨S16384x4x128, .f32⟩
  | .hbm, ⟨33, _⟩ => ⟨S16384x4x128, .f32⟩
  | .hbm, ⟨34, _⟩ => ⟨S_, .f32⟩
  | .hbm, ⟨35, _⟩ => ⟨S16384x4x128, .f32⟩
  | .hbm, ⟨36, _⟩ => ⟨S16384x4x128, .f32⟩
  | .hbm, ⟨37, _⟩ => ⟨S16384x4x128, .f32⟩
  | .hbm, ⟨38, _⟩ => ⟨S16384x4x128, .f32⟩
  | .hbm, ⟨39, _⟩ => ⟨S16384x512, .f32⟩
  | .hbm, ⟨40, _⟩ => ⟨S16384x1024, .f32⟩
  | .hbm, ⟨41, _⟩ => ⟨S16384x512, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Final.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Prep.lean ====
abbrev S1x16384x6272 : Shape := ⟨3, ![1, 16384, 6272]⟩
abbrev S5x1536 : Shape := ⟨2, ![5, 1536]⟩
abbrev S2x4 : Shape := ⟨2, ![2, 4]⟩
abbrev S_ : Shape := ⟨0, ![]⟩
abbrev S8 : Shape := ⟨1, ![8]⟩
abbrev S112 : Shape := ⟨1, ![112]⟩
abbrev S1x4 : Shape := ⟨2, ![1, 4]⟩
abbrev S4 : Shape := ⟨1, ![4]⟩
abbrev S128 : Shape := ⟨1, ![128]⟩
abbrev S1x128 : Shape := ⟨2, ![1, 128]⟩
abbrev S1x16384x1536 : Shape := ⟨3, ![1, 16384, 1536]⟩
abbrev S1x16384x128 : Shape := ⟨3, ![1, 16384, 128]⟩
abbrev S1x8x1536 : Shape := ⟨3, ![1, 8, 1536]⟩
abbrev S1x512x1536 : Shape := ⟨3, ![1, 512, 1536]⟩
abbrev S1x512x128 : Shape := ⟨3, ![1, 512, 128]⟩
abbrev S8x1536 : Shape := ⟨2, ![8, 1536]⟩
abbrev S512x1536 : Shape := ⟨2, ![512, 1536]⟩
abbrev S528x1536 : Shape := ⟨2, ![528, 1536]⟩
abbrev S1x1536 : Shape := ⟨2, ![1, 1536]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 22
  | .vmem => 15
  | .smem => 0
  | _ => 0

abbrev bufTy : (tb : Table) → Fin (tcTables nBuf tb) → BufTy
  | .hbm, ⟨0, _⟩ => ⟨S1x16384x6272, .f32⟩
  | .hbm, ⟨1, _⟩ => ⟨S5x1536, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S112, .f32⟩
  | .hbm, ⟨8, _⟩ => ⟨S1x4, .f32⟩
  | .hbm, ⟨9, _⟩ => ⟨S4, .f32⟩
  | .hbm, ⟨10, _⟩ => ⟨S1x4, .f32⟩
  | .hbm, ⟨11, _⟩ => ⟨S4, .f32⟩
  | .hbm, ⟨12, _⟩ => ⟨S128, .f32⟩
  | .hbm, ⟨13, _⟩ => ⟨S1x128, .f32⟩
  | .hbm, ⟨14, _⟩ => ⟨S1x4, .f32⟩
  | .hbm, ⟨15, _⟩ => ⟨S4, .f32⟩
  | .hbm, ⟨16, _⟩ => ⟨S1x4, .f32⟩
  | .hbm, ⟨17, _⟩ => ⟨S4, .f32⟩
  | .hbm, ⟨18, _⟩ => ⟨S128, .f32⟩
  | .hbm, ⟨19, _⟩ => ⟨S1x128, .f32⟩
  | .hbm, ⟨20, _⟩ => ⟨S1x16384x1536, .f32⟩
  | .hbm, ⟨21, _⟩ => ⟨S1x16384x128, .f32⟩
  | .local _ .vmem, ⟨0, _⟩ => ⟨S1x8x1536, .f32⟩
  | .local _ .vmem, ⟨1, _⟩ => ⟨S1x8x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x8x1536, .f32⟩
  | .local _ .vmem, ⟨5, _⟩ => ⟨S1x8x1536, .f32⟩
  | .local _ .vmem, ⟨6, _⟩ => ⟨S1x512x128, .f32⟩
  | .local _ .vmem, ⟨7, _⟩ => ⟨S1x512x128, .f32⟩
  | .local _ .vmem, ⟨8, _⟩ => ⟨S5x1536, .f32⟩
  | .local _ .vmem, ⟨9, _⟩ => ⟨S1x128, .f32⟩
  | .local _ .vmem, ⟨10, _⟩ => ⟨S1x128, .f32⟩
  | .local _ .vmem, ⟨11, _⟩ => ⟨S1x512x1536, .f32⟩
  | .local _ .vmem, ⟨12, _⟩ => ⟨S1x512x1536, .f32⟩
  | .local _ .vmem, ⟨13, _⟩ => ⟨S1x512x128, .f32⟩
  | .local _ .vmem, ⟨14, _⟩ => ⟨S1x512x128, .f32⟩
  | _, _ => ⟨S1x16384x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepIdeal.lean ====
abbrev S1x16384x6272 : Shape := ⟨3, ![1, 16384, 6272]⟩
abbrev S5x1536 : Shape := ⟨2, ![5, 1536]⟩
abbrev S2x4 : Shape := ⟨2, ![2, 4]⟩
abbrev S_ : Shape := ⟨0, ![]⟩
abbrev S8 : Shape := ⟨1, ![8]⟩
abbrev S112 : Shape := ⟨1, ![112]⟩
abbrev S1x4 : Shape := ⟨2, ![1, 4]⟩
abbrev S4 : Shape := ⟨1, ![4]⟩
abbrev S128 : Shape := ⟨1, ![128]⟩
abbrev S1x128 : Shape := ⟨2, ![1, 128]⟩
abbrev S1x16384x1536 : Shape := ⟨3, ![1, 16384, 1536]⟩
abbrev S1x16384x128 : Shape := ⟨3, ![1, 16384, 128]⟩
abbrev S1x8x1536 : Shape := ⟨3, ![1, 8, 1536]⟩
abbrev S1x512x1536 : Shape := ⟨3, ![1, 512, 1536]⟩
abbrev S1x512x128 : Shape := ⟨3, ![1, 512, 128]⟩
abbrev S8x1536 : Shape := ⟨2, ![8, 1536]⟩
abbrev S512x1536 : Shape := ⟨2, ![512, 1536]⟩
abbrev S528x1536 : Shape := ⟨2, ![528, 1536]⟩
abbrev S1x1536 : Shape := ⟨2, ![1, 1536]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 22
  | .vmem => 15
  | .smem => 0
  | _ => 0

abbrev bufTy : (tb : Table) → Fin (tcTables nBuf tb) → BufTy
  | .hbm, ⟨0, _⟩ => ⟨S1x16384x6272, .f32⟩
  | .hbm, ⟨1, _⟩ => ⟨S5x1536, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S112, .f32⟩
  | .hbm, ⟨8, _⟩ => ⟨S1x4, .f32⟩
  | .hbm, ⟨9, _⟩ => ⟨S4, .f32⟩
  | .hbm, ⟨10, _⟩ => ⟨S1x4, .f32⟩
  | .hbm, ⟨11, _⟩ => ⟨S4, .f32⟩
  | .hbm, ⟨12, _⟩ => ⟨S128, .f32⟩
  | .hbm, ⟨13, _⟩ => ⟨S1x128, .f32⟩
  | .hbm, ⟨14, _⟩ => ⟨S1x4, .f32⟩
  | .hbm, ⟨15, _⟩ => ⟨S4, .f32⟩
  | .hbm, ⟨16, _⟩ => ⟨S1x4, .f32⟩
  | .hbm, ⟨17, _⟩ => ⟨S4, .f32⟩
  | .hbm, ⟨18, _⟩ => ⟨S128, .f32⟩
  | .hbm, ⟨19, _⟩ => ⟨S1x128, .f32⟩
  | .hbm, ⟨20, _⟩ => ⟨S1x16384x1536, .f32⟩
  | .hbm, ⟨21, _⟩ => ⟨S1x16384x128, .f32⟩
  | .local _ .vmem, ⟨0, _⟩ => ⟨S1x8x1536, .f32⟩
  | .local _ .vmem, ⟨1, _⟩ => ⟨S1x8x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x8x1536, .f32⟩
  | .local _ .vmem, ⟨5, _⟩ => ⟨S1x8x1536, .f32⟩
  | .local _ .vmem, ⟨6, _⟩ => ⟨S1x512x128, .f32⟩
  | .local _ .vmem, ⟨7, _⟩ => ⟨S1x512x128, .f32⟩
  | .local _ .vmem, ⟨8, _⟩ => ⟨S5x1536, .f32⟩
  | .local _ .vmem, ⟨9, _⟩ => ⟨S1x128, .f32⟩
  | .local _ .vmem, ⟨10, _⟩ => ⟨S1x128, .f32⟩
  | .local _ .vmem, ⟨11, _⟩ => ⟨S1x512x1536, .f32⟩
  | .local _ .vmem, ⟨12, _⟩ => ⟨S1x512x1536, .f32⟩
  | .local _ .vmem, ⟨13, _⟩ => ⟨S1x512x128, .f32⟩
  | .local _ .vmem, ⟨14, _⟩ => ⟨S1x512x128, .f32⟩
  | _, _ => ⟨S1x16384x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F] [Named F]

def κ : String → Option EReal := fun
  | "inv_sqrt_dk" => some (((Real.sqrt 128)⁻¹ : ℝ) : EReal)
  | _ => none

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepRefIdeal.lean ====
abbrev S1x16384x6272 : Shape := ⟨3, ![1, 16384, 6272]⟩
abbrev S5x1536 : Shape := ⟨2, ![5, 1536]⟩
abbrev S2x4 : Shape := ⟨2, ![2, 4]⟩
abbrev S1x16384x1536 : Shape := ⟨3, ![1, 16384, 1536]⟩
abbrev S_ : Shape := ⟨0, ![]⟩
abbrev S1x16388x1536 : Shape := ⟨3, ![1, 16388, 1536]⟩
abbrev S1x1536 : Shape := ⟨2, ![1, 1536]⟩
abbrev S1536 : Shape := ⟨1, ![1536]⟩
abbrev S1x1x1536 : Shape := ⟨3, ![1, 1, 1536]⟩
abbrev S1x16384x512 : Shape := ⟨3, ![1, 16384, 512]⟩
abbrev S1x16384x4x128 : Shape := ⟨4, ![1, 16384, 4, 128]⟩
abbrev S1x16384x4 : Shape := ⟨3, ![1, 16384, 4]⟩
abbrev S1x16384x4x1 : Shape := ⟨4, ![1, 16384, 4, 1]⟩
abbrev S1x16384x8 : Shape := ⟨3, ![1, 16384, 8]⟩
abbrev S1x4 : Shape := ⟨2, ![1, 4]⟩
abbrev S4 : Shape := ⟨1, ![4]⟩
abbrev S1x1x4 : Shape := ⟨3, ![1, 1, 4]⟩
abbrev S1x16384x112 : Shape := ⟨3, ![1, 16384, 112]⟩
abbrev S1x16384x128 : Shape := ⟨3, ![1, 16384, 128]⟩

abbrev nBuf : Space → Nat
  | .hbm => 166
  | .vmem => 0
  | .smem => 0
  | _ => 0

abbrev hbmTy0_0 (i : Nat) : BufTy := match i % 128 with
  | 0 => ⟨S1x16384x6272, .f32⟩
  | 1 => ⟨S5x1536, .f32⟩
  | 2 => ⟨S2x4, .f32⟩
  | 3 => ⟨S2x4, .f32⟩
  | 4 => ⟨S1x16384x1536, .f32⟩
  | 5 => ⟨S_, .i32⟩
  | 6 => ⟨S_, .f32⟩
  | 7 => ⟨S1x16388x1536, .f32⟩
  | 8 => ⟨S1x16384x1536, .f32⟩
  | 9 => ⟨S1x1536, .f32⟩
  | 10 => ⟨S1536, .f32⟩
  | 11 => ⟨S1x1x1536, .f32⟩
  | 12 => ⟨S1x16384x1536, .f32⟩
  | 13 => ⟨S1x16384x1536, .f32⟩
  | 14 => ⟨S_, .f32⟩
  | 15 => ⟨S1x16384x1536, .f32⟩
  | 16 => ⟨S1x16384x1536, .f32⟩
  | 17 => ⟨S1x16384x1536, .f32⟩
  | 18 => ⟨S1x1536, .f32⟩
  | 19 => ⟨S1536, .f32⟩
  | 20 => ⟨S1x1x1536, .f32⟩
  | 21 => ⟨S1x16384x1536, .f32⟩
  | 22 => ⟨S1x16384x1536, .f32⟩
  | 23 => ⟨S1x16384x1536, .f32⟩
  | 24 => ⟨S1x16384x1536, .f32⟩
  | 25 => ⟨S1x1536, .f32⟩
  | 26 => ⟨S1536, .f32⟩
  | 27 => ⟨S1x1x1536, .f32⟩
  | 28 => ⟨S1x16384x1536, .f32⟩
  | 29 => ⟨S1x16384x1536, .f32⟩
  | 30 => ⟨S1x16384x1536, .f32⟩
  | 31 => ⟨S1x16384x1536, .f32⟩
  | 32 => ⟨S1x1536, .f32⟩
  | 33 => ⟨S1536, .f32⟩
  | 34 => ⟨S1x1x1536, .f32⟩
  | 35 => ⟨S1x16384x1536, .f32⟩
  | 36 => ⟨S1x16384x1536, .f32⟩
  | 37 => ⟨S1x16384x1536, .f32⟩
  | 38 => ⟨S1x16384x1536, .f32⟩
  | 39 => ⟨S1x1536, .f32⟩
  | 40 => ⟨S1536, .f32⟩
  | 41 => ⟨S1x1x1536, .f32⟩
  | 42 => ⟨S1x16384x1536, .f32⟩
  | 43 => ⟨S1x16384x1536, .f32⟩
  | 44 => ⟨S1x16384x1536, .f32⟩
  | 45 => ⟨S1x16384x1536, .f32⟩
  | 46 => ⟨S1x16384x1536, .f32⟩
  | 47 => ⟨S_, .f32⟩
  | 48 => ⟨S1x16384x1536, .f32⟩
  | 49 => ⟨S1x16384x1536, .f32⟩
  | 50 => ⟨S_, .f32⟩
  | 51 => ⟨S1x16384x1536, .f32⟩
  | 52 => ⟨S1x16384x1536, .f32⟩
  | 53 => ⟨S1x16384x1536, .f32⟩
  | 54 => ⟨S1x16384x512, .f32⟩
  | 55 => ⟨S1x16384x4x128, .f32⟩
  | 56 => ⟨S1x16384x4x128, .f32⟩
  | 57 => ⟨S_, .f32⟩
  | 58 => ⟨S1x16384x4, .f32⟩
  | 59 => ⟨S1x16384x4x1, .f32⟩
  | 60 => ⟨S_, .f32⟩
  | 61 => ⟨S1x16384x4x1, .f32⟩
  | 62 => ⟨S1x16384x4x1, .f32⟩
  | 63 => ⟨S1x16384x4x1, .f32⟩
  | 64 => ⟨S1x16384x4x128, .f32⟩
  | 65 => ⟨S1x16384x4x128, .f32⟩
  | 66 => ⟨S_, .f32⟩
  | 67 => ⟨S_, .f32⟩
  | 68 => ⟨S1x16384x4x128, .f32⟩
  | 69 => ⟨S1x16384x4x128, .f32⟩
  | 70 => ⟨S1x16384x512, .f32⟩
  | 71 => ⟨S1x16384x4x128, .f32⟩
  | 72 => ⟨S1x16384x4x128, .f32⟩
  | 73 => ⟨S_, .f32⟩
  | 74 => ⟨S1x16384x4, .f32⟩
  | 75 => ⟨S1x16384x4x1, .f32⟩
  | 76 => ⟨S_, .f32⟩
  | 77 => ⟨S1x16384x4x1, .f32⟩
  | 78 => ⟨S1x16384x4x1, .f32⟩
  | 79 => ⟨S1x16384x4x1, .f32⟩
  | 80 => ⟨S1x16384x4x128, .f32⟩
  | 81 => ⟨S1x16384x4x128, .f32⟩
  | 82 => ⟨S1x16384x8, .f32⟩
  | 83 => ⟨S1x16384x8, .f32⟩
  | 84 => ⟨S1x16384x8, .f32⟩
  | 85 => ⟨S_, .f32⟩
  | 86 => ⟨S1x16384x8, .f32⟩
  | 87 => ⟨S1x16384x8, .f32⟩
  | 88 => ⟨S_, .f32⟩
  | 89 => ⟨S1x16384x8, .f32⟩
  | 90 => ⟨S1x16384x8, .f32⟩
  | 91 => ⟨S1x4, .f32⟩
  | 92 => ⟨S4, .f32⟩
  | 93 => ⟨S4, .f32⟩
  | 94 => ⟨S4, .f32⟩
  | 95 => ⟨S1x16384x4, .f32⟩
  | 96 => ⟨S1x4, .f32⟩
  | 97 => ⟨S4, .f32⟩
  | 98 => ⟨S1x1x4, .f32⟩
  | 99 => ⟨S1x16384x4, .f32⟩
  | 100 => ⟨S1x16384x4, .f32⟩
  | 101 => ⟨S_, .f32⟩
  | 102 => ⟨S1x16384x4, .f32⟩
  | 103 => ⟨S1x16384x4, .f32⟩
  | 104 => ⟨S1x16384x4, .f32⟩
  | 105 => ⟨S1x16384x4, .f32⟩
  | 106 => ⟨S1x16384x4, .i1⟩
  | 107 => ⟨S1x16384x4, .f32⟩
  | 108 => ⟨S1x16384x4, .f32⟩
  | 109 => ⟨S1x16384x4, .f32⟩
  | 110 => ⟨S1x16384x4, .f32⟩
  | 111 => ⟨S1x16384x4, .f32⟩
  | 112 => ⟨S1x16384x4, .f32⟩
  | 113 => ⟨S1x16384x4, .f32⟩
  | 114 => ⟨S1x16384x4, .f32⟩
  | 115 => ⟨S1x1x4, .f32⟩
  | 116 => ⟨S1x16384x4, .f32⟩
  | 117 => ⟨S1x16384x4, .f32⟩
  | 118 => ⟨S1x4, .f32⟩
  | 119 => ⟨S4, .f32⟩
  | 120 => ⟨S4, .f32⟩
  | 121 => ⟨S4, .f32⟩
  | 122 => ⟨S1x16384x4, .f32⟩
  | 123 => ⟨S1x4, .f32⟩
  | 124 => ⟨S4, .f32⟩
  | 125 => ⟨S1x1x4, .f32⟩
  | 126 => ⟨S1x16384x4, .f32⟩
  | 127 => ⟨S1x16384x4, .f32⟩
  | _ => ⟨S1x16384x6272, .f32⟩

abbrev hbmTy0_1 (i : Nat) : BufTy := match i % 128 with
  | 0 => ⟨S_, .f32⟩
  | 1 => ⟨S1x16384x4, .f32⟩
  | 2 => ⟨S1x16384x4, .f32⟩
  | 3 => ⟨S1x16384x4, .f32⟩
  | 4 => ⟨S1x16384x4, .f32⟩
  | 5 => ⟨S1x16384x4, .i1⟩
  | 6 => ⟨S1x16384x4, .f32⟩
  | 7 => ⟨S1x16384x4, .f32⟩
  | 8 => ⟨S1x16384x4, .f32⟩
  | 9 => ⟨S1x16384x4, .f32⟩
  | 10 => ⟨S1x16384x4, .f32⟩
  | 11 => ⟨S1x16384x4, .f32⟩
  | 12 => ⟨S1x16384x4, .f32⟩
  | 13 => ⟨S1x16384x4, .f32⟩
  | 14 => ⟨S1x1x4, .f32⟩
  | 15 => ⟨S1x16384x4, .f32⟩
  | 16 => ⟨S1x16384x4, .f32⟩
  | 17 => ⟨S1x16384x112, .f32⟩
  | 18 => ⟨S_, .f32⟩
  | 19 => ⟨S1x16384x112, .f32⟩
  | 20 => ⟨S1x16384x112, .f32⟩
  | 21 => ⟨S1x16384x112, .f32⟩
  | 22 => ⟨S1x16384x112, .f32⟩
  | 23 => ⟨S1x16384x112, .i1⟩
  | 24 => ⟨S1x16384x112, .f32⟩
  | 25 => ⟨S1x16384x112, .f32⟩
  | 26 => ⟨S1x16384x112, .f32⟩
  | 27 => ⟨S1x16384x112, .f32⟩
  | 28 => ⟨S1x16384x112, .f32⟩
  | 29 => ⟨S1x16384x112, .f32⟩
  | 30 => ⟨S1x16384x112, .f32⟩
  | 31 => ⟨S1x16384x112, .f32⟩
  | 32 => ⟨S1x16384x112, .f32⟩
  | 33 => ⟨S1x16384x512, .f32⟩
  | 34 => ⟨S1x16384x512, .f32⟩
  | 35 => ⟨S1x16384x512, .f32⟩
  | 36 => ⟨S1x16384x1536, .f32⟩
  | 37 => ⟨S1x16384x128, .f32⟩
  | _ => ⟨S1x16384x6272, .f32⟩

abbrev hbmTy (i : Nat) : BufTy := match i / 128 with
  | 0 => hbmTy0_0 i
  | 1 => hbmTy0_1 i
  | _ => ⟨S1x16384x6272, .f32⟩

abbrev bufTy : (tb : Table) → Fin (tcTables nBuf tb) → BufTy
  | .hbm, ⟨i, _⟩ => hbmTy i
  | _, _ => ⟨S1x16384x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_0 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩

abbrev nD : Nat := 1
abbrev τ : Topo := Topo.v7x

variable {F : FTy → Type} [FloatOps F]
-- ==== InProjP.lean ====
abbrev S65536x1024 : Shape := ⟨2, ![65536, 1024]⟩
abbrev S1024 : Shape := ⟨1, ![1024]⟩
abbrev S1024x6160 : Shape := ⟨2, ![1024, 6160]⟩
abbrev S1024x1536 : Shape := ⟨2, ![1024, 1536]⟩
abbrev S1024x2048 : Shape := ⟨2, ![1024, 2048]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x6272 : Shape := ⟨2, ![1024, 6272]⟩
abbrev S1x1024 : Shape := ⟨2, ![1, 1024]⟩
abbrev S65536x6272 : Shape := ⟨2, ![65536, 6272]⟩
abbrev S256x1024 : Shape := ⟨2, ![256, 1024]⟩
abbrev S256x6272 : Shape := ⟨2, ![256, 6272]⟩
abbrev S256 : Shape := ⟨1, ![256]⟩
abbrev S256x1 : Shape := ⟨2, ![256, 1]⟩
abbrev S1024x896 : Shape := ⟨2, ![1024, 896]⟩
abbrev S256x896 : Shape := ⟨2, ![256, 896]⟩

abbrev nBuf : Space → Nat
  | .hbm => 14
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6160, .f32⟩
  | .hbm, ⟨3, _⟩ => ⟨S1024x1536, .f32⟩
  | .hbm, ⟨4, _⟩ => ⟨S1024x2048, .f32⟩
  | .hbm, ⟨5, _⟩ => ⟨S1024x512, .f32⟩
  | .hbm, ⟨6, _⟩ => ⟨S1024x2048, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x6272, .f32⟩
  | .hbm, ⟨11, _⟩ => ⟨S1024x6272, .bf16⟩
  | .hbm, ⟨12, _⟩ => ⟨S1x1024, .f32⟩
  | .hbm, ⟨13, _⟩ => ⟨S65536x6272, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6272, .bf16⟩
  | .local _ .vmem, ⟨4, _⟩ => ⟨S256x6272, .f32⟩
  | .local _ .vmem, ⟨5, _⟩ => ⟨S256x6272, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6272 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjPRefIdeal.lean ====
abbrev S65536x1024 : Shape := ⟨2, ![65536, 1024]⟩
abbrev S1024 : Shape := ⟨1, ![1024]⟩
abbrev S1024x6160 : Shape := ⟨2, ![1024, 6160]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6160 : Shape := ⟨2, ![65536, 6160]⟩
abbrev S65536x1536 : Shape := ⟨2, ![65536, 1536]⟩
abbrev S65536x2048 : Shape := ⟨2, ![65536, 2048]⟩
abbrev S65536x512 : Shape := ⟨2, ![65536, 512]⟩
abbrev S65536x16 : Shape := ⟨2, ![65536, 16]⟩
abbrev S65536x112 : Shape := ⟨2, ![65536, 112]⟩
abbrev S65536x6272 : Shape := ⟨2, ![65536, 6272]⟩

abbrev nBuf : Space → Nat
  | .hbm => 28
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6160, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6160, .f32⟩
  | .hbm, ⟨20, _⟩ => ⟨S65536x1536, .f32⟩
  | .hbm, ⟨21, _⟩ => ⟨S65536x2048, .f32⟩
  | .hbm, ⟨22, _⟩ => ⟨S65536x512, .f32⟩
  | .hbm, ⟨23, _⟩ => ⟨S65536x2048, .f32⟩
  | .hbm, ⟨24, _⟩ => ⟨S65536x16, .f32⟩
  | .hbm, ⟨25, _⟩ => ⟨S_, .f32⟩
  | .hbm, ⟨26, _⟩ => ⟨S65536x112, .f32⟩
  | .hbm, ⟨27, _⟩ => ⟨S65536x6272, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MergeP.lean ====
abbrev S65536x1024 : Shape := ⟨2, ![65536, 1024]⟩
abbrev S65536x512 : Shape := ⟨2, ![65536, 512]⟩
abbrev S65536x6272 : Shape := ⟨2, ![65536, 6272]⟩
abbrev S128 : Shape := ⟨1, ![128]⟩
abbrev S512x1024 : Shape := ⟨2, ![512, 1024]⟩
abbrev S1024x1024 : Shape := ⟨2, ![1024, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x6272, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x128, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergePRefIdeal.lean ====
abbrev S65536x1024 : Shape := ⟨2, ![65536, 1024]⟩
abbrev S65536x512 : Shape := ⟨2, ![65536, 512]⟩
abbrev S65536x6272 : Shape := ⟨2, ![65536, 6272]⟩
abbrev S128 : Shape := ⟨1, ![128]⟩
abbrev S512x1024 : Shape := ⟨2, ![512, 1024]⟩
abbrev S1024x1024 : Shape := ⟨2, ![1024, 1024]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x6272, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S65536x512, .f32⟩
  | .hbm, ⟨10, _⟩ => ⟨S65536x4x128, .f32⟩
  | .hbm, ⟨11, _⟩ => ⟨S65536x512, .f32⟩
  | .hbm, ⟨12, _⟩ => ⟨S65536x4x128, .f32⟩
  | .hbm, ⟨13, _⟩ => ⟨S65536x4x128, .f32⟩
  | .hbm, ⟨14, _⟩ => ⟨S_, .f32⟩
  | .hbm, ⟨15, _⟩ => ⟨S65536x4, .f32⟩
  | .hbm, ⟨16, _⟩ => ⟨S65536x4x1, .f32⟩
  | .hbm, ⟨17, _⟩ => ⟨S_, .f32⟩
  | .hbm, ⟨18, _⟩ => ⟨S65536x4x1, .f32⟩
  | .hbm, ⟨19, _⟩ => ⟨S65536x4x1, .f32⟩
  | .hbm, ⟨20, _⟩ => ⟨S_, .f32⟩
  | .hbm, ⟨21, _⟩ => ⟨S65536x4x1, .f32⟩
  | .hbm, ⟨22, _⟩ => ⟨S65536x4x1, .f32⟩
  | .hbm, ⟨23, _⟩ => ⟨S65536x4x1, .f32⟩
  | .hbm, ⟨24, _⟩ => ⟨S65536x4x128, .f32⟩
  | .hbm, ⟨25, _⟩ => ⟨S65536x4x128, .f32⟩
  | .hbm, ⟨26, _⟩ => ⟨S1x1x128, .f32⟩
  | .hbm, ⟨27, _⟩ => ⟨S65536x4x128, .f32⟩
  | .hbm, ⟨28, _⟩ => ⟨S65536x4x128, .f32⟩
  | .hbm, ⟨29, _⟩ => ⟨S65536x4x128, .f32⟩
  | .hbm, ⟨30, _⟩ => ⟨S65536x4x128, .f32⟩
  | .hbm, ⟨31, _⟩ => ⟨S_, .f32⟩
  | .hbm, ⟨32, _⟩ => ⟨S65536x4x128, .f32⟩
  | .hbm, ⟨33, _⟩ => ⟨S65536x4x128, .f32⟩
  | .hbm, ⟨34, _⟩ => ⟨S_, .f32⟩
  | .hbm, ⟨35, _⟩ => ⟨S65536x4x128, .f32⟩
  | .hbm, ⟨36, _⟩ => ⟨S65536x4x128, .f32⟩
  | .hbm, ⟨37, _⟩ => ⟨S65536x4x128, .f32⟩
  | .hbm, ⟨38, _⟩ => ⟨S65536x4x128, .f32⟩
  | .hbm, ⟨39, _⟩ => ⟨S65536x512, .f32⟩
  | .hbm, ⟨40, _⟩ => ⟨S65536x1024, .f32⟩
  | .hbm, ⟨41, _⟩ => ⟨S65536x512, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== FinalP.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalPRefIdeal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PrepP.lean ====
abbrev S32x2048x6272 : Shape := ⟨3, ![32, 2048, 6272]⟩
abbrev S5x1536 : Shape := ⟨2, ![5, 1536]⟩
abbrev S2x4 : Shape := ⟨2, ![2, 4]⟩
abbrev S_ : Shape := ⟨0, ![]⟩
abbrev S8 : Shape := ⟨1, ![8]⟩
abbrev S112 : Shape := ⟨1, ![112]⟩
abbrev S1x4 : Shape := ⟨2, ![1, 4]⟩
abbrev S4 : Shape := ⟨1, ![4]⟩
abbrev S128 : Shape := ⟨1, ![128]⟩
abbrev S1x128 : Shape := ⟨2, ![1, 128]⟩
abbrev S32x2048x1536 : Shape := ⟨3, ![32, 2048, 1536]⟩
abbrev S32x2048x128 : Shape := ⟨3, ![32, 2048, 128]⟩
abbrev S1x8x1536 : Shape := ⟨3, ![1, 8, 1536]⟩
abbrev S1x512x1536 : Shape := ⟨3, ![1, 512, 1536]⟩
abbrev S1x512x128 : Shape := ⟨3, ![1, 512, 128]⟩
abbrev S8x1536 : Shape := ⟨2, ![8, 1536]⟩
abbrev S512x1536 : Shape := ⟨2, ![512, 1536]⟩
abbrev S528x1536 : Shape := ⟨2, ![528, 1536]⟩
abbrev S1x1536 : Shape := ⟨2, ![1, 1536]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 22
  | .vmem => 15
  | .smem => 0
  | _ => 0

abbrev bufTy : (tb : Table) → Fin (tcTables nBuf tb) → BufTy
  | .hbm, ⟨0, _⟩ => ⟨S32x2048x6272, .f32⟩
  | .hbm, ⟨1, _⟩ => ⟨S5x1536, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S112, .f32⟩
  | .hbm, ⟨8, _⟩ => ⟨S1x4, .f32⟩
  | .hbm, ⟨9, _⟩ => ⟨S4, .f32⟩
  | .hbm, ⟨10, _⟩ => ⟨S1x4, .f32⟩
  | .hbm, ⟨11, _⟩ => ⟨S4, .f32⟩
  | .hbm, ⟨12, _⟩ => ⟨S128, .f32⟩
  | .hbm, ⟨13, _⟩ => ⟨S1x128, .f32⟩
  | .hbm, ⟨14, _⟩ => ⟨S1x4, .f32⟩
  | .hbm, ⟨15, _⟩ => ⟨S4, .f32⟩
  | .hbm, ⟨16, _⟩ => ⟨S1x4, .f32⟩
  | .hbm, ⟨17, _⟩ => ⟨S4, .f32⟩
  | .hbm, ⟨18, _⟩ => ⟨S128, .f32⟩
  | .hbm, ⟨19, _⟩ => ⟨S1x128, .f32⟩
  | .hbm, ⟨20, _⟩ => ⟨S32x2048x1536, .f32⟩
  | .hbm, ⟨21, _⟩ => ⟨S32x2048x128, .f32⟩
  | .local _ .vmem, ⟨0, _⟩ => ⟨S1x8x1536, .f32⟩
  | .local _ .vmem, ⟨1, _⟩ => ⟨S1x8x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x8x1536, .f32⟩
  | .local _ .vmem, ⟨5, _⟩ => ⟨S1x8x1536, .f32⟩
  | .local _ .vmem, ⟨6, _⟩ => ⟨S1x512x128, .f32⟩
  | .local _ .vmem, ⟨7, _⟩ => ⟨S1x512x128, .f32⟩
  | .local _ .vmem, ⟨8, _⟩ => ⟨S5x1536, .f32⟩
  | .local _ .vmem, ⟨9, _⟩ => ⟨S1x128, .f32⟩
  | .local _ .vmem, ⟨10, _⟩ => ⟨S1x128, .f32⟩
  | .local _ .vmem, ⟨11, _⟩ => ⟨S1x512x1536, .f32⟩
  | .local _ .vmem, ⟨12, _⟩ => ⟨S1x512x1536, .f32⟩
  | .local _ .vmem, ⟨13, _⟩ => ⟨S1x512x128, .f32⟩
  | .local _ .vmem, ⟨14, _⟩ => ⟨S1x512x128, .f32⟩
  | _, _ => ⟨S32x2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepPIdeal.lean ====
variable {F : FTy → Type} [FloatOps F] [Named F]
def κ : String → Option EReal := fun
  | "inv_sqrt_dk" => some (((Real.sqrt 128)⁻¹ : ℝ) : EReal)
  | _ => none
-- ==== PrepPRefIdeal.lean ====
abbrev S32x2048x6272 : Shape := ⟨3, ![32, 2048, 6272]⟩
abbrev S5x1536 : Shape := ⟨2, ![5, 1536]⟩
abbrev S2x4 : Shape := ⟨2, ![2, 4]⟩
abbrev S32x2048x1536 : Shape := ⟨3, ![32, 2048, 1536]⟩
abbrev S_ : Shape := ⟨0, ![]⟩
abbrev S32x2052x1536 : Shape := ⟨3, ![32, 2052, 1536]⟩
abbrev S1x1536 : Shape := ⟨2, ![1, 1536]⟩
abbrev S1536 : Shape := ⟨1, ![1536]⟩
abbrev S1x1x1536 : Shape := ⟨3, ![1, 1, 1536]⟩
abbrev S32x2048x512 : Shape := ⟨3, ![32, 2048, 512]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S32x2048x8 : Shape := ⟨3, ![32, 2048, 8]⟩
abbrev S1x4 : Shape := ⟨2, ![1, 4]⟩
abbrev S4 : Shape := ⟨1, ![4]⟩
abbrev S1x1x4 : Shape := ⟨3, ![1, 1, 4]⟩
abbrev S32x2048x112 : Shape := ⟨3, ![32, 2048, 112]⟩
abbrev S32x2048x128 : Shape := ⟨3, ![32, 2048, 128]⟩

abbrev nBuf : Space → Nat
  | .hbm => 166
  | .vmem => 0
  | .smem => 0
  | _ => 0

abbrev hbmTy0_0 (i : Nat) : BufTy := match i % 128 with
  | 0 => ⟨S32x2048x6272, .f32⟩
  | 1 => ⟨S5x1536, .f32⟩
  | 2 => ⟨S2x4, .f32⟩
  | 3 => ⟨S2x4, .f32⟩
  | 4 => ⟨S32x2048x1536, .f32⟩
  | 5 => ⟨S_, .i32⟩
  | 6 => ⟨S_, .f32⟩
  | 7 => ⟨S32x2052x1536, .f32⟩
  | 8 => ⟨S32x2048x1536, .f32⟩
  | 9 => ⟨S1x1536, .f32⟩
  | 10 => ⟨S1536, .f32⟩
  | 11 => ⟨S1x1x1536, .f32⟩
  | 12 => ⟨S32x2048x1536, .f32⟩
  | 13 => ⟨S32x2048x1536, .f32⟩
  | 14 => ⟨S_, .f32⟩
  | 15 => ⟨S32x2048x1536, .f32⟩
  | 16 => ⟨S32x2048x1536, .f32⟩
  | 17 => ⟨S32x2048x1536, .f32⟩
  | 18 => ⟨S1x1536, .f32⟩
  | 19 => ⟨S1536, .f32⟩
  | 20 => ⟨S1x1x1536, .f32⟩
  | 21 => ⟨S32x2048x1536, .f32⟩
  | 22 => ⟨S32x2048x1536, .f32⟩
  | 23 => ⟨S32x2048x1536, .f32⟩
  | 24 => ⟨S32x2048x1536, .f32⟩
  | 25 => ⟨S1x1536, .f32⟩
  | 26 => ⟨S1536, .f32⟩
  | 27 => ⟨S1x1x1536, .f32⟩
  | 28 => ⟨S32x2048x1536, .f32⟩
  | 29 => ⟨S32x2048x1536, .f32⟩
  | 30 => ⟨S32x2048x1536, .f32⟩
  | 31 => ⟨S32x2048x1536, .f32⟩
  | 32 => ⟨S1x1536, .f32⟩
  | 33 => ⟨S1536, .f32⟩
  | 34 => ⟨S1x1x1536, .f32⟩
  | 35 => ⟨S32x2048x1536, .f32⟩
  | 36 => ⟨S32x2048x1536, .f32⟩
  | 37 => ⟨S32x2048x1536, .f32⟩
  | 38 => ⟨S32x2048x1536, .f32⟩
  | 39 => ⟨S1x1536, .f32⟩
  | 40 => ⟨S1536, .f32⟩
  | 41 => ⟨S1x1x1536, .f32⟩
  | 42 => ⟨S32x2048x1536, .f32⟩
  | 43 => ⟨S32x2048x1536, .f32⟩
  | 44 => ⟨S32x2048x1536, .f32⟩
  | 45 => ⟨S32x2048x1536, .f32⟩
  | 46 => ⟨S32x2048x1536, .f32⟩
  | 47 => ⟨S_, .f32⟩
  | 48 => ⟨S32x2048x1536, .f32⟩
  | 49 => ⟨S32x2048x1536, .f32⟩
  | 50 => ⟨S_, .f32⟩
  | 51 => ⟨S32x2048x1536, .f32⟩
  | 52 => ⟨S32x2048x1536, .f32⟩
  | 53 => ⟨S32x2048x1536, .f32⟩
  | 54 => ⟨S32x2048x512, .f32⟩
  | 55 => ⟨S32x2048x4x128, .f32⟩
  | 56 => ⟨S32x2048x4x128, .f32⟩
  | 57 => ⟨S_, .f32⟩
  | 58 => ⟨S32x2048x4, .f32⟩
  | 59 => ⟨S32x2048x4x1, .f32⟩
  | 60 => ⟨S_, .f32⟩
  | 61 => ⟨S32x2048x4x1, .f32⟩
  | 62 => ⟨S32x2048x4x1, .f32⟩
  | 63 => ⟨S32x2048x4x1, .f32⟩
  | 64 => ⟨S32x2048x4x128, .f32⟩
  | 65 => ⟨S32x2048x4x128, .f32⟩
  | 66 => ⟨S_, .f32⟩
  | 67 => ⟨S_, .f32⟩
  | 68 => ⟨S32x2048x4x128, .f32⟩
  | 69 => ⟨S32x2048x4x128, .f32⟩
  | 70 => ⟨S32x2048x512, .f32⟩
  | 71 => ⟨S32x2048x4x128, .f32⟩
  | 72 => ⟨S32x2048x4x128, .f32⟩
  | 73 => ⟨S_, .f32⟩
  | 74 => ⟨S32x2048x4, .f32⟩
  | 75 => ⟨S32x2048x4x1, .f32⟩
  | 76 => ⟨S_, .f32⟩
  | 77 => ⟨S32x2048x4x1, .f32⟩
  | 78 => ⟨S32x2048x4x1, .f32⟩
  | 79 => ⟨S32x2048x4x1, .f32⟩
  | 80 => ⟨S32x2048x4x128, .f32⟩
  | 81 => ⟨S32x2048x4x128, .f32⟩
  | 82 => ⟨S32x2048x8, .f32⟩
  | 83 => ⟨S32x2048x8, .f32⟩
  | 84 => ⟨S32x2048x8, .f32⟩
  | 85 => ⟨S_, .f32⟩
  | 86 => ⟨S32x2048x8, .f32⟩
  | 87 => ⟨S32x2048x8, .f32⟩
  | 88 => ⟨S_, .f32⟩
  | 89 => ⟨S32x2048x8, .f32⟩
  | 90 => ⟨S32x2048x8, .f32⟩
  | 91 => ⟨S1x4, .f32⟩
  | 92 => ⟨S4, .f32⟩
  | 93 => ⟨S4, .f32⟩
  | 94 => ⟨S4, .f32⟩
  | 95 => ⟨S32x2048x4, .f32⟩
  | 96 => ⟨S1x4, .f32⟩
  | 97 => ⟨S4, .f32⟩
  | 98 => ⟨S1x1x4, .f32⟩
  | 99 => ⟨S32x2048x4, .f32⟩
  | 100 => ⟨S32x2048x4, .f32⟩
  | 101 => ⟨S_, .f32⟩
  | 102 => ⟨S32x2048x4, .f32⟩
  | 103 => ⟨S32x2048x4, .f32⟩
  | 104 => ⟨S32x2048x4, .f32⟩
  | 105 => ⟨S32x2048x4, .f32⟩
  | 106 => ⟨S32x2048x4, .i1⟩
  | 107 => ⟨S32x2048x4, .f32⟩
  | 108 => ⟨S32x2048x4, .f32⟩
  | 109 => ⟨S32x2048x4, .f32⟩
  | 110 => ⟨S32x2048x4, .f32⟩
  | 111 => ⟨S32x2048x4, .f32⟩
  | 112 => ⟨S32x2048x4, .f32⟩
  | 113 => ⟨S32x2048x4, .f32⟩
  | 114 => ⟨S32x2048x4, .f32⟩
  | 115 => ⟨S1x1x4, .f32⟩
  | 116 => ⟨S32x2048x4, .f32⟩
  | 117 => ⟨S32x2048x4, .f32⟩
  | 118 => ⟨S1x4, .f32⟩
  | 119 => ⟨S4, .f32⟩
  | 120 => ⟨S4, .f32⟩
  | 121 => ⟨S4, .f32⟩
  | 122 => ⟨S32x2048x4, .f32⟩
  | 123 => ⟨S1x4, .f32⟩
  | 124 => ⟨S4, .f32⟩
  | 125 => ⟨S1x1x4, .f32⟩
  | 126 => ⟨S32x2048x4, .f32⟩
  | 127 => ⟨S32x2048x4, .f32⟩
  | _ => ⟨S32x2048x6272, .f32⟩

abbrev hbmTy0_1 (i : Nat) : BufTy := match i % 128 with
  | 0 => ⟨S_, .f32⟩
  | 1 => ⟨S32x2048x4, .f32⟩
  | 2 => ⟨S32x2048x4, .f32⟩
  | 3 => ⟨S32x2048x4, .f32⟩
  | 4 => ⟨S32x2048x4, .f32⟩
  | 5 => ⟨S32x2048x4, .i1⟩
  | 6 => ⟨S32x2048x4, .f32⟩
  | 7 => ⟨S32x2048x4, .f32⟩
  | 8 => ⟨S32x2048x4, .f32⟩
  | 9 => ⟨S32x2048x4, .f32⟩
  | 10 => ⟨S32x2048x4, .f32⟩
  | 11 => ⟨S32x2048x4, .f32⟩
  | 12 => ⟨S32x2048x4, .f32⟩
  | 13 => ⟨S32x2048x4, .f32⟩
  | 14 => ⟨S1x1x4, .f32⟩
  | 15 => ⟨S32x2048x4, .f32⟩
  | 16 => ⟨S32x2048x4, .f32⟩
  | 17 => ⟨S32x2048x112, .f32⟩
  | 18 => ⟨S_, .f32⟩
  | 19 => ⟨S32x2048x112, .f32⟩
  | 20 => ⟨S32x2048x112, .f32⟩
  | 21 => ⟨S32x2048x112, .f32⟩
  | 22 => ⟨S32x2048x112, .f32⟩
  | 23 => ⟨S32x2048x112, .i1⟩
  | 24 => ⟨S32x2048x112, .f32⟩
  | 25 => ⟨S32x2048x112, .f32⟩
  | 26 => ⟨S32x2048x112, .f32⟩
  | 27 => ⟨S32x2048x112, .f32⟩
  | 28 => ⟨S32x2048x112, .f32⟩
  | 29 => ⟨S32x2048x112, .f32⟩
  | 30 => ⟨S32x2048x112, .f32⟩
  | 31 => ⟨S32x2048x112, .f32⟩
  | 32 => ⟨S32x2048x112, .f32⟩
  | 33 => ⟨S32x2048x512, .f32⟩
  | 34 => ⟨S32x2048x512, .f32⟩
  | 35 => ⟨S32x2048x512, .f32⟩
  | 36 => ⟨S32x2048x1536, .f32⟩
  | 37 => ⟨S32x2048x128, .f32⟩
  | _ => ⟨S32x2048x6272, .f32⟩

abbrev hbmTy (i : Nat) : BufTy := match i / 128 with
  | 0 => hbmTy0_0 i
  | 1 => hbmTy0_1 i
  | _ => ⟨S32x2048x6272, .f32⟩

abbrev bufTy : (tb : Table) → Fin (tcTables nBuf tb) → BufTy
  | .hbm, ⟨i, _⟩ => hbmTy i
  | _, _ => ⟨S32x2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_0 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩

abbrev nD : Nat := 1
abbrev τ : Topo := Topo.v7x

variable {F : FTy → Type} [FloatOps F]
-- ==== ScanP.lean ====
abbrev S32x2048x512 : Shape := ⟨3, ![32, 2048, 512]⟩
abbrev S32x32x4x128x64 : Shape := ⟨5, ![32, 32, 4, 128, 64]⟩
abbrev S32x32x4x64x64 : Shape := ⟨5, ![32, 32, 4, 64, 64]⟩
abbrev S32x32x8x128 : Shape := ⟨4, ![32, 32, 8, 128]⟩
abbrev S4x64x512 : Shape := ⟨3, ![4, 64, 512]⟩
abbrev S4x1x4x128x64 : Shape := ⟨5, ![4, 1, 4, 128, 64]⟩
abbrev S4x1x4x64x64 : Shape := ⟨5, ![4, 1, 4, 64, 64]⟩
abbrev S4x1x8x128 : Shape := ⟨4, ![4, 1, 8, 128]⟩
abbrev S4x2x4x128x128 : Shape := ⟨5, ![4, 2, 4, 128, 128]⟩
abbrev S1x1x1x128x128 : Shape := ⟨5, ![1, 1, 1, 128, 128]⟩
abbrev S128x128 : Shape := ⟨2, ![128, 128]⟩
abbrev S1x64x128 : Shape := ⟨3, ![1, 64, 128]⟩
abbrev S64x128 : Shape := ⟨2, ![64, 128]⟩
abbrev S1x1x1x64x64 : Shape := ⟨5, ![1, 1, 1, 64, 64]⟩
abbrev S64x64 : Shape := ⟨2, ![64, 64]⟩
abbrev S1x1x1x128x64 : Shape := ⟨5, ![1, 1, 1, 128, 64]⟩
abbrev S128x64 : Shape := ⟨2, ![128, 64]⟩
abbrev S1x1x1x128 : Shape := ⟨4, ![1, 1, 1, 128]⟩
abbrev S1x128 : Shape := ⟨2, ![1, 128]⟩

abbrev nBuf : Space → Nat
  | .hbm => 13
  | .vmem => 29
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .bf16⟩
  | .hbm, ⟨2, _⟩ => ⟨S32x2048x512, .bf16⟩
  | .hbm, ⟨3, _⟩ => ⟨S32x32x4x128x64, .bf16⟩
  | .hbm, ⟨4, _⟩ => ⟨S32x32x4x64x64, .bf16⟩
  | .hbm, ⟨5, _⟩ => ⟨S32x2048x512, .f32⟩
  | .hbm, ⟨6, _⟩ => ⟨S32x2048x512, .bf16⟩
  | .hbm, ⟨7, _⟩ => ⟨S32x2048x512, .bf16⟩
  | .hbm, ⟨8, _⟩ => ⟨S32x32x4x128x64, .bf16⟩
  | .hbm, ⟨9, _⟩ => ⟨S32x32x4x64x64, .bf16⟩
  | .hbm, ⟨10, _⟩ => ⟨S32x32x8x128, .f32⟩
  | .hbm, ⟨11, _⟩ => ⟨S32x2048x512, .f32⟩
  | .hbm, ⟨12, _⟩ => ⟨S32x2048x512, .f32⟩
  | .local _ .vmem, ⟨0, _⟩ => ⟨S4x64x512, .f32⟩
  | .local _ .vmem, ⟨1, _⟩ => ⟨S4x64x512, .f32⟩
  | .local _ .vmem, ⟨2, _⟩ => ⟨S4x64x512, .bf16⟩
  | .local _ .vmem, ⟨3, _⟩ => ⟨S4x64x512, .bf16⟩
  | .local _ .vmem, ⟨4, _⟩ => ⟨S4x64x512, .bf16⟩
  | .local _ .vmem, ⟨5, _⟩ => ⟨S4x64x512, .bf16⟩
  | .local _ .vmem, ⟨6, _⟩ => ⟨S4x1x4x128x64, .bf16⟩
  | .local _ .vmem, ⟨7, _⟩ => ⟨S4x1x4x128x64, .bf16⟩
  | .local _ .vmem, ⟨8, _⟩ => ⟨S4x1x4x64x64, .bf16⟩
  | .local _ .vmem, ⟨9, _⟩ => ⟨S4x1x4x64x64, .bf16⟩
  | .local _ .vmem, ⟨10, _⟩ => ⟨S4x1x8x128, .f32⟩
  | .local _ .vmem, ⟨11, _⟩ => ⟨S4x1x8x128, .f32⟩
  | .local _ .vmem, ⟨12, _⟩ => ⟨S4x64x512, .f32⟩
  | .local _ .vmem, ⟨13, _⟩ => ⟨S4x64x512, .f32⟩
  | .local _ .vmem, ⟨14, _⟩ => ⟨S4x64x512, .bf16⟩
  | .local _ .vmem, ⟨15, _⟩ => ⟨S4x64x512, .bf16⟩
  | .local _ .vmem, ⟨16, _⟩ => ⟨S4x64x512, .bf16⟩
  | .local _ .vmem, ⟨17, _⟩ => ⟨S4x64x512, .bf16⟩
  | .local _ .vmem, ⟨18, _⟩ => ⟨S4x1x4x128x64, .bf16⟩
  | .local _ .vmem, ⟨19, _⟩ => ⟨S4x1x4x128x64, .bf16⟩
  | .local _ .vmem, ⟨20, _⟩ => ⟨S4x1x4x64x64, .bf16⟩
  | .local _ .vmem, ⟨21, _⟩ => ⟨S4x1x4x64x64, .bf16⟩
  | .local _ .vmem, ⟨22, _⟩ => ⟨S4x1x8x128, .f32⟩
  | .local _ .vmem, ⟨23, _⟩ => ⟨S4x1x8x128, .f32⟩
  | .local _ .vmem, ⟨24, _⟩ => ⟨S4x64x512, .f32⟩
  | .local _ .vmem, ⟨25, _⟩ => ⟨S4x64x512, .f32⟩
  | .local _ .vmem, ⟨26, _⟩ => ⟨S4x64x512, .f32⟩
  | .local _ .vmem, ⟨27, _⟩ => ⟨S4x64x512, .f32⟩
  | .local _ .vmem, ⟨28, _⟩ => ⟨S4x2x4x128x128, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x4x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ScanPRefIdeal.lean ====
abbrev S32x2048x512 : Shape := ⟨3, ![32, 2048, 512]⟩
abbrev S32x32x4x128x64 : Shape := ⟨5, ![32, 32, 4, 128, 64]⟩
abbrev S32x32x4x64x64 : Shape := ⟨5, ![32, 32, 4, 64, 64]⟩
abbrev S32x32x8x128 : Shape := ⟨4, ![32, 32, 8, 128]⟩
abbrev S32x32x64x4x128 : Shape := ⟨5, ![32, 32, 64, 4, 128]⟩
abbrev S32x32x4x64x128 : Shape := ⟨5, ![32, 32, 4, 64, 128]⟩
abbrev S32x32x8x64x128 : Shape := ⟨5, ![32, 32, 8, 64, 128]⟩
abbrev S32x32x8x128x64 : Shape := ⟨5, ![32, 32, 8, 128, 64]⟩
abbrev S32x32x8x64x64 : Shape := ⟨5, ![32, 32, 8, 64, 64]⟩
abbrev S32x32x4x128 : Shape := ⟨4, ![32, 32, 4, 128]⟩
abbrev S32x32x8x1x128 : Shape := ⟨5, ![32, 32, 8, 1, 128]⟩
abbrev S_ : Shape := ⟨0, ![]⟩
abbrev S32x8x128x128 : Shape := ⟨4, ![32, 8, 128, 128]⟩
abbrev S1x32x8x64x128 : Shape := ⟨5, ![1, 32, 8, 64, 128]⟩
abbrev S32x8x64x128 : Shape := ⟨4, ![32, 8, 64, 128]⟩
abbrev S1x32x8x64x64 : Shape := ⟨5, ![1, 32, 8, 64, 64]⟩
abbrev S32x8x64x64 : Shape := ⟨4, ![32, 8, 64, 64]⟩
abbrev S1x32x8x128x64 : Shape := ⟨5, ![1, 32, 8, 128, 64]⟩
abbrev S32x8x128x64 : Shape := ⟨4, ![32, 8, 128, 64]⟩
abbrev S1x32x8x1x128 : Shape := ⟨5, ![1, 32, 8, 1, 128]⟩
abbrev S32x8x1x128 : Shape := ⟨4, ![32, 8, 1, 128]⟩

abbrev nBuf : Space → Nat
  | .hbm => 128
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .bf16⟩
  | .hbm, ⟨2, _⟩ => ⟨S32x2048x512, .bf16⟩
  | .hbm, ⟨3, _⟩ => ⟨S32x32x4x128x64, .bf16⟩
  | .hbm, ⟨4, _⟩ => ⟨S32x32x4x64x64, .bf16⟩
  | .hbm, ⟨5, _⟩ => ⟨S32x2048x512, .f32⟩
  | .hbm, ⟨6, _⟩ => ⟨S32x2048x512, .bf16⟩
  | .hbm, ⟨7, _⟩ => ⟨S32x2048x512, .bf16⟩
  | .hbm, ⟨8, _⟩ => ⟨S32x32x4x128x64, .bf16⟩
  | .hbm, ⟨9, _⟩ => ⟨S32x32x4x64x64, .bf16⟩
  | .hbm, ⟨10, _⟩ => ⟨S32x32x8x128, .f32⟩
  | .hbm, ⟨11, _⟩ => ⟨S32x32x64x4x128, .f32⟩
  | .hbm, ⟨12, _⟩ => ⟨S32x32x4x64x128, .f32⟩
  | .hbm, ⟨13, _⟩ => ⟨S32x32x64x4x128, .f32⟩
  | .hbm, ⟨14, _⟩ => ⟨S32x32x4x64x128, .f32⟩
  | .hbm, ⟨15, _⟩ => ⟨S32x32x4x64x128, .f32⟩
  | .hbm, ⟨16, _⟩ => ⟨S32x32x8x64x128, .f32⟩
  | .hbm, ⟨17, _⟩ => ⟨S32x2048x512, .f32⟩
  | .hbm, ⟨18, _⟩ => ⟨S32x32x64x4x128, .f32⟩
  | .hbm, ⟨19, _⟩ => ⟨S32x32x4x64x128, .f32⟩
  | .hbm, ⟨20, _⟩ => ⟨S32x2048x512, .f32⟩
  | .hbm, ⟨21, _⟩ => ⟨S32x32x64x4x128, .f32⟩
  | .hbm, ⟨22, _⟩ => ⟨S32x32x4x64x128, .f32⟩
  | .hbm, ⟨23, _⟩ => ⟨S32x32x4x64x128, .f32⟩
  | .hbm, ⟨24, _⟩ => ⟨S32x32x8x64x128, .f32⟩
  | .hbm, ⟨25, _⟩ => ⟨S32x2048x512, .f32⟩
  | .hbm, ⟨26, _⟩ => ⟨S32x32x64x4x128, .f32⟩
  | .hbm, ⟨27, _⟩ => ⟨S32x32x4x64x128, .f32⟩
  | .hbm, ⟨28, _⟩ => ⟨S32x2048x512, .f32⟩
  | .hbm, ⟨29, _⟩ => ⟨S32x32x64x4x128, .f32⟩
  | .hbm, ⟨30, _⟩ => ⟨S32x32x4x64x128, .f32⟩
  | .hbm, ⟨31, _⟩ => ⟨S32x32x4x64x128, .f32⟩
  | .hbm, ⟨32, _⟩ => ⟨S32x32x8x64x128, .f32⟩
  | .hbm, ⟨33, _⟩ => ⟨S32x32x4x128x64, .f32⟩
  | .hbm, ⟨34, _⟩ => ⟨S32x32x4x128x64, .f32⟩
  | .hbm, ⟨35, _⟩ => ⟨S32x32x4x128x64, .f32⟩
  | .hbm, ⟨36, _⟩ => ⟨S32x32x4x128x64, .f32⟩
  | .hbm, ⟨37, _⟩ => ⟨S32x32x4x128x64, .f32⟩
  | .hbm, ⟨38, _⟩ => ⟨S32x32x8x128x64, .f32⟩
  | .hbm, ⟨39, _⟩ => ⟨S32x32x4x64x64, .f32⟩
  | .hbm, ⟨40, _⟩ => ⟨S32x32x4x64x64, .f32⟩
  | .hbm, ⟨41, _⟩ => ⟨S32x32x4x64x64, .f32⟩
  | .hbm, ⟨42, _⟩ => ⟨S32x32x4x64x64, .f32⟩
  | .hbm, ⟨43, _⟩ => ⟨S32x32x4x64x64, .f32⟩
  | .hbm, ⟨44, _⟩ => ⟨S32x32x8x64x64, .f32⟩
  | .hbm, ⟨45, _⟩ => ⟨S32x32x4x128, .f32⟩
  | .hbm, ⟨46, _⟩ => ⟨S32x32x4x128, .f32⟩
  | .hbm, ⟨47, _⟩ => ⟨S32x32x4x128, .f32⟩
  | .hbm, ⟨48, _⟩ => ⟨S32x32x4x128, .f32⟩
  | .hbm, ⟨49, _⟩ => ⟨S32x32x4x128, .f32⟩
  | .hbm, ⟨50, _⟩ => ⟨S32x32x8x128, .f32⟩
  | .hbm, ⟨51, _⟩ => ⟨S32x32x8x1x128, .f32⟩
  | .hbm, ⟨52, _⟩ => ⟨S_, .f32⟩
  | .hbm, ⟨53, _⟩ => ⟨S32x8x128x128, .f32⟩
  | .hbm, ⟨54, _⟩ => ⟨S_, .f32⟩
  | .hbm, ⟨55, _⟩ => ⟨S32x32x8x64x128, .f32⟩
  | .hbm, ⟨56, _⟩ => ⟨S_, .i32⟩
  | .hbm, ⟨57, _⟩ => ⟨S32x32x8x64x128, .f32⟩
  | .hbm, ⟨58, _⟩ => ⟨S32x32x8x64x128, .f32⟩
  | .hbm, ⟨59, _⟩ => ⟨S32x32x8x64x64, .f32⟩
  | .hbm, ⟨60, _⟩ => ⟨S32x32x8x64x128, .f32⟩
  | .hbm, ⟨61, _⟩ => ⟨S32x32x8x128x64, .f32⟩
  | .hbm, ⟨62, _⟩ => ⟨S32x32x8x1x128, .f32⟩
  | .hbm, ⟨63, _⟩ => ⟨S_, .i32⟩
  | .hbm, ⟨64, _⟩ => ⟨S32x8x128x128, .f32⟩
  | .hbm, ⟨65, _⟩ => ⟨S32x32x8x64x128, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x32x8x64x128, .f32⟩
  | .hbm, ⟨73, _⟩ => ⟨S32x8x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x32x8x64x128, .f32⟩
  | .hbm, ⟨79, _⟩ => ⟨S32x8x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x32x8x64x64, .f32⟩
  | .hbm, ⟨85, _⟩ => ⟨S32x8x64x64, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x32x8x64x128, .f32⟩
  | .hbm, ⟨91, _⟩ => ⟨S32x8x64x128, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x32x8x128x64, .f32⟩
  | .hbm, ⟨97, _⟩ => ⟨S32x8x128x64, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S1x32x8x1x128, .f32⟩
  | .hbm, ⟨103, _⟩ => ⟨S32x8x1x128, .f32⟩
  | .hbm, ⟨104, _⟩ => ⟨S32x8x64x128, .f32⟩
  | .hbm, ⟨105, _⟩ => ⟨S32x8x64x128, .f32⟩
  | .hbm, ⟨106, _⟩ => ⟨S32x8x64x128, .f32⟩
  | .hbm, ⟨107, _⟩ => ⟨S32x8x64x128, .f32⟩
  | .hbm, ⟨108, _⟩ => ⟨S32x8x64x128, .f32⟩
  | .hbm, ⟨109, _⟩ => ⟨S32x8x128x128, .f32⟩
  | .hbm, ⟨110, _⟩ => ⟨S32x8x128x128, .f32⟩
  | .hbm, ⟨111, _⟩ => ⟨S32x8x128x128, .f32⟩
  | .hbm, ⟨112, _⟩ => ⟨S32x8x128x128, .f32⟩
  | .hbm, ⟨113, _⟩ => ⟨S1x32x8x64x128, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S32x32x8x64x128, .f32⟩
  | .hbm, ⟨119, _⟩ => ⟨S_, .i32⟩
  | .hbm, ⟨120, _⟩ => ⟨S_, .i32⟩
  | .hbm, ⟨121, _⟩ => ⟨S32x32x4x64x128, .f32⟩
  | .hbm, ⟨122, _⟩ => ⟨S32x32x64x4x128, .f32⟩
  | .hbm, ⟨123, _⟩ => ⟨S32x2048x512, .f32⟩
  | .hbm, ⟨124, _⟩ => ⟨S32x32x4x64x128, .f32⟩
  | .hbm, ⟨125, _⟩ => ⟨S32x32x4x64x128, .f32⟩
  | .hbm, ⟨126, _⟩ => ⟨S32x32x64x4x128, .f32⟩
  | .hbm, ⟨127, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_c : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_v43_5 : Ref sig .tc := ⟨.hbm, 62, rfl⟩
abbrev main_v43_6 : Ref sig .tc := ⟨.hbm, 63, rfl⟩
abbrev main_v43_7 : Ref sig .tc := ⟨.hbm, 64, rfl⟩
abbrev main_v43_8 : Ref sig .tc := ⟨.hbm, 65, rfl⟩
abbrev main_while0c_c_9 : Ref sig .tc := ⟨.hbm, 66, rfl⟩
abbrev main_while0c_v51 : Ref sig .tc := ⟨.hbm, 67, rfl⟩
abbrev main_while0b_call6_c : Ref sig .tc := ⟨.hbm, 68, rfl⟩
abbrev main_while0b_call6_c_0 : Ref sig .tc := ⟨.hbm, 69, rfl⟩
abbrev main_while0b_call6_c_1 : Ref sig .tc := ⟨.hbm, 70, rfl⟩
abbrev main_while0b_call6_c_2 : Ref sig .tc := ⟨.hbm, 71, rfl⟩
abbrev main_while0b_call6_v0 : Ref sig .tc := ⟨.hbm, 72, rfl⟩
abbrev main_while0b_v51 : Ref sig .tc := ⟨.hbm, 73, rfl⟩
abbrev main_while0b_call7_c : Ref sig .tc := ⟨.hbm, 74, rfl⟩
abbrev main_while0b_call7_c_0 : Ref sig .tc := ⟨.hbm, 75, rfl⟩
abbrev main_while0b_call7_c_1 : Ref sig .tc := ⟨.hbm, 76, rfl⟩
abbrev main_while0b_call7_c_2 : Ref sig .tc := ⟨.hbm, 77, rfl⟩
abbrev main_while0b_call7_v0 : Ref sig .tc := ⟨.hbm, 78, rfl⟩
abbrev main_while0b_v52 : Ref sig .tc := ⟨.hbm, 79, rfl⟩
abbrev main_while0b_call8_c : Ref sig .tc := ⟨.hbm, 80, rfl⟩
abbrev main_while0b_call8_c_0 : Ref sig .tc := ⟨.hbm, 81, rfl⟩
abbrev main_while0b_call8_c_1 : Ref sig .tc := ⟨.hbm, 82, rfl⟩
abbrev main_while0b_call8_c_2 : Ref sig .tc := ⟨.hbm, 83, rfl⟩
abbrev main_while0b_call8_v0 : Ref sig .tc := ⟨.hbm, 84, rfl⟩
abbrev main_while0b_v53 : Ref sig .tc := ⟨.hbm, 85, rfl⟩
abbrev main_while0b_call9_c : Ref sig .tc := ⟨.hbm, 86, rfl⟩
abbrev main_while0b_call9_c_0 : Ref sig .tc := ⟨.hbm, 87, rfl⟩
abbrev main_while0b_call9_c_1 : Ref sig .tc := ⟨.hbm, 88, rfl⟩
abbrev main_while0b_call9_c_2 : Ref sig .tc := ⟨.hbm, 89, rfl⟩
abbrev main_while0b_call9_v0 : Ref sig .tc := ⟨.hbm, 90, rfl⟩
abbrev main_while0b_v54 : Ref sig .tc := ⟨.hbm, 91, rfl⟩
abbrev main_while0b_call10_c : Ref sig .tc := ⟨.hbm, 92, rfl⟩
abbrev main_while0b_call10_c_0 : Ref sig .tc := ⟨.hbm, 93, rfl⟩
abbrev main_while0b_call10_c_1 : Ref sig .tc := ⟨.hbm, 94, rfl⟩
abbrev main_while0b_call10_c_2 : Ref sig .tc := ⟨.hbm, 95, rfl⟩
abbrev main_while0b_call10_v0 : Ref sig .tc := ⟨.hbm, 96, rfl⟩
abbrev main_while0b_v55 : Ref sig .tc := ⟨.hbm, 97, rfl⟩
abbrev main_while0b_call11_c : Ref sig .tc := ⟨.hbm, 98, rfl⟩
abbrev main_while0b_call11_c_0 : Ref sig .tc := ⟨.hbm, 99, rfl⟩
abbrev main_while0b_call11_c_1 : Ref sig .tc := ⟨.hbm, 100, rfl⟩
abbrev main_while0b_call11_c_2 : Ref sig .tc := ⟨.hbm, 101, rfl⟩
abbrev main_while0b_call11_v0 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_call12_v0 : Ref sig .tc := ⟨.hbm, 113, rfl⟩
abbrev main_while0b_call12_c : Ref sig .tc := ⟨.hbm, 114, rfl⟩
abbrev main_while0b_call12_c_0 : Ref sig .tc := ⟨.hbm, 115, rfl⟩
abbrev main_while0b_call12_c_1 : Ref sig .tc := ⟨.hbm, 116, rfl⟩
abbrev main_while0b_call12_c_2 : Ref sig .tc := ⟨.hbm, 117, rfl⟩
abbrev main_while0b_v66 : Ref sig .tc := ⟨.hbm, 118, rfl⟩
abbrev main_while0b_c_9 : Ref sig .tc := ⟨.hbm, 119, rfl⟩
abbrev main_while0b_v67 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩

abbrev nD : Nat := 1
abbrev τ : Topo := Topo.v7x

variable {F : FTy → Type} [FloatOps F]

abbrev main_while0_count : Scf.Loop 32 := ⟨0#32, 32#32, 1#32⟩
-- ==== Proof.InProj.Value.lean ====
/- The projection: after the kernel's run its result is the reference's composed term. -/
module

public import proofs.«01_k».proof.Proof.Gen.InProjIdeal.Frame
public import proofs.«01_k».proof.Proof.Gen.InProjRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Proj

open Cert.InProjIdeal Cert.InProjIdeal.Gen

variable (m : (ℓ : Loc nD τ sig) → Buf (Elt Ideal) ℓ)

/-- The normalized rows: each row divided by the root of its mean square, times the gain. -/
abbrev NORM (X : FVec Ideal S16384x1024 .f32) (G : FVec Ideal S1024 .f32) : FVec Ideal S16384x1024 .f32 :=
  mulf (mulf X (broadcastInDim Cert.InProjRefIdeal.S16384x1024 ![0, 1] Cert.InProjRefIdeal.Gen.bcast_S16384x1_S16384x1024_0_1
    (Host.rsqrt (addf (Host.divf (broadcastInDim Cert.InProjRefIdeal.S16384x1 ![0] Cert.InProjRefIdeal.Gen.bcast_S16384_S16384x1_0
      (Host.reduceAdd (mulf X X) (constant Cert.InProjRefIdeal.S_ .f32 0x00000000#32)
        Cert.InProjRefIdeal.Gen.reducesTo_S16384x1024_S16384_d1 Cert.InProjRefIdeal.Gen.h_S_))
      (broadcastInDim Cert.InProjRefIdeal.S16384x1 ![] Cert.InProjRefIdeal.Gen.bcast_S_S16384x1 (constant Cert.InProjRefIdeal.S_ .f32 0x44800000#32)))
      (broadcastInDim Cert.InProjRefIdeal.S16384x1 ![] Cert.InProjRefIdeal.Gen.bcast_S_S16384x1 (constant Cert.InProjRefIdeal.S_ .f32 0x358637BD#32))))))
    (broadcastInDim Cert.InProjRefIdeal.S16384x1024 ![0, 1] Cert.InProjRefIdeal.Gen.bcast_S1x1024_S16384x1024_0_1
      (broadcastInDim Cert.InProjRefIdeal.S1x1024 ![1] Cert.InProjRefIdeal.Gen.bcast_S1024_S1x1024_1 G))

/-- The rows' projections by the matrix `W`, its columns in their own order. -/
abbrev PROJ (X : FVec Ideal S16384x1024 .f32) (W : FVec Ideal S1024x6160 .f32) : FVec Ideal Cert.InProjRefIdeal.S16384x6160 .f32 :=
  Host.dotGeneral Cert.InProjRefIdeal.dot_S16384x1024_S1024x6160_S16384x6160_1_0_0_1_n_n none X W

/-- The projections of the rows `A`, their column groups put in the order in which later calls read them, zeros behind. -/
abbrev CAT (A : FVec Ideal S16384x1024 .f32) (W : FVec Ideal S1024x6160 .f32) :
    FVec Ideal S16384x6272 .f32 :=
  concatenate Cert.InProjRefIdeal.S16384x6272 1
    [⟨Cert.InProjRefIdeal.S16384x1536, extractStridedSlice Cert.InProjRefIdeal.S16384x1536 ![0, 2048] (PROJ A W) Cert.InProjRefIdeal.Gen.slices_S16384x6160_S16384x1536_0_2048⟩,
     ⟨Cert.InProjRefIdeal.S16384x2048, extractStridedSlice Cert.InProjRefIdeal.S16384x2048 ![0, 0] (PROJ A W) Cert.InProjRefIdeal.Gen.slices_S16384x6160_S16384x2048_0_0⟩,
     ⟨Cert.InProjRefIdeal.S16384x512, extractStridedSlice Cert.InProjRefIdeal.S16384x512 ![0, 3584] (PROJ A W) Cert.InProjRefIdeal.Gen.slices_S16384x6160_S16384x512_0_3584⟩,
     ⟨Cert.InProjRefIdeal.S16384x2048, extractStridedSlice Cert.InProjRefIdeal.S16384x2048 ![0, 4112] (PROJ A W) Cert.InProjRefIdeal.Gen.slices_S16384x6160_S16384x2048_0_4112⟩,
     ⟨Cert.InProjRefIdeal.S16384x16, extractStridedSlice Cert.InProjRefIdeal.S16384x16 ![0, 4096] (PROJ A W) Cert.InProjRefIdeal.Gen.slices_S16384x6160_S16384x16_0_4096⟩,
     ⟨Cert.InProjRefIdeal.S16384x112, broadcastInDim Cert.InProjRefIdeal.S16384x112 ![] Cert.InProjRefIdeal.Gen.bcast_S_S16384x112 (constant (F := Ideal) Cert.InProjRefIdeal.S_ .f32 0x00000000#32)⟩]
    Cert.InProjRefIdeal.Gen.concatenates_S16384x1536_S16384x2048_S16384x512_S16384x2048_S16384x16_S16384x112_S16384x6272_d1

/-- The reference: the normalized rows' projections in that order. -/
abbrev REF (X : FVec Ideal S16384x1024 .f32) (G : FVec Ideal S1024 .f32) (W : FVec Ideal S1024x6160 .f32) :
    FVec Ideal S16384x6272 .f32 :=
  CAT (NORM X G) W

/-- The matrix as the kernel reads it: its column groups in the new order, zero columns behind. -/
abbrev PACKED (W : FVec Ideal S1024x6160 .f32) : FVec Ideal S1024x6272 .bf16 :=
  truncf .bf16 (concatenate S1024x6272 1
    [⟨S1024x1536, extractStridedSlice S1024x1536 ![0, 2048] W slices_S1024x6160_S1024x1536_0_2048⟩,
     ⟨S1024x2048, extractStridedSlice S1024x2048 ![0, 0] W slices_S1024x6160_S1024x2048_0_0⟩,
     ⟨S1024x512, extractStridedSlice S1024x512 ![0, 3584] W slices_S1024x6160_S1024x512_0_3584⟩,
     ⟨S1024x2048, extractStridedSlice S1024x2048 ![0, 4112] W slices_S1024x6160_S1024x2048_0_4112⟩,
     ⟨S1024x16, extractStridedSlice S1024x16 ![0, 4096] W slices_S1024x6160_S1024x16_0_4096⟩,
     ⟨S1024x112, broadcastInDim S1024x112 ![] bcast_S_S1024x112 (constant (F := Ideal) S_ .f32 0x00000000#32)⟩]
    concatenates_S1024x1536_S1024x2048_S1024x512_S1024x2048_S1024x16_S1024x112_S1024x6272_d1) bitsLt_bf16_f32

/-- What the kernel's weight window is cut from is the packed matrix. -/
theorem packed (c : Dev nD) : V m c main_v7 = PACKED (m ((c : Thread nD τ).loc main_arg2)) := by
  show StableHlo.after _ _ _ = _
  unfold hostOps0
  simp only [StableHlo.after_cons, StableHlo.after_nil]
  after_results_steps
  rfl

/-- Which block each window shows at point `t`. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- An entry of the reference is the row's product with a column of the packed matrix. -/
theorem cat_eq (A : FVec Ideal S16384x1024 .f32) (W : FVec Ideal S1024x6160 .f32) (z : S16384x6272.Idx) :
    CAT A W z = ∑ k : Fin 1024, A (ix2 (z 0) k) * PACKED W (ix2 k (z 1)) := by
  pointwise [CAT, PROJ, PACKED]
  split_ifs <;> first | rfl | simp

/-- One block of columns is the product of the normalized rows with the loaded columns. -/
theorem pay_eq (a b w x) : k0_pay5 (F := Ideal) a b w x = ∑ k : Fin 1024, k0_pay4 (F := Ideal) a b (ix2 (x 0) k) * w (ix2 k (x 1)) := by
  generalize h : k0_pay4 (F := Ideal) a b = A
  pointwise [k0_pay5, h]

/-- The kernel's normalized rows at point `t` are the array's at the block's place. -/
theorem norm_eq (c : Dev nD) (t : Fin cfg0.N) (i : Fin 256) (z : Fin 16384) (hz : (z : ℕ) = t.val * 256 + i) (k : Fin 1024) :
    k0_pay4 (F := Ideal) (View.ld (iblk m c 0 t) r0_0) (View.ld (iblk m c 1 t) r0_1) (ix2 i k)
      = NORM (m ((c : Thread nD τ).loc main_arg0)) (m ((c : Thread nD τ).loc main_arg1)) (ix2 z k) := by
  pointwise [k0_pay4, NORM]
  blk_point [iblk, V, idx t]

/-- One block of columns at point `t`, from the columns loaded there. -/
theorem piece (c : Dev nD) (t : Fin cfg0.N) (y : S256x6272.Idx) (x : S256x896.Idx) (w) (h0 : (y 0 : ℕ) = x 0)
    (hw : ∀ k : Fin 1024, w (ix2 k (x 1)) = PACKED (m ((c : Thread nD τ).loc main_arg2)) (ix2 k (y 1))) :
    k0_pay5 (F := Ideal) (View.ld (iblk m c 0 t) r0_0) (View.ld (iblk m c 1 t) r0_1) w x
      = REF (m ((c : Thread nD τ).loc main_arg0)) (m ((c : Thread nD τ).loc main_arg1)) (m ((c : Thread nD τ).loc main_arg2))
          (((cfg0.win 3).blk t).view.emb y) := by
  rw [pay_eq, REF, cat_eq]
  refine Finset.sum_congr rfl fun k _ => ?_
  rw [norm_eq m c t (x 0) ((((cfg0.win 3).blk t).view.emb y) 0) (by blk_simp [idx t] <;> omega) k, hw k]
  have e : (((cfg0.win 3).blk t).view.emb y) 1 = y 1 := Fin.ext (by blk_simp [idx t] <;> omega)
  rw [e]

/-- A load of columns of the weight block, read at an index, is the packed matrix there. -/
theorem cols (c : Dev nD) (t : Fin cfg0.N) (k : Fin 1024) (q : Fin 6272) :
    (iblk m c 2 t : FVec Ideal S1024x6272 .bf16) (ix2 k q) = PACKED (m ((c : Thread nD τ).loc main_arg2)) (ix2 k q) := by
  rw [← packed]
  blk_point [iblk, idx t]

/-- One point's store, at block index `y`, is the reference at the array index `y` sits at. -/
theorem point (c : Dev nD) (t : Fin cfg0.N) (y) : out0_3 (F := Ideal) (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  canon_tiles x h
  all_goals
    refine piece m c t y x _ h0 fun k => ?_
    refine Eq.trans ?_ (cols m c t k (y 1))
    pointwise
    blk_ext

/-- The result array after the run is the reference of the arguments. -/
theorem result (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.InProjIdeal.Proj

end
-- ==== Proof.Scan.Spec.lean ====
/- The recurrence of the delta rule over chunks, in plain sums: one state of `128 × 128` values per direction and head. -/
module

public import Idealize.ShloMosaic.Lib.Pointwise

@[expose] public section

noncomputable section

namespace Cert.Scan

/-- What the recurrence reads, the two directions (`0` forwards, `1` backwards) side by side: `u`, `w` and the queries
    `q` by token and column, the keys `k`, the attention `a` and the decay `g` by chunk and head. -/
structure Args where
  u : Fin 2 → Fin 16384 → Fin 512 → EReal
  w : Fin 2 → Fin 16384 → Fin 512 → EReal
  q : Fin 2 → Fin 16384 → Fin 512 → EReal
  k : Fin 2 → Fin 256 → Fin 4 → Fin 128 → Fin 64 → EReal
  a : Fin 2 → Fin 256 → Fin 4 → Fin 64 → Fin 64 → EReal
  g : Fin 2 → Fin 256 → Fin 4 → Fin 128 → EReal

/-- The chunk that direction `d` reads at step `n`: the `n`-th from the front, or from the end. -/
def chunk (d : Fin 2) (n : ℕ) : Fin 256 :=
  if d = 0 then ⟨n % 256, Nat.mod_lt _ (by omega)⟩ else ⟨255 - n % 256, by omega⟩

/-- Token `i` of chunk `b`. -/
def row (b : Fin 256) (i : Fin 64) : Fin 16384 := ⟨b * 64 + i, by omega⟩

/-- Column `v` of head `h`. -/
def col (h : Fin 4) (v : Fin 128) : Fin 512 := ⟨h * 128 + v, by omega⟩

/-- The new values: `u - w S`. -/
def fresh (u w : Fin 64 → Fin 128 → EReal) (S : Fin 128 → Fin 128 → EReal) (i : Fin 64) (v : Fin 128) : EReal :=
  u i v - ∑ k, w i k * S k v

/-- A chunk's output: `q S + a (u - w S)`. -/
def out (u w q : Fin 64 → Fin 128 → EReal) (a : Fin 64 → Fin 64 → EReal) (S : Fin 128 → Fin 128 → EReal) (i : Fin 64) (v : Fin 128) : EReal :=
  ∑ k, q i k * S k v + ∑ j, a i j * fresh u w S j v

/-- The state after a chunk: `S` decayed, and `k (u - w S)`. -/
def next (u w : Fin 64 → Fin 128 → EReal) (kt : Fin 128 → Fin 64 → EReal) (g : Fin 128 → EReal) (S : Fin 128 → Fin 128 → EReal)
    (k v : Fin 128) : EReal :=
  S k v * g v + ∑ j, kt k j * fresh u w S j v

/-- The output depends on its operands' values only. -/
theorem out_congr {u u' w w' q q' : Fin 64 → Fin 128 → EReal} {a a' : Fin 64 → Fin 64 → EReal} {S S' : Fin 128 → Fin 128 → EReal}
    (hu : ∀ i v, u i v = u' i v) (hw : ∀ i v, w i v = w' i v) (hq : ∀ i v, q i v = q' i v) (ha : ∀ i j, a i j = a' i j)
    (hS : ∀ k v, S k v = S' k v) (i : Fin 64) (v : Fin 128) : out u w q a S i v = out u' w' q' a' S' i v := by
  obtain rfl : u = u' := funext fun i => funext (hu i)
  obtain rfl : w = w' := funext fun i => funext (hw i)
  obtain rfl : q = q' := funext fun i => funext (hq i)
  obtain rfl : a = a' := funext fun i => funext (ha i)
  obtain rfl : S = S' := funext fun i => funext (hS i)
  rfl

/-- The state after a chunk depends on its operands' values only. -/
theorem next_congr {u u' w w' : Fin 64 → Fin 128 → EReal} {kt kt' : Fin 128 → Fin 64 → EReal} {g g' : Fin 128 → EReal}
    {S S' : Fin 128 → Fin 128 → EReal}
    (hu : ∀ i v, u i v = u' i v) (hw : ∀ i v, w i v = w' i v) (hk : ∀ k i, kt k i = kt' k i) (hg : ∀ v, g v = g' v)
    (hS : ∀ k v, S k v = S' k v) (k v : Fin 128) : next u w kt g S k v = next u' w' kt' g' S' k v := by
  obtain rfl : u = u' := funext fun i => funext (hu i)
  obtain rfl : w = w' := funext fun i => funext (hw i)
  obtain rfl : kt = kt' := funext fun i => funext (hk i)
  obtain rfl : g = g' := funext hg
  obtain rfl : S = S' := funext fun i => funext (hS i)
  rfl

/-- The state of direction `d` and head `h` before step `n`. -/
def Args.state (A : Args) (d : Fin 2) (h : Fin 4) : ℕ → Fin 128 → Fin 128 → EReal
  | 0 => fun _ _ => 0
  | n + 1 => next (fun i v => A.u d (row (chunk d n) i) (col h v)) (fun i v => A.w d (row (chunk d n) i) (col h v))
      (A.k d (chunk d n) h) (A.g d (chunk d n) h) (A.state d h n)

/-- The output of direction `d` and head `h` at step `n`. -/
def Args.out (A : Args) (d : Fin 2) (h : Fin 4) (n : ℕ) : Fin 64 → Fin 128 → EReal :=
  Scan.out (fun i v => A.u d (row (chunk d n) i) (col h v)) (fun i v => A.w d (row (chunk d n) i) (col h v))
    (fun i v => A.q d (row (chunk d n) i) (col h v)) (A.a d (chunk d n) h) (A.state d h n)

end Cert.Scan
-- ==== Proof.Scan.Block.lean ====
/- One grid point of the recurrence's kernel: what it stores, head by head, from the state it finds. -/
module

public import proofs.«01_k».proof.Proof.Gen.KernelIdeal.Frame
public import proofs.«01_k».proof.Proof.Scan.Spec
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Scan

open Cert.KernelIdeal Cert.KernelIdeal.Gen Cert.Scan

/-- A head's columns lie in the block. -/
theorem colsIn {h : ℕ} (hh : h < 4) : ∀ a, (![0, 0, h * 128] : Fin 3 → ℕ) a + (![1, 64, 128] : Fin 3 → ℕ) a ≤ S1x64x512.size a := by
  intro a; fin_cases a <;> simp <;> omega

/-- A head's keys lie in the block. -/
theorem keysIn {h : ℕ} (hh : h < 4) : ∀ a, (![0, 0, h, 0, 0] : Fin 5 → ℕ) a + (![1, 1, 1, 128, 64] : Fin 5 → ℕ) a ≤ S1x1x4x128x64.size a := by
  intro a; fin_cases a <;> simp <;> omega

/-- A head's attention lies in the block. -/
theorem attnIn {h : ℕ} (hh : h < 4) : ∀ a, (![0, 0, h, 0, 0] : Fin 5 → ℕ) a + (![1, 1, 1, 64, 64] : Fin 5 → ℕ) a ≤ S1x1x4x64x64.size a := by
  intro a; fin_cases a <;> simp <;> omega

/-- A head's decay lies in the block. -/
theorem decayIn {e : ℕ} (he : e < 8) : ∀ a, (![0, 0, e, 0] : Fin 4 → ℕ) a + (![1, 1, 1, 128] : Fin 4 → ℕ) a ≤ S1x1x8x128.size a := by
  intro a; fin_cases a <;> simp <;> omega

/-- A head's state lies in the scratch buffer. -/
theorem stateIn {d h : ℕ} (hd : d < 2) (hh : h < 4) :
    ∀ a, (![0, d, h, 0, 0] : Fin 5 → ℕ) a + (![1, 1, 1, 128, 128] : Fin 5 → ℕ) a ≤ S1x2x4x128x128.size a := by
  intro a; fin_cases a <;> simp <;> omega

section Head

variable (X : Vec Ideal S1x2x4x128x128 .f32) (U : Vec Ideal S1x64x512 .f32) (W Q : Vec Ideal S1x64x512 .bf16)
  (K : Vec Ideal S1x1x4x128x64 .bf16) (A : Vec Ideal S1x1x4x64x64 .bf16) (G : Vec Ideal S1x1x8x128 .f32)

/-- The state the kernel stores for one direction and head. -/
def headState (d h e : ℕ) (hd : d < 2) (hh : h < 4) (he : e < 8) : FVec Ideal S1x1x1x128x128 .f32 :=
  k0_pay60 (k0_pay2 (View.ld X (Rect.unit ![0, d, h, 0, 0] ![1, 1, 1, 128, 128] (stateIn hd hh))))
    (k0_pay51 (k0_pay35 (k0_pay18 (k0_pay2 (View.ld X (Rect.unit ![0, d, h, 0, 0] ![1, 1, 1, 128, 128] (stateIn hd hh))))
      (View.ld W (Rect.unit ![0, 0, h * 128] ![1, 64, 128] (colsIn hh)))) (View.ld U (Rect.unit ![0, 0, h * 128] ![1, 64, 128] (colsIn hh))))
      (View.ld K (Rect.unit ![0, 0, h, 0, 0] ![1, 1, 1, 128, 64] (keysIn hh))))
    (View.ld G (Rect.unit ![0, 0, e, 0] ![1, 1, 1, 128] (decayIn he)))

/-- The output the kernel stores for one direction and head. -/
def headOut (d h : ℕ) (hd : d < 2) (hh : h < 4) : FVec Ideal S1x64x128 .f32 :=
  k0_pay59 (k0_pay27 (k0_pay10 (k0_pay2 (View.ld X (Rect.unit ![0, d, h, 0, 0] ![1, 1, 1, 128, 128] (stateIn hd hh)))))
      (View.ld Q (Rect.unit ![0, 0, h * 128] ![1, 64, 128] (colsIn hh))))
    (k0_pay43 (k0_pay35 (k0_pay18 (k0_pay2 (View.ld X (Rect.unit ![0, d, h, 0, 0] ![1, 1, 1, 128, 128] (stateIn hd hh))))
      (View.ld W (Rect.unit ![0, 0, h * 128] ![1, 64, 128] (colsIn hh)))) (View.ld U (Rect.unit ![0, 0, h * 128] ![1, 64, 128] (colsIn hh))))
      (View.ld A (Rect.unit ![0, 0, h, 0, 0] ![1, 1, 1, 64, 64] (attnIn hh))))

/-- The new state over loaded blocks. -/
theorem next_apply (S : FVec Ideal S1x1x1x128x128 .f32) (u : FVec Ideal S1x64x128 .f32) (w : FVec Ideal S1x64x128 .bf16)
    (kt : FVec Ideal S1x1x1x128x64 .bf16) (g : FVec Ideal S1x1x1x128 .f32) (k v : Fin 128) :
    (k0_pay60 (k0_pay2 S) (k0_pay51 (k0_pay35 (k0_pay18 (k0_pay2 S) w) u) kt) g : FVec Ideal S1x1x1x128x128 .f32) (ix5 0 0 0 k v)
      = next (fun i v => u (ix3 0 i v)) (fun i v => w (ix3 0 i v)) (fun k i => kt (ix5 0 0 0 k i)) (fun v => g (ix4 0 0 0 v))
          (fun k v => S (ix5 0 0 0 k v)) k v := by
  pointwise [k0_pay60, k0_pay2, k0_pay51, k0_pay35, k0_pay18, k0_pay10, next, fresh]

/-- The output over loaded blocks. -/
theorem out_apply (S : FVec Ideal S1x1x1x128x128 .f32) (u : FVec Ideal S1x64x128 .f32) (w q : FVec Ideal S1x64x128 .bf16)
    (a : FVec Ideal S1x1x1x64x64 .bf16) (i : Fin 64) (v : Fin 128) :
    (k0_pay59 (k0_pay27 (k0_pay10 (k0_pay2 S)) q) (k0_pay43 (k0_pay35 (k0_pay18 (k0_pay2 S) w) u) a) : FVec Ideal S1x64x128 .f32) (ix3 0 i v)
      = out (fun i v => u (ix3 0 i v)) (fun i v => w (ix3 0 i v)) (fun i v => q (ix3 0 i v)) (fun i j => a (ix5 0 0 0 i j))
          (fun k v => S (ix5 0 0 0 k v)) i v := by
  pointwise [k0_pay59, k0_pay2, k0_pay27, k0_pay43, k0_pay35, k0_pay18, k0_pay10, out, fresh]

/-- A head's columns read from a block. -/
theorem ld_cols {e : EltTy} (Y : Vec Ideal S1x64x512 e) (h : Fin 4) (i : Fin 64) (v : Fin 128) :
    (View.ld Y (Rect.unit ![0, 0, h.val * 128] ![1, 64, 128] (colsIn h.isLt)) : Vec Ideal S1x64x128 e) (ix3 0 i v) = Y (ix3 0 i (col h v)) :=
  View.ld_unit_apply_of _ _ _ _ _ _ (by intro a; fin_cases a <;> simp [ix3, col])

/-- A head's state read from the scratch buffer. -/
theorem ld_state (d : Fin 2) (h : Fin 4) (k v : Fin 128) :
    (View.ld X (Rect.unit ![0, d.val, h.val, 0, 0] ![1, 1, 1, 128, 128] (stateIn d.isLt h.isLt)) : FVec Ideal S1x1x1x128x128 .f32) (ix5 0 0 0 k v)
      = X (ix5 0 d h k v) :=
  View.ld_unit_apply_of _ _ _ _ _ _ (by intro a; fin_cases a <;> simp [ix5])

/-- A head's keys read from a block. -/
theorem ld_keys (h : Fin 4) (k : Fin 128) (i : Fin 64) :
    (View.ld K (Rect.unit ![0, 0, h.val, 0, 0] ![1, 1, 1, 128, 64] (keysIn h.isLt)) : FVec Ideal S1x1x1x128x64 .bf16) (ix5 0 0 0 k i)
      = K (ix5 0 0 h k i) :=
  View.ld_unit_apply_of _ _ _ _ _ _ (by intro a; fin_cases a <;> simp [ix5])

/-- A head's attention read from a block. -/
theorem ld_attn (h : Fin 4) (i j : Fin 64) :
    (View.ld A (Rect.unit ![0, 0, h.val, 0, 0] ![1, 1, 1, 64, 64] (attnIn h.isLt)) : FVec Ideal S1x1x1x64x64 .bf16) (ix5 0 0 0 i j)
      = A (ix5 0 0 h i j) :=
  View.ld_unit_apply_of _ _ _ _ _ _ (by intro a; fin_cases a <;> simp [ix5])

/-- A head's decay read from a block. -/
theorem ld_decay (e : Fin 8) (v : Fin 128) :
    (View.ld G (Rect.unit ![0, 0, e.val, 0] ![1, 1, 1, 128] (decayIn e.isLt)) : FVec Ideal S1x1x1x128 .f32) (ix4 0 0 0 v)
      = G (ix4 0 0 e v) :=
  View.ld_unit_apply_of _ _ _ _ _ _ (by intro a; fin_cases a <;> simp [ix4])

/-- The stored state of a head, by the recurrence's own step. -/
theorem headState_apply (d : Fin 2) (h : Fin 4) (e : Fin 8) (k v : Fin 128) :
    headState X U W K G d h e d.isLt h.isLt e.isLt (ix5 0 0 0 k v)
      = next (fun i v => U (ix3 0 i (col h v))) (fun i v => W (ix3 0 i (col h v))) (fun k i => K (ix5 0 0 h k i)) (fun v => G (ix4 0 0 e v))
          (fun k v => X (ix5 0 d h k v)) k v := by
  exact (next_apply _ _ _ _ _ k v).trans (next_congr (ld_cols U h) (ld_cols W h) (ld_keys K h) (ld_decay G e) (ld_state X d h) k v)

/-- The stored output of a head, by the recurrence's own step. -/
theorem headOut_apply (d : Fin 2) (h : Fin 4) (i : Fin 64) (v : Fin 128) :
    headOut X U W Q A d h d.isLt h.isLt (ix3 0 i v)
      = out (fun i v => U (ix3 0 i (col h v))) (fun i v => W (ix3 0 i (col h v))) (fun i v => Q (ix3 0 i (col h v))) (fun i j => A (ix5 0 0 h i j))
          (fun k v => X (ix5 0 d h k v)) i v := by
  exact (out_apply _ _ _ _ _ i v).trans (out_congr (ld_cols U h) (ld_cols W h) (ld_cols Q h) (ld_attn A h) (ld_state X d h) i v)

end Head

end Cert.KernelIdeal.Scan
-- ==== Proof.Scan.Point.lean ====
/- What each grid point of the recurrence's kernel leaves in its two output blocks and in the state, over the state that
   the point before left. -/
module

public import proofs.«01_k».proof.Proof.Scan.Block

@[expose] public section

set_option maxRecDepth 16384

noncomputable section

open Idealize.ShloMosaic Idealize.ShloMosaic.TcCoe Idealize.SL.Sem
open Idealize.ShloMosaic.Pipeline (Dat)

namespace Cert.KernelIdeal.Scan

open Cert.KernelIdeal Cert.KernelIdeal.Gen Cert.Scan

section Pieces

variable (X : Vec Ideal S1x2x4x128x128 .f32) (U : Vec Ideal S1x64x512 .f32) (W Q : Vec Ideal S1x64x512 .bf16)
  (K : Vec Ideal S1x1x4x128x64 .bf16) (A : Vec Ideal S1x1x4x64x64 .bf16) (G : Vec Ideal S1x1x8x128 .f32)

/-- A head's output piece at a place of the block. -/
theorem outPiece (d h' : ℕ) (hd : d < 2) (hh : h' < 4) (h : Fin 4) (i : Fin 64) (v : Fin 128) (x : S1x64x128.Idx)
    (e1 : (i : ℕ) = x 1) (e2 : (h : ℕ) * 128 + v = h' * 128 + x 2) :
    headOut X U W Q A d h' hd hh x
      = out (fun i v => U (ix3 0 i (col h v))) (fun i v => W (ix3 0 i (col h v))) (fun i v => Q (ix3 0 i (col h v))) (fun i j => A (ix5 0 0 h i j))
          (fun k v => X (ix5 0 ⟨d, hd⟩ h k v)) i v := by
  have hx : (x 2 : ℕ) < 128 := (x 2).isLt
  have hv := v.isLt
  obtain rfl : h' = h := by omega
  have ex : x = ix3 0 i v := by
    funext a
    fin_cases a
    · exact Subsingleton.elim (α := Fin 1) _ _
    · exact Fin.ext e1.symm
    · exact Fin.ext (by change (x 2 : ℕ) = v; omega)
  rw [ex]
  exact headOut_apply X U W Q A ⟨d, hd⟩ h i v

/-- A head's state piece at a place of the scratch buffer. -/
theorem statePiece (d' h' e' : ℕ) (hd : d' < 2) (hh : h' < 4) (he : e' < 8) (d : Fin 2) (h : Fin 4) (e : Fin 8) (k v : Fin 128)
    (x : S1x1x1x128x128.Idx) (e1 : (d : ℕ) = d' + x 1) (e2 : (h : ℕ) = h' + x 2) (e3 : (k : ℕ) = x 3) (e4 : (v : ℕ) = x 4) (e5 : (e : ℕ) = e') :
    headState X U W K G d' h' e' hd hh he x
      = next (fun i v => U (ix3 0 i (col h v))) (fun i v => W (ix3 0 i (col h v))) (fun k i => K (ix5 0 0 h k i)) (fun v => G (ix4 0 0 e v))
          (fun k v => X (ix5 0 d h k v)) k v := by
  have h1 : (x 1 : ℕ) < 1 := (x 1).isLt
  have h2 : (x 2 : ℕ) < 1 := (x 2).isLt
  obtain rfl : d' = d := by omega
  obtain rfl : h' = h := by omega
  obtain rfl : e' = e := e5.symm
  have ex : x = ix5 0 0 0 k v := by
    funext a
    fin_cases a
    · exact Subsingleton.elim (α := Fin 1) _ _
    · exact Subsingleton.elim (α := Fin 1) _ _
    · exact Subsingleton.elim (α := Fin 1) _ _
    · exact Fin.ext e3.symm
    · exact Fin.ext e4.symm
  rw [ex]
  exact headState_apply X U W K G d h e k v

/-- The four heads' outputs, stored side by side, at a place of the block. -/
theorem outBlock (d : ℕ) (hd : d < 2) (h : Fin 4) (i : Fin 64) (v : Fin 128) :
    View.canon (Val := Elt Ideal) (s := S1x64x512) (e := .f32)
      [⟨Rect.unit ![0, 0, 384] ![1, 64, 128] (colsIn (h := 3) (by decide)), headOut X U W Q A d 3 hd (by decide)⟩,
       ⟨Rect.unit ![0, 0, 256] ![1, 64, 128] (colsIn (h := 2) (by decide)), headOut X U W Q A d 2 hd (by decide)⟩,
       ⟨Rect.unit ![0, 0, 128] ![1, 64, 128] (colsIn (h := 1) (by decide)), headOut X U W Q A d 1 hd (by decide)⟩,
       ⟨Rect.unit ![0, 0, 0] ![1, 64, 128] (colsIn (h := 0) (by decide)), headOut X U W Q A d 0 hd (by decide)⟩] (ix3 0 i (col h v))
      = out (fun i v => U (ix3 0 i (col h v))) (fun i v => W (ix3 0 i (col h v))) (fun i v => Q (ix3 0 i (col h v))) (fun i j => A (ix5 0 0 h i j))
          (fun k v => X (ix5 0 ⟨d, hd⟩ h k v)) i v := by
  canon_tiles x h
  · exact outPiece X U W Q A d 3 hd (by decide) h i v x (by change (i : ℕ) = _ at h1; omega) (by change (h : ℕ) * 128 + v = _ at h2; omega)
  · exact outPiece X U W Q A d 2 hd (by decide) h i v x (by change (i : ℕ) = _ at h1; omega) (by change (h : ℕ) * 128 + v = _ at h2; omega)
  · exact outPiece X U W Q A d 1 hd (by decide) h i v x (by change (i : ℕ) = _ at h1; omega) (by change (h : ℕ) * 128 + v = _ at h2; omega)
  · exact outPiece X U W Q A d 0 hd (by decide) h i v x (by change (i : ℕ) = _ at h1; omega) (by change (h : ℕ) * 128 + v = _ at h2; omega)

end Pieces

section States

variable (X : Vec Ideal S1x2x4x128x128 .f32) (U U' : Vec Ideal S1x64x512 .f32) (W W' : Vec Ideal S1x64x512 .bf16)
  (K K' : Vec Ideal S1x1x4x128x64 .bf16) (G G' : Vec Ideal S1x1x8x128 .f32)

/-- The eight heads' states as the body stores them. -/
abbrev states : List (View.Piece (Elt Ideal) S1x2x4x128x128 .f32) :=
  [⟨Rect.unit ![0, 1, 3, 0, 0] ![1, 1, 1, 128, 128] (stateIn (by decide) (by decide)), headState X U' W' K' G' 1 3 7 (by decide) (by decide) (by decide)⟩,
   ⟨Rect.unit ![0, 1, 2, 0, 0] ![1, 1, 1, 128, 128] (stateIn (by decide) (by decide)), headState X U' W' K' G' 1 2 6 (by decide) (by decide) (by decide)⟩,
   ⟨Rect.unit ![0, 1, 1, 0, 0] ![1, 1, 1, 128, 128] (stateIn (by decide) (by decide)), headState X U' W' K' G' 1 1 5 (by decide) (by decide) (by decide)⟩,
   ⟨Rect.unit ![0, 1, 0, 0, 0] ![1, 1, 1, 128, 128] (stateIn (by decide) (by decide)), headState X U' W' K' G' 1 0 4 (by decide) (by decide) (by decide)⟩,
   ⟨Rect.unit ![0, 0, 3, 0, 0] ![1, 1, 1, 128, 128] (stateIn (by decide) (by decide)), headState X U W K G 0 3 3 (by decide) (by decide) (by decide)⟩,
   ⟨Rect.unit ![0, 0, 2, 0, 0] ![1, 1, 1, 128, 128] (stateIn (by decide) (by decide)), headState X U W K G 0 2 2 (by decide) (by decide) (by decide)⟩,
   ⟨Rect.unit ![0, 0, 1, 0, 0] ![1, 1, 1, 128, 128] (stateIn (by decide) (by decide)), headState X U W K G 0 1 1 (by decide) (by decide) (by decide)⟩,
   ⟨Rect.unit ![0, 0, 0, 0, 0] ![1, 1, 1, 128, 128] (stateIn (by decide) (by decide)), headState X U W K G 0 0 0 (by decide) (by decide) (by decide)⟩]

/-- The row of the decay's block that direction `d` and head `h` read. -/
def drow (d : Fin 2) (h : Fin 4) : Fin 8 := ⟨d * 4 + h, by omega⟩

/-- The stored states at a place of the scratch buffer. -/
theorem statesBlock (d : Fin 2) (h : Fin 4) (k v : Fin 128) :
    View.canon (states X U U' W W' K K' G G') (ix5 0 d h k v)
      = next (fun i v => (if d = 0 then U else U') (ix3 0 i (col h v))) (fun i v => (if d = 0 then W else W') (ix3 0 i (col h v)))
          (fun k i => (if d = 0 then K else K') (ix5 0 0 h k i)) (fun v => (if d = 0 then G else G') (ix4 0 0 (drow d h) v))
          (fun k v => X (ix5 0 d h k v)) k v := by
  have key : ∀ (d' h' : ℕ) (hd : d' < 2) (hh : h' < 4) (U₀ : Vec Ideal S1x64x512 .f32) (W₀ : Vec Ideal S1x64x512 .bf16)
      (K₀ : Vec Ideal S1x1x4x128x64 .bf16) (G₀ : Vec Ideal S1x1x8x128 .f32) (x : S1x1x1x128x128.Idx)
      (_ : (if d = 0 then U else U') = U₀) (_ : (if d = 0 then W else W') = W₀) (_ : (if d = 0 then K else K') = K₀) (_ : (if d = 0 then G else G') = G₀)
      (_ : (d : ℕ) = d' + x 1) (_ : (h : ℕ) = h' + x 2) (_ : (k : ℕ) = x 3) (_ : (v : ℕ) = x 4),
      headState X U₀ W₀ K₀ G₀ d' h' (d' * 4 + h') hd hh (by omega) x
        = next (fun i v => (if d = 0 then U else U') (ix3 0 i (col h v))) (fun i v => (if d = 0 then W else W') (ix3 0 i (col h v)))
          (fun k i => (if d = 0 then K else K') (ix5 0 0 h k i)) (fun v => (if d = 0 then G else G') (ix4 0 0 (drow d h) v))
          (fun k v => X (ix5 0 d h k v)) k v := by
    intro d' h' hd hh U₀ W₀ K₀ G₀ x e1 e2 e3 e4 f1 f2 f3 f4
    rw [e1, e2, e3, e4]
    have h1 : (x 1 : ℕ) < 1 := (x 1).isLt
    have h2 : (x 2 : ℕ) < 1 := (x 2).isLt
    exact statePiece X U₀ W₀ K₀ G₀ d' h' (d' * 4 + h') hd hh (by omega) d h (drow d h) k v x f1 f2 (by omega) (by omega)
      (by simp only [drow]; omega)
  have z : ∀ x : S1x1x1x128x128.Idx, (x 1 : ℕ) < 1 := fun x => (x 1).isLt
  canon_tiles x h
  all_goals change (d : ℕ) = _ at h1; change (h : ℕ) = _ at h2; change (k : ℕ) = _ at h3; change (v : ℕ) = _ at h4
  · have f1 : (d : ℕ) = 1 + x 1 := by omega
    have f2 : (h : ℕ) = 3 + x 2 := by omega
    obtain rfl : d = 1 := Fin.ext (by have := z x; omega)
    exact key 1 3 (by decide) (by decide) U' W' K' G' x rfl rfl rfl rfl f1 f2 h3 h4
  · have f1 : (d : ℕ) = 1 + x 1 := by omega
    have f2 : (h : ℕ) = 2 + x 2 := by omega
    obtain rfl : d = 1 := Fin.ext (by have := z x; omega)
    exact key 1 2 (by decide) (by decide) U' W' K' G' x rfl rfl rfl rfl f1 f2 h3 h4
  · have f1 : (d : ℕ) = 1 + x 1 := by omega
    have f2 : (h : ℕ) = 1 + x 2 := by omega
    obtain rfl : d = 1 := Fin.ext (by have := z x; omega)
    exact key 1 1 (by decide) (by decide) U' W' K' G' x rfl rfl rfl rfl f1 f2 h3 h4
  · have f1 : (d : ℕ) = 1 + x 1 := by omega
    have f2 : (h : ℕ) = 0 + x 2 := by omega
    obtain rfl : d = 1 := Fin.ext (by have := z x; omega)
    exact key 1 0 (by decide) (by decide) U' W' K' G' x rfl rfl rfl rfl f1 f2 h3 h4
  · have f1 : (d : ℕ) = 0 + x 1 := by omega
    have f2 : (h : ℕ) = 3 + x 2 := by omega
    obtain rfl : d = 0 := Fin.ext (by have := z x; omega)
    exact key 0 3 (by decide) (by decide) U W K G x rfl rfl rfl rfl f1 f2 h3 h4
  · have f1 : (d : ℕ) = 0 + x 1 := by omega
    have f2 : (h : ℕ) = 2 + x 2 := by omega
    obtain rfl : d = 0 := Fin.ext (by have := z x; omega)
    exact key 0 2 (by decide) (by decide) U W K G x rfl rfl rfl rfl f1 f2 h3 h4
  · have f1 : (d : ℕ) = 0 + x 1 := by omega
    have f2 : (h : ℕ) = 1 + x 2 := by omega
    obtain rfl : d = 0 := Fin.ext (by have := z x; omega)
    exact key 0 1 (by decide) (by decide) U W K G x rfl rfl rfl rfl f1 f2 h3 h4
  · have f1 : (d : ℕ) = 0 + x 1 := by omega
    have f2 : (h : ℕ) = 0 + x 2 := by omega
    obtain rfl : d = 0 := Fin.ext (by have := z x; omega)
    exact key 0 0 (by decide) (by decide) U W K G x rfl rfl rfl rfl f1 f2 h3 h4

/-- The eight states cover the scratch buffer. -/
theorem states_cover (y : S1x2x4x128x128.Idx) : ∃ p ∈ states X U U' W W' K K' G G', y ∈ p.1.set :=
  View.cover_of_tiled _ ![1, 1, 1, 128, 128] rfl y

end States

/-- Stores that cover an index hide the earlier ones there. -/
theorem canon_append {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact ih ⟨q, hq', hyq⟩

variable (m : (ℓ : Loc nD τ sig) → Buf (Elt Ideal) ℓ)

/-- The state that point `t` finds: zeros at the first point, else what the point before left. -/
def found (c : Dev nD) (t : Fin cfg0.N) : Vec Ideal S1x2x4x128x128 .f32 :=
  if t.val % 256 = 0 then k0_pay1 (F := Ideal) else (outsAt0 m c (t.val - 1) (by have := t.isLt; omega)).2.2

/-- The first output block after point `t`. -/
theorem out12_pt (c : Dev nD) (t : Fin cfg0.N) (h : Fin 4) (i : Fin 64) (v : Fin 128) :
    (outsAt0 m c t.val t.isLt).1 (ix3 0 i (col h v))
      = out (fun i v => (iblk m c 0 t : Vec Ideal S1x64x512 .f32) (ix3 0 i (col h v))) (fun i v => (iblk m c 1 t : Vec Ideal S1x64x512 .bf16) (ix3 0 i (col h v)))
          (fun i v => (iblk m c 2 t : Vec Ideal S1x64x512 .bf16) (ix3 0 i (col h v))) (fun i j => (iblk m c 4 t : Vec Ideal S1x1x4x64x64 .bf16) (ix5 0 0 h i j))
          (fun k v => found m c t (ix5 0 0 h k v)) i v := by
  refine Eq.trans ?_ (outBlock (found m c t) (iblk m c 0 t) (iblk m c 1 t) (iblk m c 2 t) (iblk m c 4 t) 0 (by decide) h i v)
  by_cases h0 : t.val % 256 = 0
  · rw [show found m c t = k0_pay1 (F := Ideal) from if_pos h0, outsAt0_A m c t h0]
    frame_open
    simp (disch := decide) only [↓ View.readCov_skip, ↓ View.readCov_cons_toLoadRect, ↓ View.readCov_fill]
    frame_out
    rfl
  · rw [show found m c t = _ from if_neg h0, outsAt0_B m c t h0]
    frame_out
    simp only [read_unread_whole]
    rfl

/-- The second output block after point `t`. -/
theorem out13_pt (c : Dev nD) (t : Fin cfg0.N) (h : Fin 4) (i : Fin 64) (v : Fin 128) :
    (outsAt0 m c t.val t.isLt).2.1 (ix3 0 i (col h v))
      = out (fun i v => (iblk m c 6 t : Vec Ideal S1x64x512 .f32) (ix3 0 i (col h v))) (fun i v => (iblk m c 7 t : Vec Ideal S1x64x512 .bf16) (ix3 0 i (col h v)))
          (fun i v => (iblk m c 8 t : Vec Ideal S1x64x512 .bf16) (ix3 0 i (col h v))) (fun i j => (iblk m c 10 t : Vec Ideal S1x1x4x64x64 .bf16) (ix5 0 0 h i j))
          (fun k v => found m c t (ix5 0 1 h k v)) i v := by
  refine Eq.trans ?_ (outBlock (found m c t) (iblk m c 6 t) (iblk m c 7 t) (iblk m c 8 t) (iblk m c 10 t) 1 (by decide) h i v)
  by_cases h0 : t.val % 256 = 0
  · rw [show found m c t = k0_pay1 (F := Ideal) from if_pos h0, outsAt0_A m c t h0]
    frame_open
    simp (disch := decide) only [↓ View.readCov_skip, ↓ View.readCov_cons_toLoadRect, ↓ View.readCov_fill]
    frame_out
    rfl
  · rw [show found m c t = _ from if_neg h0, outsAt0_B m c t h0]
    frame_out
    simp only [read_unread_whole]
    rfl

/-- The state after point `t`. -/
theorem state_pt (c : Dev nD) (t : Fin cfg0.N) (d : Fin 2) (h : Fin 4) (k v : Fin 128) :
    (outsAt0 m c t.val t.isLt).2.2 (ix5 0 d h k v)
      = next (fun i v => (if d = 0 then (iblk m c 0 t : Vec Ideal S1x64x512 .f32) else iblk m c 6 t) (ix3 0 i (col h v)))
          (fun i v => (if d = 0 then (iblk m c 1 t : Vec Ideal S1x64x512 .bf16) else iblk m c 7 t) (ix3 0 i (col h v)))
          (fun k i => (if d = 0 then (iblk m c 3 t : Vec Ideal S1x1x4x128x64 .bf16) else iblk m c 9 t) (ix5 0 0 h k i))
          (fun v => (if d = 0 then (iblk m c 5 t : Vec Ideal S1x1x8x128 .f32) else iblk m c 11 t) (ix4 0 0 (drow d h) v))
          (fun k v => found m c t (ix5 0 d h k v)) k v := by
  refine Eq.trans ?_ (statesBlock (found m c t) (iblk m c 0 t) (iblk m c 6 t) (iblk m c 1 t) (iblk m c 7 t) (iblk m c 3 t) (iblk m c 9 t)
    (iblk m c 5 t) (iblk m c 11 t) d h k v)
  by_cases h0 : t.val % 256 = 0
  · rw [show found m c t = k0_pay1 (F := Ideal) from if_pos h0, outsAt0_A m c t h0]
    frame_open
    simp (disch := decide) only [↓ View.readCov_skip, ↓ View.readCov_cons_toLoadRect, ↓ View.readCov_fill]
    frame_out
    exact canon_append (states (k0_pay1 (F := Ideal)) (iblk m c 0 t) (iblk m c 6 t) (iblk m c 1 t) (iblk m c 7 t) (iblk m c 3 t) (iblk m c 9 t)
      (iblk m c 5 t) (iblk m c 11 t)) [_] _ (states_cover _ _ _ _ _ _ _ _ _ _)
  · rw [show found m c t = _ from if_neg h0, outsAt0_B m c t h0]
    frame_out
    simp only [read_unread_whole]
    rfl

end Cert.KernelIdeal.Scan
-- ==== Proof.Scan.Kernel.lean ====
/- The recurrence's kernel over its whole grid: the state after each point, and the two result arrays. -/
module

public import proofs.«01_k».proof.Proof.Scan.Point

@[expose] public section

set_option maxRecDepth 16384

noncomputable section

open Idealize.ShloMosaic Idealize.ShloMosaic.TcCoe Idealize.SL.Sem
open Idealize.ShloMosaic.Pipeline (Dat)

namespace Cert.KernelIdeal.Scan

open Cert.KernelIdeal Cert.KernelIdeal.Gen Cert.Scan

/-- The recurrence's operands, of the eleven argument arrays. -/
def ofArrays (uf : FVec Ideal S1x16384x512 .f32) (wf qf : FVec Ideal S1x16384x512 .bf16) (kf : FVec Ideal S1x256x4x128x64 .bf16)
    (af : FVec Ideal S1x256x4x64x64 .bf16) (ub : FVec Ideal S1x16384x512 .f32) (wb qb : FVec Ideal S1x16384x512 .bf16)
    (kb : FVec Ideal S1x256x4x128x64 .bf16) (ab : FVec Ideal S1x256x4x64x64 .bf16) (g : FVec Ideal S1x256x8x128 .f32) : Args where
  u d r j := if d = 0 then uf (ix3 0 r j) else ub (ix3 0 r j)
  w d r j := if d = 0 then wf (ix3 0 r j) else wb (ix3 0 r j)
  q d r j := if d = 0 then qf (ix3 0 r j) else qb (ix3 0 r j)
  k d b h k i := if d = 0 then kf (ix5 0 b h k i) else kb (ix5 0 b h k i)
  a d b h i j := if d = 0 then af (ix5 0 b h i j) else ab (ix5 0 b h i j)
  g d b h v := g (ix4 0 b (drow d h) v)

variable (m : (ℓ : Loc nD τ sig) → Buf (Elt Ideal) ℓ)

/-- The recurrence's operands in the kernel's arguments. -/
abbrev args (c : Dev nD) : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Which block each window of the forward direction shows at point `t`. -/
theorem idxF : ∀ t : Fin cfg0.N, win0_0.index t = ![0, t.val, 0] ∧ win0_1.index t = ![0, t.val, 0] ∧ win0_2.index t = ![0, t.val, 0]
    ∧ win0_3.index t = ![0, t.val, 0, 0, 0] ∧ win0_4.index t = ![0, t.val, 0, 0, 0] ∧ win0_5.index t = ![0, t.val, 0, 0]
    ∧ win0_12.index t = ![0, t.val, 0] :=
  (by decide +kernel : ∀ t : Fin grid0.N, _)

/-- Which block each window of the backward direction shows at point `t`. -/
theorem idxB : ∀ t : Fin cfg0.N, win0_6.index t = ![0, 255 - t.val, 0] ∧ win0_7.index t = ![0, 255 - t.val, 0] ∧ win0_8.index t = ![0, 255 - t.val, 0]
    ∧ win0_9.index t = ![0, 255 - t.val, 0, 0, 0] ∧ win0_10.index t = ![0, 255 - t.val, 0, 0, 0] ∧ win0_11.index t = ![0, 255 - t.val, 0, 0]
    ∧ win0_13.index t = ![0, 255 - t.val, 0] :=
  (by decide +kernel : ∀ t : Fin grid0.N, _)

/-- The forward chunk of a point. -/
theorem chunk_zero (t : Fin cfg0.N) : (chunk 0 t.val).val = t.val := by
  have : t.val < 256 := t.isLt
  simp only [chunk, if_pos]; omega

/-- The backward chunk of a point. -/
theorem chunk_one (t : Fin cfg0.N) : (chunk 1 t.val).val = 255 - t.val := by
  have : t.val < 256 := t.isLt
  simp only [chunk, if_neg (by decide : ¬(1 : Fin 2) = 0)]; omega

section Blocks

variable (c : Dev nD) (t : Fin cfg0.N)

/-- The forward values at a point. -/
theorem u0 (h : Fin 4) (i : Fin 64) (v : Fin 128) :
    (iblk m c 0 t : Vec Ideal S1x64x512 .f32) (ix3 0 i (col h v)) = (args m c).u 0 (row (chunk 0 t.val) i) (col h v) := by
  have e := chunk_zero t
  simp only [ofArrays, if_pos]
  generalize chunk 0 t.val = b at e
  blk_point [iblk, V, idxF t, row, col]

/-- The forward weights `w` at a point. -/
theorem w0 (h : Fin 4) (i : Fin 64) (v : Fin 128) :
    (iblk m c 1 t : Vec Ideal S1x64x512 .bf16) (ix3 0 i (col h v)) = (args m c).w 0 (row (chunk 0 t.val) i) (col h v) := by
  have e := chunk_zero t
  simp only [ofArrays, if_pos]
  generalize chunk 0 t.val = b at e
  blk_point [iblk, V, idxF t, row, col]

/-- The forward queries at a point. -/
theorem q0 (h : Fin 4) (i : Fin 64) (v : Fin 128) :
    (iblk m c 2 t : Vec Ideal S1x64x512 .bf16) (ix3 0 i (col h v)) = (args m c).q 0 (row (chunk 0 t.val) i) (col h v) := by
  have e := chunk_zero t
  simp only [ofArrays, if_pos]
  generalize chunk 0 t.val = b at e
  blk_point [iblk, V, idxF t, row, col]

/-- The forward keys at a point. -/
theorem k0 (h : Fin 4) (k : Fin 128) (i : Fin 64) :
    (iblk m c 3 t : Vec Ideal S1x1x4x128x64 .bf16) (ix5 0 0 h k i) = (args m c).k 0 (chunk 0 t.val) h k i := by
  have e := chunk_zero t
  simp only [ofArrays, if_pos]
  generalize chunk 0 t.val = b at e
  blk_point [iblk, V, idxF t, row, col]

/-- The forward attention at a point. -/
theorem a0 (h : Fin 4) (i j : Fin 64) :
    (iblk m c 4 t : Vec Ideal S1x1x4x64x64 .bf16) (ix5 0 0 h i j) = (args m c).a 0 (chunk 0 t.val) h i j := by
  have e := chunk_zero t
  simp only [ofArrays, if_pos]
  generalize chunk 0 t.val = b at e
  blk_point [iblk, V, idxF t, row, col]

/-- The forward decay at a point. -/
theorem g0 (h : Fin 4) (v : Fin 128) :
    (iblk m c 5 t : Vec Ideal S1x1x8x128 .f32) (ix4 0 0 (drow 0 h) v) = (args m c).g 0 (chunk 0 t.val) h v := by
  have e := chunk_zero t
  simp only [ofArrays, if_pos]
  generalize chunk 0 t.val = b at e
  blk_point [iblk, V, idxF t, row, col]

/-- The backward values at a point. -/
theorem u1 (h : Fin 4) (i : Fin 64) (v : Fin 128) :
    (iblk m c 6 t : Vec Ideal S1x64x512 .f32) (ix3 0 i (col h v)) = (args m c).u 1 (row (chunk 1 t.val) i) (col h v) := by
  have e := chunk_one t
  simp only [ofArrays, if_neg (by decide : ¬(1 : Fin 2) = 0)]
  generalize chunk 1 t.val = b at e
  blk_point [iblk, V, idxB t, row, col]

/-- The backward weights `w` at a point. -/
theorem w1 (h : Fin 4) (i : Fin 64) (v : Fin 128) :
    (iblk m c 7 t : Vec Ideal S1x64x512 .bf16) (ix3 0 i (col h v)) = (args m c).w 1 (row (chunk 1 t.val) i) (col h v) := by
  have e := chunk_one t
  simp only [ofArrays, if_neg (by decide : ¬(1 : Fin 2) = 0)]
  generalize chunk 1 t.val = b at e
  blk_point [iblk, V, idxB t, row, col]

/-- The backward queries at a point. -/
theorem q1 (h : Fin 4) (i : Fin 64) (v : Fin 128) :
    (iblk m c 8 t : Vec Ideal S1x64x512 .bf16) (ix3 0 i (col h v)) = (args m c).q 1 (row (chunk 1 t.val) i) (col h v) := by
  have e := chunk_one t
  simp only [ofArrays, if_neg (by decide : ¬(1 : Fin 2) = 0)]
  generalize chunk 1 t.val = b at e
  blk_point [iblk, V, idxB t, row, col]

/-- The backward keys at a point. -/
theorem k1 (h : Fin 4) (k : Fin 128) (i : Fin 64) :
    (iblk m c 9 t : Vec Ideal S1x1x4x128x64 .bf16) (ix5 0 0 h k i) = (args m c).k 1 (chunk 1 t.val) h k i := by
  have e := chunk_one t
  simp only [ofArrays, if_neg (by decide : ¬(1 : Fin 2) = 0)]
  generalize chunk 1 t.val = b at e
  blk_point [iblk, V, idxB t, row, col]

/-- The backward attention at a point. -/
theorem a1 (h : Fin 4) (i j : Fin 64) :
    (iblk m c 10 t : Vec Ideal S1x1x4x64x64 .bf16) (ix5 0 0 h i j) = (args m c).a 1 (chunk 1 t.val) h i j := by
  have e := chunk_one t
  simp only [ofArrays, if_neg (by decide : ¬(1 : Fin 2) = 0)]
  generalize chunk 1 t.val = b at e
  blk_point [iblk, V, idxB t, row, col]

/-- The backward decay at a point. -/
theorem g1 (h : Fin 4) (v : Fin 128) :
    (iblk m c 11 t : Vec Ideal S1x1x8x128 .f32) (ix4 0 0 (drow 1 h) v) = (args m c).g 1 (chunk 1 t.val) h v := by
  have e := chunk_one t
  simp only [ofArrays, if_neg (by decide : ¬(1 : Fin 2) = 0)]
  generalize chunk 1 t.val = b at e
  blk_point [iblk, V, idxB t, row, col]

end Blocks

/-- One point takes the state it finds to the recurrence's next state. -/
theorem state_next (c : Dev nD) (t : Fin cfg0.N) (d : Fin 2) (h : Fin 4)
    (ih : ∀ k v, found m c t (ix5 0 d h k v) = (args m c).state d h t.val k v) (k v : Fin 128) :
    (outsAt0 m c t.val t.isLt).2.2 (ix5 0 d h k v) = (args m c).state d h (t.val + 1) k v := by
  refine (state_pt m c t d h k v).trans ?_
  rcases (by omega : d = 0 ∨ d = 1) with rfl | rfl
  · exact next_congr (u0 m c t h) (w0 m c t h) (k0 m c t h) (g0 m c t h) ih k v
  · exact next_congr (u1 m c t h) (w1 m c t h) (k1 m c t h) (g1 m c t h) ih k v

/-- The state that point `n` finds is the recurrence's state before step `n`. -/
theorem found_eq (c : Dev nD) (d : Fin 2) (h : Fin 4) : ∀ (n : ℕ) (hn : n < cfg0.N) (k v : Fin 128),
    found m c ⟨n, hn⟩ (ix5 0 d h k v) = (args m c).state d h n k v
  | 0, hn, k, v => by
    rw [show found m c ⟨0, hn⟩ = k0_pay1 (F := Ideal) from if_pos rfl]
    pointwise [k0_pay1, Args.state]
  | n + 1, hn, k, v => by
    have hn' : n + 1 < 256 := hn
    rw [show found m c ⟨n + 1, hn⟩ = (outsAt0 m c n (by omega)).2.2 from if_neg (by show ¬(n + 1) % 256 = 0; omega)]
    exact state_next m c ⟨n, by omega⟩ d h (found_eq c d h n (by omega)) k v

/-- The first output block after point `t` is the recurrence's forward output at step `t`. -/
theorem out12_eq (c : Dev nD) (t : Fin cfg0.N) (h : Fin 4) (i : Fin 64) (v : Fin 128) :
    (outsAt0 m c t.val t.isLt).1 (ix3 0 i (col h v)) = (args m c).out 0 h t.val i v :=
  (out12_pt m c t h i v).trans
    (out_congr (u0 m c t h) (w0 m c t h) (q0 m c t h) (a0 m c t h) (found_eq m c 0 h t.val t.isLt) i v)

/-- The second output block after point `t` is the recurrence's backward output at step `t`. -/
theorem out13_eq (c : Dev nD) (t : Fin cfg0.N) (h : Fin 4) (i : Fin 64) (v : Fin 128) :
    (outsAt0 m c t.val t.isLt).2.1 (ix3 0 i (col h v)) = (args m c).out 1 h t.val i v :=
  (out13_pt m c t h i v).trans
    (out_congr (u1 m c t h) (w1 m c t h) (q1 m c t h) (a1 m c t h) (found_eq m c 1 h t.val t.isLt) i v)

/-- A direction's outputs as an array by token and column. -/
def outs (A : Args) (d : Fin 2) : FVec Ideal S1x16384x512 .f32 := fun y =>
  A.out d ⟨(y 2 : ℕ) / 128, by have := (y 2).isLt; change (y 2 : ℕ) < 512 at this; omega⟩
    (if d = 0 then (y 1 : ℕ) / 64 else 255 - (y 1 : ℕ) / 64) ⟨(y 1 : ℕ) % 64, by omega⟩ ⟨(y 2 : ℕ) % 128, by omega⟩

/-- The array at a token of a chunk and a column of a head. -/
theorem outs_apply (A : Args) (d : Fin 2) (n : ℕ) (hn : n < 256) (h : Fin 4) (i : Fin 64) (v : Fin 128) :
    outs A d (ix3 0 (row (chunk d n) i) (col h v)) = A.out d h n i v := by
  have hc : (if d = 0 then (chunk d n : ℕ) else 255 - (chunk d n : ℕ)) = n := by
    unfold chunk
    split_ifs <;> simp only <;> omega
  have e0 : ((row (chunk d n) i : Fin 16384) : ℕ) / 64 = chunk d n := by simp only [row]; omega
  have e1 : (⟨((row (chunk d n) i : Fin 16384) : ℕ) % 64, by omega⟩ : Fin 64) = i := Fin.ext (by simp only [row]; omega)
  have e2 : (⟨(col h v : ℕ) / 128, by have := (col h v).isLt; omega⟩ : Fin 4) = h := Fin.ext (by simp only [col]; omega)
  have e3 : (⟨(col h v : ℕ) % 128, by omega⟩ : Fin 128) = v := Fin.ext (by simp only [col]; omega)
  show A.out d ⟨(col h v : ℕ) / 128, _⟩ (if d = 0 then ((row (chunk d n) i : Fin 16384) : ℕ) / 64 else 255 - ((row (chunk d n) i : Fin 16384) : ℕ) / 64)
    ⟨((row (chunk d n) i : Fin 16384) : ℕ) % 64, _⟩ ⟨(col h v : ℕ) % 128, _⟩ = _
  rw [e1, e2, e3, e0, hc]

/-- A place of the block is a token of the chunk and a column of a head. -/
theorem place (y : S1x64x512.Idx) : ∃ (h : Fin 4) (i : Fin 64) (v : Fin 128), y = ix3 0 i (col h v) := by
  have h2 : (y 2 : ℕ) < 512 := (y 2).isLt
  refine ⟨⟨(y 2 : ℕ) / 128, by omega⟩, y 1, ⟨(y 2 : ℕ) % 128, by omega⟩, ?_⟩
  funext a
  fin_cases a
  · exact Subsingleton.elim (α := Fin 1) _ _
  · rfl
  · exact Fin.ext (by show (y 2 : ℕ) = (y 2 : ℕ) / 128 * 128 + (y 2 : ℕ) % 128; omega)

/-- The first result array. -/
theorem result12 (c : Dev nD) : (dats m 0 c).arrAt 12 (cfgs 0).N = outs (args m c) 0 := by
  refine (dats m 0 c).arrAt_eq_of_covers 12 _ (by decide +kernel) fun t _ y => ?_
  blk_simp
  rw [after0_12]
  obtain ⟨h, i, v, rfl⟩ := place y
  have e := chunk_zero t
  refine (out12_eq m c t h i v).trans ((outs_apply _ 0 t.val t.isLt h i v).symm.trans (congrArg _ ?_))
  generalize chunk 0 t.val = b at e
  blk_ext [idxF t, row, col]

/-- The second result array. -/
theorem result13 (c : Dev nD) : (dats m 0 c).arrAt 13 (cfgs 0).N = outs (args m c) 1 := by
  refine (dats m 0 c).arrAt_eq_of_covers 13 _ (by decide +kernel) fun t _ y => ?_
  blk_simp
  rw [after0_13]
  obtain ⟨h, i, v, rfl⟩ := place y
  have e := chunk_one t
  refine (out13_eq m c t h i v).trans ((outs_apply _ 1 t.val t.isLt h i v).symm.trans (congrArg _ ?_))
  generalize chunk 1 t.val = b at e
  blk_ext [idxB t, row, col]

end Cert.KernelIdeal.Scan
-- ==== Proof.Scan.Loop.lean ====
/- The reference's loop over chunks: one trip on the eight stacked heads, entry by entry. -/
module

public import proofs.«01_k».proof.Proof.Gen.ReferenceIdeal.Run
public import proofs.«01_k».proof.Proof.Scan.Kernel
public import Idealize.ShloMosaic.Lib.Pipeline.ValueKit
public import Idealize.ShloMosaic.Lib.DynamicIndex
public import Idealize.ShloMosaic.Lib.WordCmp
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Scan

open Cert.ReferenceIdeal Cert.ReferenceIdeal.Gen Cert.ReferenceIdeal.Value Cert.Scan
open Cert.KernelIdeal.Scan (drow ofArrays)

section Trip

variable (k : Fin 256) (start : Fin 4 → Int) (hs : ∀ a, start a = ((![k.val, 0, 0, 0] : Fin 4 → ℕ) a : Int))

include hs

/-- The chunk of an operand by tokens that trip `k` reads. -/
theorem cut_rows (X : FVec Ideal S256x8x64x128 .f32) (e : Fin 8) (i : Fin 64) (v : Fin 128) :
    (shapeCast S8x64x128 (Host.dynamicSlice S1x8x64x128 X start sliceFits_S256x8x64x128_S1x8x64x128) shapeCasts_S1x8x64x128_S8x64x128 : FVec Ideal S8x64x128 .f32) (ix3 e i v)
      = X (ix4 k e i v) := by
  have hk := k.isLt
  rw [Host.dynamicSlice_eq_extractStridedSlice S1x8x64x128 X start ![k.val, 0, 0, 0] sliceFits_S256x8x64x128_S1x8x64x128 ⟨rfl, by intro a; fin_cases a <;> simp <;> omega⟩ hs]
  pointwise

/-- The attention of the chunk that trip `k` reads. -/
theorem cut_attn (X : FVec Ideal S256x8x64x64 .f32) (e : Fin 8) (i j : Fin 64) :
    (shapeCast S8x64x64 (Host.dynamicSlice S1x8x64x64 X start sliceFits_S256x8x64x64_S1x8x64x64) shapeCasts_S1x8x64x64_S8x64x64 : FVec Ideal S8x64x64 .f32) (ix3 e i j)
      = X (ix4 k e i j) := by
  have hk := k.isLt
  rw [Host.dynamicSlice_eq_extractStridedSlice S1x8x64x64 X start ![k.val, 0, 0, 0] sliceFits_S256x8x64x64_S1x8x64x64 ⟨rfl, by intro a; fin_cases a <;> simp <;> omega⟩ hs]
  pointwise

/-- The keys of the chunk that trip `k` reads. -/
theorem cut_keys (X : FVec Ideal S256x8x128x64 .f32) (e : Fin 8) (i : Fin 128) (j : Fin 64) :
    (shapeCast S8x128x64 (Host.dynamicSlice S1x8x128x64 X start sliceFits_S256x8x128x64_S1x8x128x64) shapeCasts_S1x8x128x64_S8x128x64 : FVec Ideal S8x128x64 .f32) (ix3 e i j)
      = X (ix4 k e i j) := by
  have hk := k.isLt
  rw [Host.dynamicSlice_eq_extractStridedSlice S1x8x128x64 X start ![k.val, 0, 0, 0] sliceFits_S256x8x128x64_S1x8x128x64 ⟨rfl, by intro a; fin_cases a <;> simp <;> omega⟩ hs]
  pointwise

/-- The decay of the chunk that trip `k` reads. -/
theorem cut_decay (X : FVec Ideal S256x8x1x128 .f32) (e : Fin 8) (v : Fin 128) :
    (shapeCast S8x1x128 (Host.dynamicSlice S1x8x1x128 X start sliceFits_S256x8x1x128_S1x8x1x128) shapeCasts_S1x8x1x128_S8x1x128 : FVec Ideal S8x1x128 .f32) (ix3 e 0 v)
      = X (ix4 k e 0 v) := by
  have hk := k.isLt
  rw [Host.dynamicSlice_eq_extractStridedSlice S1x8x1x128 X start ![k.val, 0, 0, 0] sliceFits_S256x8x1x128_S1x8x1x128 ⟨rfl, by intro a; fin_cases a <;> simp <;> omega⟩ hs]
  pointwise

/-- The outputs after trip `k`: its chunk is the trip's, the others stay. -/
theorem put_rows (X : FVec Ideal S256x8x64x128 .f32) (o : FVec Ideal S8x64x128 .f32) (n : Fin 256) (e : Fin 8) (i : Fin 64) (v : Fin 128) :
    Host.dynamicUpdateSlice X (broadcastInDim S1x8x64x128 ![1, 2, 3] bcast_S8x64x128_S1x8x64x128_1_2_3 o) start updateFits_S256x8x64x128_S1x8x64x128 (ix4 n e i v)
      = if n = k then o (ix3 e i v) else X (ix4 n e i v) := by
  have hk := k.isLt
  rw [WordCmp.dynamicUpdateSlice_eq_update X _ start updateFits_S256x8x64x128_S1x8x64x128 ![k.val, 0, 0, 0] ⟨rfl, by intro a; fin_cases a <;> simp <;> omega⟩ hs]
  unfold updateSlice
  by_cases hn : n = k
  · subst hn
    rw [if_pos rfl, dif_pos (by intro a; fin_cases a <;> simp [ix4] <;> omega)]
    pointwise
    blk_ext
  · rw [if_neg hn, dif_neg]
    intro h
    have h0 := h 0
    refine hn (Fin.ext ?_)
    have h1 : k.val ≤ n.val ∧ n.val < k.val + 1 := h0
    omega

end Trip

/-- The new values of the stacked heads. -/
theorem fresh_at (u w : FVec Ideal S8x64x128 .f32) (S : FVec Ideal S8x128x128 .f32) (e : Fin 8) (i : Fin 64) (v : Fin 128) :
    subf u (Host.dotGeneral dot_S8x64x128_S8x128x128_S8x64x128_2_1_1_2_0_0 none w S) (ix3 e i v)
      = fresh (fun i v => u (ix3 e i v)) (fun i v => w (ix3 e i v)) (fun k v => S (ix3 e k v)) i v := by
  pointwise [fresh]

/-- The stacked heads' states after a trip. -/
theorem next_at (u w : FVec Ideal S8x64x128 .f32) (kt : FVec Ideal S8x128x64 .f32) (g : FVec Ideal S8x1x128 .f32) (S : FVec Ideal S8x128x128 .f32)
    (e : Fin 8) (k v : Fin 128) :
    addf (mulf S (broadcastInDim S8x128x128 ![0, 1, 2] bcast_S8x1x128_S8x128x128_0_1_2 g))
        (Host.dotGeneral dot_S8x128x64_S8x64x128_S8x128x128_2_1_1_2_0_0 none kt (subf u (Host.dotGeneral dot_S8x64x128_S8x128x128_S8x64x128_2_1_1_2_0_0 none w S))) (ix3 e k v)
      = next (fun i v => u (ix3 e i v)) (fun i v => w (ix3 e i v)) (fun k i => kt (ix3 e k i)) (fun v => g (ix3 e 0 v)) (fun k v => S (ix3 e k v)) k v := by
  pointwise [next, fresh]

/-- The stacked heads' outputs at a trip. -/
theorem out_at (u w q : FVec Ideal S8x64x128 .f32) (a : FVec Ideal S8x64x64 .f32) (S : FVec Ideal S8x128x128 .f32)
    (e : Fin 8) (i : Fin 64) (v : Fin 128) :
    addf (Host.dotGeneral dot_S8x64x128_S8x128x128_S8x64x128_2_1_1_2_0_0 none q S)
        (Host.dotGeneral dot_S8x64x64_S8x64x128_S8x64x128_2_1_1_2_0_0 none a (subf u (Host.dotGeneral dot_S8x64x128_S8x128x128_S8x64x128_2_1_1_2_0_0 none w S))) (ix3 e i v)
      = out (fun i v => u (ix3 e i v)) (fun i v => w (ix3 e i v)) (fun i v => q (ix3 e i v)) (fun i j => a (ix3 e i j)) (fun k v => S (ix3 e k v)) i v := by
  pointwise [out, fresh]

section Entry

variable (m : (ℓ : Loc nD τ sig) → Buf (Elt Ideal) ℓ)

/-- An operand by tokens, cut into chunks and heads. -/
abbrev chunks (X : FVec Ideal S1x16384x512 .f32) : FVec Ideal S256x4x64x128 .f32 :=
  transpose S256x4x64x128 [0, 2, 1, 3] (shapeCast S256x64x4x128 X shapeCasts_S1x16384x512_S256x64x4x128) transposes_S256x64x4x128_S256x4x64x128_0_2_1_3

/-- Both directions' chunks stacked, the second's in reverse. -/
abbrev bothRows (X Y : FVec Ideal S1x16384x512 .f32) : FVec Ideal S256x8x64x128 .f32 :=
  concatenate S256x8x64x128 1 [⟨S256x4x64x128, chunks X⟩, ⟨S256x4x64x128, Host.reverse [0] (chunks Y)⟩]
    concatenates_S256x4x64x128_S256x4x64x128_S256x8x64x128_d1

/-- Both directions' keys stacked. -/
abbrev bothKeys (X Y : FVec Ideal S1x256x4x128x64 .f32) : FVec Ideal S256x8x128x64 .f32 :=
  concatenate S256x8x128x64 1 [⟨S256x4x128x64, shapeCast S256x4x128x64 X shapeCasts_S1x256x4x128x64_S256x4x128x64⟩,
    ⟨S256x4x128x64, Host.reverse [0] (shapeCast S256x4x128x64 Y shapeCasts_S1x256x4x128x64_S256x4x128x64)⟩]
    concatenates_S256x4x128x64_S256x4x128x64_S256x8x128x64_d1

/-- Both directions' attentions stacked. -/
abbrev bothAttn (X Y : FVec Ideal S1x256x4x64x64 .f32) : FVec Ideal S256x8x64x64 .f32 :=
  concatenate S256x8x64x64 1 [⟨S256x4x64x64, shapeCast S256x4x64x64 X shapeCasts_S1x256x4x64x64_S256x4x64x64⟩,
    ⟨S256x4x64x64, Host.reverse [0] (shapeCast S256x4x64x64 Y shapeCasts_S1x256x4x64x64_S256x4x64x64)⟩]
    concatenates_S256x4x64x64_S256x4x64x64_S256x8x64x64_d1

/-- Both directions' decays stacked. -/
abbrev bothDecay (X : FVec Ideal S1x256x8x128 .f32) : FVec Ideal S256x8x1x128 .f32 :=
  broadcastInDim S256x8x1x128 ![0, 1, 3] bcast_S256x8x128_S256x8x1x128_0_1_3
    (concatenate S256x8x128 1 [⟨S256x4x128, shapeCast S256x4x128 (extractStridedSlice S1x256x4x128 ![0, 0, 0, 0] X slices_S1x256x8x128_S1x256x4x128_0_0_0_0) shapeCasts_S1x256x4x128_S256x4x128⟩,
      ⟨S256x4x128, Host.reverse [0] (shapeCast S256x4x128 (extractStridedSlice S1x256x4x128 ![0, 0, 4, 0] X slices_S1x256x8x128_S1x256x4x128_0_0_4_0) shapeCasts_S1x256x4x128_S256x4x128)⟩]
      concatenates_S256x4x128_S256x4x128_S256x8x128_d1)

/-- A stacked operand by tokens at a chunk, direction and head. -/
theorem bothRows_at (X Y : FVec Ideal S1x16384x512 .f32) (n : Fin 256) (d : Fin 2) (h : Fin 4) (i : Fin 64) (v : Fin 128) :
    bothRows X Y (ix4 n (drow d h) i v) = (if d = 0 then X (ix3 0 (row (chunk d n) i) (col h v)) else Y (ix3 0 (row (chunk d n) i) (col h v))) := by
  have hn := n.isLt
  rcases (by omega : d = 0 ∨ d = 1) with rfl | rfl
  · pointwise [bothRows, chunks, drow, row, col, chunk]
    blk_ext
  · pointwise [bothRows, chunks, drow, row, col, chunk]
    simp only [List.mem_singleton, Fin.isValue, reduceIte, Fin.reduceEq]
    refine congrArg Y ?_
    blk_ext [Fin.val_rev]

/-- The stacked keys at a chunk, direction and head. -/
theorem bothKeys_at (X Y : FVec Ideal S1x256x4x128x64 .f32) (n : Fin 256) (d : Fin 2) (h : Fin 4) (k : Fin 128) (i : Fin 64) :
    bothKeys X Y (ix4 n (drow d h) k i) = (if d = 0 then X (ix5 0 (chunk d n) h k i) else Y (ix5 0 (chunk d n) h k i)) := by
  have hn := n.isLt
  rcases (by omega : d = 0 ∨ d = 1) with rfl | rfl
  · pointwise [bothKeys, drow, chunk]
    blk_ext
  · pointwise [bothKeys, drow, chunk]
    simp only [List.mem_singleton, Fin.isValue, reduceIte, Fin.reduceEq]
    refine congrArg Y ?_
    blk_ext [Fin.val_rev]

/-- The stacked attentions at a chunk, direction and head. -/
theorem bothAttn_at (X Y : FVec Ideal S1x256x4x64x64 .f32) (n : Fin 256) (d : Fin 2) (h : Fin 4) (i j : Fin 64) :
    bothAttn X Y (ix4 n (drow d h) i j) = (if d = 0 then X (ix5 0 (chunk d n) h i j) else Y (ix5 0 (chunk d n) h i j)) := by
  have hn := n.isLt
  rcases (by omega : d = 0 ∨ d = 1) with rfl | rfl
  · pointwise [bothAttn, drow, chunk]
    blk_ext
  · pointwise [bothAttn, drow, chunk]
    simp only [List.mem_singleton, Fin.isValue, reduceIte, Fin.reduceEq]
    refine congrArg Y ?_
    blk_ext [Fin.val_rev]

/-- The stacked decays at a chunk, direction and head. -/
theorem bothDecay_at (X : FVec Ideal S1x256x8x128 .f32) (n : Fin 256) (d : Fin 2) (h : Fin 4) (v : Fin 128) :
    bothDecay X (ix4 n (drow d h) 0 v) = X (ix4 0 (chunk d n) (drow d h) v) := by
  have hn := n.isLt
  rcases (by omega : d = 0 ∨ d = 1) with rfl | rfl
  · pointwise [bothDecay, drow, chunk]
    blk_ext
  · pointwise [bothDecay, drow, chunk]
    simp only [List.mem_singleton, Fin.isValue, reduceIte, Fin.reduceEq]
    refine congrArg X ?_
    blk_ext [Fin.val_rev]

/-- The stacked values before the loop. -/
theorem entry_u (c : Dev nD) : entryContents preI m c (Proc.devRef .tc main_v43_0)
    = bothRows (m ((c.tc : Thread nD τ).loc main_arg0)) (m ((c.tc : Thread nD τ).loc main_arg5)) := by
  simp only [entryContents, afterL_cons, afterL_nil]
  after_reads_simp
  refine congrArg₂ (fun a b => concatenate S256x8x64x128 1 [⟨S256x4x64x128, a⟩, ⟨S256x4x64x128, b⟩] concatenates_S256x4x64x128_S256x4x64x128_S256x8x64x128_d1) ?_ ?_
  · after_reads_simp
    rfl
  · after_reads_simp
    rfl

/-- The stacked weights `w` before the loop. -/
theorem entry_w (c : Dev nD) : entryContents preI m c (Proc.devRef .tc main_v43_1)
    = bothRows (extf .f32 (m ((c.tc : Thread nD τ).loc main_arg1) : FVec Ideal S1x16384x512 .bf16) bitsLt_bf16_f32) (extf .f32 (m ((c.tc : Thread nD τ).loc main_arg6) : FVec Ideal S1x16384x512 .bf16) bitsLt_bf16_f32) := by
  simp only [entryContents, afterL_cons, afterL_nil]
  after_reads_simp
  refine congrArg₂ (fun a b => concatenate S256x8x64x128 1 [⟨S256x4x64x128, a⟩, ⟨S256x4x64x128, b⟩] concatenates_S256x4x64x128_S256x4x64x128_S256x8x64x128_d1) ?_ ?_
  · after_reads_simp
    rfl
  · after_reads_simp
    rfl

/-- The stacked attentions before the loop. -/
theorem entry_a (c : Dev nD) : entryContents preI m c (Proc.devRef .tc main_v43_2)
    = bothAttn (extf .f32 (m ((c.tc : Thread nD τ).loc main_arg4) : FVec Ideal S1x256x4x64x64 .bf16) bitsLt_bf16_f32) (extf .f32 (m ((c.tc : Thread nD τ).loc main_arg9) : FVec Ideal S1x256x4x64x64 .bf16) bitsLt_bf16_f32) := by
  simp only [entryContents, afterL_cons, afterL_nil]
  after_reads_simp
  refine congrArg₂ (fun a b => concatenate S256x8x64x64 1 [⟨S256x4x64x64, a⟩, ⟨S256x4x64x64, b⟩] concatenates_S256x4x64x64_S256x4x64x64_S256x8x64x64_d1) ?_ ?_
  · after_reads_simp
    rfl
  · after_reads_simp
    rfl

/-- The stacked queries before the loop. -/
theorem entry_q (c : Dev nD) : entryContents preI m c (Proc.devRef .tc main_v43_3)
    = bothRows (extf .f32 (m ((c.tc : Thread nD τ).loc main_arg2) : FVec Ideal S1x16384x512 .bf16) bitsLt_bf16_f32) (extf .f32 (m ((c.tc : Thread nD τ).loc main_arg7) : FVec Ideal S1x16384x512 .bf16) bitsLt_bf16_f32) := by
  simp only [entryContents, afterL_cons, afterL_nil]
  after_reads_simp
  refine congrArg₂ (fun a b => concatenate S256x8x64x128 1 [⟨S256x4x64x128, a⟩, ⟨S256x4x64x128, b⟩] concatenates_S256x4x64x128_S256x4x64x128_S256x8x64x128_d1) ?_ ?_
  · after_reads_simp
    rfl
  · after_reads_simp
    rfl

/-- The stacked keys before the loop. -/
theorem entry_k (c : Dev nD) : entryContents preI m c (Proc.devRef .tc main_v43_4)
    = bothKeys (extf .f32 (m ((c.tc : Thread nD τ).loc main_arg3) : FVec Ideal S1x256x4x128x64 .bf16) bitsLt_bf16_f32) (extf .f32 (m ((c.tc : Thread nD τ).loc main_arg8) : FVec Ideal S1x256x4x128x64 .bf16) bitsLt_bf16_f32) := by
  simp only [entryContents, afterL_cons, afterL_nil]
  after_reads_simp
  refine congrArg₂ (fun a b => concatenate S256x8x128x64 1 [⟨S256x4x128x64, a⟩, ⟨S256x4x128x64, b⟩] concatenates_S256x4x128x64_S256x4x128x64_S256x8x128x64_d1) ?_ ?_
  · after_reads_simp
    rfl
  · after_reads_simp
    rfl

/-- The stacked decays before the loop. -/
theorem entry_g (c : Dev nD) : entryContents preI m c (Proc.devRef .tc main_v43_5) = bothDecay (m ((c.tc : Thread nD τ).loc main_arg10)) := by
  simp only [entryContents, afterL_cons, afterL_nil]
  after_reads_simp
  refine congrArg₂ (fun a b => broadcastInDim S256x8x1x128 ![0, 1, 3] bcast_S256x8x128_S256x8x1x128_0_1_3
    (concatenate S256x8x128 1 [⟨S256x4x128, a⟩, ⟨S256x4x128, b⟩] concatenates_S256x4x128_S256x4x128_S256x8x128_d1)) ?_ ?_
  · after_reads_simp
    rfl
  · after_reads_simp
    rfl

/-- The stacked states before the loop are zeros. -/
theorem entry_S (c : Dev nD) (y : S8x128x128.Idx) : entryContents preI m c (Proc.devRef .tc main_v43_7) y = (0 : EReal) := by
  have e : entryContents preI m c (Proc.devRef .tc main_v43_7)
      = (broadcastInDim S8x128x128 ![] bcast_S_S8x128x128 (constant S_ .f32 0x00000000#32) : FVec Ideal S8x128x128 .f32) := by
    simp only [entryContents, afterL_cons, afterL_nil]
    after_reads_simp
    rfl
  rw [e]
  pointwise

end Entry

section Iterate

variable (m : (ℓ : Loc nD τ sig) → Buf (Elt Ideal) ℓ)

/-- The recurrence's operands in the reference's arguments. -/
abbrev args (c : Dev nD) : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- What the loop's buffers hold before trip `k`: the operands and the counter, the recurrence's states, and the outputs
    of the trips so far. -/
structure Holds (c : Dev nD) (k : ℕ) (V : Valuation τ sig (Elt Ideal)) : Prop where
  u : V (Proc.devRef .tc main_v43_0) = entryContents preI m c (Proc.devRef .tc main_v43_0)
  w : V (Proc.devRef .tc main_v43_1) = entryContents preI m c (Proc.devRef .tc main_v43_1)
  a : V (Proc.devRef .tc main_v43_2) = entryContents preI m c (Proc.devRef .tc main_v43_2)
  q : V (Proc.devRef .tc main_v43_3) = entryContents preI m c (Proc.devRef .tc main_v43_3)
  kt : V (Proc.devRef .tc main_v43_4) = entryContents preI m c (Proc.devRef .tc main_v43_4)
  g : V (Proc.devRef .tc main_v43_5) = entryContents preI m c (Proc.devRef .tc main_v43_5)
  ctr : V (Proc.devRef .tc main_v43_6) = fun _ => Scf.iv 0#32 1#32 k
  state : ∀ (d : Fin 2) (h : Fin 4) (i v : Fin 128), (V (Proc.devRef .tc main_v43_7) : FVec Ideal S8x128x128 .f32) (ix3 (drow d h) i v) = (args m c).state d h k i v
  outs : ∀ (n : Fin 256), n.val < k → ∀ (d : Fin 2) (h : Fin 4) (i : Fin 64) (v : Fin 128),
    (V (Proc.devRef .tc main_v43_8) : FVec Ideal S256x8x64x128 .f32) (ix4 n (drow d h) i v) = (args m c).out d h n i v

/-- The start of the slices of trip `k`. -/
theorem start_at (k : Fin 256) (x : (⟨S_, .i32⟩ : BufTy).Contents (Elt Ideal)) (hx : x = fun _ => Scf.iv 0#32 1#32 k.val) (a : Fin 4) :
    (((![x, constantI S_ 32 0#32, constantI S_ 32 0#32, constantI S_ 32 0#32] : Fin 4 → (⟨S_, .i32⟩ : BufTy).Contents (Elt Ideal))) a (Shape.Idx.first h_S_)).toInt
      = ((![k.val, 0, 0, 0] : Fin 4 → ℕ) a : Int) := by
  subst hx
  have hk := k.isLt
  fin_cases a
  · show (Scf.iv 0#32 1#32 k.val).toInt = (k.val : Int)
    rw [show Scf.iv 0#32 1#32 k.val = BitVec.ofNat 32 k.val by simp [Scf.iv]]
    exact toInt_ofNat_of_lt (by omega)
  · rfl
  · rfl
  · rfl

/-- The operands at a trip, direction and head. -/
theorem operands (c : Dev nD) (V : Valuation τ sig (Elt Ideal)) (k : Fin 256) (H : Holds m c k V) (d : Fin 2) (h : Fin 4) :
    (∀ i v, (V (Proc.devRef .tc main_v43_0) : FVec Ideal S256x8x64x128 .f32) (ix4 k (drow d h) i v) = (args m c).u d (row (chunk d k) i) (col h v))
    ∧ (∀ i v, (V (Proc.devRef .tc main_v43_1) : FVec Ideal S256x8x64x128 .f32) (ix4 k (drow d h) i v) = (args m c).w d (row (chunk d k) i) (col h v))
    ∧ (∀ i v, (V (Proc.devRef .tc main_v43_3) : FVec Ideal S256x8x64x128 .f32) (ix4 k (drow d h) i v) = (args m c).q d (row (chunk d k) i) (col h v))
    ∧ (∀ i j, (V (Proc.devRef .tc main_v43_2) : FVec Ideal S256x8x64x64 .f32) (ix4 k (drow d h) i j) = (args m c).a d (chunk d k) h i j)
    ∧ (∀ i j, (V (Proc.devRef .tc main_v43_4) : FVec Ideal S256x8x128x64 .f32) (ix4 k (drow d h) i j) = (args m c).k d (chunk d k) h i j)
    ∧ (∀ v, (V (Proc.devRef .tc main_v43_5) : FVec Ideal S256x8x1x128 .f32) (ix4 k (drow d h) 0 v) = (args m c).g d (chunk d k) h v) := by
  refine ⟨fun i v => ?_, fun i v => ?_, fun i v => ?_, fun i j => ?_, fun i j => ?_, fun v => ?_⟩
  · rw [H.u, entry_u]; exact bothRows_at _ _ k d h i v
  · rw [H.w, entry_w]; exact bothRows_at _ _ k d h i v
  · rw [H.q, entry_q]; exact bothRows_at _ _ k d h i v
  · rw [H.a, entry_a]; exact bothAttn_at _ _ k d h i j
  · rw [H.kt, entry_k]; exact bothKeys_at _ _ k d h i j
  · rw [H.g, entry_g]; exact bothDecay_at _ k d h v

/-- A trip's state is the recurrence's next one. -/
theorem step_state (c : Dev nD) (V : Valuation τ sig (Elt Ideal)) (k : Fin 256) (H : Holds m c k V) (d : Fin 2) (h : Fin 4) (i v : Fin 128) :
    (step_main_v43_7 V : FVec Ideal S8x128x128 .f32) (ix3 (drow d h) i v) = (args m c).state d h (k + 1) i v := by
  obtain ⟨hu, hw, hq, ha, hk, hg⟩ := operands m c V k H d h
  have hs := start_at k _ H.ctr
  unfold step_main_v43_7 res_main_while0b_v58
  refine (next_at _ _ _ _ _ (drow d h) i v).trans ?_
  exact next_congr (fun i v => (cut_rows k _ hs _ _ i v).trans (hu i v)) (fun i v => (cut_rows k _ hs _ _ i v).trans (hw i v))
    (fun i j => (cut_keys k _ hs _ _ i j).trans (hk i j)) (fun v => (cut_decay k _ hs _ _ v).trans (hg v)) (H.state d h) i v

/-- A trip's outputs are the recurrence's, beside those of the trips before. -/
theorem step_outs (c : Dev nD) (V : Valuation τ sig (Elt Ideal)) (k : Fin 256) (H : Holds m c k V) (n : Fin 256) (hn : n.val < k.val + 1)
    (d : Fin 2) (h : Fin 4) (i : Fin 64) (v : Fin 128) :
    (step_main_v43_8 V : FVec Ideal S256x8x64x128 .f32) (ix4 n (drow d h) i v) = (args m c).out d h n i v := by
  obtain ⟨hu, hw, hq, ha, hk, hg⟩ := operands m c V k H d h
  have hs := start_at k _ H.ctr
  unfold step_main_v43_8 res_main_while0b_v58
  refine (put_rows k _ hs _ _ n (drow d h) i v).trans ?_
  by_cases hnk : n = k
  · subst hnk
    rw [if_pos rfl]
    refine (out_at _ _ _ _ _ (drow d h) i v).trans ?_
    exact out_congr (fun i v => (cut_rows n _ hs _ _ i v).trans (hu i v)) (fun i v => (cut_rows n _ hs _ _ i v).trans (hw i v))
      (fun i v => (cut_rows n _ hs _ _ i v).trans (hq i v)) (fun i j => (cut_attn n _ hs _ _ i j).trans (ha i j)) (H.state d h) i v
  · rw [if_neg hnk]
    exact H.outs n (by have : n.val ≠ k.val := fun e => hnk (Fin.ext e); omega) d h i v

/-- One trip keeps what the loop's buffers hold. -/
theorem holds_succ (c : Dev nD) (V : Valuation τ sig (Elt Ideal)) (k : Fin 256) (H : Holds m c k V) : Holds m c (k + 1) (STEP V) where
  u := (STEP_main_v43_0 V).trans H.u
  w := (STEP_main_v43_1 V).trans H.w
  a := (STEP_main_v43_2 V).trans H.a
  q := (STEP_main_v43_3 V).trans H.q
  kt := (STEP_main_v43_4 V).trans H.kt
  g := (STEP_main_v43_5 V).trans H.g
  ctr := by rw [STEP_main_v43_6, step_main_v43_6, H.ctr, Scf.iv_succ]; rfl
  state d h i v := (congrFun (STEP_main_v43_7 V) _).trans (step_state m c V k H d h i v)
  outs n hn d h i v := (congrFun (STEP_main_v43_8 V) _).trans (step_outs m c V k H n hn d h i v)

/-- The loop's buffers before the first trip. -/
theorem holds_zero (c : Dev nD) : Holds m c 0 (entryContents preI m c) where
  u := rfl
  w := rfl
  a := rfl
  q := rfl
  kt := rfl
  g := rfl
  ctr := by rw [ctr_entry, Scf.iv_zero]
  state d h i v := entry_S m c _
  outs n hn := absurd hn (Nat.not_lt_zero _)

/-- The loop's buffers before each trip. -/
theorem holds (c : Dev nD) (k : ℕ) (hk : k ≤ 256) : Holds m c k (STEP^[k] (entryContents preI m c)) := by
  induction k with
  | zero => exact holds_zero m c
  | succ k ih =>
    rw [Function.iterate_succ_apply']
    exact holds_succ m c _ ⟨k, by omega⟩ (ih (by omega))

end Iterate

section Results

variable (m : (ℓ : Loc nD τ sig) → Buf (Elt Ideal) ℓ)

/-- A place of a result is a token of a step's chunk and a column of a head. -/
theorem token (d : Fin 2) (y : S1x16384x512.Idx) : ∃ (n : Fin 256) (h : Fin 4) (i : Fin 64) (v : Fin 128),
    y = ix3 0 (row (chunk d n) i) (col h v) ∧ ((chunk d n : Fin 256) : ℕ) = if d = 0 then n.val else 255 - n.val := by
  have h1 : (y 1 : ℕ) < 16384 := (y 1).isLt
  have h2 : (y 2 : ℕ) < 512 := (y 2).isLt
  refine ⟨if d = 0 then ⟨(y 1 : ℕ) / 64, by omega⟩ else ⟨255 - (y 1 : ℕ) / 64, by omega⟩, ⟨(y 2 : ℕ) / 128, by omega⟩, ⟨(y 1 : ℕ) % 64, by omega⟩,
    ⟨(y 2 : ℕ) % 128, by omega⟩, ?_, ?_⟩
  · funext a
    fin_cases a
    · exact Subsingleton.elim (α := Fin 1) _ _
    · refine Fin.ext ?_
      show (y 1 : ℕ) = (chunk d _ : ℕ) * 64 + (y 1 : ℕ) % 64
      unfold chunk
      split_ifs <;> simp only <;> omega
    · exact Fin.ext (by show (y 2 : ℕ) = (y 2 : ℕ) / 128 * 128 + (y 2 : ℕ) % 128; omega)
  · unfold chunk
    split_ifs <;> simp only <;> omega

/-- The first result at a token of a chunk and a column of a head. -/
theorem fwd_at (X : FVec Ideal S256x8x64x128 .f32) (n : Fin 256) (b : Fin 256) (hb : b.val = n.val) (h : Fin 4) (i : Fin 64) (v : Fin 128) :
    (shapeCast S1x16384x512 (transpose S256x64x4x128 [0, 2, 1, 3] (extractStridedSlice S256x4x64x128 ![0, 0, 0, 0] X slices_S256x8x64x128_S256x4x64x128_0_0_0_0)
      transposes_S256x4x64x128_S256x64x4x128_0_2_1_3) shapeCasts_S256x64x4x128_S1x16384x512 : FVec Ideal S1x16384x512 .f32) (ix3 0 (row b i) (col h v))
      = X (ix4 n (drow 0 h) i v) := by
  pointwise [row, col, drow]
  blk_ext

/-- The second result at a token of a chunk and a column of a head. -/
theorem bwd_at (X : FVec Ideal S256x8x64x128 .f32) (n : Fin 256) (b : Fin 256) (hb : b.val = 255 - n.val) (h : Fin 4) (i : Fin 64) (v : Fin 128) :
    (shapeCast S1x16384x512 (transpose S256x64x4x128 [0, 2, 1, 3] (Host.reverse [0] (extractStridedSlice S256x4x64x128 ![0, 4, 0, 0] X slices_S256x8x64x128_S256x4x64x128_0_4_0_0))
      transposes_S256x4x64x128_S256x64x4x128_0_2_1_3) shapeCasts_S256x64x4x128_S1x16384x512 : FVec Ideal S1x16384x512 .f32) (ix3 0 (row b i) (col h v))
      = X (ix4 n (drow 1 h) i v) := by
  have hn := n.isLt
  pointwise [row, col, drow]
  simp only [List.mem_singleton, Fin.isValue, reduceIte, Fin.reduceEq]
  refine congrArg X ?_
  blk_ext [Fin.val_rev]

/-- The reference's first result is the recurrence's forward outputs. -/
theorem result_fwd (c : Dev nD) : out_main_v46 (STEP^[256] (entryContents preI m c)) = Cert.KernelIdeal.Scan.outs (args m c) 0 := by
  funext y
  obtain ⟨n, h, i, v, rfl, hc⟩ := token 0 y
  refine (fwd_at _ n _ hc h i v).trans ?_
  rw [(holds m c 256 le_rfl).outs n n.isLt 0 h i v]
  exact (Cert.KernelIdeal.Scan.outs_apply _ 0 n n.isLt h i v).symm

/-- The reference's second result is the recurrence's backward outputs. -/
theorem result_bwd (c : Dev nD) : out_main_v50 (STEP^[256] (entryContents preI m c)) = Cert.KernelIdeal.Scan.outs (args m c) 1 := by
  funext y
  obtain ⟨n, h, i, v, rfl, hc⟩ := token 1 y
  refine (bwd_at _ n _ hc h i v).trans ?_
  rw [(holds m c 256 le_rfl).outs n n.isLt 1 h i v]
  exact (Cert.KernelIdeal.Scan.outs_apply _ 1 n n.isLt h i v).symm

end Results

end Cert.ReferenceIdeal.Scan
-- ==== Proof.Merge.Value.lean ====
/- The merge of the two branches: after the kernel's run its result is the reference's composed term. -/
module

public import proofs.«01_k».proof.Proof.Gen.MergeIdeal.Frame
public import proofs.«01_k».proof.Proof.Gen.MergeRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Join

open Cert.MergeIdeal Cert.MergeIdeal.Gen

variable (m : (ℓ : Loc nD τ sig) → Buf (Elt Ideal) ℓ)

/-- The second branch before its output matrix: the two directions added, each head's row divided by the root of its
    mean square, times the gain, times `z / (1 + exp (-z))`. -/
abbrev GATED (OF OB : FVec Ideal S16384x512 .f32) (P : FVec Ideal S16384x6272 .f32) (G : FVec Ideal S128 .f32) : FVec Ideal S16384x512 .f32 :=
  shapeCast Cert.MergeRefIdeal.S16384x512 (mulf (mulf (mulf (shapeCast Cert.MergeRefIdeal.S16384x4x128 (addf OF OB) Cert.MergeRefIdeal.Gen.shapeCasts_S16384x512_S16384x4x128) (broadcastInDim Cert.MergeRefIdeal.S16384x4x128 ![0, 1, 2] Cert.MergeRefIdeal.Gen.bcast_S16384x4x1_S16384x4x128_0_1_2 (Host.rsqrt (addf (Host.divf (broadcastInDim Cert.MergeRefIdeal.S16384x4x1 ![0, 1] Cert.MergeRefIdeal.Gen.bcast_S16384x4_S16384x4x1_0_1 (Host.reduceAdd (mulf (shapeCast Cert.MergeRefIdeal.S16384x4x128 (addf OF OB) Cert.MergeRefIdeal.Gen.shapeCasts_S16384x512_S16384x4x128) (shapeCast Cert.MergeRefIdeal.S16384x4x128 (addf OF OB) Cert.MergeRefIdeal.Gen.shapeCasts_S16384x512_S16384x4x128)) (constant Cert.MergeRefIdeal.S_ .f32 0x00000000#32) Cert.MergeRefIdeal.Gen.reducesTo_S16384x4x128_S16384x4_d2 Cert.MergeRefIdeal.Gen.h_S_)) (broadcastInDim Cert.MergeRefIdeal.S16384x4x1 ![] Cert.MergeRefIdeal.Gen.bcast_S_S16384x4x1 (constant Cert.MergeRefIdeal.S_ .f32 0x43000000#32))) (broadcastInDim Cert.MergeRefIdeal.S16384x4x1 ![] Cert.MergeRefIdeal.Gen.bcast_S_S16384x4x1 (constant Cert.MergeRefIdeal.S_ .f32 0x358637BD#32)))))) (broadcastInDim Cert.MergeRefIdeal.S16384x4x128 ![0, 1, 2] Cert.MergeRefIdeal.Gen.bcast_S1x1x128_S16384x4x128_0_1_2 (broadcastInDim Cert.MergeRefIdeal.S1x1x128 ![2] Cert.MergeRefIdeal.Gen.bcast_S128_S1x1x128_2 G))) (mulf (shapeCast Cert.MergeRefIdeal.S16384x4x128 (extractStridedSlice Cert.MergeRefIdeal.S16384x512 ![0, 3584] P Cert.MergeRefIdeal.Gen.slices_S16384x6272_S16384x512_0_3584) Cert.MergeRefIdeal.Gen.shapeCasts_S16384x512_S16384x4x128) (Host.divf (broadcastInDim Cert.MergeRefIdeal.S16384x4x128 ![] Cert.MergeRefIdeal.Gen.bcast_S_S16384x4x128 (constant Cert.MergeRefIdeal.S_ .f32 0x3F800000#32)) (addf (broadcastInDim Cert.MergeRefIdeal.S16384x4x128 ![] Cert.MergeRefIdeal.Gen.bcast_S_S16384x4x128 (constant Cert.MergeRefIdeal.S_ .f32 0x3F800000#32)) (Host.exp (Host.negf (shapeCast Cert.MergeRefIdeal.S16384x4x128 (extractStridedSlice Cert.MergeRefIdeal.S16384x512 ![0, 3584] P Cert.MergeRefIdeal.Gen.slices_S16384x6272_S16384x512_0_3584) Cert.MergeRefIdeal.Gen.shapeCasts_S16384x512_S16384x4x128))))))) Cert.MergeRefIdeal.Gen.shapeCasts_S16384x4x128_S16384x512

/-- The merge of the first branch `A` and the gated second branch `Q`, each through its matrix and gated by its
    columns of `P`; the sum through the output matrix, added to `X`. -/
abbrev JOIN (X : FVec Ideal S16384x1024 .f32) (A : FVec Ideal S16384x512 .bf16) (Q : FVec Ideal S16384x512 .f32) (P : FVec Ideal S16384x6272 .f32)
    (WA WB : FVec Ideal S512x1024 .f32) (WO : FVec Ideal S1024x1024 .f32) : FVec Ideal S16384x1024 .f32 :=
  addf X (Host.dotGeneral Cert.MergeRefIdeal.dot_S16384x1024_S1024x1024_S16384x1024_1_0_0_1_n_n none (addf (mulf (Host.divf (broadcastInDim Cert.MergeRefIdeal.S16384x1024 ![] Cert.MergeRefIdeal.Gen.bcast_S_S16384x1024 (constant Cert.MergeRefIdeal.S_ .f32 0x3F800000#32)) (addf (broadcastInDim Cert.MergeRefIdeal.S16384x1024 ![] Cert.MergeRefIdeal.Gen.bcast_S_S16384x1024 (constant Cert.MergeRefIdeal.S_ .f32 0x3F800000#32)) (Host.exp (Host.negf (extractStridedSlice Cert.MergeRefIdeal.S16384x1024 ![0, 4096] P Cert.MergeRefIdeal.Gen.slices_S16384x6272_S16384x1024_0_4096))))) (Host.dotGeneral Cert.MergeRefIdeal.dot_S16384x512_S512x1024_S16384x1024_1_0_0_1_n_n none (extf .f32 A bitsLt_bf16_f32) WA)) (mulf (Host.divf (broadcastInDim Cert.MergeRefIdeal.S16384x1024 ![] Cert.MergeRefIdeal.Gen.bcast_S_S16384x1024 (constant Cert.MergeRefIdeal.S_ .f32 0x3F800000#32)) (addf (broadcastInDim Cert.MergeRefIdeal.S16384x1024 ![] Cert.MergeRefIdeal.Gen.bcast_S_S16384x1024 (constant Cert.MergeRefIdeal.S_ .f32 0x3F800000#32)) (Host.exp (Host.negf (extractStridedSlice Cert.MergeRefIdeal.S16384x1024 ![0, 5120] P Cert.MergeRefIdeal.Gen.slices_S16384x6272_S16384x1024_0_5120))))) (Host.dotGeneral Cert.MergeRefIdeal.dot_S16384x512_S512x1024_S16384x1024_1_0_0_1_n_n none Q WB))) WO)

/-- The reference. -/
abbrev REF (X : FVec Ideal S16384x1024 .f32) (A : FVec Ideal S16384x512 .bf16) (OF OB : FVec Ideal S16384x512 .f32) (P : FVec Ideal S16384x6272 .f32)
    (G : FVec Ideal S128 .f32) (WA WB : FVec Ideal S512x1024 .f32) (WO : FVec Ideal S1024x1024 .f32) : FVec Ideal S16384x1024 .f32 :=
  JOIN X A (GATED OF OB P G) P WA WB WO

/-- Which block each window shows at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 7] ∧ win0_5.index t = ![t.val, 4] ∧ win0_6.index t = ![t.val, 5]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-- The block of the column group `z` at point `t`: rows `512 t …`, columns `3584 …` of the projections. -/
theorem x4 (c : Dev nD) (t : Fin cfg0.N) (i : Fin 512) (j : Fin 512) (k : Fin 16384) (l : Fin 6272)
    (hk : (k : ℕ) = t.val * 512 + i) (hl : (l : ℕ) = 3584 + j) :
    (X0_4 m c t : FVec Ideal S512x512 .f32) (ix2 i j) = (m ((c : Thread nD τ).loc main_arg4) : FVec Ideal S16384x6272 .f32) (ix2 k l) := by
  unfold X0_4 Pipeline.Window.fill
  rw [dif_pos (moved0_4 t _)]
  blk_point [iblk, V, idx t]

/-- The block of the first gate's columns at point `t`. -/
theorem x5 (c : Dev nD) (t : Fin cfg0.N) (i : Fin 512) (j : Fin 1024) (k : Fin 16384) (l : Fin 6272)
    (hk : (k : ℕ) = t.val * 512 + i) (hl : (l : ℕ) = 4096 + j) :
    (X0_5 m c t : FVec Ideal S512x1024 .f32) (ix2 i j) = (m ((c : Thread nD τ).loc main_arg4) : FVec Ideal S16384x6272 .f32) (ix2 k l) := by
  unfold X0_5 Pipeline.Window.fill
  rw [dif_pos (moved0_5 t _)]
  blk_point [iblk, V, idx t]

/-- The block of the second gate's columns at point `t`. -/
theorem x6 (c : Dev nD) (t : Fin cfg0.N) (i : Fin 512) (j : Fin 1024) (k : Fin 16384) (l : Fin 6272)
    (hk : (k : ℕ) = t.val * 512 + i) (hl : (l : ℕ) = 5120 + j) :
    (X0_6 m c t : FVec Ideal S512x1024 .f32) (ix2 i j) = (m ((c : Thread nD τ).loc main_arg4) : FVec Ideal S16384x6272 .f32) (ix2 k l) := by
  unfold X0_6 Pipeline.Window.fill
  rw [dif_pos (moved0_6 t _)]
  blk_point [iblk, V, idx t]

/-- The gain's block is the gain, at every point. -/
theorem gain (c : Dev nD) (t : Fin cfg0.N) (j q : Fin 128) (h : (q : ℕ) = j) :
    (iblk m c 7 t : FVec Ideal S1x128 .f32) (ix2 0 j) = (m ((c : Thread nD τ).loc main_arg5) : FVec Ideal S128 .f32) (ix1 q) := by
  blk_point [iblk, V, idx t]

/-- One head's gated columns, of the loads of its own columns: entry `(i, j)` of the head whose columns begin at `off`. -/
theorem head (c : Dev nD) (t : Fin cfg0.N) (a b z : FVec Ideal S512x128 .f32) (i : Fin 512) (j : Fin 128) (k : Fin 16384) (l : Fin 512) (off : ℕ)
    (hoff : off = 0 ∨ off = 128 ∨ off = 256 ∨ off = 384)
    (ha : ∀ (q : Fin 128) (l : Fin 512), (l : ℕ) = off + q → a (ix2 i q) = (m ((c : Thread nD τ).loc main_arg2) : FVec Ideal S16384x512 .f32) (ix2 k l))
    (hb : ∀ (q : Fin 128) (l : Fin 512), (l : ℕ) = off + q → b (ix2 i q) = (m ((c : Thread nD τ).loc main_arg3) : FVec Ideal S16384x512 .f32) (ix2 k l))
    (hz : ∀ (q : Fin 128) (l : Fin 6272), (l : ℕ) = 3584 + off + q → z (ix2 i q) = (m ((c : Thread nD τ).loc main_arg4) : FVec Ideal S16384x6272 .f32) (ix2 k l))
    (hl : (l : ℕ) = off + j) :
    k0_pay2 (F := Ideal) a b (iblk m c 7 t) z (ix2 i j)
      = GATED (m ((c : Thread nD τ).loc main_arg2)) (m ((c : Thread nD τ).loc main_arg3)) (m ((c : Thread nD τ).loc main_arg4))
          (m ((c : Thread nD τ).loc main_arg5)) (ix2 k l) := by
  have hlt := l.isLt
  have hj := j.isLt
  pointwise [k0_pay2, GATED]
  have eA : ∀ x : Fin 128, a (ix2 i x) = (m ((c : Thread nD τ).loc main_arg2) : FVec Ideal S16384x512 .f32) (ix2 k ⟨↑l / 128 * 128 + ↑x, by omega⟩) :=
    fun x => ha x _ (by show (l : ℕ) / 128 * 128 + x = _; omega)
  have eB : ∀ x : Fin 128, b (ix2 i x) = (m ((c : Thread nD τ).loc main_arg3) : FVec Ideal S16384x512 .f32) (ix2 k ⟨↑l / 128 * 128 + ↑x, by omega⟩) :=
    fun x => hb x _ (by show (l : ℕ) / 128 * 128 + x = _; omega)
  rw [hz j ⟨3584 + l, by omega⟩ (by show 3584 + (l : ℕ) = _; omega), gain m c t j ⟨(l : ℕ) % 128, by omega⟩ (by show (l : ℕ) % 128 = _; omega),
    ha j l hl, hb j l hl]
  simp only [eA, eB]
  rfl

/-- The columns of one head in a block, as a load from the column `off` on. -/
abbrev cols (X : Vec Ideal S512x512 .f32) (off : ℕ) (h : ∀ a, (![0, off] : Fin 2 → Nat) a + S512x128.size a ≤ S512x512.size a) : FVec Ideal S512x128 .f32 :=
  View.ld X (Rect.unit (s := S512x512) ![0, off] S512x128.size h)

/-- An entry of such a load is the block's entry `off` columns on. -/
theorem cols_at (X : Vec Ideal S512x512 .f32) (off : ℕ) (h : ∀ a, (![0, off] : Fin 2 → Nat) a + S512x128.size a ≤ S512x512.size a)
    (i : Fin 512) (q : Fin 128) (l : Fin 512) (hl : (l : ℕ) = off + q) :
    cols X off h (ix2 i q) = (X : FVec Ideal S512x512 .f32) (ix2 i l) :=
  View.ld_unit_apply_of X ![0, off] S512x128.size h (ix2 i q) (ix2 i l) fun a => by
    fin_cases a
    · exact (Nat.zero_add _).symm
    · exact hl

/-- The first direction's block is its rows `512 t …`. -/
theorem x2 (c : Dev nD) (t : Fin cfg0.N) (i : Fin 512) (l : Fin 512) (k : Fin 16384) (hk : (k : ℕ) = t.val * 512 + i) :
    (iblk m c 2 t : FVec Ideal S512x512 .f32) (ix2 i l) = (m ((c : Thread nD τ).loc main_arg2) : FVec Ideal S16384x512 .f32) (ix2 k l) := by
  blk_point [iblk, V, idx t]

/-- The second direction's block is its rows `512 t …`. -/
theorem x3 (c : Dev nD) (t : Fin cfg0.N) (i : Fin 512) (l : Fin 512) (k : Fin 16384) (hk : (k : ℕ) = t.val * 512 + i) :
    (iblk m c 3 t : FVec Ideal S512x512 .f32) (ix2 i l) = (m ((c : Thread nD τ).loc main_arg3) : FVec Ideal S16384x512 .f32) (ix2 k l) := by
  blk_point [iblk, V, idx t]

/-- One block's gated second branch: its four heads side by side. -/
abbrev HEADS (c : Dev nD) (t : Fin cfg0.N) : FVec Ideal S512x512 .bf16 :=
  concatenate S512x512 1
    [⟨S512x128, k0_pay2 (F := Ideal) (cols (iblk m c 2 t) 0 inb_S512x512_S512x128_0_0) (cols (iblk m c 3 t) 0 inb_S512x512_S512x128_0_0) (iblk m c 7 t) (cols (X0_4 m c t) 0 inb_S512x512_S512x128_0_0)⟩,
     ⟨S512x128, k0_pay2 (F := Ideal) (cols (iblk m c 2 t) 128 inb_S512x512_S512x128_0_128) (cols (iblk m c 3 t) 128 inb_S512x512_S512x128_0_128) (iblk m c 7 t) (cols (X0_4 m c t) 128 inb_S512x512_S512x128_0_128)⟩,
     ⟨S512x128, k0_pay2 (F := Ideal) (cols (iblk m c 2 t) 256 inb_S512x512_S512x128_0_256) (cols (iblk m c 3 t) 256 inb_S512x512_S512x128_0_256) (iblk m c 7 t) (cols (X0_4 m c t) 256 inb_S512x512_S512x128_0_256)⟩,
     ⟨S512x128, k0_pay2 (F := Ideal) (cols (iblk m c 2 t) 384 inb_S512x512_S512x128_0_384) (cols (iblk m c 3 t) 384 inb_S512x512_S512x128_0_384) (iblk m c 7 t) (cols (X0_4 m c t) 384 inb_S512x512_S512x128_0_384)⟩]
    concatenates_S512x128_S512x128_S512x128_S512x128_S512x512_d1

/-- One head at its place in the block is the gated branch at the array's place. -/
theorem head_at (c : Dev nD) (t : Fin cfg0.N) (off : ℕ) (h : ∀ a, (![0, off] : Fin 2 → Nat) a + S512x128.size a ≤ S512x512.size a)
    (hoff : off = 0 ∨ off = 128 ∨ off = 256 ∨ off = 384)
    (i : Fin 512) (k : Fin 16384) (hk : (k : ℕ) = t.val * 512 + i) (j : Fin 128) (l : Fin 512) (hl : (l : ℕ) = off + j) :
    k0_pay2 (F := Ideal) (cols (iblk m c 2 t) off h) (cols (iblk m c 3 t) off h) (iblk m c 7 t) (cols (X0_4 m c t) off h) (ix2 i j)
      = GATED (m ((c : Thread nD τ).loc main_arg2)) (m ((c : Thread nD τ).loc main_arg3)) (m ((c : Thread nD τ).loc main_arg4))
          (m ((c : Thread nD τ).loc main_arg5)) (ix2 k l) := by
  refine head m c t _ _ _ i j k l off hoff (fun q l hl => ?_) (fun q l hl => ?_) (fun q l hl => ?_) hl
  · exact (cols_at _ off h i q l hl).trans (x2 m c t i l k hk)
  · exact (cols_at _ off h i q l hl).trans (x3 m c t i l k hk)
  · have hq := q.isLt
    have hl' : off + (q : ℕ) < 512 := by omega
    exact (cols_at _ off h i q ⟨off + q, hl'⟩ rfl).trans (x4 m c t i ⟨off + q, hl'⟩ k l hk (by show _ = 3584 + (off + (q : ℕ)); omega))

/-- Four heads side by side, each agreeing with `Q` at its place, agree with `Q`. -/
theorem four (p0 p1 p2 p3 : FVec Ideal S512x128 .bf16) (Q : FVec Ideal S16384x512 .f32) (i : Fin 512) (k : Fin 16384)
    (h0 : ∀ (j : Fin 128) (l : Fin 512), (l : ℕ) = 0 + j → p0 (ix2 i j) = Q (ix2 k l))
    (h1 : ∀ (j : Fin 128) (l : Fin 512), (l : ℕ) = 128 + j → p1 (ix2 i j) = Q (ix2 k l))
    (h2 : ∀ (j : Fin 128) (l : Fin 512), (l : ℕ) = 256 + j → p2 (ix2 i j) = Q (ix2 k l))
    (h3 : ∀ (j : Fin 128) (l : Fin 512), (l : ℕ) = 384 + j → p3 (ix2 i j) = Q (ix2 k l)) (l : Fin 512) :
    concatenate S512x512 1 [⟨S512x128, p0⟩, ⟨S512x128, p1⟩, ⟨S512x128, p2⟩, ⟨S512x128, p3⟩]
      concatenates_S512x128_S512x128_S512x128_S512x128_S512x512_d1 (ix2 i l) = Q (ix2 k l) := by
  have hlt := l.isLt
  pointwise
  split_ifs <;> first
  | exact h0 ⟨(l : ℕ), by omega⟩ l (by show (l : ℕ) = 0 + l; omega)
  | exact h1 ⟨(l : ℕ) - 128, by omega⟩ l (by show (l : ℕ) = 128 + (l - 128); omega)
  | exact h2 ⟨(l : ℕ) - 128 - 128, by omega⟩ l (by show (l : ℕ) = 256 + (l - 128 - 128); omega)
  | exact h3 ⟨(l : ℕ) - 128 - 128 - 128, by omega⟩ l (by show (l : ℕ) = 384 + (l - 128 - 128 - 128); omega)

/-- The block's gated second branch is the array's at the block's place. -/
theorem heads_at (c : Dev nD) (t : Fin cfg0.N) (i : Fin 512) (k : Fin 16384) (hk : (k : ℕ) = t.val * 512 + i) (l : Fin 512) :
    HEADS m c t (ix2 i l)
      = GATED (m ((c : Thread nD τ).loc main_arg2)) (m ((c : Thread nD τ).loc main_arg3)) (m ((c : Thread nD τ).loc main_arg4))
          (m ((c : Thread nD τ).loc main_arg5)) (ix2 k l) :=
  four _ _ _ _ _ i k (head_at m c t 0 _ (by omega) i k hk) (head_at m c t 128 _ (by omega) i k hk)
    (head_at m c t 256 _ (by omega) i k hk) (head_at m c t 384 _ (by omega) i k hk) l

/-- What a block stores, of its gated second branch `q`. -/
abbrev STORE (q : FVec Ideal S512x512 .bf16) (v89 : FVec Ideal S512x512 .bf16) (v90 v93 : FVec Ideal S512x1024 .bf16)
    (v96 v99 v103 : FVec Ideal S512x1024 .f32) (v105 : FVec Ideal S1024x1024 .bf16) : FVec Ideal S512x1024 .f32 :=
  addf v103 (matmul dot_S512x1024_S1024x1024_S512x1024_1_0_0_1_n_n none
    (truncf .bf16 (addf (mulf (logistic v96) (matmul dot_S512x512_S512x1024_S512x1024_1_0_0_1_n_n none v89 (shapeCast S512x1024 v90 shapeCasts_S512x1024_S512x1024 : FVec Ideal S512x1024 .bf16) (constant S512x1024 .f32 0x00000000#32)))
      (mulf (logistic v99) (matmul dot_S512x512_S512x1024_S512x1024_1_0_0_1_n_n none q (shapeCast S512x1024 v93 shapeCasts_S512x1024_S512x1024 : FVec Ideal S512x1024 .bf16) (constant S512x1024 .f32 0x00000000#32)))) bitsLt_bf16_f32)
    (shapeCast S1024x1024 v105 shapeCasts_S1024x1024_S1024x1024 : FVec Ideal S1024x1024 .bf16) (constant S512x1024 .f32 0x00000000#32))

/-- One block's store is the reference at the block's place, of any second branch that agrees there. -/
theorem core (c : Dev nD) (t : Fin cfg0.N) (q : FVec Ideal S512x512 .bf16) (Q : FVec Ideal S16384x512 .f32) (i : Fin 512) (j : Fin 1024) (k : Fin 16384)
    (hk : (k : ℕ) = t.val * 512 + i) (hq : ∀ l : Fin 512, q (ix2 i l) = Q (ix2 k l)) :
    STORE q (iblk m c 1 t) (iblk m c 8 t) (iblk m c 9 t) (X0_5 m c t) (X0_6 m c t) (iblk m c 0 t) (iblk m c 10 t) (ix2 i j)
      = JOIN (m ((c : Thread nD τ).loc main_arg0)) (m ((c : Thread nD τ).loc main_arg1)) Q (m ((c : Thread nD τ).loc main_arg4))
          (m ((c : Thread nD τ).loc main_arg6)) (m ((c : Thread nD τ).loc main_arg7)) (m ((c : Thread nD τ).loc main_arg8)) (ix2 k j) := by
  pointwise [STORE, JOIN]
  have e5 : ∀ j : Fin 1024, (X0_5 m c t : FVec Ideal S512x1024 .f32) (ix2 i j) = (m ((c : Thread nD τ).loc main_arg4) : FVec Ideal S16384x6272 .f32) (ix2 k ⟨4096 + j, by omega⟩) :=
    fun j => x5 m c t i j k _ hk rfl
  have e6 : ∀ j : Fin 1024, (X0_6 m c t : FVec Ideal S512x1024 .f32) (ix2 i j) = (m ((c : Thread nD τ).loc main_arg4) : FVec Ideal S16384x6272 .f32) (ix2 k ⟨5120 + j, by omega⟩) :=
    fun j => x6 m c t i j k _ hk rfl
  simp only [hq, e5, e6, Ideal.logistic]
  blk_point [iblk, V, idx t]

/-- One point's store, at block index `y`, is the reference at the array index `y` sits at. -/
theorem point (c : Dev nD) (t : Fin cfg0.N) (y) : outsAt0 (F := Ideal) m c t y
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (((cfg0.win 11).blk t).view.emb y) := by
  obtain_idx z : S16384x1024 := [t.val * 512 + (y 0 : ℕ), (y 1 : ℕ)] with hz
  have e : (((cfg0.win 11).blk t).view.emb y : S16384x1024.Idx) = ix2 (z 0) (z 1) := by blk_ext [idx t]
  rw [e]
  unfold outsAt0
  frame_out
  have h := core m c t (HEADS m c t) _ (y 0) (y 1) (z 0) hz0 (heads_at m c t (y 0) (z 0) hz0)
  have e1 : z 1 = y 1 := Fin.ext hz1
  have ey : y = ix2 (y 0) (y 1) := by blk_ext
  rw [e1]
  refine Eq.trans ?_ h
  rw [ey]
  rfl

/-- The result array after the run is the reference of the arguments. -/
theorem result (c : Dev nD) : (dats m 0 c).arrAt 11 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (dats m 0 c).arrAt_eq_of_covers 11 _ (by decide +kernel) fun t _ y => ?_
  blk_simp
  rw [after0_11]
  exact point m c t y

end Cert.MergeIdeal.Join

end
-- ==== Proof.Final.Value.lean ====
/- The last RMS norm: after the kernel's run its result is the reference's composed term. -/
module

public import proofs.«01_k».proof.Proof.Gen.FinalIdeal.Frame
public import proofs.«01_k».proof.Proof.Gen.FinalRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalIdeal.Last

open Cert.FinalIdeal Cert.FinalIdeal.Gen

variable (m : (ℓ : Loc nD τ sig) → Buf (Elt Ideal) ℓ)

/-- The reference: the sum of its two arrays, each row divided by the root of its mean square, times the gain. -/
abbrev REF (X Y : FVec Ideal S16384x1024 .f32) (G : FVec Ideal S1024 .f32) : FVec Ideal S16384x1024 .f32 :=
  mulf (mulf (addf X Y) (broadcastInDim Cert.FinalRefIdeal.S16384x1024 ![0, 1] Cert.FinalRefIdeal.Gen.bcast_S16384x1_S16384x1024_0_1
    (Host.rsqrt (addf (Host.divf (broadcastInDim Cert.FinalRefIdeal.S16384x1 ![0] Cert.FinalRefIdeal.Gen.bcast_S16384_S16384x1_0
      (Host.reduceAdd (mulf (addf X Y) (addf X Y)) (constant Cert.FinalRefIdeal.S_ .f32 0x00000000#32)
        Cert.FinalRefIdeal.Gen.reducesTo_S16384x1024_S16384_d1 Cert.FinalRefIdeal.Gen.h_S_))
      (broadcastInDim Cert.FinalRefIdeal.S16384x1 ![] Cert.FinalRefIdeal.Gen.bcast_S_S16384x1 (constant Cert.FinalRefIdeal.S_ .f32 0x44800000#32)))
      (broadcastInDim Cert.FinalRefIdeal.S16384x1 ![] Cert.FinalRefIdeal.Gen.bcast_S_S16384x1 (constant Cert.FinalRefIdeal.S_ .f32 0x358637BD#32))))))
    (broadcastInDim Cert.FinalRefIdeal.S16384x1024 ![0, 1] Cert.FinalRefIdeal.Gen.bcast_S1x1024_S16384x1024_0_1
      (broadcastInDim Cert.FinalRefIdeal.S1x1024 ![1] Cert.FinalRefIdeal.Gen.bcast_S1024_S1x1024_1 G))

/-- Which block each window shows at point `t`. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- One point's store, at block index `y`, is the reference at the array index `y` sits at. -/
theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  pointwise [k0_pay1, REF]
  blk_point [iblk, V, idx t]

/-- The result array after the run is the reference of the arguments. -/
theorem result (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FinalIdeal.Last

end
-- ==== Proof.Prep.Ref.lean ====
/- The preparation of the second branch, as the reference composes it, and its entries. -/
module

public import proofs.«01_k».proof.Proof.Gen.PrepRefIdeal
public import Idealize.ShloMosaic.Lib.Pointwise

@[expose] public section

set_option maxRecDepth 16384

noncomputable section

open Idealize.ShloMosaic Idealize.ShloMosaic.TcCoe Idealize.SL.Sem

namespace Cert.PrepRefIdeal.Entry

open Cert.PrepRefIdeal Cert.PrepRefIdeal.Gen

/-- The first 1536 columns with two rows of zeros before and after. -/
abbrev PAD (P : FVec Ideal S1x16384x6272 .f32) : FVec Ideal S1x16388x1536 .f32 :=
  pad S1x16388x1536 ![0, 2, 0] ![0, 2, 0] ![0, 0, 0] (extractStridedSlice S1x16384x1536 ![0, 0, 0] P slices_S1x16384x6272_S1x16384x1536_0_0_0) (sitofp .f32 (constantI S_ 32 0#32)) pads_S1x16384x1536_S1x16388x1536_000_220_000 h_S_

/-- Row `q` of the convolution's weights, along every row of the array. -/
abbrev ROW (W : FVec Ideal S5x1536 .f32) (q : ℕ) (h : S5x1536.Slices ![q, 0] S1x1536) : FVec Ideal S1x16384x1536 .f32 :=
  broadcastInDim S1x16384x1536 ![0, 1, 2] bcast_S1x1x1536_S1x16384x1536_0_1_2 (broadcastInDim S1x1x1536 ![2] bcast_S1536_S1x1x1536_2 (shapeCast S1536 (extractStridedSlice S1x1536 ![q, 0] W h) shapeCasts_S1x1536_S1536))

/-- The convolution along the rows, of five shifted products. -/
abbrev CONV (P : FVec Ideal S1x16384x6272 .f32) (W : FVec Ideal S5x1536 .f32) : FVec Ideal S1x16384x1536 .f32 :=
  addf (addf (addf (addf (addf (broadcastInDim S1x16384x1536 ![] bcast_S_S1x16384x1536 (constant S_ .f32 0x00000000#32))
    (mulf (extractStridedSlice S1x16384x1536 ![0, 0, 0] (PAD P) slices_S1x16388x1536_S1x16384x1536_0_0_0) (ROW W 0 slices_S5x1536_S1x1536_0_0)))
    (mulf (extractStridedSlice S1x16384x1536 ![0, 1, 0] (PAD P) slices_S1x16388x1536_S1x16384x1536_0_1_0) (ROW W 1 slices_S5x1536_S1x1536_1_0)))
    (mulf (extractStridedSlice S1x16384x1536 ![0, 2, 0] (PAD P) slices_S1x16388x1536_S1x16384x1536_0_2_0) (ROW W 2 slices_S5x1536_S1x1536_2_0)))
    (mulf (extractStridedSlice S1x16384x1536 ![0, 3, 0] (PAD P) slices_S1x16388x1536_S1x16384x1536_0_3_0) (ROW W 3 slices_S5x1536_S1x1536_3_0)))
    (mulf (extractStridedSlice S1x16384x1536 ![0, 4, 0] (PAD P) slices_S1x16388x1536_S1x16384x1536_0_4_0) (ROW W 4 slices_S5x1536_S1x1536_4_0))

/-- `x / (1 + exp (-x))`. -/
abbrev SILU (X : FVec Ideal S1x16384x1536 .f32) : FVec Ideal S1x16384x1536 .f32 :=
  mulf X (Host.divf (broadcastInDim S1x16384x1536 ![] bcast_S_S1x16384x1536 (constant S_ .f32 0x3F800000#32)) (addf (broadcastInDim S1x16384x1536 ![] bcast_S_S1x16384x1536 (constant S_ .f32 0x3F800000#32)) (Host.exp (Host.negf X))))

/-- Each head's row divided by the root of its sum of squares. -/
abbrev NORM (X : FVec Ideal S1x16384x4x128 .f32) : FVec Ideal S1x16384x4x128 .f32 :=
  mulf X (broadcastInDim S1x16384x4x128 ![0, 1, 2, 3] bcast_S1x16384x4x1_S1x16384x4x128_0_1_2_3 (Host.rsqrt (addf (broadcastInDim S1x16384x4x1 ![0, 1, 2] bcast_S1x16384x4_S1x16384x4x1_0_1_2 (Host.reduceAdd (mulf X X) (constant S_ .f32 0x00000000#32) reducesTo_S1x16384x4x128_S1x16384x4_d3 h_S_)) (broadcastInDim S1x16384x4x1 ![] bcast_S_S1x16384x4x1 (constant S_ .f32 0x358637BD#32)))))

/-- The scaled queries of the convolved columns `Y`. -/
abbrev QS (Y : FVec Ideal S1x16384x1536 .f32) : FVec Ideal S1x16384x512 .f32 :=
  shapeCast S1x16384x512 (Host.divf (NORM (shapeCast S1x16384x4x128 (extractStridedSlice S1x16384x512 ![0, 0, 0] Y slices_S1x16384x1536_S1x16384x512_0_0_0) shapeCasts_S1x16384x512_S1x16384x4x128)) (broadcastInDim S1x16384x4x128 ![] bcast_S_S1x16384x4x128 (Host.sqrt (constant S_ .f32 0x43000000#32)))) shapeCasts_S1x16384x4x128_S1x16384x512

/-- The keys of the convolved columns `Y`. -/
abbrev KS (Y : FVec Ideal S1x16384x1536 .f32) : FVec Ideal S1x16384x512 .f32 :=
  shapeCast S1x16384x512 (NORM (shapeCast S1x16384x4x128 (extractStridedSlice S1x16384x512 ![0, 0, 512] Y slices_S1x16384x1536_S1x16384x512_0_0_512) shapeCasts_S1x16384x512_S1x16384x4x128)) shapeCasts_S1x16384x4x128_S1x16384x512

/-- Queries, keys and values of the convolved columns `Y`, side by side. -/
abbrev HEADS (Y : FVec Ideal S1x16384x1536 .f32) : FVec Ideal S1x16384x1536 .f32 :=
  concatenate S1x16384x1536 2 [⟨S1x16384x512, QS Y⟩, ⟨S1x16384x512, KS Y⟩, ⟨S1x16384x512, extractStridedSlice S1x16384x512 ![0, 0, 1024] Y slices_S1x16384x1536_S1x16384x512_0_0_1024⟩] concatenates_S1x16384x512_S1x16384x512_S1x16384x512_S1x16384x1536_d2

/-- The reference's first result. -/
abbrev REF0 (P : FVec Ideal S1x16384x6272 .f32) (W : FVec Ideal S5x1536 .f32) : FVec Ideal S1x16384x1536 .f32 :=
  HEADS (SILU (CONV P W))

/-- `max x 0 + log (1 + exp (-|x|))` of four columns. -/
abbrev SOFT4 (X : FVec Ideal S1x16384x4 .f32) : FVec Ideal S1x16384x4 .f32 :=
  select (cmpf .une (subf X (broadcastInDim S1x16384x4 ![] bcast_S_S1x16384x4 (constant S_ .f32 0x00000000#32))) (subf X (broadcastInDim S1x16384x4 ![] bcast_S_S1x16384x4 (constant S_ .f32 0x00000000#32)))) (addf X (broadcastInDim S1x16384x4 ![] bcast_S_S1x16384x4 (constant S_ .f32 0x00000000#32))) (addf (maximumf X (broadcastInDim S1x16384x4 ![] bcast_S_S1x16384x4 (constant S_ .f32 0x00000000#32))) (Host.log1p (Host.exp (Host.negf (Host.absf (subf X (broadcastInDim S1x16384x4 ![] bcast_S_S1x16384x4 (constant S_ .f32 0x00000000#32))))))))

/-- The same of the columns behind the gates. -/
abbrev SOFT112 (X : FVec Ideal S1x16384x112 .f32) : FVec Ideal S1x16384x112 .f32 :=
  select (cmpf .une (subf X (broadcastInDim S1x16384x112 ![] bcast_S_S1x16384x112 (constant S_ .f32 0x00000000#32))) (subf X (broadcastInDim S1x16384x112 ![] bcast_S_S1x16384x112 (constant S_ .f32 0x00000000#32)))) (addf X (broadcastInDim S1x16384x112 ![] bcast_S_S1x16384x112 (constant S_ .f32 0x00000000#32))) (addf (maximumf X (broadcastInDim S1x16384x112 ![] bcast_S_S1x16384x112 (constant S_ .f32 0x00000000#32))) (Host.log1p (Host.exp (Host.negf (Host.absf (subf X (broadcastInDim S1x16384x112 ![] bcast_S_S1x16384x112 (constant S_ .f32 0x00000000#32))))))))

/-- Row `d` of a table of two rows of four. -/
abbrev OF (A : FVec Ideal S2x4 .f32) (d : ℕ) (h : S2x4.Slices ![d, 0] S1x4) : FVec Ideal S4 .f32 :=
  shapeCast S4 (extractStridedSlice S1x4 ![d, 0] A h) shapeCasts_S1x4_S4

/-- Four numbers along every row. -/
abbrev ALONG (v : FVec Ideal S4 .f32) : FVec Ideal S1x16384x4 .f32 :=
  broadcastInDim S1x16384x4 ![0, 1, 2] bcast_S1x1x4_S1x16384x4_0_1_2 (broadcastInDim S1x1x4 ![2] bcast_S4_S1x1x4_2 v)

/-- The log decay of one direction, of its four columns `X`. -/
abbrev DECAY (X : FVec Ideal S1x16384x4 .f32) (a b : FVec Ideal S4 .f32) : FVec Ideal S1x16384x4 .f32 :=
  mulf (ALONG (Host.negf (Host.exp a))) (SOFT4 (addf X (ALONG b)))

/-- The reference's second result. -/
abbrev REF1 (P : FVec Ideal S1x16384x6272 .f32) (A B : FVec Ideal S2x4 .f32) : FVec Ideal S1x16384x128 .f32 :=
  concatenate S1x16384x128 2 [⟨S1x16384x8, Host.divf (broadcastInDim S1x16384x8 ![] bcast_S_S1x16384x8 (constant S_ .f32 0x3F800000#32)) (addf (broadcastInDim S1x16384x8 ![] bcast_S_S1x16384x8 (constant S_ .f32 0x3F800000#32)) (Host.exp (Host.negf (extractStridedSlice S1x16384x8 ![0, 0, 6144] P slices_S1x16384x6272_S1x16384x8_0_0_6144))))⟩,
    ⟨S1x16384x4, DECAY (extractStridedSlice S1x16384x4 ![0, 0, 6152] P slices_S1x16384x6272_S1x16384x4_0_0_6152) (OF A 0 slices_S2x4_S1x4_0_0) (OF B 0 slices_S2x4_S1x4_0_0)⟩,
    ⟨S1x16384x4, DECAY (extractStridedSlice S1x16384x4 ![0, 0, 6156] P slices_S1x16384x6272_S1x16384x4_0_0_6156) (OF A 1 slices_S2x4_S1x4_1_0) (OF B 1 slices_S2x4_S1x4_1_0)⟩,
    ⟨S1x16384x112, Host.negf (SOFT112 (extractStridedSlice S1x16384x112 ![0, 0, 6160] P slices_S1x16384x6272_S1x16384x112_0_0_6160))⟩] concatenates_S1x16384x8_S1x16384x4_S1x16384x4_S1x16384x112_S1x16384x128_d2

/-- The column `c` of the array at row `n - 8`, zero outside the array: the rows of a block with eight rows before it. -/
def row (P : FVec Ideal S1x16384x6272 .f32) (n : ℕ) (c : Fin 1536) : Ideal .f32 :=
  if h : 8 ≤ n ∧ n < 16392 then P (ix3 0 ⟨n - 8, by omega⟩ ⟨c, by omega⟩) else 0

/-- Five products, added one after the other. -/
def five (a w : Fin 5 → Ideal .f32) : Ideal .f32 := a 0 * w 0 + a 1 * w 1 + a 2 * w 2 + a 3 * w 3 + a 4 * w 4

/-- `x / (1 + exp (-x))`. -/
def silu (x : Ideal .f32) : Ideal .f32 := x * Ideal.div 1 (1 + Ideal.exp (-x))

/-- An entry of the convolved columns, of the array's rows. -/
def conv (P : FVec Ideal S1x16384x6272 .f32) (W : FVec Ideal S5x1536 .f32) (k : ℕ) (c : Fin 1536) : Ideal .f32 :=
  silu (five (fun q => row P (k + q + 6) c) fun q => W (ix2 q c))

/-- Column `c` of a row, divided by the root of the sum of squares of the 128 columns of its head. -/
def unit (y : Fin 1536 → Ideal .f32) (c : Fin 1536) : Ideal .f32 :=
  y c * Ideal.rsqrt (∑ x : Fin 128, y ⟨(c : ℕ) / 128 * 128 + x, by omega⟩ * y ⟨(c : ℕ) / 128 * 128 + x, by omega⟩ + Ideal.ofBits FTy.f32 0x358637BD#32)

/-- The scale of the queries, the reciprocal of the root of 128. -/
def scale : Ideal .f32 := (((Real.sqrt 128)⁻¹ : ℝ) : EReal)

/-- The word of 128. -/
theorem ofBits_128 : Ideal.ofBits FTy.f32 0x43000000#32 = ((128 : ℝ) : EReal) := by
  simp [Ideal.ofBits, Ideal.ieee, -EReal.coe_mul]; norm_num

/-- Divided by the root of 128 is scaled. -/
theorem over_root (x : Ideal .f32) : Ideal.div x (Ideal.sqrt (Ideal.ofBits FTy.f32 0x43000000#32)) = x * scale := by
  rw [ofBits_128, Ideal.sqrt_coe, if_neg (by norm_num), Ideal.div_coe (Real.sqrt_pos.mpr (by norm_num)).ne', one_div]
  rfl

/-- A row of the first result, of the row `y` of the convolved columns. -/
def heads (y : Fin 1536 → Ideal .f32) (c : Fin 1536) : Ideal .f32 :=
  if (c : ℕ) < 512 then unit y c * scale else if (c : ℕ) < 1024 then unit y c else y c

/-- `max x 0 + log (1 + exp (-|x|))`. -/
def soft (x : Ideal .f32) : Ideal .f32 := max x 0 + Ideal.log1p (Ideal.exp (-FloatOps.absf x))

theorem sitofp_zero : FloatOps.sitofp (F := Ideal) FTy.f32 (0#32) = (0 : Ideal .f32) := by
  simp [FloatOps.sitofp]

/-- A row two up from a padded row. -/
theorem row_of (P : FVec Ideal S1x16384x6272 .f32) (c : Fin 1536) (r n : ℕ) (h : n = r + 6) :
    (if h : 2 ≤ r ∧ r - 2 < 16384 then P (ix3 0 ⟨r - 2, h.2⟩ ⟨c, by omega⟩) else 0) = row P n c := by
  subst h
  unfold row
  by_cases h : 2 ≤ r ∧ r - 2 < 16384
  · rw [dif_pos h, dif_pos ⟨by omega, by omega⟩]
    congr 2
  · rw [dif_neg h, dif_neg (by omega)]

/-- The convolved columns' entries. -/
theorem conv_at (P : FVec Ideal S1x16384x6272 .f32) (W : FVec Ideal S5x1536 .f32) (k : Fin 16384) (c : Fin 1536) :
    SILU (CONV P W) (ix3 0 k c) = conv P W k c := by
  have e : CONV P W (ix3 0 k c) = five (fun q => row P (k + q + 6) c) fun q => W (ix2 q c) := by
    pointwise [CONV, ROW]
    rw [sitofp_zero]
    have hk := k.isLt
    unfold five
    congr 1; congr 1; congr 1; congr 1
    all_goals congr 1
    · exact row_of P c k (k + 0 + 6) (by omega)
    · exact row_of P c (1 + k) (k + 1 + 6) (by omega)
    · refine Eq.trans ?_ (row_of P c (2 + k) (k + 2 + 6) (by omega))
      rw [dif_pos ⟨by omega, by omega⟩]
      congr 2
      exact Fin.ext (by show (k : ℕ) = 2 + k - 2; omega)
    · exact row_of P c (3 + k) (k + 3 + 6) (by omega)
    · exact row_of P c (4 + k) (k + 4 + 6) (by omega)
  unfold conv
  rw [← e]
  generalize CONV P W = X
  pointwise [SILU]
  rfl

/-- The three groups of columns, each counted from its own first column. -/
theorem groups (y : Fin 1536 → Ideal .f32) (c : Fin 1536) :
    (if h : (c : ℕ) < 512 then
      y ⟨(c : ℕ) / 128 * 128 + (c : ℕ) % 128, by omega⟩ * Ideal.rsqrt (∑ x : Fin 128, y ⟨(c : ℕ) / 128 * 128 + x, by omega⟩ * y ⟨(c : ℕ) / 128 * 128 + x, by omega⟩ + Ideal.ofBits FTy.f32 0x358637BD#32) * scale
    else if h : (c : ℕ) - 512 < 512 then
      y ⟨512 + (((c : ℕ) - 512) / 128 * 128 + ((c : ℕ) - 512) % 128), by omega⟩ * Ideal.rsqrt (∑ x : Fin 128, y ⟨512 + (((c : ℕ) - 512) / 128 * 128 + x), by omega⟩ * y ⟨512 + (((c : ℕ) - 512) / 128 * 128 + x), by omega⟩ + Ideal.ofBits FTy.f32 0x358637BD#32)
    else y ⟨1024 + ((c : ℕ) - 512 - 512), by omega⟩) = heads y c := by
  have hc := c.isLt
  unfold heads unit
  by_cases h1 : (c : ℕ) < 512
  · have e : (⟨(c : ℕ) / 128 * 128 + c % 128, by omega⟩ : Fin 1536) = c := Fin.ext (by show (c : ℕ) / 128 * 128 + c % 128 = c; omega)
    rw [dif_pos h1, if_pos h1, e]
  rw [dif_neg h1, if_neg h1]
  by_cases h2 : (c : ℕ) - 512 < 512
  · have e : ∀ x : Fin 128, (⟨512 + (((c : ℕ) - 512) / 128 * 128 + x), by omega⟩ : Fin 1536) = ⟨(c : ℕ) / 128 * 128 + x, by omega⟩ :=
      fun x => Fin.ext (by show 512 + (((c : ℕ) - 512) / 128 * 128 + x) = (c : ℕ) / 128 * 128 + x; omega)
    have e' : (⟨512 + (((c : ℕ) - 512) / 128 * 128 + ((c : ℕ) - 512) % 128), by omega⟩ : Fin 1536) = c :=
      Fin.ext (by show 512 + (((c : ℕ) - 512) / 128 * 128 + ((c : ℕ) - 512) % 128) = c; omega)
    rw [dif_pos h2, if_pos (by omega), e']
    simp only [e]
  · have e : (⟨1024 + ((c : ℕ) - 512 - 512), by omega⟩ : Fin 1536) = c := Fin.ext (by show 1024 + ((c : ℕ) - 512 - 512) = c; omega)
    rw [dif_neg h2, if_neg (by omega), e]

/-- The first result's entries, of the convolved columns' rows. -/
theorem heads_at (Y : FVec Ideal S1x16384x1536 .f32) (k : Fin 16384) (c : Fin 1536) :
    HEADS Y (ix3 0 k c) = heads (fun l => Y (ix3 0 k l)) c := by
  refine Eq.trans ?_ (groups (fun l => Y (ix3 0 k l)) c)
  generalize he : (if h : (c : ℕ) < 512 then _ else _ : Ideal .f32) = e
  pointwise [HEADS, QS, KS, NORM]
  simp only [over_root]
  exact he

/-- The first result's entries, of the arguments. -/
theorem ref0_at (P : FVec Ideal S1x16384x6272 .f32) (W : FVec Ideal S5x1536 .f32) (k : Fin 16384) (c : Fin 1536) :
    REF0 P W (ix3 0 k c) = heads (conv P W k) c := by
  exact (heads_at (SILU (CONV P W)) k c).trans (congrArg (fun y => heads y c) (funext fun l => conv_at P W k l))

/-- A row of the second result, of the row `p` of the projections and the two tables. -/
def gates (p : Fin 6272 → Ideal .f32) (a b : Fin 2 → Fin 4 → Ideal .f32) (c : Fin 128) : Ideal .f32 :=
  if h : (c : ℕ) < 8 then Ideal.div 1 (1 + Ideal.exp (-p ⟨6144 + c, by omega⟩))
  else if h : (c : ℕ) - 8 < 4 then -Ideal.exp (a 0 ⟨c - 8, h⟩) * soft (p ⟨6152 + (c - 8), by omega⟩ + b 0 ⟨c - 8, h⟩)
  else if h : (c : ℕ) - 8 - 4 < 4 then -Ideal.exp (a 1 ⟨c - 8 - 4, h⟩) * soft (p ⟨6156 + (c - 8 - 4), by omega⟩ + b 1 ⟨c - 8 - 4, h⟩)
  else -soft (p ⟨6160 + (c - 8 - 4 - 4), by omega⟩)

/-- The second result's entries. -/
theorem ref1_at (P : FVec Ideal S1x16384x6272 .f32) (A B : FVec Ideal S2x4 .f32) (k : Fin 16384) (c : Fin 128) :
    REF1 P A B (ix3 0 k c) = gates (fun l => P (ix3 0 k l)) (fun d e => A (ix2 d e)) (fun d e => B (ix2 d e)) c := by
  generalize he : gates _ _ _ _ = e
  pointwise [REF1, DECAY, SOFT4, SOFT112, ALONG, OF]
  simp only [ne_eq, not_true_eq_false, if_false]
  exact he

end Cert.PrepRefIdeal.Entry

end
-- ==== Proof.Prep.Block.lean ====
/- What one block of the preparation's kernel stores, entry by entry. -/
module

public import proofs.«01_k».proof.Proof.Gen.PrepIdeal.Frame
public import proofs.«01_k».proof.Proof.Prep.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Block

open Cert.PrepIdeal Cert.PrepIdeal.Gen
open Cert.PrepRefIdeal.Entry (row five silu conv unit heads soft gates scale)

/-- The kernel's constant is the scale. -/
theorem named_scale : Named.named (F := Ideal) κ "inv_sqrt_dk" (φ := .f32) 0x3DB504F3#32 = scale :=
  IdealRules.named_const.ideal_named_scalar _ _ _ _ rfl

theorem first_point : ∀ n : Fin 32, Scalar.cmpi CmpIPredicate.eq (BitVec.ofNat 32 n) 0#32 = if (n : ℕ) = 0 then 1#1 else 0#1 := by decide

theorem last_point : ∀ n : Fin 32, Scalar.cmpi CmpIPredicate.eq (BitVec.ofNat 32 n) 31#32 = if (n : ℕ) = 31 then 1#1 else 0#1 := by decide

theorem lane_lt : ∀ n : Fin 128, IntOp.cmpi CmpIPredicate.slt (BitVec.ofNat 32 n) 8#32 = if (n : ℕ) < 8 then 1#1 else 0#1 := by decide +kernel

theorem select_ite {p : Prop} [Decidable p] (a b : Ideal .f32) : Scalar.select (if p then 1#1 else 0#1) a b = if p then a else b := by
  split_ifs <;> rfl

theorem select_first (i : grid0.Coords) (a b : Ideal .f32) : Scalar.select (Scalar.cmpi CmpIPredicate.eq (BitVec.ofNat 32 (i 1)) 0#32) a b = if (i 1 : ℕ) = 0 then a else b := by
  have e := first_point (i 1)
  rw [e, select_ite]

theorem select_last (i : grid0.Coords) (a b : Ideal .f32) : Scalar.select (Scalar.cmpi CmpIPredicate.eq (BitVec.ofNat 32 (i 1)) 31#32) a b = if (i 1 : ℕ) = 31 then a else b := by
  have e := last_point (i 1)
  rw [e, select_ite]

/-- The rows a block reads, its eight before and eight after included: the array's, zero outside it. -/
theorem ext_at (i : grid0.Coords) (v1 v6 : Vec Ideal S1x8x1536 .f32) (v10 : Vec Ideal S1x512x1536 .f32) (P : FVec Ideal S1x16384x6272 .f32) (c : Fin 1536)
    (h1 : ∀ r : Fin 8, (i 1 : ℕ) ≠ 0 → v1 (ix3 0 r c) = row P ((i 1 : ℕ) * 512 + r) c)
    (h10 : ∀ r : Fin 512, v10 (ix3 0 r c) = row P ((i 1 : ℕ) * 512 + (r + 8)) c)
    (h6 : ∀ r : Fin 8, (i 1 : ℕ) ≠ 31 → v6 (ix3 0 r c) = row P ((i 1 : ℕ) * 512 + (r + 520)) c) (r : Fin 528) :
    k0_pay2 (F := Ideal) i v1 v6 v10 (ix2 r c) = row P ((i 1 : ℕ) * 512 + r) c := by
  have hr := r.isLt
  pointwise [k0_pay2]
  by_cases e1 : (r : ℕ) < 8
  · rw [dif_pos e1]
    refine (select_first i _ _).trans ?_
    by_cases e : (i 1 : ℕ) = 0
    · rw [if_pos e]
      unfold row
      rw [dif_neg (by omega)]
    · rw [if_neg e]
      exact h1 ⟨r, e1⟩ e
  rw [dif_neg e1]
  by_cases e2 : (r : ℕ) - 8 < 512
  · rw [dif_pos e2]
    refine (h10 ⟨r - 8, e2⟩).trans ?_
    congr 1
    show (i 1 : ℕ) * 512 + ((r : ℕ) - 8 + 8) = _
    omega
  rw [dif_neg e2]
  refine (select_last i _ _).trans ?_
  by_cases e : (i 1 : ℕ) = 31
  · rw [if_pos e]
    unfold row
    rw [dif_neg (by omega)]
  · rw [if_neg e]
    refine (h6 ⟨r - 8 - 512, by omega⟩ e).trans ?_
    congr 1
    show (i 1 : ℕ) * 512 + ((r : ℕ) - 8 - 512 + 520) = _
    omega

/-- A block's convolved columns are the array's at the block's place. -/
theorem conv_at (i : grid0.Coords) (v1 v6 : Vec Ideal S1x8x1536 .f32) (v10 : Vec Ideal S1x512x1536 .f32) (w0 w1 w2 w3 w4 : Vec Ideal S1x1536 .f32)
    (P : FVec Ideal S1x16384x6272 .f32) (W : FVec Ideal S5x1536 .f32) (c : Fin 1536)
    (he : ∀ r : Fin 528, k0_pay2 (F := Ideal) i v1 v6 v10 (ix2 r c) = row P ((i 1 : ℕ) * 512 + r) c)
    (e0 : w0 (ix2 0 c) = W (ix2 0 c)) (e1 : w1 (ix2 0 c) = W (ix2 1 c)) (e2 : w2 (ix2 0 c) = W (ix2 2 c))
    (e3 : w3 (ix2 0 c) = W (ix2 3 c)) (e4 : w4 (ix2 0 c) = W (ix2 4 c)) (r : Fin 512) :
    k0_pay5 (F := Ideal) (k0_pay2 i v1 v6 v10) (k0_pay3 i v1 v6 v10 w0 w1 w2) (k0_pay4 i v1 v6 v10) w3 w4 (ix2 r c)
      = conv P W ((i 1 : ℕ) * 512 + r) c := by
  have hr := r.isLt
  unfold k0_pay3 k0_pay4
  generalize k0_pay2 (F := Ideal) i v1 v6 v10 = E at he
  pointwise [k0_pay5]
  simp only [he, e0, e1, e2, e3, e4, Ideal.logistic]
  have a0 : (8 + (r : ℕ) + 528 - 2) % 528 = r + 0 + 6 := by omega
  have a1 : (8 + (r : ℕ) + 528 - 1) % 528 = r + 1 + 6 := by omega
  have a2 : 8 + (r : ℕ) = r + 2 + 6 := by omega
  have a3 : (8 + (r : ℕ) + 528 - 527) % 528 = r + 3 + 6 := by omega
  have a4 : (8 + (r : ℕ) + 528 - 526) % 528 = r + 4 + 6 := by omega
  simp only [a0, a1, a3, a4]
  rw [a2]
  simp only [← Nat.add_assoc]
  rfl

/-- One head's columns with the scale of the queries. -/
theorem scaled (n : ℕ) (hn : n < 4) (y : Fin 1536 → Ideal .f32) (j : Fin 128) (l : Fin 1536) (hl : (l : ℕ) = 128 * n + j) (f : Fin 128 → Fin 1536) (hf : ∀ x, (f x : ℕ) = 128 * n + x) :
    y (f j) * Ideal.rsqrt (∑ x : Fin 128, y (f x) * y (f x) + Ideal.ofBits FTy.f32 0x358637BD#32) * Named.named (F := Ideal) κ "inv_sqrt_dk" (φ := .f32) 0x3DB504F3#32 = heads y l := by
  have hj := j.isLt
  rw [named_scale]
  unfold heads unit
  rw [if_pos (by omega)]
  have e : ∀ x : Fin 128, f x = ⟨(l : ℕ) / 128 * 128 + x, by omega⟩ := fun x => Fin.ext (by rw [hf]; show _ = (l : ℕ) / 128 * 128 + x; omega)
  have e' : f j = l := Fin.ext (by rw [hf, hl])
  rw [e']
  simp only [e]

/-- One head's columns without it. -/
theorem plain (n : ℕ) (hn : 4 ≤ n) (hn' : n < 8) (y : Fin 1536 → Ideal .f32) (j : Fin 128) (l : Fin 1536) (hl : (l : ℕ) = 128 * n + j) (f : Fin 128 → Fin 1536) (hf : ∀ x, (f x : ℕ) = 128 * n + x) :
    y (f j) * Ideal.rsqrt (∑ x : Fin 128, y (f x) * y (f x) + Ideal.ofBits FTy.f32 0x358637BD#32) = heads y l := by
  have hj := j.isLt
  unfold heads unit
  rw [if_neg (by omega), if_pos (by omega)]
  have e : ∀ x : Fin 128, f x = ⟨(l : ℕ) / 128 * 128 + x, by omega⟩ := fun x => Fin.ext (by rw [hf]; show _ = (l : ℕ) / 128 * 128 + x; omega)
  have e' : f j = l := Fin.ext (by rw [hf, hl])
  rw [e']
  simp only [e]

/-- The gates a block stores. -/
theorem gates_at (X : Vec Ideal S1x512x128 .f32) (a b : Vec Ideal S1x128 .f32) (r : Fin 512) (c : Fin 128)
    (p : Fin 6272 → Ideal .f32) (A B : Fin 2 → Fin 4 → Ideal .f32)
    (hX : ∀ l : Fin 6272, (l : ℕ) = 6144 + c → X (ix3 0 r c) = p l)
    (ha : ∀ (d : Fin 2) (e : Fin 4), (c : ℕ) = 8 + 4 * d + e → a (ix2 0 c) = A d e) (ha' : 16 ≤ (c : ℕ) → a (ix2 0 c) = 0)
    (hb : ∀ (d : Fin 2) (e : Fin 4), (c : ℕ) = 8 + 4 * d + e → b (ix2 0 c) = B d e) (hb' : 16 ≤ (c : ℕ) → b (ix2 0 c) = 0) :
    k0_pay1 (F := Ideal) X b a (ix3 0 r c) = gates p A B c := by
  have hc := c.isLt
  pointwise [k0_pay1]
  rw [lane_lt, select_ite]
  unfold gates
  by_cases h1 : (c : ℕ) < 8
  · rw [if_pos h1, dif_pos h1, hX ⟨6144 + c, by omega⟩ rfl, Ideal.logistic]
  rw [if_neg h1, dif_neg h1]
  by_cases h2 : (c : ℕ) - 8 < 4
  · rw [dif_pos h2, ha 0 ⟨c - 8, h2⟩ (by show (c : ℕ) = 8 + 4 * 0 + (c - 8); omega), hb 0 ⟨c - 8, h2⟩ (by show (c : ℕ) = 8 + 4 * 0 + (c - 8); omega),
      hX ⟨6152 + (c - 8), by omega⟩ (by show 6152 + ((c : ℕ) - 8) = _; omega)]
    simp only [zero_sub]
    rfl
  rw [dif_neg h2]
  by_cases h3 : (c : ℕ) - 8 - 4 < 4
  · rw [dif_pos h3, ha 1 ⟨c - 8 - 4, h3⟩ (by show (c : ℕ) = 8 + 4 * 1 + (c - 8 - 4); omega), hb 1 ⟨c - 8 - 4, h3⟩ (by show (c : ℕ) = 8 + 4 * 1 + (c - 8 - 4); omega),
      hX ⟨6156 + (c - 8 - 4), by omega⟩ (by show 6156 + ((c : ℕ) - 8 - 4) = _; omega)]
    simp only [zero_sub]
    rfl
  rw [dif_neg h3, ha' (by omega), hb' (by omega), hX ⟨6160 + (c - 8 - 4 - 4), by omega⟩ (by show 6160 + ((c : ℕ) - 8 - 4 - 4) = _; omega)]
  have e : Ideal.exp (0 : Ideal .f32) = 1 := by
    change ((Real.exp 0 : ℝ) : EReal) = 1
    simp
  rw [e]
  simp only [zero_sub, add_zero, neg_mul, one_mul]
  rfl

variable (m : (ℓ : Loc nD τ sig) → Buf (Elt Ideal) ℓ)

/-- The eight lanes of an array of two rows of four, after eight zeros and before 112 more. -/
abbrev LANES (A : FVec Ideal S2x4 .f32) : FVec Ideal S1x128 .f32 :=
  shapeCast S1x128 (concatenate S128 0
    [⟨S8, broadcastInDim S8 ![] bcast_S_S8 (constant S_ FTy.f32 0x00000000#32 : FVec Ideal S_ .f32)⟩,
     ⟨S4, shapeCast S4 (extractStridedSlice S1x4 ![0, 0] A slices_S2x4_S1x4_0_0) shapeCasts_S1x4_S4⟩,
     ⟨S4, shapeCast S4 (extractStridedSlice S1x4 ![1, 0] A slices_S2x4_S1x4_1_0) shapeCasts_S1x4_S4⟩,
     ⟨S112, broadcastInDim S112 ![] bcast_S_S112 (constant S_ FTy.f32 0x00000000#32 : FVec Ideal S_ .f32)⟩] concatenates_S8_S4_S4_S112_S128_d0) shapeCasts_S128_S1x128

theorem V_main_v7 (c : Dev nD) : V m c main_v7 = LANES (m ((c : Thread nD τ).loc main_arg2)) := by
  unfold V
  after_results_simp
  rfl

theorem V_main_v13 (c : Dev nD) : V m c main_v13 = LANES (m ((c : Thread nD τ).loc main_arg3)) := by
  unfold V
  after_results_simp
  rfl

/-- One of the 128 lanes. -/
def lane (A : Fin 2 → Fin 4 → Ideal .f32) (c : Fin 128) : Ideal .f32 :=
  if h : (c : ℕ) < 8 then 0 else if h' : (c : ℕ) - 8 < 4 then A 0 ⟨c - 8, h'⟩ else if h' : (c : ℕ) - 8 - 4 < 4 then A 1 ⟨c - 8 - 4, h'⟩ else 0

theorem lanes_at (A : FVec Ideal S2x4 .f32) (c : Fin 128) : LANES A (ix2 0 c) = lane (fun d e => A (ix2 d e)) c := by
  generalize he : lane (fun d e => A (ix2 d e)) c = e
  pointwise [LANES]
  exact he

theorem lane_in (A : Fin 2 → Fin 4 → Ideal .f32) (c : Fin 128) (d : Fin 2) (e : Fin 4) (h : (c : ℕ) = 8 + 4 * d + e) : lane A c = A d e := by
  have he := e.isLt
  unfold lane
  rw [dif_neg (by omega)]
  fin_cases d
  · change (c : ℕ) = 8 + 4 * 0 + e at h
    rw [dif_pos (by omega)]
    exact congrArg (A 0) (Fin.ext (by show (c : ℕ) - 8 = e; omega))
  · change (c : ℕ) = 8 + 4 * 1 + e at h
    rw [dif_neg (by omega), dif_pos (by omega)]
    exact congrArg (A 1) (Fin.ext (by show (c : ℕ) - 8 - 4 = e; omega))

theorem lane_out (A : Fin 2 → Fin 4 → Ideal .f32) (c : Fin 128) (h : 16 ≤ (c : ℕ)) : lane A c = 0 := by
  unfold lane
  rw [dif_neg (by omega), dif_neg (by omega), dif_neg (by omega)]

/-- Which block each window shows at point `t`. -/
theorem idx : ∀ t : Fin cfg0.N, win0_0.index t = ![0, 64 * t.val - 1, 0] ∧ win0_1.index t = ![0, t.val, 0] ∧ win0_2.index t = ![0, min (64 * (t.val + 1)) 2047, 0]
    ∧ win0_3.index t = ![0, t.val, 48] ∧ win0_4.index t = ![0, 0] ∧ win0_5.index t = ![0, 0] ∧ win0_6.index t = ![0, 0]
    ∧ win0_7.index t = ![0, t.val, 0] ∧ win0_8.index t = ![0, t.val, 0] :=
  (by decide +kernel : ∀ t : Fin grid0.N, _)

theorem coords : ∀ t : Fin cfg0.N, (grid0.coords t 1 : ℕ) = t.val :=
  (by decide +kernel : ∀ t : Fin grid0.N, _)

theorem alog (c : Dev nD) (t : Fin cfg0.N) (l : Fin 128) :
    (iblk m c 5 t : FVec Ideal S1x128 .f32) (ix2 0 l) = lane (fun d e => (m ((c : Thread nD τ).loc main_arg2) : FVec Ideal S2x4 .f32) (ix2 d e)) l := by
  have h : (iblk m c 5 t : FVec Ideal S1x128 .f32) (ix2 0 l) = (V m c main_v7 : FVec Ideal S1x128 .f32) (ix2 0 l) := by
    blk_point [iblk, idx t]
  rw [h, V_main_v7, lanes_at]

theorem dtb (c : Dev nD) (t : Fin cfg0.N) (l : Fin 128) :
    (iblk m c 6 t : FVec Ideal S1x128 .f32) (ix2 0 l) = lane (fun d e => (m ((c : Thread nD τ).loc main_arg3) : FVec Ideal S2x4 .f32) (ix2 d e)) l := by
  have h : (iblk m c 6 t : FVec Ideal S1x128 .f32) (ix2 0 l) = (V m c main_v13 : FVec Ideal S1x128 .f32) (ix2 0 l) := by
    blk_point [iblk, idx t]
  rw [h, V_main_v13, lanes_at]

/-- The column group of the gates at point `t`. -/
theorem small (c : Dev nD) (t : Fin cfg0.N) (i : Fin 512) (j : Fin 128) (k : Fin 16384) (l : Fin 6272)
    (hk : (k : ℕ) = t.val * 512 + i) (hl : (l : ℕ) = 6144 + j) :
    (iblk m c 3 t : FVec Ideal S1x512x128 .f32) (ix3 0 i j) = (m ((c : Thread nD τ).loc main_arg0) : FVec Ideal S1x16384x6272 .f32) (ix3 0 k l) := by
  have h : (iblk m c 3 t : FVec Ideal S1x512x128 .f32) (ix3 0 i j) = (V m c main_arg0 : FVec Ideal S1x16384x6272 .f32) (ix3 0 k l) := by
    blk_point [iblk, idx t]
  rw [h, V_main_arg0]

theorem weight (c : Dev nD) (t : Fin cfg0.N) (q : Fin 5) (j : Fin 1536) :
    (iblk m c 4 t : FVec Ideal S5x1536 .f32) (ix2 q j) = (m ((c : Thread nD τ).loc main_arg1) : FVec Ideal S5x1536 .f32) (ix2 q j) := by
  have h : (iblk m c 4 t : FVec Ideal S5x1536 .f32) (ix2 q j) = (V m c main_arg1 : FVec Ideal S5x1536 .f32) (ix2 q j) := by
    blk_point [iblk, idx t]
  rw [h, V_main_arg1]

/-- The block's own rows at point `t`. -/
theorem cur (c : Dev nD) (t : Fin cfg0.N) (i : Fin 512) (j : Fin 1536) :
    (X0_1 m c t : FVec Ideal S1x512x1536 .f32) (ix3 0 i j) = row (m ((c : Thread nD τ).loc main_arg0)) (t.val * 512 + (i + 8)) j := by
  have ht : t.val < 32 := t.isLt
  have hi := i.isLt
  unfold row
  rw [dif_pos (by omega)]
  obtain_idx k : S1x16384x6272 := [0, t.val * 512 + (i + 8) - 8, (j : ℕ)] with hk
  have h : (X0_1 m c t : FVec Ideal S1x512x1536 .f32) (ix3 0 i j) = (V m c main_arg0 : FVec Ideal S1x16384x6272 .f32) (ix3 0 (k 1) (k 2)) := by
    unfold X0_1 Pipeline.Window.fill
    rw [dif_pos (moved0_1 t _)]
    blk_point [iblk, idx t]
  rw [h, V_main_arg0]
  congr 1
  blk_ext

/-- The eight rows before. -/
theorem prev (c : Dev nD) (t : Fin cfg0.N) (i : Fin 8) (j : Fin 1536) (h0 : t.val ≠ 0) :
    (X0_0 m c t : FVec Ideal S1x8x1536 .f32) (ix3 0 i j) = row (m ((c : Thread nD τ).loc main_arg0)) (t.val * 512 + i) j := by
  have ht : t.val < 32 := t.isLt
  have hi := i.isLt
  unfold row
  rw [dif_pos (by omega)]
  obtain_idx k : S1x16384x6272 := [0, t.val * 512 + i - 8, (j : ℕ)] with hk
  have h : (X0_0 m c t : FVec Ideal S1x8x1536 .f32) (ix3 0 i j) = (V m c main_arg0 : FVec Ideal S1x16384x6272 .f32) (ix3 0 (k 1) (k 2)) := by
    unfold X0_0 Pipeline.Window.fill
    rw [dif_pos (moved0_0 t _)]
    blk_point [iblk, idx t]
  rw [h, V_main_arg0]
  congr 1
  blk_ext

/-- The eight rows after. -/
theorem following (c : Dev nD) (t : Fin cfg0.N) (i : Fin 8) (j : Fin 1536) (h0 : t.val ≠ 31) :
    (X0_2 m c t : FVec Ideal S1x8x1536 .f32) (ix3 0 i j) = row (m ((c : Thread nD τ).loc main_arg0)) (t.val * 512 + (i + 520)) j := by
  have ht : t.val < 32 := t.isLt
  have hi := i.isLt
  unfold row
  rw [dif_pos (by omega)]
  obtain_idx k : S1x16384x6272 := [0, t.val * 512 + (i + 520) - 8, (j : ℕ)] with hk
  have h : (X0_2 m c t : FVec Ideal S1x8x1536 .f32) (ix3 0 i j) = (V m c main_arg0 : FVec Ideal S1x16384x6272 .f32) (ix3 0 (k 1) (k 2)) := by
    unfold X0_2 Pipeline.Window.fill
    rw [dif_pos (moved0_2 t _)]
    blk_point [iblk, idx t]
  rw [h, V_main_arg0]
  congr 1
  blk_ext

end Cert.PrepIdeal.Block

end
-- ==== Proof.Prep.Value.lean ====
/- The preparation: after the kernel's run its two results are the reference's composed terms. -/
module

public import proofs.«01_k».proof.Proof.Prep.Block

@[expose] public section

set_option maxRecDepth 16384

noncomputable section

open Idealize.ShloMosaic Idealize.ShloMosaic.TcCoe Idealize.SL.Sem
open Idealize.ShloMosaic.Pipeline (Dat)

namespace Cert.PrepIdeal.Block

open Cert.PrepIdeal Cert.PrepIdeal.Gen
open Cert.PrepRefIdeal.Entry (row five silu conv unit heads soft gates REF0 REF1 ref0_at ref1_at)

variable (m : (ℓ : Loc nD τ sig) → Buf (Elt Ideal) ℓ)

/-- A place of a stored head, from its row. -/
theorem place (x : S1x512x128.Idx) (r : Fin 512) (h : (r : ℕ) = x 1) : x = ix3 0 r (x 2) := by
  funext a
  fin_cases a
  · exact Subsingleton.elim (α := Fin 1) _ _
  · exact Fin.ext h.symm
  · rfl

section Stored

variable (v12 : FVec Ideal S528x1536 .f32) (v30 v32 : FVec Ideal S512x1536 .f32) (v33 v39 : Vec Ideal S1x1536 .f32)
  (Y : FVec Ideal S512x1536 .f32) (hY : k0_pay5 (F := Ideal) v12 v30 v32 v33 v39 = Y) (f : Fin 1536 → Ideal .f32) (r : Fin 512) (hy : ∀ l, Y (ix2 r l) = f l)
  (x : S1x512x128.Idx) (h1 : (r : ℕ) = x 1) (l : Fin 1536)

include hY hy h1 in
/-- Head 0 of the stored columns. -/
theorem head0 (h2 : (l : ℕ) = 0 + x 2) : k0_pay6 (F := Ideal) v12 v30 v32 v33 v39 x = heads f l := by
  have hx : (x 2 : ℕ) < 128 := (x 2).isLt
  rw [place x r h1]
  generalize (x 2 : Fin 128) = j at h2 hx
  pointwise [k0_pay6, hY]
  simp only [hy]
  exact scaled 0 (by decide) f j l h2 (fun q => ⟨q, by omega⟩) fun q => (Nat.zero_add _).symm

include hY hy h1 in
/-- Head 1 of the stored columns. -/
theorem head1 (h2 : (l : ℕ) = 128 + x 2) : k0_pay7 (F := Ideal) v12 v30 v32 v33 v39 x = heads f l := by
  have hx : (x 2 : ℕ) < 128 := (x 2).isLt
  rw [place x r h1]
  generalize (x 2 : Fin 128) = j at h2 hx
  pointwise [k0_pay7, hY]
  simp only [hy]
  exact scaled 1 (by decide) f j l h2 (fun q => ⟨128 + q, by omega⟩) fun q => rfl

include hY hy h1 in
/-- Head 2 of the stored columns. -/
theorem head2 (h2 : (l : ℕ) = 256 + x 2) : k0_pay10 (F := Ideal) (k0_pay8 v12 v30 v32 v33 v39) (k0_pay9 v12 v30 v32 v33 v39) x = heads f l := by
  have hx : (x 2 : ℕ) < 128 := (x 2).isLt
  rw [place x r h1]
  generalize (x 2 : Fin 128) = j at h2 hx
  pointwise [k0_pay10, k0_pay9, k0_pay8, hY]
  simp only [hy]
  exact scaled 2 (by decide) f j l h2 (fun q => ⟨256 + q, by omega⟩) fun q => rfl

include hy h1 in
/-- Head 3 of the stored columns. -/
theorem head3 (h2 : (l : ℕ) = 384 + x 2) : k0_pay11 (F := Ideal) Y x = heads f l := by
  have hx : (x 2 : ℕ) < 128 := (x 2).isLt
  rw [place x r h1]
  generalize (x 2 : Fin 128) = j at h2 hx
  pointwise [k0_pay11]
  simp only [hy]
  exact scaled 3 (by decide) f j l h2 (fun q => ⟨384 + q, by omega⟩) fun q => rfl

include hy h1 in
/-- Head 4 of the stored columns. -/
theorem head4 (h2 : (l : ℕ) = 512 + x 2) : k0_pay12 (F := Ideal) Y x = heads f l := by
  have hx : (x 2 : ℕ) < 128 := (x 2).isLt
  rw [place x r h1]
  generalize (x 2 : Fin 128) = j at h2 hx
  pointwise [k0_pay12]
  simp only [hy]
  exact plain 4 (by decide) (by decide) f j l h2 (fun q => ⟨512 + q, by omega⟩) fun q => rfl

include hy h1 in
/-- Head 5 of the stored columns. -/
theorem head5 (h2 : (l : ℕ) = 640 + x 2) : k0_pay15 (F := Ideal) (k0_pay13 Y) (k0_pay14 Y) x = heads f l := by
  have hx : (x 2 : ℕ) < 128 := (x 2).isLt
  rw [place x r h1]
  generalize (x 2 : Fin 128) = j at h2 hx
  pointwise [k0_pay15, k0_pay14, k0_pay13]
  simp only [hy]
  exact plain 5 (by decide) (by decide) f j l h2 (fun q => ⟨640 + q, by omega⟩) fun q => rfl

include hy h1 in
/-- Head 6 of the stored columns. -/
theorem head6 (h2 : (l : ℕ) = 768 + x 2) : k0_pay16 (F := Ideal) Y x = heads f l := by
  have hx : (x 2 : ℕ) < 128 := (x 2).isLt
  rw [place x r h1]
  generalize (x 2 : Fin 128) = j at h2 hx
  pointwise [k0_pay16]
  simp only [hy]
  exact plain 6 (by decide) (by decide) f j l h2 (fun q => ⟨768 + q, by omega⟩) fun q => rfl

include hy h1 in
/-- Head 7 of the stored columns. -/
theorem head7 (h2 : (l : ℕ) = 896 + x 2) : k0_pay17 (F := Ideal) Y x = heads f l := by
  have hx : (x 2 : ℕ) < 128 := (x 2).isLt
  rw [place x r h1]
  generalize (x 2 : Fin 128) = j at h2 hx
  pointwise [k0_pay17]
  simp only [hy]
  exact plain 7 (by decide) (by decide) f j l h2 (fun q => ⟨896 + q, by omega⟩) fun q => rfl

include hy in
/-- The rest of the stored columns. -/
theorem rest (x : S1x512x512.Idx) (h1 : (r : ℕ) = x 1) (h2 : (l : ℕ) = 1024 + x 2) : k0_pay18 (F := Ideal) Y x = heads f l := by
  have hx : (x 2 : ℕ) < 512 := (x 2).isLt
  have e : x = ix3 0 r (x 2) := by
    funext a
    fin_cases a
    · exact Subsingleton.elim (α := Fin 1) _ _
    · exact Fin.ext h1.symm
    · rfl
  rw [e]
  generalize (x 2 : Fin 512) = j at h2 hx
  pointwise [k0_pay18]
  rw [hy]
  unfold heads
  rw [if_neg (by omega), if_neg (by omega)]
  exact congrArg f (Fin.ext h2.symm)

end Stored

/-- A row of the convolution's weights as it is loaded. -/
theorem loaded (c : Dev nD) (t : Fin cfg0.N) (q : Fin 5) (inb) (l : Fin 1536) :
    (View.ld (iblk m c 4 t) (Rect.unit (s := S5x1536) ![(q : ℕ), 0] S1x1536.size inb) : FVec Ideal S1x1536 .f32) (ix2 0 l)
      = (m ((c : Thread nD τ).loc main_arg1) : FVec Ideal S5x1536 .f32) (ix2 q l) :=
  (View.ld_unit_apply_of (S := S5x1536) (iblk m c 4 t) ![(q : ℕ), 0] S1x1536.size inb (ix2 0 l) (ix2 q l) fun a => by
    fin_cases a
    · rfl
    · exact (Nat.zero_add _).symm).trans (weight m c t q l)

/-- The convolved columns of a block at point `t`. -/
theorem columns (c : Dev nD) (t : Fin cfg0.N) (r : Fin 512) (l : Fin 1536) :
    k0_pay5 (F := Ideal) (k0_pay2 (grid0.coords t) (X0_0 m c t) (X0_2 m c t) (X0_1 m c t))
        (k0_pay3 (grid0.coords t) (X0_0 m c t) (X0_2 m c t) (X0_1 m c t)
          (View.ld (iblk m c 4 t) (Rect.unit ![0, 0] ![1, 1536] inb_S5x1536_S1x1536_0_0))
          (View.ld (iblk m c 4 t) (Rect.unit ![1, 0] ![1, 1536] inb_S5x1536_S1x1536_1_0))
          (View.ld (iblk m c 4 t) (Rect.unit ![2, 0] ![1, 1536] inb_S5x1536_S1x1536_2_0)))
        (k0_pay4 (grid0.coords t) (X0_0 m c t) (X0_2 m c t) (X0_1 m c t))
        (View.ld (iblk m c 4 t) (Rect.unit ![3, 0] ![1, 1536] inb_S5x1536_S1x1536_3_0))
        (View.ld (iblk m c 4 t) (Rect.unit ![4, 0] ![1, 1536] inb_S5x1536_S1x1536_4_0)) (ix2 r l)
      = conv (m ((c : Thread nD τ).loc main_arg0)) (m ((c : Thread nD τ).loc main_arg1)) (t.val * 512 + r) l := by
  have h := conv_at (grid0.coords t) (X0_0 m c t) (X0_2 m c t) (X0_1 m c t) _ _ _ _ _ (m ((c : Thread nD τ).loc main_arg0)) (m ((c : Thread nD τ).loc main_arg1)) l
    (ext_at (grid0.coords t) (X0_0 m c t) (X0_2 m c t) (X0_1 m c t) (m ((c : Thread nD τ).loc main_arg0)) l
      (fun i e => by rw [coords] at e ⊢; exact prev m c t i l e) (fun i => by rw [coords]; exact cur m c t i l)
      (fun i e => by rw [coords] at e ⊢; exact following m c t i l e))
    (loaded m c t 0 inb_S5x1536_S1x1536_0_0 l) (loaded m c t 1 inb_S5x1536_S1x1536_1_0 l) (loaded m c t 2 inb_S5x1536_S1x1536_2_0 l)
    (loaded m c t 3 inb_S5x1536_S1x1536_3_0 l) (loaded m c t 4 inb_S5x1536_S1x1536_4_0 l) r
  rw [coords] at h
  exact h

/-- One point's gates, at block index `y`, are the reference's at the array index `y` sits at. -/
theorem point8 (c : Dev nD) (t : Fin cfg0.N) (y) : (outsAt0 (F := Ideal) m c t).2 y
    = REF1 (m ((c : Thread nD τ).loc main_arg0)) (m ((c : Thread nD τ).loc main_arg2)) (m ((c : Thread nD τ).loc main_arg3)) (((cfg0.win 8).blk t).view.emb y) := by
  obtain_idx z : S1x16384x128 := [0, t.val * 512 + (y 1 : ℕ), (y 2 : ℕ)] with hz
  have e : (((cfg0.win 8).blk t).view.emb y : S1x16384x128.Idx) = ix3 0 (z 1) (z 2) := by blk_ext [idx t]
  have ey : y = ix3 0 (y 1) (y 2) := by blk_ext
  rw [e]
  refine Eq.trans ?_ (ref1_at _ _ _ (z 1) (z 2)).symm
  have e2 : z 2 = y 2 := Fin.ext hz2
  rw [e2]
  have h := gates_at (iblk m c 3 t) (iblk m c 5 t) (iblk m c 6 t) (y 1) (y 2)
    (fun l => (m ((c : Thread nD τ).loc main_arg0) : FVec Ideal S1x16384x6272 .f32) (ix3 0 (z 1) l))
    (fun d e => (m ((c : Thread nD τ).loc main_arg2) : FVec Ideal S2x4 .f32) (ix2 d e))
    (fun d e => (m ((c : Thread nD τ).loc main_arg3) : FVec Ideal S2x4 .f32) (ix2 d e))
    (fun l hl => small m c t (y 1) (y 2) (z 1) l hz1 hl)
    (fun d e h => (alog m c t (y 2)).trans (lane_in _ _ d e h)) (fun h => (alog m c t (y 2)).trans (lane_out _ _ h))
    (fun d e h => (dtb m c t (y 2)).trans (lane_in _ _ d e h)) (fun h => (dtb m c t (y 2)).trans (lane_out _ _ h))
  refine Eq.trans ?_ h
  unfold outsAt0
  frame_out
  rw [ey]
  rfl

/-- One point's convolved columns, at block index `y`, are the reference's at the array index `y` sits at. -/
theorem point7 (c : Dev nD) (t : Fin cfg0.N) (y) : (outsAt0 (F := Ideal) m c t).1 y
    = REF0 (m ((c : Thread nD τ).loc main_arg0)) (m ((c : Thread nD τ).loc main_arg1)) (((cfg0.win 7).blk t).view.emb y) := by
  obtain_idx z : S1x16384x1536 := [0, t.val * 512 + (y 1 : ℕ), (y 2 : ℕ)] with hz
  have e : (((cfg0.win 7).blk t).view.emb y : S1x16384x1536.Idx) = ix3 0 (z 1) (z 2) := by blk_ext [idx t]
  have ey : y = ix3 0 (y 1) (y 2) := by blk_ext
  rw [e]
  refine Eq.trans ?_ (ref0_at _ _ (z 1) (z 2)).symm
  have e2 : z 2 = y 2 := Fin.ext hz2
  rw [e2, hz1]
  unfold outsAt0
  frame_out
  canon_tiles x h using View.cover_of_tiledBy _ ![1, 512, 128] (by sl_kernel_rfl) y
  · exact rest _ _ (y 1) (columns m c t (y 1)) (y 2) x h1 h2
  · exact head7 _ _ (y 1) (columns m c t (y 1)) x h1 (y 2) h2
  · exact head6 _ _ (y 1) (columns m c t (y 1)) x h1 (y 2) h2
  · exact head5 _ _ (y 1) (columns m c t (y 1)) x h1 (y 2) h2
  · exact head4 _ _ (y 1) (columns m c t (y 1)) x h1 (y 2) h2
  · exact head3 _ _ (y 1) (columns m c t (y 1)) x h1 (y 2) h2
  · exact head2 _ _ _ _ _ _ rfl _ (y 1) (columns m c t (y 1)) x h1 (y 2) h2
  · exact head1 _ _ _ _ _ _ rfl _ (y 1) (columns m c t (y 1)) x h1 (y 2) h2
  · exact head0 _ _ _ _ _ _ rfl _ (y 1) (columns m c t (y 1)) x h1 (y 2) (h2.trans (Nat.zero_add _).symm)

/-- The convolved columns after the run are the reference's. -/
theorem result7 (c : Dev nD) : (dats m 0 c).arrAt 7 (cfgs 0).N
    = REF0 (m ((c : Thread nD τ).loc main_arg0)) (m ((c : Thread nD τ).loc main_arg1)) := by
  refine (dats m 0 c).arrAt_eq_of_covers 7 _ (by decide +kernel) fun t _ y => ?_
  blk_simp
  rw [after0_7]
  exact point7 m c t y

/-- The gates after the run are the reference's. -/
theorem result8 (c : Dev nD) : (dats m 0 c).arrAt 8 (cfgs 0).N
    = REF1 (m ((c : Thread nD τ).loc main_arg0)) (m ((c : Thread nD τ).loc main_arg2)) (m ((c : Thread nD τ).loc main_arg3)) := by
  refine (dats m 0 c).arrAt_eq_of_covers 8 _ (by decide +kernel) fun t _ y => ?_
  blk_simp
  rw [after0_8]
  exact point8 m c t y

end Cert.PrepIdeal.Block

end
-- ==== Proof.InProjP.Value.lean ====
/- The projection: after the kernel's run its result is the reference's composed term. -/
module

public import proofs.«01_k».proof.Proof.Gen.InProjPIdeal.Frame
public import proofs.«01_k».proof.Proof.Gen.InProjPRefIdeal
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.InProjPIdeal.Proj

open Cert.InProjPIdeal Cert.InProjPIdeal.Gen

variable (m : (ℓ : Loc nD τ sig) → Buf (Elt Ideal) ℓ)

/-- The normalized rows: each row divided by the root of its mean square, times the gain. -/
abbrev NORM (X : FVec Ideal S65536x1024 .f32) (G : FVec Ideal S1024 .f32) : FVec Ideal S65536x1024 .f32 :=
  mulf (mulf X (broadcastInDim Cert.InProjPRefIdeal.S65536x1024 ![0, 1] Cert.InProjPRefIdeal.Gen.bcast_S65536x1_S65536x1024_0_1
    (Host.rsqrt (addf (Host.divf (broadcastInDim Cert.InProjPRefIdeal.S65536x1 ![0] Cert.InProjPRefIdeal.Gen.bcast_S65536_S65536x1_0
      (Host.reduceAdd (mulf X X) (constant Cert.InProjPRefIdeal.S_ .f32 0x00000000#32)
        Cert.InProjPRefIdeal.Gen.reducesTo_S65536x1024_S65536_d1 Cert.InProjPRefIdeal.Gen.h_S_))
      (broadcastInDim Cert.InProjPRefIdeal.S65536x1 ![] Cert.InProjPRefIdeal.Gen.bcast_S_S65536x1 (constant Cert.InProjPRefIdeal.S_ .f32 0x44800000#32)))
      (broadcastInDim Cert.InProjPRefIdeal.S65536x1 ![] Cert.InProjPRefIdeal.Gen.bcast_S_S65536x1 (constant Cert.InProjPRefIdeal.S_ .f32 0x358637BD#32))))))
    (broadcastInDim Cert.InProjPRefIdeal.S65536x1024 ![0, 1] Cert.InProjPRefIdeal.Gen.bcast_S1x1024_S65536x1024_0_1
      (broadcastInDim Cert.InProjPRefIdeal.S1x1024 ![1] Cert.InProjPRefIdeal.Gen.bcast_S1024_S1x1024_1 G))

/-- The rows' projections by the matrix `W`, its columns in their own order. -/
abbrev PROJ (X : FVec Ideal S65536x1024 .f32) (W : FVec Ideal S1024x6160 .f32) : FVec Ideal Cert.InProjPRefIdeal.S65536x6160 .f32 :=
  Host.dotGeneral Cert.InProjPRefIdeal.dot_S65536x1024_S1024x6160_S65536x6160_1_0_0_1_n_n none X W

/-- The projections of the rows `A`, their column groups put in the order in which later calls read them, zeros behind. -/
abbrev CAT (A : FVec Ideal S65536x1024 .f32) (W : FVec Ideal S1024x6160 .f32) :
    FVec Ideal S65536x6272 .f32 :=
  concatenate Cert.InProjPRefIdeal.S65536x6272 1
    [⟨Cert.InProjPRefIdeal.S65536x1536, extractStridedSlice Cert.InProjPRefIdeal.S65536x1536 ![0, 2048] (PROJ A W) Cert.InProjPRefIdeal.Gen.slices_S65536x6160_S65536x1536_0_2048⟩,
     ⟨Cert.InProjPRefIdeal.S65536x2048, extractStridedSlice Cert.InProjPRefIdeal.S65536x2048 ![0, 0] (PROJ A W) Cert.InProjPRefIdeal.Gen.slices_S65536x6160_S65536x2048_0_0⟩,
     ⟨Cert.InProjPRefIdeal.S65536x512, extractStridedSlice Cert.InProjPRefIdeal.S65536x512 ![0, 3584] (PROJ A W) Cert.InProjPRefIdeal.Gen.slices_S65536x6160_S65536x512_0_3584⟩,
     ⟨Cert.InProjPRefIdeal.S65536x2048, extractStridedSlice Cert.InProjPRefIdeal.S65536x2048 ![0, 4112] (PROJ A W) Cert.InProjPRefIdeal.Gen.slices_S65536x6160_S65536x2048_0_4112⟩,
     ⟨Cert.InProjPRefIdeal.S65536x16, extractStridedSlice Cert.InProjPRefIdeal.S65536x16 ![0, 4096] (PROJ A W) Cert.InProjPRefIdeal.Gen.slices_S65536x6160_S65536x16_0_4096⟩,
     ⟨Cert.InProjPRefIdeal.S65536x112, broadcastInDim Cert.InProjPRefIdeal.S65536x112 ![] Cert.InProjPRefIdeal.Gen.bcast_S_S65536x112 (constant (F := Ideal) Cert.InProjPRefIdeal.S_ .f32 0x00000000#32)⟩]
    Cert.InProjPRefIdeal.Gen.concatenates_S65536x1536_S65536x2048_S65536x512_S65536x2048_S65536x16_S65536x112_S65536x6272_d1

/-- The reference: the normalized rows' projections in that order. -/
abbrev REF (X : FVec Ideal S65536x1024 .f32) (G : FVec Ideal S1024 .f32) (W : FVec Ideal S1024x6160 .f32) :
    FVec Ideal S65536x6272 .f32 :=
  CAT (NORM X G) W

/-- The matrix as the kernel reads it: its column groups in the new order, zero columns behind. -/
abbrev PACKED (W : FVec Ideal S1024x6160 .f32) : FVec Ideal S1024x6272 .bf16 :=
  truncf .bf16 (concatenate S1024x6272 1
    [⟨S1024x1536, extractStridedSlice S1024x1536 ![0, 2048] W slices_S1024x6160_S1024x1536_0_2048⟩,
     ⟨S1024x2048, extractStridedSlice S1024x2048 ![0, 0] W slices_S1024x6160_S1024x2048_0_0⟩,
     ⟨S1024x512, extractStridedSlice S1024x512 ![0, 3584] W slices_S1024x6160_S1024x512_0_3584⟩,
     ⟨S1024x2048, extractStridedSlice S1024x2048 ![0, 4112] W slices_S1024x6160_S1024x2048_0_4112⟩,
     ⟨S1024x16, extractStridedSlice S1024x16 ![0, 4096] W slices_S1024x6160_S1024x16_0_4096⟩,
     ⟨S1024x112, broadcastInDim S1024x112 ![] bcast_S_S1024x112 (constant (F := Ideal) S_ .f32 0x00000000#32)⟩]
    concatenates_S1024x1536_S1024x2048_S1024x512_S1024x2048_S1024x16_S1024x112_S1024x6272_d1) bitsLt_bf16_f32

/-- What the kernel's weight window is cut from is the packed matrix. -/
theorem packed (c : Dev nD) : V m c main_v7 = PACKED (m ((c : Thread nD τ).loc main_arg2)) := by
  show StableHlo.after _ _ _ = _
  unfold hostOps0
  simp only [StableHlo.after_cons, StableHlo.after_nil]
  after_results_steps
  rfl

/-- Which block each window shows at point `t`. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- An entry of the reference is the row's product with a column of the packed matrix. -/
theorem cat_eq (A : FVec Ideal S65536x1024 .f32) (W : FVec Ideal S1024x6160 .f32) (z : S65536x6272.Idx) :
    CAT A W z = ∑ k : Fin 1024, A (ix2 (z 0) k) * PACKED W (ix2 k (z 1)) := by
  pointwise [CAT, PROJ, PACKED]
  split_ifs <;> first | rfl | simp

/-- One block of columns is the product of the normalized rows with the loaded columns. -/
theorem pay_eq (a b w x) : k0_pay5 (F := Ideal) a b w x = ∑ k : Fin 1024, k0_pay4 (F := Ideal) a b (ix2 (x 0) k) * w (ix2 k (x 1)) := by
  generalize h : k0_pay4 (F := Ideal) a b = A
  pointwise [k0_pay5, h]

/-- The kernel's normalized rows at point `t` are the array's at the block's place. -/
theorem norm_eq (c : Dev nD) (t : Fin cfg0.N) (i : Fin 256) (z : Fin 65536) (hz : (z : ℕ) = t.val * 256 + i) (k : Fin 1024) :
    k0_pay4 (F := Ideal) (View.ld (iblk m c 0 t) r0_0) (View.ld (iblk m c 1 t) r0_1) (ix2 i k)
      = NORM (m ((c : Thread nD τ).loc main_arg0)) (m ((c : Thread nD τ).loc main_arg1)) (ix2 z k) := by
  pointwise [k0_pay4, NORM]
  blk_point [iblk, V, idx t]

/-- One block of columns at point `t`, from the columns loaded there. -/
theorem piece (c : Dev nD) (t : Fin cfg0.N) (y : S256x6272.Idx) (x : S256x896.Idx) (w) (h0 : (y 0 : ℕ) = x 0)
    (hw : ∀ k : Fin 1024, w (ix2 k (x 1)) = PACKED (m ((c : Thread nD τ).loc main_arg2)) (ix2 k (y 1))) :
    k0_pay5 (F := Ideal) (View.ld (iblk m c 0 t) r0_0) (View.ld (iblk m c 1 t) r0_1) w x
      = REF (m ((c : Thread nD τ).loc main_arg0)) (m ((c : Thread nD τ).loc main_arg1)) (m ((c : Thread nD τ).loc main_arg2))
          (((cfg0.win 3).blk t).view.emb y) := by
  rw [pay_eq, REF, cat_eq]
  refine Finset.sum_congr rfl fun k _ => ?_
  rw [norm_eq m c t (x 0) ((((cfg0.win 3).blk t).view.emb y) 0) (by blk_simp [idx t] <;> omega) k, hw k]
  have e : (((cfg0.win 3).blk t).view.emb y) 1 = y 1 := Fin.ext (by blk_simp [idx t] <;> omega)
  rw [e]

/-- A load of columns of the weight block, read at an index, is the packed matrix there. -/
theorem cols (c : Dev nD) (t : Fin cfg0.N) (k : Fin 1024) (q : Fin 6272) :
    (iblk m c 2 t : FVec Ideal S1024x6272 .bf16) (ix2 k q) = PACKED (m ((c : Thread nD τ).loc main_arg2)) (ix2 k q) := by
  rw [← packed]
  blk_point [iblk, idx t]

/-- One point's store, at block index `y`, is the reference at the array index `y` sits at. -/
theorem point (c : Dev nD) (t : Fin cfg0.N) (y) : out0_3 (F := Ideal) (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  canon_tiles x h
  all_goals
    refine piece m c t y x _ h0 fun k => ?_
    refine Eq.trans ?_ (cols m c t k (y 1))
    pointwise
    blk_ext

/-- The result array after the run is the reference of the arguments. -/
theorem result (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.InProjPIdeal.Proj

end
-- ==== Proof.MergeP.Value.lean ====
/- The merge of the two branches: after the kernel's run its result is the reference's composed term. -/
module

public import proofs.«01_k».proof.Proof.Gen.MergePIdeal.Frame
public import proofs.«01_k».proof.Proof.Gen.MergePRefIdeal
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.MergePIdeal.Join

open Cert.MergePIdeal Cert.MergePIdeal.Gen

variable (m : (ℓ : Loc nD τ sig) → Buf (Elt Ideal) ℓ)

/-- The second branch before its output matrix: the two directions added, each head's row divided by the root of its
    mean square, times the gain, times `z / (1 + exp (-z))`. -/
abbrev GATED (OF OB : FVec Ideal S65536x512 .f32) (P : FVec Ideal S65536x6272 .f32) (G : FVec Ideal S128 .f32) : FVec Ideal S65536x512 .f32 :=
  shapeCast Cert.MergePRefIdeal.S65536x512 (mulf (mulf (mulf (shapeCast Cert.MergePRefIdeal.S65536x4x128 (addf OF OB) Cert.MergePRefIdeal.Gen.shapeCasts_S65536x512_S65536x4x128) (broadcastInDim Cert.MergePRefIdeal.S65536x4x128 ![0, 1, 2] Cert.MergePRefIdeal.Gen.bcast_S65536x4x1_S65536x4x128_0_1_2 (Host.rsqrt (addf (Host.divf (broadcastInDim Cert.MergePRefIdeal.S65536x4x1 ![0, 1] Cert.MergePRefIdeal.Gen.bcast_S65536x4_S65536x4x1_0_1 (Host.reduceAdd (mulf (shapeCast Cert.MergePRefIdeal.S65536x4x128 (addf OF OB) Cert.MergePRefIdeal.Gen.shapeCasts_S65536x512_S65536x4x128) (shapeCast Cert.MergePRefIdeal.S65536x4x128 (addf OF OB) Cert.MergePRefIdeal.Gen.shapeCasts_S65536x512_S65536x4x128)) (constant Cert.MergePRefIdeal.S_ .f32 0x00000000#32) Cert.MergePRefIdeal.Gen.reducesTo_S65536x4x128_S65536x4_d2 Cert.MergePRefIdeal.Gen.h_S_)) (broadcastInDim Cert.MergePRefIdeal.S65536x4x1 ![] Cert.MergePRefIdeal.Gen.bcast_S_S65536x4x1 (constant Cert.MergePRefIdeal.S_ .f32 0x43000000#32))) (broadcastInDim Cert.MergePRefIdeal.S65536x4x1 ![] Cert.MergePRefIdeal.Gen.bcast_S_S65536x4x1 (constant Cert.MergePRefIdeal.S_ .f32 0x358637BD#32)))))) (broadcastInDim Cert.MergePRefIdeal.S65536x4x128 ![0, 1, 2] Cert.MergePRefIdeal.Gen.bcast_S1x1x128_S65536x4x128_0_1_2 (broadcastInDim Cert.MergePRefIdeal.S1x1x128 ![2] Cert.MergePRefIdeal.Gen.bcast_S128_S1x1x128_2 G))) (mulf (shapeCast Cert.MergePRefIdeal.S65536x4x128 (extractStridedSlice Cert.MergePRefIdeal.S65536x512 ![0, 3584] P Cert.MergePRefIdeal.Gen.slices_S65536x6272_S65536x512_0_3584) Cert.MergePRefIdeal.Gen.shapeCasts_S65536x512_S65536x4x128) (Host.divf (broadcastInDim Cert.MergePRefIdeal.S65536x4x128 ![] Cert.MergePRefIdeal.Gen.bcast_S_S65536x4x128 (constant Cert.MergePRefIdeal.S_ .f32 0x3F800000#32)) (addf (broadcastInDim Cert.MergePRefIdeal.S65536x4x128 ![] Cert.MergePRefIdeal.Gen.bcast_S_S65536x4x128 (constant Cert.MergePRefIdeal.S_ .f32 0x3F800000#32)) (Host.exp (Host.negf (shapeCast Cert.MergePRefIdeal.S65536x4x128 (extractStridedSlice Cert.MergePRefIdeal.S65536x512 ![0, 3584] P Cert.MergePRefIdeal.Gen.slices_S65536x6272_S65536x512_0_3584) Cert.MergePRefIdeal.Gen.shapeCasts_S65536x512_S65536x4x128))))))) Cert.MergePRefIdeal.Gen.shapeCasts_S65536x4x128_S65536x512

/-- The merge of the first branch `A` and the gated second branch `Q`, each through its matrix and gated by its
    columns of `P`; the sum through the output matrix, added to `X`. -/
abbrev JOIN (X : FVec Ideal S65536x1024 .f32) (A : FVec Ideal S65536x512 .bf16) (Q : FVec Ideal S65536x512 .f32) (P : FVec Ideal S65536x6272 .f32)
    (WA WB : FVec Ideal S512x1024 .f32) (WO : FVec Ideal S1024x1024 .f32) : FVec Ideal S65536x1024 .f32 :=
  addf X (Host.dotGeneral Cert.MergePRefIdeal.dot_S65536x1024_S1024x1024_S65536x1024_1_0_0_1_n_n none (addf (mulf (Host.divf (broadcastInDim Cert.MergePRefIdeal.S65536x1024 ![] Cert.MergePRefIdeal.Gen.bcast_S_S65536x1024 (constant Cert.MergePRefIdeal.S_ .f32 0x3F800000#32)) (addf (broadcastInDim Cert.MergePRefIdeal.S65536x1024 ![] Cert.MergePRefIdeal.Gen.bcast_S_S65536x1024 (constant Cert.MergePRefIdeal.S_ .f32 0x3F800000#32)) (Host.exp (Host.negf (extractStridedSlice Cert.MergePRefIdeal.S65536x1024 ![0, 4096] P Cert.MergePRefIdeal.Gen.slices_S65536x6272_S65536x1024_0_4096))))) (Host.dotGeneral Cert.MergePRefIdeal.dot_S65536x512_S512x1024_S65536x1024_1_0_0_1_n_n none (extf .f32 A bitsLt_bf16_f32) WA)) (mulf (Host.divf (broadcastInDim Cert.MergePRefIdeal.S65536x1024 ![] Cert.MergePRefIdeal.Gen.bcast_S_S65536x1024 (constant Cert.MergePRefIdeal.S_ .f32 0x3F800000#32)) (addf (broadcastInDim Cert.MergePRefIdeal.S65536x1024 ![] Cert.MergePRefIdeal.Gen.bcast_S_S65536x1024 (constant Cert.MergePRefIdeal.S_ .f32 0x3F800000#32)) (Host.exp (Host.negf (extractStridedSlice Cert.MergePRefIdeal.S65536x1024 ![0, 5120] P Cert.MergePRefIdeal.Gen.slices_S65536x6272_S65536x1024_0_5120))))) (Host.dotGeneral Cert.MergePRefIdeal.dot_S65536x512_S512x1024_S65536x1024_1_0_0_1_n_n none Q WB))) WO)

/-- The reference. -/
abbrev REF (X : FVec Ideal S65536x1024 .f32) (A : FVec Ideal S65536x512 .bf16) (OF OB : FVec Ideal S65536x512 .f32) (P : FVec Ideal S65536x6272 .f32)
    (G : FVec Ideal S128 .f32) (WA WB : FVec Ideal S512x1024 .f32) (WO : FVec Ideal S1024x1024 .f32) : FVec Ideal S65536x1024 .f32 :=
  JOIN X A (GATED OF OB P G) P WA WB WO

/-- Which block each window shows at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 7] ∧ win0_5.index t = ![t.val, 4] ∧ win0_6.index t = ![t.val, 5]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-- The block of the column group `z` at point `t`: rows `512 t …`, columns `3584 …` of the projections. -/
theorem x4 (c : Dev nD) (t : Fin cfg0.N) (i : Fin 512) (j : Fin 512) (k : Fin 65536) (l : Fin 6272)
    (hk : (k : ℕ) = t.val * 512 + i) (hl : (l : ℕ) = 3584 + j) :
    (X0_4 m c t : FVec Ideal S512x512 .f32) (ix2 i j) = (m ((c : Thread nD τ).loc main_arg4) : FVec Ideal S65536x6272 .f32) (ix2 k l) := by
  unfold X0_4 Pipeline.Window.fill
  rw [dif_pos (moved0_4 t _)]
  blk_point [iblk, V, idx t]

/-- The block of the first gate's columns at point `t`. -/
theorem x5 (c : Dev nD) (t : Fin cfg0.N) (i : Fin 512) (j : Fin 1024) (k : Fin 65536) (l : Fin 6272)
    (hk : (k : ℕ) = t.val * 512 + i) (hl : (l : ℕ) = 4096 + j) :
    (X0_5 m c t : FVec Ideal S512x1024 .f32) (ix2 i j) = (m ((c : Thread nD τ).loc main_arg4) : FVec Ideal S65536x6272 .f32) (ix2 k l) := by
  unfold X0_5 Pipeline.Window.fill
  rw [dif_pos (moved0_5 t _)]
  blk_point [iblk, V, idx t]

/-- The block of the second gate's columns at point `t`. -/
theorem x6 (c : Dev nD) (t : Fin cfg0.N) (i : Fin 512) (j : Fin 1024) (k : Fin 65536) (l : Fin 6272)
    (hk : (k : ℕ) = t.val * 512 + i) (hl : (l : ℕ) = 5120 + j) :
    (X0_6 m c t : FVec Ideal S512x1024 .f32) (ix2 i j) = (m ((c : Thread nD τ).loc main_arg4) : FVec Ideal S65536x6272 .f32) (ix2 k l) := by
  unfold X0_6 Pipeline.Window.fill
  rw [dif_pos (moved0_6 t _)]
  blk_point [iblk, V, idx t]

/-- The gain's block is the gain, at every point. -/
theorem gain (c : Dev nD) (t : Fin cfg0.N) (j q : Fin 128) (h : (q : ℕ) = j) :
    (iblk m c 7 t : FVec Ideal S1x128 .f32) (ix2 0 j) = (m ((c : Thread nD τ).loc main_arg5) : FVec Ideal S128 .f32) (ix1 q) := by
  blk_point [iblk, V, idx t]

/-- One head's gated columns, of the loads of its own columns: entry `(i, j)` of the head whose columns begin at `off`. -/
theorem head (c : Dev nD) (t : Fin cfg0.N) (a b z : FVec Ideal S512x128 .f32) (i : Fin 512) (j : Fin 128) (k : Fin 65536) (l : Fin 512) (off : ℕ)
    (hoff : off = 0 ∨ off = 128 ∨ off = 256 ∨ off = 384)
    (ha : ∀ (q : Fin 128) (l : Fin 512), (l : ℕ) = off + q → a (ix2 i q) = (m ((c : Thread nD τ).loc main_arg2) : FVec Ideal S65536x512 .f32) (ix2 k l))
    (hb : ∀ (q : Fin 128) (l : Fin 512), (l : ℕ) = off + q → b (ix2 i q) = (m ((c : Thread nD τ).loc main_arg3) : FVec Ideal S65536x512 .f32) (ix2 k l))
    (hz : ∀ (q : Fin 128) (l : Fin 6272), (l : ℕ) = 3584 + off + q → z (ix2 i q) = (m ((c : Thread nD τ).loc main_arg4) : FVec Ideal S65536x6272 .f32) (ix2 k l))
    (hl : (l : ℕ) = off + j) :
    k0_pay2 (F := Ideal) a b (iblk m c 7 t) z (ix2 i j)
      = GATED (m ((c : Thread nD τ).loc main_arg2)) (m ((c : Thread nD τ).loc main_arg3)) (m ((c : Thread nD τ).loc main_arg4))
          (m ((c : Thread nD τ).loc main_arg5)) (ix2 k l) := by
  have hlt := l.isLt
  have hj := j.isLt
  pointwise [k0_pay2, GATED]
  have eA : ∀ x : Fin 128, a (ix2 i x) = (m ((c : Thread nD τ).loc main_arg2) : FVec Ideal S65536x512 .f32) (ix2 k ⟨↑l / 128 * 128 + ↑x, by omega⟩) :=
    fun x => ha x _ (by show (l : ℕ) / 128 * 128 + x = _; omega)
  have eB : ∀ x : Fin 128, b (ix2 i x) = (m ((c : Thread nD τ).loc main_arg3) : FVec Ideal S65536x512 .f32) (ix2 k ⟨↑l / 128 * 128 + ↑x, by omega⟩) :=
    fun x => hb x _ (by show (l : ℕ) / 128 * 128 + x = _; omega)
  rw [hz j ⟨3584 + l, by omega⟩ (by show 3584 + (l : ℕ) = _; omega), gain m c t j ⟨(l : ℕ) % 128, by omega⟩ (by show (l : ℕ) % 128 = _; omega),
    ha j l hl, hb j l hl]
  simp only [eA, eB]
  rfl

/-- The columns of one head in a block, as a load from the column `off` on. -/
abbrev cols (X : Vec Ideal S512x512 .f32) (off : ℕ) (h : ∀ a, (![0, off] : Fin 2 → Nat) a + S512x128.size a ≤ S512x512.size a) : FVec Ideal S512x128 .f32 :=
  View.ld X (Rect.unit (s := S512x512) ![0, off] S512x128.size h)

/-- An entry of such a load is the block's entry `off` columns on. -/
theorem cols_at (X : Vec Ideal S512x512 .f32) (off : ℕ) (h : ∀ a, (![0, off] : Fin 2 → Nat) a + S512x128.size a ≤ S512x512.size a)
    (i : Fin 512) (q : Fin 128) (l : Fin 512) (hl : (l : ℕ) = off + q) :
    cols X off h (ix2 i q) = (X : FVec Ideal S512x512 .f32) (ix2 i l) :=
  View.ld_unit_apply_of X ![0, off] S512x128.size h (ix2 i q) (ix2 i l) fun a => by
    fin_cases a
    · exact (Nat.zero_add _).symm
    · exact hl

/-- The first direction's block is its rows `512 t …`. -/
theorem x2 (c : Dev nD) (t : Fin cfg0.N) (i : Fin 512) (l : Fin 512) (k : Fin 65536) (hk : (k : ℕ) = t.val * 512 + i) :
    (iblk m c 2 t : FVec Ideal S512x512 .f32) (ix2 i l) = (m ((c : Thread nD τ).loc main_arg2) : FVec Ideal S65536x512 .f32) (ix2 k l) := by
  blk_point [iblk, V, idx t]

/-- The second direction's block is its rows `512 t …`. -/
theorem x3 (c : Dev nD) (t : Fin cfg0.N) (i : Fin 512) (l : Fin 512) (k : Fin 65536) (hk : (k : ℕ) = t.val * 512 + i) :
    (iblk m c 3 t : FVec Ideal S512x512 .f32) (ix2 i l) = (m ((c : Thread nD τ).loc main_arg3) : FVec Ideal S65536x512 .f32) (ix2 k l) := by
  blk_point [iblk, V, idx t]

/-- One block's gated second branch: its four heads side by side. -/
abbrev HEADS (c : Dev nD) (t : Fin cfg0.N) : FVec Ideal S512x512 .bf16 :=
  concatenate S512x512 1
    [⟨S512x128, k0_pay2 (F := Ideal) (cols (iblk m c 2 t) 0 inb_S512x512_S512x128_0_0) (cols (iblk m c 3 t) 0 inb_S512x512_S512x128_0_0) (iblk m c 7 t) (cols (X0_4 m c t) 0 inb_S512x512_S512x128_0_0)⟩,
     ⟨S512x128, k0_pay2 (F := Ideal) (cols (iblk m c 2 t) 128 inb_S512x512_S512x128_0_128) (cols (iblk m c 3 t) 128 inb_S512x512_S512x128_0_128) (iblk m c 7 t) (cols (X0_4 m c t) 128 inb_S512x512_S512x128_0_128)⟩,
     ⟨S512x128, k0_pay2 (F := Ideal) (cols (iblk m c 2 t) 256 inb_S512x512_S512x128_0_256) (cols (iblk m c 3 t) 256 inb_S512x512_S512x128_0_256) (iblk m c 7 t) (cols (X0_4 m c t) 256 inb_S512x512_S512x128_0_256)⟩,
     ⟨S512x128, k0_pay2 (F := Ideal) (cols (iblk m c 2 t) 384 inb_S512x512_S512x128_0_384) (cols (iblk m c 3 t) 384 inb_S512x512_S512x128_0_384) (iblk m c 7 t) (cols (X0_4 m c t) 384 inb_S512x512_S512x128_0_384)⟩]
    concatenates_S512x128_S512x128_S512x128_S512x128_S512x512_d1

/-- One head at its place in the block is the gated branch at the array's place. -/
theorem head_at (c : Dev nD) (t : Fin cfg0.N) (off : ℕ) (h : ∀ a, (![0, off] : Fin 2 → Nat) a + S512x128.size a ≤ S512x512.size a)
    (hoff : off = 0 ∨ off = 128 ∨ off = 256 ∨ off = 384)
    (i : Fin 512) (k : Fin 65536) (hk : (k : ℕ) = t.val * 512 + i) (j : Fin 128) (l : Fin 512) (hl : (l : ℕ) = off + j) :
    k0_pay2 (F := Ideal) (cols (iblk m c 2 t) off h) (cols (iblk m c 3 t) off h) (iblk m c 7 t) (cols (X0_4 m c t) off h) (ix2 i j)
      = GATED (m ((c : Thread nD τ).loc main_arg2)) (m ((c : Thread nD τ).loc main_arg3)) (m ((c : Thread nD τ).loc main_arg4))
          (m ((c : Thread nD τ).loc main_arg5)) (ix2 k l) := by
  refine head m c t _ _ _ i j k l off hoff (fun q l hl => ?_) (fun q l hl => ?_) (fun q l hl => ?_) hl
  · exact (cols_at _ off h i q l hl).trans (x2 m c t i l k hk)
  · exact (cols_at _ off h i q l hl).trans (x3 m c t i l k hk)
  · have hq := q.isLt
    have hl' : off + (q : ℕ) < 512 := by omega
    exact (cols_at _ off h i q ⟨off + q, hl'⟩ rfl).trans (x4 m c t i ⟨off + q, hl'⟩ k l hk (by show _ = 3584 + (off + (q : ℕ)); omega))

/-- Four heads side by side, each agreeing with `Q` at its place, agree with `Q`. -/
theorem four (p0 p1 p2 p3 : FVec Ideal S512x128 .bf16) (Q : FVec Ideal S65536x512 .f32) (i : Fin 512) (k : Fin 65536)
    (h0 : ∀ (j : Fin 128) (l : Fin 512), (l : ℕ) = 0 + j → p0 (ix2 i j) = Q (ix2 k l))
    (h1 : ∀ (j : Fin 128) (l : Fin 512), (l : ℕ) = 128 + j → p1 (ix2 i j) = Q (ix2 k l))
    (h2 : ∀ (j : Fin 128) (l : Fin 512), (l : ℕ) = 256 + j → p2 (ix2 i j) = Q (ix2 k l))
    (h3 : ∀ (j : Fin 128) (l : Fin 512), (l : ℕ) = 384 + j → p3 (ix2 i j) = Q (ix2 k l)) (l : Fin 512) :
    concatenate S512x512 1 [⟨S512x128, p0⟩, ⟨S512x128, p1⟩, ⟨S512x128, p2⟩, ⟨S512x128, p3⟩]
      concatenates_S512x128_S512x128_S512x128_S512x128_S512x512_d1 (ix2 i l) = Q (ix2 k l) := by
  have hlt := l.isLt
  pointwise
  split_ifs <;> first
  | exact h0 ⟨(l : ℕ), by omega⟩ l (by show (l : ℕ) = 0 + l; omega)
  | exact h1 ⟨(l : ℕ) - 128, by omega⟩ l (by show (l : ℕ) = 128 + (l - 128); omega)
  | exact h2 ⟨(l : ℕ) - 128 - 128, by omega⟩ l (by show (l : ℕ) = 256 + (l - 128 - 128); omega)
  | exact h3 ⟨(l : ℕ) - 128 - 128 - 128, by omega⟩ l (by show (l : ℕ) = 384 + (l - 128 - 128 - 128); omega)

/-- The block's gated second branch is the array's at the block's place. -/
theorem heads_at (c : Dev nD) (t : Fin cfg0.N) (i : Fin 512) (k : Fin 65536) (hk : (k : ℕ) = t.val * 512 + i) (l : Fin 512) :
    HEADS m c t (ix2 i l)
      = GATED (m ((c : Thread nD τ).loc main_arg2)) (m ((c : Thread nD τ).loc main_arg3)) (m ((c : Thread nD τ).loc main_arg4))
          (m ((c : Thread nD τ).loc main_arg5)) (ix2 k l) :=
  four _ _ _ _ _ i k (head_at m c t 0 _ (by omega) i k hk) (head_at m c t 128 _ (by omega) i k hk)
    (head_at m c t 256 _ (by omega) i k hk) (head_at m c t 384 _ (by omega) i k hk) l

/-- What a block stores, of its gated second branch `q`. -/
abbrev STORE (q : FVec Ideal S512x512 .bf16) (v89 : FVec Ideal S512x512 .bf16) (v90 v93 : FVec Ideal S512x1024 .bf16)
    (v96 v99 v103 : FVec Ideal S512x1024 .f32) (v105 : FVec Ideal S1024x1024 .bf16) : FVec Ideal S512x1024 .f32 :=
  addf v103 (matmul dot_S512x1024_S1024x1024_S512x1024_1_0_0_1_n_n none
    (truncf .bf16 (addf (mulf (logistic v96) (matmul dot_S512x512_S512x1024_S512x1024_1_0_0_1_n_n none v89 (shapeCast S512x1024 v90 shapeCasts_S512x1024_S512x1024 : FVec Ideal S512x1024 .bf16) (constant S512x1024 .f32 0x00000000#32)))
      (mulf (logistic v99) (matmul dot_S512x512_S512x1024_S512x1024_1_0_0_1_n_n none q (shapeCast S512x1024 v93 shapeCasts_S512x1024_S512x1024 : FVec Ideal S512x1024 .bf16) (constant S512x1024 .f32 0x00000000#32)))) bitsLt_bf16_f32)
    (shapeCast S1024x1024 v105 shapeCasts_S1024x1024_S1024x1024 : FVec Ideal S1024x1024 .bf16) (constant S512x1024 .f32 0x00000000#32))

/-- One block's store is the reference at the block's place, of any second branch that agrees there. -/
theorem core (c : Dev nD) (t : Fin cfg0.N) (q : FVec Ideal S512x512 .bf16) (Q : FVec Ideal S65536x512 .f32) (i : Fin 512) (j : Fin 1024) (k : Fin 65536)
    (hk : (k : ℕ) = t.val * 512 + i) (hq : ∀ l : Fin 512, q (ix2 i l) = Q (ix2 k l)) :
    STORE q (iblk m c 1 t) (iblk m c 8 t) (iblk m c 9 t) (X0_5 m c t) (X0_6 m c t) (iblk m c 0 t) (iblk m c 10 t) (ix2 i j)
      = JOIN (m ((c : Thread nD τ).loc main_arg0)) (m ((c : Thread nD τ).loc main_arg1)) Q (m ((c : Thread nD τ).loc main_arg4))
          (m ((c : Thread nD τ).loc main_arg6)) (m ((c : Thread nD τ).loc main_arg7)) (m ((c : Thread nD τ).loc main_arg8)) (ix2 k j) := by
  pointwise [STORE, JOIN]
  have e5 : ∀ j : Fin 1024, (X0_5 m c t : FVec Ideal S512x1024 .f32) (ix2 i j) = (m ((c : Thread nD τ).loc main_arg4) : FVec Ideal S65536x6272 .f32) (ix2 k ⟨4096 + j, by omega⟩) :=
    fun j => x5 m c t i j k _ hk rfl
  have e6 : ∀ j : Fin 1024, (X0_6 m c t : FVec Ideal S512x1024 .f32) (ix2 i j) = (m ((c : Thread nD τ).loc main_arg4) : FVec Ideal S65536x6272 .f32) (ix2 k ⟨5120 + j, by omega⟩) :=
    fun j => x6 m c t i j k _ hk rfl
  simp only [hq, e5, e6, Ideal.logistic]
  blk_point [iblk, V, idx t]

/-- One point's store, at block index `y`, is the reference at the array index `y` sits at. -/
theorem point (c : Dev nD) (t : Fin cfg0.N) (y) : outsAt0 (F := Ideal) m c t y
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (((cfg0.win 11).blk t).view.emb y) := by
  obtain_idx z : S65536x1024 := [t.val * 512 + (y 0 : ℕ), (y 1 : ℕ)] with hz
  have e : (((cfg0.win 11).blk t).view.emb y : S65536x1024.Idx) = ix2 (z 0) (z 1) := by blk_ext [idx t]
  rw [e]
  unfold outsAt0
  frame_out
  have h := core m c t (HEADS m c t) _ (y 0) (y 1) (z 0) hz0 (heads_at m c t (y 0) (z 0) hz0)
  have e1 : z 1 = y 1 := Fin.ext hz1
  have ey : y = ix2 (y 0) (y 1) := by blk_ext
  rw [e1]
  refine Eq.trans ?_ h
  rw [ey]
  rfl

/-- The result array after the run is the reference of the arguments. -/
theorem result (c : Dev nD) : (dats m 0 c).arrAt 11 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (dats m 0 c).arrAt_eq_of_covers 11 _ (by decide +kernel) fun t _ y => ?_
  blk_simp
  rw [after0_11]
  exact point m c t y

end Cert.MergePIdeal.Join

end
-- ==== Proof.FinalP.Value.lean ====
/- The last RMS norm: after the kernel's run its result is the reference's composed term. -/
module

public import proofs.«01_k».proof.Proof.Gen.FinalPIdeal.Frame
public import proofs.«01_k».proof.Proof.Gen.FinalPRefIdeal
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.FinalPIdeal.Last

open Cert.FinalPIdeal Cert.FinalPIdeal.Gen

variable (m : (ℓ : Loc nD τ sig) → Buf (Elt Ideal) ℓ)

/-- The reference: the sum of its two arrays, each row divided by the root of its mean square, times the gain. -/
abbrev REF (X Y : FVec Ideal S65536x1024 .f32) (G : FVec Ideal S1024 .f32) : FVec Ideal S65536x1024 .f32 :=
  mulf (mulf (addf X Y) (broadcastInDim Cert.FinalPRefIdeal.S65536x1024 ![0, 1] Cert.FinalPRefIdeal.Gen.bcast_S65536x1_S65536x1024_0_1
    (Host.rsqrt (addf (Host.divf (broadcastInDim Cert.FinalPRefIdeal.S65536x1 ![0] Cert.FinalPRefIdeal.Gen.bcast_S65536_S65536x1_0
      (Host.reduceAdd (mulf (addf X Y) (addf X Y)) (constant Cert.FinalPRefIdeal.S_ .f32 0x00000000#32)
        Cert.FinalPRefIdeal.Gen.reducesTo_S65536x1024_S65536_d1 Cert.FinalPRefIdeal.Gen.h_S_))
      (broadcastInDim Cert.FinalPRefIdeal.S65536x1 ![] Cert.FinalPRefIdeal.Gen.bcast_S_S65536x1 (constant Cert.FinalPRefIdeal.S_ .f32 0x44800000#32)))
      (broadcastInDim Cert.FinalPRefIdeal.S65536x1 ![] Cert.FinalPRefIdeal.Gen.bcast_S_S65536x1 (constant Cert.FinalPRefIdeal.S_ .f32 0x358637BD#32))))))
    (broadcastInDim Cert.FinalPRefIdeal.S65536x1024 ![0, 1] Cert.FinalPRefIdeal.Gen.bcast_S1x1024_S65536x1024_0_1
      (broadcastInDim Cert.FinalPRefIdeal.S1x1024 ![1] Cert.FinalPRefIdeal.Gen.bcast_S1024_S1x1024_1 G))

/-- Which block each window shows at point `t`. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- One point's store, at block index `y`, is the reference at the array index `y` sits at. -/
theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  pointwise [k0_pay1, REF]
  blk_point [iblk, V, idx t]

/-- The result array after the run is the reference of the arguments. -/
theorem result (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FinalPIdeal.Last

end
-- ==== Proof.PrepP.Ref.lean ====
/- The preparation for the prompt batch, as the reference composes it, and its entries. -/
module

public import proofs.«01_k».proof.Proof.Gen.PrepPRefIdeal
public import proofs.«01_k».proof.Proof.Prep.Ref
public import Idealize.ShloMosaic.Lib.Pointwise

@[expose] public section

set_option maxRecDepth 16384

noncomputable section

open Idealize.ShloMosaic Idealize.ShloMosaic.TcCoe Idealize.SL.Sem

namespace Cert.PrepPRefIdeal.Entry

open Cert.PrepPRefIdeal Cert.PrepPRefIdeal.Gen
open Cert.PrepRefIdeal.Entry (five silu unit heads soft gates scale over_root groups sitofp_zero)

/-- The first 1536 columns with two rows of zeros before and after. -/
abbrev PAD (P : FVec Ideal S32x2048x6272 .f32) : FVec Ideal S32x2052x1536 .f32 :=
  pad S32x2052x1536 ![0, 2, 0] ![0, 2, 0] ![0, 0, 0] (extractStridedSlice S32x2048x1536 ![0, 0, 0] P slices_S32x2048x6272_S32x2048x1536_0_0_0) (sitofp .f32 (constantI S_ 32 0#32)) pads_S32x2048x1536_S32x2052x1536_000_220_000 h_S_

/-- Row `q` of the convolution's weights, along every row of the array. -/
abbrev ROW (W : FVec Ideal S5x1536 .f32) (q : ℕ) (h : S5x1536.Slices ![q, 0] S1x1536) : FVec Ideal S32x2048x1536 .f32 :=
  broadcastInDim S32x2048x1536 ![0, 1, 2] bcast_S1x1x1536_S32x2048x1536_0_1_2 (broadcastInDim S1x1x1536 ![2] bcast_S1536_S1x1x1536_2 (shapeCast S1536 (extractStridedSlice S1x1536 ![q, 0] W h) shapeCasts_S1x1536_S1536))

/-- The convolution along the rows, of five shifted products. -/
abbrev CONV (P : FVec Ideal S32x2048x6272 .f32) (W : FVec Ideal S5x1536 .f32) : FVec Ideal S32x2048x1536 .f32 :=
  addf (addf (addf (addf (addf (broadcastInDim S32x2048x1536 ![] bcast_S_S32x2048x1536 (constant S_ .f32 0x00000000#32))
    (mulf (extractStridedSlice S32x2048x1536 ![0, 0, 0] (PAD P) slices_S32x2052x1536_S32x2048x1536_0_0_0) (ROW W 0 slices_S5x1536_S1x1536_0_0)))
    (mulf (extractStridedSlice S32x2048x1536 ![0, 1, 0] (PAD P) slices_S32x2052x1536_S32x2048x1536_0_1_0) (ROW W 1 slices_S5x1536_S1x1536_1_0)))
    (mulf (extractStridedSlice S32x2048x1536 ![0, 2, 0] (PAD P) slices_S32x2052x1536_S32x2048x1536_0_2_0) (ROW W 2 slices_S5x1536_S1x1536_2_0)))
    (mulf (extractStridedSlice S32x2048x1536 ![0, 3, 0] (PAD P) slices_S32x2052x1536_S32x2048x1536_0_3_0) (ROW W 3 slices_S5x1536_S1x1536_3_0)))
    (mulf (extractStridedSlice S32x2048x1536 ![0, 4, 0] (PAD P) slices_S32x2052x1536_S32x2048x1536_0_4_0) (ROW W 4 slices_S5x1536_S1x1536_4_0))

/-- `x / (1 + exp (-x))`. -/
abbrev SILU (X : FVec Ideal S32x2048x1536 .f32) : FVec Ideal S32x2048x1536 .f32 :=
  mulf X (Host.divf (broadcastInDim S32x2048x1536 ![] bcast_S_S32x2048x1536 (constant S_ .f32 0x3F800000#32)) (addf (broadcastInDim S32x2048x1536 ![] bcast_S_S32x2048x1536 (constant S_ .f32 0x3F800000#32)) (Host.exp (Host.negf X))))

/-- Each head's row divided by the root of its sum of squares. -/
abbrev NORM (X : FVec Ideal S32x2048x4x128 .f32) : FVec Ideal S32x2048x4x128 .f32 :=
  mulf X (broadcastInDim S32x2048x4x128 ![0, 1, 2, 3] bcast_S32x2048x4x1_S32x2048x4x128_0_1_2_3 (Host.rsqrt (addf (broadcastInDim S32x2048x4x1 ![0, 1, 2] bcast_S32x2048x4_S32x2048x4x1_0_1_2 (Host.reduceAdd (mulf X X) (constant S_ .f32 0x00000000#32) reducesTo_S32x2048x4x128_S32x2048x4_d3 h_S_)) (broadcastInDim S32x2048x4x1 ![] bcast_S_S32x2048x4x1 (constant S_ .f32 0x358637BD#32)))))

/-- The scaled queries of the convolved columns `Y`. -/
abbrev QS (Y : FVec Ideal S32x2048x1536 .f32) : FVec Ideal S32x2048x512 .f32 :=
  shapeCast S32x2048x512 (Host.divf (NORM (shapeCast S32x2048x4x128 (extractStridedSlice S32x2048x512 ![0, 0, 0] Y slices_S32x2048x1536_S32x2048x512_0_0_0) shapeCasts_S32x2048x512_S32x2048x4x128)) (broadcastInDim S32x2048x4x128 ![] bcast_S_S32x2048x4x128 (Host.sqrt (constant S_ .f32 0x43000000#32)))) shapeCasts_S32x2048x4x128_S32x2048x512

/-- The keys of the convolved columns `Y`. -/
abbrev KS (Y : FVec Ideal S32x2048x1536 .f32) : FVec Ideal S32x2048x512 .f32 :=
  shapeCast S32x2048x512 (NORM (shapeCast S32x2048x4x128 (extractStridedSlice S32x2048x512 ![0, 0, 512] Y slices_S32x2048x1536_S32x2048x512_0_0_512) shapeCasts_S32x2048x512_S32x2048x4x128)) shapeCasts_S32x2048x4x128_S32x2048x512

/-- Queries, keys and values of the convolved columns `Y`, side by side. -/
abbrev HEADS (Y : FVec Ideal S32x2048x1536 .f32) : FVec Ideal S32x2048x1536 .f32 :=
  concatenate S32x2048x1536 2 [⟨S32x2048x512, QS Y⟩, ⟨S32x2048x512, KS Y⟩, ⟨S32x2048x512, extractStridedSlice S32x2048x512 ![0, 0, 1024] Y slices_S32x2048x1536_S32x2048x512_0_0_1024⟩] concatenates_S32x2048x512_S32x2048x512_S32x2048x512_S32x2048x1536_d2

/-- The reference's first result. -/
abbrev REF0 (P : FVec Ideal S32x2048x6272 .f32) (W : FVec Ideal S5x1536 .f32) : FVec Ideal S32x2048x1536 .f32 :=
  HEADS (SILU (CONV P W))

/-- `max x 0 + log (1 + exp (-|x|))` of four columns. -/
abbrev SOFT4 (X : FVec Ideal S32x2048x4 .f32) : FVec Ideal S32x2048x4 .f32 :=
  select (cmpf .une (subf X (broadcastInDim S32x2048x4 ![] bcast_S_S32x2048x4 (constant S_ .f32 0x00000000#32))) (subf X (broadcastInDim S32x2048x4 ![] bcast_S_S32x2048x4 (constant S_ .f32 0x00000000#32)))) (addf X (broadcastInDim S32x2048x4 ![] bcast_S_S32x2048x4 (constant S_ .f32 0x00000000#32))) (addf (maximumf X (broadcastInDim S32x2048x4 ![] bcast_S_S32x2048x4 (constant S_ .f32 0x00000000#32))) (Host.log1p (Host.exp (Host.negf (Host.absf (subf X (broadcastInDim S32x2048x4 ![] bcast_S_S32x2048x4 (constant S_ .f32 0x00000000#32))))))))

/-- The same of the columns behind the gates. -/
abbrev SOFT112 (X : FVec Ideal S32x2048x112 .f32) : FVec Ideal S32x2048x112 .f32 :=
  select (cmpf .une (subf X (broadcastInDim S32x2048x112 ![] bcast_S_S32x2048x112 (constant S_ .f32 0x00000000#32))) (subf X (broadcastInDim S32x2048x112 ![] bcast_S_S32x2048x112 (constant S_ .f32 0x00000000#32)))) (addf X (broadcastInDim S32x2048x112 ![] bcast_S_S32x2048x112 (constant S_ .f32 0x00000000#32))) (addf (maximumf X (broadcastInDim S32x2048x112 ![] bcast_S_S32x2048x112 (constant S_ .f32 0x00000000#32))) (Host.log1p (Host.exp (Host.negf (Host.absf (subf X (broadcastInDim S32x2048x112 ![] bcast_S_S32x2048x112 (constant S_ .f32 0x00000000#32))))))))

/-- Row `d` of a table of two rows of four. -/
abbrev OF (A : FVec Ideal S2x4 .f32) (d : ℕ) (h : S2x4.Slices ![d, 0] S1x4) : FVec Ideal S4 .f32 :=
  shapeCast S4 (extractStridedSlice S1x4 ![d, 0] A h) shapeCasts_S1x4_S4

/-- Four numbers along every row. -/
abbrev ALONG (v : FVec Ideal S4 .f32) : FVec Ideal S32x2048x4 .f32 :=
  broadcastInDim S32x2048x4 ![0, 1, 2] bcast_S1x1x4_S32x2048x4_0_1_2 (broadcastInDim S1x1x4 ![2] bcast_S4_S1x1x4_2 v)

/-- The log decay of one direction, of its four columns `X`. -/
abbrev DECAY (X : FVec Ideal S32x2048x4 .f32) (a b : FVec Ideal S4 .f32) : FVec Ideal S32x2048x4 .f32 :=
  mulf (ALONG (Host.negf (Host.exp a))) (SOFT4 (addf X (ALONG b)))

/-- The reference's second result. -/
abbrev REF1 (P : FVec Ideal S32x2048x6272 .f32) (A B : FVec Ideal S2x4 .f32) : FVec Ideal S32x2048x128 .f32 :=
  concatenate S32x2048x128 2 [⟨S32x2048x8, Host.divf (broadcastInDim S32x2048x8 ![] bcast_S_S32x2048x8 (constant S_ .f32 0x3F800000#32)) (addf (broadcastInDim S32x2048x8 ![] bcast_S_S32x2048x8 (constant S_ .f32 0x3F800000#32)) (Host.exp (Host.negf (extractStridedSlice S32x2048x8 ![0, 0, 6144] P slices_S32x2048x6272_S32x2048x8_0_0_6144))))⟩,
    ⟨S32x2048x4, DECAY (extractStridedSlice S32x2048x4 ![0, 0, 6152] P slices_S32x2048x6272_S32x2048x4_0_0_6152) (OF A 0 slices_S2x4_S1x4_0_0) (OF B 0 slices_S2x4_S1x4_0_0)⟩,
    ⟨S32x2048x4, DECAY (extractStridedSlice S32x2048x4 ![0, 0, 6156] P slices_S32x2048x6272_S32x2048x4_0_0_6156) (OF A 1 slices_S2x4_S1x4_1_0) (OF B 1 slices_S2x4_S1x4_1_0)⟩,
    ⟨S32x2048x112, Host.negf (SOFT112 (extractStridedSlice S32x2048x112 ![0, 0, 6160] P slices_S32x2048x6272_S32x2048x112_0_0_6160))⟩] concatenates_S32x2048x8_S32x2048x4_S32x2048x4_S32x2048x112_S32x2048x128_d2

/-- The column `c` of sequence `a` at row `n - 8`, zero outside the sequence: the rows of a block with eight rows before it. -/
def row (P : FVec Ideal S32x2048x6272 .f32) (a : Fin 32) (n : ℕ) (c : Fin 1536) : Ideal .f32 :=
  if h : 8 ≤ n ∧ n < 2056 then P (ix3 a ⟨n - 8, by omega⟩ ⟨c, by omega⟩) else 0

/-- An entry of the convolved columns, of the array's rows. -/
def conv (P : FVec Ideal S32x2048x6272 .f32) (W : FVec Ideal S5x1536 .f32) (a : Fin 32) (k : ℕ) (c : Fin 1536) : Ideal .f32 :=
  silu (five (fun q => row P a (k + q + 6) c) fun q => W (ix2 q c))

/-- A row two up from a padded row. -/
theorem row_of (P : FVec Ideal S32x2048x6272 .f32) (a : Fin 32) (c : Fin 1536) (r n : ℕ) (h : n = r + 6) :
    (if h : 2 ≤ r ∧ r - 2 < 2048 then P (ix3 a ⟨r - 2, h.2⟩ ⟨c, by omega⟩) else 0) = row P a n c := by
  subst h
  unfold row
  by_cases h : 2 ≤ r ∧ r - 2 < 2048
  · rw [dif_pos h, dif_pos ⟨by omega, by omega⟩]
    congr 2
  · rw [dif_neg h, dif_neg (by omega)]

/-- The convolved columns' entries. -/
theorem conv_at (P : FVec Ideal S32x2048x6272 .f32) (W : FVec Ideal S5x1536 .f32) (a : Fin 32) (k : Fin 2048) (c : Fin 1536) :
    SILU (CONV P W) (ix3 a k c) = conv P W a k c := by
  have e : CONV P W (ix3 a k c) = five (fun q => row P a (k + q + 6) c) fun q => W (ix2 q c) := by
    pointwise [CONV, ROW]
    rw [sitofp_zero]
    have hk := k.isLt
    unfold five
    congr 1; congr 1; congr 1; congr 1
    all_goals congr 1
    · exact row_of P a c k (k + 0 + 6) (by omega)
    · exact row_of P a c (1 + k) (k + 1 + 6) (by omega)
    · refine Eq.trans ?_ (row_of P a c (2 + k) (k + 2 + 6) (by omega))
      rw [dif_pos ⟨by omega, by omega⟩]
      congr 2
      exact Fin.ext (by show (k : ℕ) = 2 + k - 2; omega)
    · exact row_of P a c (3 + k) (k + 3 + 6) (by omega)
    · exact row_of P a c (4 + k) (k + 4 + 6) (by omega)
  unfold conv
  rw [← e]
  generalize CONV P W = X
  pointwise [SILU]
  rfl

/-- The first result's entries, of the convolved columns' rows. -/
theorem heads_at (Y : FVec Ideal S32x2048x1536 .f32) (a : Fin 32) (k : Fin 2048) (c : Fin 1536) :
    HEADS Y (ix3 a k c) = heads (fun l => Y (ix3 a k l)) c := by
  refine Eq.trans ?_ (groups (fun l => Y (ix3 a k l)) c)
  generalize he : (if h : (c : ℕ) < 512 then _ else _ : Ideal .f32) = e
  pointwise [HEADS, QS, KS, NORM]
  simp only [over_root]
  exact he

/-- The first result's entries, of the arguments. -/
theorem ref0_at (P : FVec Ideal S32x2048x6272 .f32) (W : FVec Ideal S5x1536 .f32) (a : Fin 32) (k : Fin 2048) (c : Fin 1536) :
    REF0 P W (ix3 a k c) = heads (conv P W a k) c := by
  exact (heads_at (SILU (CONV P W)) a k c).trans (congrArg (fun y => heads y c) (funext fun l => conv_at P W a k l))

/-- The second result's entries. -/
theorem ref1_at (P : FVec Ideal S32x2048x6272 .f32) (A B : FVec Ideal S2x4 .f32) (a : Fin 32) (k : Fin 2048) (c : Fin 128) :
    REF1 P A B (ix3 a k c) = gates (fun l => P (ix3 a k l)) (fun d e => A (ix2 d e)) (fun d e => B (ix2 d e)) c := by
  generalize he : gates _ _ _ _ = e
  pointwise [REF1, DECAY, SOFT4, SOFT112, ALONG, OF]
  simp only [ne_eq, not_true_eq_false, if_false]
  exact he

end Cert.PrepPRefIdeal.Entry

end
-- ==== Proof.PrepP.Block.lean ====
/- What one block of the preparation's kernel for the prompt batch stores, entry by entry. -/
module

public import proofs.«01_k».proof.Proof.Gen.PrepPIdeal.Frame
public import proofs.«01_k».proof.Proof.PrepP.Ref
public import proofs.«01_k».proof.Proof.Prep.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepPIdeal.Block

open Cert.PrepPIdeal Cert.PrepPIdeal.Gen
open Cert.PrepPRefIdeal.Entry (row conv)
open Cert.PrepRefIdeal.Entry (five silu unit heads soft gates scale)
open Cert.PrepIdeal.Block (select_ite lane_lt plain lane lane_in lane_out)

/-- The kernel's constant is the scale. -/
theorem named_scale : Named.named (F := Ideal) κ "inv_sqrt_dk" (φ := .f32) 0x3DB504F3#32 = scale :=
  IdealRules.named_const.ideal_named_scalar _ _ _ _ rfl

theorem first_point : ∀ n : Fin 4, Scalar.cmpi CmpIPredicate.eq (BitVec.ofNat 32 n) 0#32 = if (n : ℕ) = 0 then 1#1 else 0#1 := by decide

theorem last_point : ∀ n : Fin 4, Scalar.cmpi CmpIPredicate.eq (BitVec.ofNat 32 n) 3#32 = if (n : ℕ) = 3 then 1#1 else 0#1 := by decide

theorem select_first (i : grid0.Coords) (a b : Ideal .f32) : Scalar.select (Scalar.cmpi CmpIPredicate.eq (BitVec.ofNat 32 (i 1)) 0#32) a b = if (i 1 : ℕ) = 0 then a else b := by
  have e := first_point (i 1)
  rw [e, select_ite]

theorem select_last (i : grid0.Coords) (a b : Ideal .f32) : Scalar.select (Scalar.cmpi CmpIPredicate.eq (BitVec.ofNat 32 (i 1)) 3#32) a b = if (i 1 : ℕ) = 3 then a else b := by
  have e := last_point (i 1)
  rw [e, select_ite]

/-- The rows a block reads, its eight before and eight after included: the array's, zero outside it. -/
theorem ext_at (i : grid0.Coords) (v1 v6 : Vec Ideal S1x8x1536 .f32) (v10 : Vec Ideal S1x512x1536 .f32) (P : FVec Ideal S32x2048x6272 .f32) (a : Fin 32) (c : Fin 1536)
    (h1 : ∀ r : Fin 8, (i 1 : ℕ) ≠ 0 → v1 (ix3 0 r c) = row P a ((i 1 : ℕ) * 512 + r) c)
    (h10 : ∀ r : Fin 512, v10 (ix3 0 r c) = row P a ((i 1 : ℕ) * 512 + (r + 8)) c)
    (h6 : ∀ r : Fin 8, (i 1 : ℕ) ≠ 3 → v6 (ix3 0 r c) = row P a ((i 1 : ℕ) * 512 + (r + 520)) c) (r : Fin 528) :
    k0_pay2 (F := Ideal) i v1 v6 v10 (ix2 r c) = row P a ((i 1 : ℕ) * 512 + r) c := by
  have hr := r.isLt
  pointwise [k0_pay2]
  by_cases e1 : (r : ℕ) < 8
  · rw [dif_pos e1]
    refine (select_first i _ _).trans ?_
    by_cases e : (i 1 : ℕ) = 0
    · rw [if_pos e]
      unfold row
      rw [dif_neg (by omega)]
    · rw [if_neg e]
      exact h1 ⟨r, e1⟩ e
  rw [dif_neg e1]
  by_cases e2 : (r : ℕ) - 8 < 512
  · rw [dif_pos e2]
    refine (h10 ⟨r - 8, e2⟩).trans ?_
    congr 1
    show (i 1 : ℕ) * 512 + ((r : ℕ) - 8 + 8) = _
    omega
  rw [dif_neg e2]
  refine (select_last i _ _).trans ?_
  by_cases e : (i 1 : ℕ) = 3
  · rw [if_pos e]
    unfold row
    rw [dif_neg (by omega)]
  · rw [if_neg e]
    refine (h6 ⟨r - 8 - 512, by omega⟩ e).trans ?_
    congr 1
    show (i 1 : ℕ) * 512 + ((r : ℕ) - 8 - 512 + 520) = _
    omega

/-- A block's convolved columns are the array's at the block's place. -/
theorem conv_at (i : grid0.Coords) (v1 v6 : Vec Ideal S1x8x1536 .f32) (v10 : Vec Ideal S1x512x1536 .f32) (w0 w1 w2 w3 w4 : Vec Ideal S1x1536 .f32)
    (P : FVec Ideal S32x2048x6272 .f32) (W : FVec Ideal S5x1536 .f32) (a : Fin 32) (c : Fin 1536)
    (he : ∀ r : Fin 528, k0_pay2 (F := Ideal) i v1 v6 v10 (ix2 r c) = row P a ((i 1 : ℕ) * 512 + r) c)
    (e0 : w0 (ix2 0 c) = W (ix2 0 c)) (e1 : w1 (ix2 0 c) = W (ix2 1 c)) (e2 : w2 (ix2 0 c) = W (ix2 2 c))
    (e3 : w3 (ix2 0 c) = W (ix2 3 c)) (e4 : w4 (ix2 0 c) = W (ix2 4 c)) (r : Fin 512) :
    k0_pay5 (F := Ideal) (k0_pay2 i v1 v6 v10) (k0_pay3 i v1 v6 v10 w0 w1 w2) (k0_pay4 i v1 v6 v10) w3 w4 (ix2 r c)
      = conv P W a ((i 1 : ℕ) * 512 + r) c := by
  have hr := r.isLt
  unfold k0_pay3 k0_pay4
  generalize k0_pay2 (F := Ideal) i v1 v6 v10 = E at he
  pointwise [k0_pay5]
  simp only [he, e0, e1, e2, e3, e4, Ideal.logistic]
  have a0 : (8 + (r : ℕ) + 528 - 2) % 528 = r + 0 + 6 := by omega
  have a1 : (8 + (r : ℕ) + 528 - 1) % 528 = r + 1 + 6 := by omega
  have a2 : 8 + (r : ℕ) = r + 2 + 6 := by omega
  have a3 : (8 + (r : ℕ) + 528 - 527) % 528 = r + 3 + 6 := by omega
  have a4 : (8 + (r : ℕ) + 528 - 526) % 528 = r + 4 + 6 := by omega
  simp only [a0, a1, a3, a4]
  rw [a2]
  simp only [← Nat.add_assoc]
  rfl

/-- One head's columns with the scale of the queries. -/
theorem scaled (n : ℕ) (hn : n < 4) (y : Fin 1536 → Ideal .f32) (j : Fin 128) (l : Fin 1536) (hl : (l : ℕ) = 128 * n + j) (f : Fin 128 → Fin 1536) (hf : ∀ x, (f x : ℕ) = 128 * n + x) :
    y (f j) * Ideal.rsqrt (∑ x : Fin 128, y (f x) * y (f x) + Ideal.ofBits FTy.f32 0x358637BD#32) * Named.named (F := Ideal) κ "inv_sqrt_dk" (φ := .f32) 0x3DB504F3#32 = heads y l := by
  rw [named_scale, ← Cert.PrepIdeal.Block.named_scale]
  exact Cert.PrepIdeal.Block.scaled n hn y j l hl f hf

/-- The gates a block stores. -/
theorem gates_at (X : Vec Ideal S1x512x128 .f32) (a b : Vec Ideal S1x128 .f32) (r : Fin 512) (c : Fin 128)
    (p : Fin 6272 → Ideal .f32) (A B : Fin 2 → Fin 4 → Ideal .f32)
    (hX : ∀ l : Fin 6272, (l : ℕ) = 6144 + c → X (ix3 0 r c) = p l)
    (ha : ∀ (d : Fin 2) (e : Fin 4), (c : ℕ) = 8 + 4 * d + e → a (ix2 0 c) = A d e) (ha' : 16 ≤ (c : ℕ) → a (ix2 0 c) = 0)
    (hb : ∀ (d : Fin 2) (e : Fin 4), (c : ℕ) = 8 + 4 * d + e → b (ix2 0 c) = B d e) (hb' : 16 ≤ (c : ℕ) → b (ix2 0 c) = 0) :
    k0_pay1 (F := Ideal) X b a (ix3 0 r c) = gates p A B c := by
  have hc := c.isLt
  pointwise [k0_pay1]
  rw [lane_lt, select_ite]
  unfold gates
  by_cases h1 : (c : ℕ) < 8
  · rw [if_pos h1, dif_pos h1, hX ⟨6144 + c, by omega⟩ rfl, Ideal.logistic]
  rw [if_neg h1, dif_neg h1]
  by_cases h2 : (c : ℕ) - 8 < 4
  · rw [dif_pos h2, ha 0 ⟨c - 8, h2⟩ (by show (c : ℕ) = 8 + 4 * 0 + (c - 8); omega), hb 0 ⟨c - 8, h2⟩ (by show (c : ℕ) = 8 + 4 * 0 + (c - 8); omega),
      hX ⟨6152 + (c - 8), by omega⟩ (by show 6152 + ((c : ℕ) - 8) = _; omega)]
    simp only [zero_sub]
    rfl
  rw [dif_neg h2]
  by_cases h3 : (c : ℕ) - 8 - 4 < 4
  · rw [dif_pos h3, ha 1 ⟨c - 8 - 4, h3⟩ (by show (c : ℕ) = 8 + 4 * 1 + (c - 8 - 4); omega), hb 1 ⟨c - 8 - 4, h3⟩ (by show (c : ℕ) = 8 + 4 * 1 + (c - 8 - 4); omega),
      hX ⟨6156 + (c - 8 - 4), by omega⟩ (by show 6156 + ((c : ℕ) - 8 - 4) = _; omega)]
    simp only [zero_sub]
    rfl
  rw [dif_neg h3, ha' (by omega), hb' (by omega), hX ⟨6160 + (c - 8 - 4 - 4), by omega⟩ (by show 6160 + ((c : ℕ) - 8 - 4 - 4) = _; omega)]
  have e : Ideal.exp (0 : Ideal .f32) = 1 := by
    change ((Real.exp 0 : ℝ) : EReal) = 1
    simp
  rw [e]
  simp only [zero_sub, add_zero, neg_mul, one_mul]
  rfl

variable (m : (ℓ : Loc nD τ sig) → Buf (Elt Ideal) ℓ)

/-- The eight lanes of an array of two rows of four, after eight zeros and before 112 more. -/
abbrev LANES (A : FVec Ideal S2x4 .f32) : FVec Ideal S1x128 .f32 :=
  shapeCast S1x128 (concatenate S128 0
    [⟨S8, broadcastInDim S8 ![] bcast_S_S8 (constant S_ FTy.f32 0x00000000#32 : FVec Ideal S_ .f32)⟩,
     ⟨S4, shapeCast S4 (extractStridedSlice S1x4 ![0, 0] A slices_S2x4_S1x4_0_0) shapeCasts_S1x4_S4⟩,
     ⟨S4, shapeCast S4 (extractStridedSlice S1x4 ![1, 0] A slices_S2x4_S1x4_1_0) shapeCasts_S1x4_S4⟩,
     ⟨S112, broadcastInDim S112 ![] bcast_S_S112 (constant S_ FTy.f32 0x00000000#32 : FVec Ideal S_ .f32)⟩] concatenates_S8_S4_S4_S112_S128_d0) shapeCasts_S128_S1x128

theorem V_main_v7 (c : Dev nD) : V m c main_v7 = LANES (m ((c : Thread nD τ).loc main_arg2)) := by
  unfold V
  after_results_simp
  rfl

theorem V_main_v13 (c : Dev nD) : V m c main_v13 = LANES (m ((c : Thread nD τ).loc main_arg3)) := by
  unfold V
  after_results_simp
  rfl

theorem lanes_at (A : FVec Ideal S2x4 .f32) (c : Fin 128) : LANES A (ix2 0 c) = lane (fun d e => A (ix2 d e)) c := by
  generalize he : lane (fun d e => A (ix2 d e)) c = e
  pointwise [LANES]
  exact he

/-- Which block each window shows at point `t`. -/
theorem idx : ∀ t : Fin cfg0.N, win0_0.index t = ![t.val / 4, 64 * (t.val % 4) - 1, 0] ∧ win0_1.index t = ![t.val / 4, t.val % 4, 0] ∧ win0_2.index t = ![t.val / 4, min (64 * (t.val % 4 + 1)) 255, 0]
    ∧ win0_3.index t = ![t.val / 4, t.val % 4, 48] ∧ win0_4.index t = ![0, 0] ∧ win0_5.index t = ![0, 0] ∧ win0_6.index t = ![0, 0]
    ∧ win0_7.index t = ![t.val / 4, t.val % 4, 0] ∧ win0_8.index t = ![t.val / 4, t.val % 4, 0] :=
  (by decide +kernel : ∀ t : Fin grid0.N, _)

theorem coords : ∀ t : Fin cfg0.N, (grid0.coords t 1 : ℕ) = t.val % 4 :=
  (by decide +kernel : ∀ t : Fin grid0.N, _)

theorem alog (c : Dev nD) (t : Fin cfg0.N) (l : Fin 128) :
    (iblk m c 5 t : FVec Ideal S1x128 .f32) (ix2 0 l) = lane (fun d e => (m ((c : Thread nD τ).loc main_arg2) : FVec Ideal S2x4 .f32) (ix2 d e)) l := by
  have h : (iblk m c 5 t : FVec Ideal S1x128 .f32) (ix2 0 l) = (V m c main_v7 : FVec Ideal S1x128 .f32) (ix2 0 l) := by
    blk_point [iblk, idx t]
  rw [h, V_main_v7, lanes_at]

theorem dtb (c : Dev nD) (t : Fin cfg0.N) (l : Fin 128) :
    (iblk m c 6 t : FVec Ideal S1x128 .f32) (ix2 0 l) = lane (fun d e => (m ((c : Thread nD τ).loc main_arg3) : FVec Ideal S2x4 .f32) (ix2 d e)) l := by
  have h : (iblk m c 6 t : FVec Ideal S1x128 .f32) (ix2 0 l) = (V m c main_v13 : FVec Ideal S1x128 .f32) (ix2 0 l) := by
    blk_point [iblk, idx t]
  rw [h, V_main_v13, lanes_at]

/-- The column group of the gates at point `t`. -/
theorem small (c : Dev nD) (t : Fin cfg0.N) (i : Fin 512) (j : Fin 128) (a : Fin 32) (k : Fin 2048) (l : Fin 6272)
    (ha : (a : ℕ) = t.val / 4) (hk : (k : ℕ) = t.val % 4 * 512 + i) (hl : (l : ℕ) = 6144 + j) :
    (iblk m c 3 t : FVec Ideal S1x512x128 .f32) (ix3 0 i j) = (m ((c : Thread nD τ).loc main_arg0) : FVec Ideal S32x2048x6272 .f32) (ix3 a k l) := by
  have h : (iblk m c 3 t : FVec Ideal S1x512x128 .f32) (ix3 0 i j) = (V m c main_arg0 : FVec Ideal S32x2048x6272 .f32) (ix3 a k l) := by
    blk_point [iblk, idx t]
  rw [h, V_main_arg0]

theorem weight (c : Dev nD) (t : Fin cfg0.N) (q : Fin 5) (j : Fin 1536) :
    (iblk m c 4 t : FVec Ideal S5x1536 .f32) (ix2 q j) = (m ((c : Thread nD τ).loc main_arg1) : FVec Ideal S5x1536 .f32) (ix2 q j) := by
  have h : (iblk m c 4 t : FVec Ideal S5x1536 .f32) (ix2 q j) = (V m c main_arg1 : FVec Ideal S5x1536 .f32) (ix2 q j) := by
    blk_point [iblk, idx t]
  rw [h, V_main_arg1]

/-- The block's own rows at point `t`. -/
theorem cur (c : Dev nD) (t : Fin cfg0.N) (i : Fin 512) (j : Fin 1536) (a : Fin 32) (ha : (a : ℕ) = t.val / 4) :
    (X0_1 m c t : FVec Ideal S1x512x1536 .f32) (ix3 0 i j) = row (m ((c : Thread nD τ).loc main_arg0)) a (t.val % 4 * 512 + (i + 8)) j := by
  have ht : t.val < 128 := t.isLt
  have hi := i.isLt
  unfold row
  rw [dif_pos (by omega)]
  obtain_idx k : S32x2048x6272 := [t.val / 4, t.val % 4 * 512 + (i + 8) - 8, (j : ℕ)] with hk
  have h : (X0_1 m c t : FVec Ideal S1x512x1536 .f32) (ix3 0 i j) = (V m c main_arg0 : FVec Ideal S32x2048x6272 .f32) (ix3 (k 0) (k 1) (k 2)) := by
    unfold X0_1 Pipeline.Window.fill
    rw [dif_pos (moved0_1 t _)]
    blk_point [iblk, idx t]
  rw [h, V_main_arg0]
  congr 1
  blk_ext

/-- The eight rows before. -/
theorem prev (c : Dev nD) (t : Fin cfg0.N) (i : Fin 8) (j : Fin 1536) (a : Fin 32) (ha : (a : ℕ) = t.val / 4) (h0 : t.val % 4 ≠ 0) :
    (X0_0 m c t : FVec Ideal S1x8x1536 .f32) (ix3 0 i j) = row (m ((c : Thread nD τ).loc main_arg0)) a (t.val % 4 * 512 + i) j := by
  have ht : t.val < 128 := t.isLt
  have hi := i.isLt
  unfold row
  rw [dif_pos (by omega)]
  obtain_idx k : S32x2048x6272 := [t.val / 4, t.val % 4 * 512 + i - 8, (j : ℕ)] with hk
  have h : (X0_0 m c t : FVec Ideal S1x8x1536 .f32) (ix3 0 i j) = (V m c main_arg0 : FVec Ideal S32x2048x6272 .f32) (ix3 (k 0) (k 1) (k 2)) := by
    unfold X0_0 Pipeline.Window.fill
    rw [dif_pos (moved0_0 t _)]
    blk_point [iblk, idx t]
  rw [h, V_main_arg0]
  congr 1
  blk_ext

/-- The eight rows after. -/
theorem following (c : Dev nD) (t : Fin cfg0.N) (i : Fin 8) (j : Fin 1536) (a : Fin 32) (ha : (a : ℕ) = t.val / 4) (h0 : t.val % 4 ≠ 3) :
    (X0_2 m c t : FVec Ideal S1x8x1536 .f32) (ix3 0 i j) = row (m ((c : Thread nD τ).loc main_arg0)) a (t.val % 4 * 512 + (i + 520)) j := by
  have ht : t.val < 128 := t.isLt
  have hi := i.isLt
  unfold row
  rw [dif_pos (by omega)]
  obtain_idx k : S32x2048x6272 := [t.val / 4, t.val % 4 * 512 + (i + 520) - 8, (j : ℕ)] with hk
  have h : (X0_2 m c t : FVec Ideal S1x8x1536 .f32) (ix3 0 i j) = (V m c main_arg0 : FVec Ideal S32x2048x6272 .f32) (ix3 (k 0) (k 1) (k 2)) := by
    unfold X0_2 Pipeline.Window.fill
    rw [dif_pos (moved0_2 t _)]
    blk_point [iblk, idx t]
  rw [h, V_main_arg0]
  congr 1
  blk_ext

end Cert.PrepPIdeal.Block

end
-- ==== Proof.PrepP.Value.lean ====
/- The preparation for the prompt batch: after the kernel's run its two results are the reference's composed terms. -/
module

public import proofs.«01_k».proof.Proof.PrepP.Block

@[expose] public section

set_option maxRecDepth 16384

noncomputable section

open Idealize.ShloMosaic Idealize.ShloMosaic.TcCoe Idealize.SL.Sem
open Idealize.ShloMosaic.Pipeline (Dat)

namespace Cert.PrepPIdeal.Block

open Cert.PrepPIdeal Cert.PrepPIdeal.Gen
open Cert.PrepPRefIdeal.Entry (row conv REF0 REF1 ref0_at ref1_at)
open Cert.PrepRefIdeal.Entry (five silu unit heads soft gates)
open Cert.PrepIdeal.Block (plain lane_in lane_out)

variable (m : (ℓ : Loc nD τ sig) → Buf (Elt Ideal) ℓ)

/-- A place of a stored head, from its row. -/
theorem place (x : S1x512x128.Idx) (r : Fin 512) (h : (r : ℕ) = x 1) : x = ix3 0 r (x 2) := by
  funext a
  fin_cases a
  · exact Subsingleton.elim (α := Fin 1) _ _
  · exact Fin.ext h.symm
  · rfl

section Stored

variable (v12 : FVec Ideal S528x1536 .f32) (v30 v32 : FVec Ideal S512x1536 .f32) (v33 v39 : Vec Ideal S1x1536 .f32)
  (Y : FVec Ideal S512x1536 .f32) (hY : k0_pay5 (F := Ideal) v12 v30 v32 v33 v39 = Y) (f : Fin 1536 → Ideal .f32) (r : Fin 512) (hy : ∀ l, Y (ix2 r l) = f l)
  (x : S1x512x128.Idx) (h1 : (r : ℕ) = x 1) (l : Fin 1536)

include hY hy h1 in
/-- Head 0 of the stored columns. -/
theorem head0 (h2 : (l : ℕ) = 0 + x 2) : k0_pay6 (F := Ideal) v12 v30 v32 v33 v39 x = heads f l := by
  have hx : (x 2 : ℕ) < 128 := (x 2).isLt
  rw [place x r h1]
  generalize (x 2 : Fin 128) = j at h2 hx
  pointwise [k0_pay6, hY]
  simp only [hy]
  exact scaled 0 (by decide) f j l h2 (fun q => ⟨q, by omega⟩) fun q => (Nat.zero_add _).symm

include hY hy h1 in
/-- Head 1 of the stored columns. -/
theorem head1 (h2 : (l : ℕ) = 128 + x 2) : k0_pay7 (F := Ideal) v12 v30 v32 v33 v39 x = heads f l := by
  have hx : (x 2 : ℕ) < 128 := (x 2).isLt
  rw [place x r h1]
  generalize (x 2 : Fin 128) = j at h2 hx
  pointwise [k0_pay7, hY]
  simp only [hy]
  exact scaled 1 (by decide) f j l h2 (fun q => ⟨128 + q, by omega⟩) fun q => rfl

include hY hy h1 in
/-- Head 2 of the stored columns. -/
theorem head2 (h2 : (l : ℕ) = 256 + x 2) : k0_pay10 (F := Ideal) (k0_pay8 v12 v30 v32 v33 v39) (k0_pay9 v12 v30 v32 v33 v39) x = heads f l := by
  have hx : (x 2 : ℕ) < 128 := (x 2).isLt
  rw [place x r h1]
  generalize (x 2 : Fin 128) = j at h2 hx
  pointwise [k0_pay10, k0_pay9, k0_pay8, hY]
  simp only [hy]
  exact scaled 2 (by decide) f j l h2 (fun q => ⟨256 + q, by omega⟩) fun q => rfl

include hy h1 in
/-- Head 3 of the stored columns. -/
theorem head3 (h2 : (l : ℕ) = 384 + x 2) : k0_pay11 (F := Ideal) Y x = heads f l := by
  have hx : (x 2 : ℕ) < 128 := (x 2).isLt
  rw [place x r h1]
  generalize (x 2 : Fin 128) = j at h2 hx
  pointwise [k0_pay11]
  simp only [hy]
  exact scaled 3 (by decide) f j l h2 (fun q => ⟨384 + q, by omega⟩) fun q => rfl

include hy h1 in
/-- Head 4 of the stored columns. -/
theorem head4 (h2 : (l : ℕ) = 512 + x 2) : k0_pay12 (F := Ideal) Y x = heads f l := by
  have hx : (x 2 : ℕ) < 128 := (x 2).isLt
  rw [place x r h1]
  generalize (x 2 : Fin 128) = j at h2 hx
  pointwise [k0_pay12]
  simp only [hy]
  exact plain 4 (by decide) (by decide) f j l h2 (fun q => ⟨512 + q, by omega⟩) fun q => rfl

include hy h1 in
/-- Head 5 of the stored columns. -/
theorem head5 (h2 : (l : ℕ) = 640 + x 2) : k0_pay15 (F := Ideal) (k0_pay13 Y) (k0_pay14 Y) x = heads f l := by
  have hx : (x 2 : ℕ) < 128 := (x 2).isLt
  rw [place x r h1]
  generalize (x 2 : Fin 128) = j at h2 hx
  pointwise [k0_pay15, k0_pay14, k0_pay13]
  simp only [hy]
  exact plain 5 (by decide) (by decide) f j l h2 (fun q => ⟨640 + q, by omega⟩) fun q => rfl

include hy h1 in
/-- Head 6 of the stored columns. -/
theorem head6 (h2 : (l : ℕ) = 768 + x 2) : k0_pay16 (F := Ideal) Y x = heads f l := by
  have hx : (x 2 : ℕ) < 128 := (x 2).isLt
  rw [place x r h1]
  generalize (x 2 : Fin 128) = j at h2 hx
  pointwise [k0_pay16]
  simp only [hy]
  exact plain 6 (by decide) (by decide) f j l h2 (fun q => ⟨768 + q, by omega⟩) fun q => rfl

include hy h1 in
/-- Head 7 of the stored columns. -/
theorem head7 (h2 : (l : ℕ) = 896 + x 2) : k0_pay17 (F := Ideal) Y x = heads f l := by
  have hx : (x 2 : ℕ) < 128 := (x 2).isLt
  rw [place x r h1]
  generalize (x 2 : Fin 128) = j at h2 hx
  pointwise [k0_pay17]
  simp only [hy]
  exact plain 7 (by decide) (by decide) f j l h2 (fun q => ⟨896 + q, by omega⟩) fun q => rfl

include hy in
/-- The rest of the stored columns. -/
theorem rest (x : S1x512x512.Idx) (h1 : (r : ℕ) = x 1) (h2 : (l : ℕ) = 1024 + x 2) : k0_pay18 (F := Ideal) Y x = heads f l := by
  have hx : (x 2 : ℕ) < 512 := (x 2).isLt
  have e : x = ix3 0 r (x 2) := by
    funext a
    fin_cases a
    · exact Subsingleton.elim (α := Fin 1) _ _
    · exact Fin.ext h1.symm
    · rfl
  rw [e]
  generalize (x 2 : Fin 512) = j at h2 hx
  pointwise [k0_pay18]
  rw [hy]
  unfold heads
  rw [if_neg (by omega), if_neg (by omega)]
  exact congrArg f (Fin.ext h2.symm)

end Stored

/-- A row of the convolution's weights as it is loaded. -/
theorem loaded (c : Dev nD) (t : Fin cfg0.N) (q : Fin 5) (inb) (l : Fin 1536) :
    (View.ld (iblk m c 4 t) (Rect.unit (s := S5x1536) ![(q : ℕ), 0] S1x1536.size inb) : FVec Ideal S1x1536 .f32) (ix2 0 l)
      = (m ((c : Thread nD τ).loc main_arg1) : FVec Ideal S5x1536 .f32) (ix2 q l) :=
  (View.ld_unit_apply_of (S := S5x1536) (iblk m c 4 t) ![(q : ℕ), 0] S1x1536.size inb (ix2 0 l) (ix2 q l) fun a => by
    fin_cases a
    · rfl
    · exact (Nat.zero_add _).symm).trans (weight m c t q l)

/-- The convolved columns of a block at point `t`. -/
theorem columns (c : Dev nD) (t : Fin cfg0.N) (a : Fin 32) (ha : (a : ℕ) = t.val / 4) (r : Fin 512) (l : Fin 1536) :
    k0_pay5 (F := Ideal) (k0_pay2 (grid0.coords t) (X0_0 m c t) (X0_2 m c t) (X0_1 m c t))
        (k0_pay3 (grid0.coords t) (X0_0 m c t) (X0_2 m c t) (X0_1 m c t)
          (View.ld (iblk m c 4 t) (Rect.unit ![0, 0] ![1, 1536] inb_S5x1536_S1x1536_0_0))
          (View.ld (iblk m c 4 t) (Rect.unit ![1, 0] ![1, 1536] inb_S5x1536_S1x1536_1_0))
          (View.ld (iblk m c 4 t) (Rect.unit ![2, 0] ![1, 1536] inb_S5x1536_S1x1536_2_0)))
        (k0_pay4 (grid0.coords t) (X0_0 m c t) (X0_2 m c t) (X0_1 m c t))
        (View.ld (iblk m c 4 t) (Rect.unit ![3, 0] ![1, 1536] inb_S5x1536_S1x1536_3_0))
        (View.ld (iblk m c 4 t) (Rect.unit ![4, 0] ![1, 1536] inb_S5x1536_S1x1536_4_0)) (ix2 r l)
      = conv (m ((c : Thread nD τ).loc main_arg0)) (m ((c : Thread nD τ).loc main_arg1)) a (t.val % 4 * 512 + r) l := by
  have h := conv_at (grid0.coords t) (X0_0 m c t) (X0_2 m c t) (X0_1 m c t) _ _ _ _ _ (m ((c : Thread nD τ).loc main_arg0)) (m ((c : Thread nD τ).loc main_arg1)) a l
    (ext_at (grid0.coords t) (X0_0 m c t) (X0_2 m c t) (X0_1 m c t) (m ((c : Thread nD τ).loc main_arg0)) a l
      (fun i e => by rw [coords] at e ⊢; exact prev m c t i l a ha e) (fun i => by rw [coords]; exact cur m c t i l a ha)
      (fun i e => by rw [coords] at e ⊢; exact following m c t i l a ha e))
    (loaded m c t 0 inb_S5x1536_S1x1536_0_0 l) (loaded m c t 1 inb_S5x1536_S1x1536_1_0 l) (loaded m c t 2 inb_S5x1536_S1x1536_2_0 l)
    (loaded m c t 3 inb_S5x1536_S1x1536_3_0 l) (loaded m c t 4 inb_S5x1536_S1x1536_4_0 l) r
  rw [coords] at h
  exact h

/-- One point's gates, at block index `y`, are the reference's at the array index `y` sits at. -/
theorem point8 (c : Dev nD) (t : Fin cfg0.N) (y) : (outsAt0 (F := Ideal) m c t).2 y
    = REF1 (m ((c : Thread nD τ).loc main_arg0)) (m ((c : Thread nD τ).loc main_arg2)) (m ((c : Thread nD τ).loc main_arg3)) (((cfg0.win 8).blk t).view.emb y) := by
  obtain_idx z : S32x2048x128 := [t.val / 4, t.val % 4 * 512 + (y 1 : ℕ), (y 2 : ℕ)] with hz
  have e : (((cfg0.win 8).blk t).view.emb y : S32x2048x128.Idx) = ix3 (z 0) (z 1) (z 2) := by blk_ext [idx t]
  have ey : y = ix3 0 (y 1) (y 2) := by blk_ext
  rw [e]
  refine Eq.trans ?_ (ref1_at _ _ _ (z 0) (z 1) (z 2)).symm
  have e2 : z 2 = y 2 := Fin.ext hz2
  rw [e2]
  have h := gates_at (iblk m c 3 t) (iblk m c 5 t) (iblk m c 6 t) (y 1) (y 2)
    (fun l => (m ((c : Thread nD τ).loc main_arg0) : FVec Ideal S32x2048x6272 .f32) (ix3 (z 0) (z 1) l))
    (fun d e => (m ((c : Thread nD τ).loc main_arg2) : FVec Ideal S2x4 .f32) (ix2 d e))
    (fun d e => (m ((c : Thread nD τ).loc main_arg3) : FVec Ideal S2x4 .f32) (ix2 d e))
    (fun l hl => small m c t (y 1) (y 2) (z 0) (z 1) l hz0 hz1 hl)
    (fun d e h => (alog m c t (y 2)).trans (lane_in _ _ d e h)) (fun h => (alog m c t (y 2)).trans (lane_out _ _ h))
    (fun d e h => (dtb m c t (y 2)).trans (lane_in _ _ d e h)) (fun h => (dtb m c t (y 2)).trans (lane_out _ _ h))
  refine Eq.trans ?_ h
  unfold outsAt0
  frame_out
  rw [ey]
  rfl

/-- One point's convolved columns, at block index `y`, are the reference's at the array index `y` sits at. -/
theorem point7 (c : Dev nD) (t : Fin cfg0.N) (y) : (outsAt0 (F := Ideal) m c t).1 y
    = REF0 (m ((c : Thread nD τ).loc main_arg0)) (m ((c : Thread nD τ).loc main_arg1)) (((cfg0.win 7).blk t).view.emb y) := by
  obtain_idx z : S32x2048x1536 := [t.val / 4, t.val % 4 * 512 + (y 1 : ℕ), (y 2 : ℕ)] with hz
  have e : (((cfg0.win 7).blk t).view.emb y : S32x2048x1536.Idx) = ix3 (z 0) (z 1) (z 2) := by blk_ext [idx t]
  have ey : y = ix3 0 (y 1) (y 2) := by blk_ext
  rw [e]
  refine Eq.trans ?_ (ref0_at _ _ (z 0) (z 1) (z 2)).symm
  have e2 : z 2 = y 2 := Fin.ext hz2
  rw [e2, hz1]
  unfold outsAt0
  frame_out
  canon_tiles x h using View.cover_of_tiledBy _ ![1, 512, 128] (by sl_kernel_rfl) y
  · exact rest _ _ (y 1) (columns m c t (z 0) hz0 (y 1)) (y 2) x h1 h2
  · exact head7 _ _ (y 1) (columns m c t (z 0) hz0 (y 1)) x h1 (y 2) h2
  · exact head6 _ _ (y 1) (columns m c t (z 0) hz0 (y 1)) x h1 (y 2) h2
  · exact head5 _ _ (y 1) (columns m c t (z 0) hz0 (y 1)) x h1 (y 2) h2
  · exact head4 _ _ (y 1) (columns m c t (z 0) hz0 (y 1)) x h1 (y 2) h2
  · exact head3 _ _ (y 1) (columns m c t (z 0) hz0 (y 1)) x h1 (y 2) h2
  · exact head2 _ _ _ _ _ _ rfl _ (y 1) (columns m c t (z 0) hz0 (y 1)) x h1 (y 2) h2
  · exact head1 _ _ _ _ _ _ rfl _ (y 1) (columns m c t (z 0) hz0 (y 1)) x h1 (y 2) h2
  · exact head0 _ _ _ _ _ _ rfl _ (y 1) (columns m c t (z 0) hz0 (y 1)) x h1 (y 2) (h2.trans (Nat.zero_add _).symm)

/-- The convolved columns after the run are the reference's. -/
theorem result7 (c : Dev nD) : (dats m 0 c).arrAt 7 (cfgs 0).N
    = REF0 (m ((c : Thread nD τ).loc main_arg0)) (m ((c : Thread nD τ).loc main_arg1)) := by
  refine (dats m 0 c).arrAt_eq_of_covers 7 _ (by decide +kernel) fun t _ y => ?_
  blk_simp
  rw [after0_7]
  exact point7 m c t y

/-- The gates after the run are the reference's. -/
theorem result8 (c : Dev nD) : (dats m 0 c).arrAt 8 (cfgs 0).N
    = REF1 (m ((c : Thread nD τ).loc main_arg0)) (m ((c : Thread nD τ).loc main_arg2)) (m ((c : Thread nD τ).loc main_arg3)) := by
  refine (dats m 0 c).arrAt_eq_of_covers 8 _ (by decide +kernel) fun t _ y => ?_
  blk_simp
  rw [after0_8]
  exact point8 m c t y

end Cert.PrepPIdeal.Block

end
-- ==== Proof.ScanP.Spec.lean ====
/- The recurrence of the delta rule over the chunks of each of the prompt batch's sequences, by the step of the sample
   batch's: one state of `128 × 128` values per sequence, direction and head. -/
module

public import proofs.«01_k».proof.Proof.Scan.Spec

@[expose] public section

noncomputable section

namespace Cert.ScanP

open Cert.Scan (col next)

/-- What the recurrence reads, the two directions (`0` forwards, `1` backwards) side by side: `u`, `w` and the queries
    `q` by sequence, token and column, the keys `k`, the attention `a` and the decay `g` by sequence, chunk and head. -/
structure Args where
  u : Fin 2 → Fin 32 → Fin 2048 → Fin 512 → EReal
  w : Fin 2 → Fin 32 → Fin 2048 → Fin 512 → EReal
  q : Fin 2 → Fin 32 → Fin 2048 → Fin 512 → EReal
  k : Fin 2 → Fin 32 → Fin 32 → Fin 4 → Fin 128 → Fin 64 → EReal
  a : Fin 2 → Fin 32 → Fin 32 → Fin 4 → Fin 64 → Fin 64 → EReal
  g : Fin 2 → Fin 32 → Fin 32 → Fin 4 → Fin 128 → EReal

/-- The chunk that direction `d` reads at step `n`: the `n`-th from the front, or from the end. -/
def chunk (d : Fin 2) (n : ℕ) : Fin 32 :=
  if d = 0 then ⟨n % 32, Nat.mod_lt _ (by omega)⟩ else ⟨31 - n % 32, by omega⟩

/-- Token `i` of chunk `b`. -/
def row (b : Fin 32) (i : Fin 64) : Fin 2048 := ⟨b * 64 + i, by omega⟩

/-- The state of sequence `s`, direction `d` and head `h` before step `n`. -/
def Args.state (A : Args) (d : Fin 2) (s : Fin 32) (h : Fin 4) : ℕ → Fin 128 → Fin 128 → EReal
  | 0 => fun _ _ => 0
  | n + 1 => next (fun i v => A.u d s (row (chunk d n) i) (col h v)) (fun i v => A.w d s (row (chunk d n) i) (col h v))
      (A.k d s (chunk d n) h) (A.g d s (chunk d n) h) (A.state d s h n)

/-- The output of sequence `s`, direction `d` and head `h` at step `n`. -/
def Args.out (A : Args) (d : Fin 2) (s : Fin 32) (h : Fin 4) (n : ℕ) : Fin 64 → Fin 128 → EReal :=
  Cert.Scan.out (fun i v => A.u d s (row (chunk d n) i) (col h v)) (fun i v => A.w d s (row (chunk d n) i) (col h v))
    (fun i v => A.q d s (row (chunk d n) i) (col h v)) (A.a d s (chunk d n) h) (A.state d s h n)

end Cert.ScanP
-- ==== Proof.ScanP.Block.lean ====
/- One grid point of the recurrence's kernel at the prompt batch: what it stores, sequence by sequence and head by head,
   from the state it finds. -/
module

public import proofs.«01_k».proof.Proof.Gen.ScanPIdeal.Frame
public import proofs.«01_k».proof.Proof.ScanP.Spec
public import Idealize.ShloMosaic.Lib.Pipeline.ValueKit
public import Idealize.ShloMosaic.Lib.Pipeline.ReadBack
public import Idealize.ShloMosaic.Lib.Pipeline.CanonAppend
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ScanPIdeal.Scan

open Cert.ScanPIdeal Cert.ScanPIdeal.Gen
open Cert.Scan (fresh out next col out_congr next_congr)

/-- A head's columns of a sequence lie in the block. -/
theorem colsIn {b h : ℕ} (hb : b < 4) (hh : h < 4) : ∀ a, (![b, 0, h * 128] : Fin 3 → ℕ) a + (![1, 64, 128] : Fin 3 → ℕ) a ≤ S4x64x512.size a := by
  intro a; fin_cases a <;> simp <;> omega

/-- A head's keys of a sequence lie in the block. -/
theorem keysIn {b h : ℕ} (hb : b < 4) (hh : h < 4) : ∀ a, (![b, 0, h, 0, 0] : Fin 5 → ℕ) a + (![1, 1, 1, 128, 64] : Fin 5 → ℕ) a ≤ S4x1x4x128x64.size a := by
  intro a; fin_cases a <;> simp <;> omega

/-- A head's attention of a sequence lies in the block. -/
theorem attnIn {b h : ℕ} (hb : b < 4) (hh : h < 4) : ∀ a, (![b, 0, h, 0, 0] : Fin 5 → ℕ) a + (![1, 1, 1, 64, 64] : Fin 5 → ℕ) a ≤ S4x1x4x64x64.size a := by
  intro a; fin_cases a <;> simp <;> omega

/-- A head's decay of a sequence lies in the block. -/
theorem decayIn {b e : ℕ} (hb : b < 4) (he : e < 8) : ∀ a, (![b, 0, e, 0] : Fin 4 → ℕ) a + (![1, 1, 1, 128] : Fin 4 → ℕ) a ≤ S4x1x8x128.size a := by
  intro a; fin_cases a <;> simp <;> omega

/-- A head's state of a sequence lies in the scratch buffer. -/
theorem stateIn {b d h : ℕ} (hb : b < 4) (hd : d < 2) (hh : h < 4) :
    ∀ a, (![b, d, h, 0, 0] : Fin 5 → ℕ) a + (![1, 1, 1, 128, 128] : Fin 5 → ℕ) a ≤ S4x2x4x128x128.size a := by
  intro a; fin_cases a <;> simp <;> omega

section Head

variable (X : Vec Ideal S4x2x4x128x128 .f32) (U : Vec Ideal S4x64x512 .f32) (W Q : Vec Ideal S4x64x512 .bf16)
  (K : Vec Ideal S4x1x4x128x64 .bf16) (A : Vec Ideal S4x1x4x64x64 .bf16) (G : Vec Ideal S4x1x8x128 .f32)

/-- The state the kernel stores for one sequence, direction and head. -/
def headState (b d h e : ℕ) (hb : b < 4) (hd : d < 2) (hh : h < 4) (he : e < 8) : FVec Ideal S1x1x1x128x128 .f32 :=
  k0_pay232 (k0_pay3 (View.ld X (Rect.unit ![b, d, h, 0, 0] ![1, 1, 1, 128, 128] (stateIn hb hd hh))))
    (k0_pay199 (k0_pay133 (k0_pay67 (k0_pay35 (k0_pay3 (View.ld X (Rect.unit ![b, d, h, 0, 0] ![1, 1, 1, 128, 128] (stateIn hb hd hh)))))
      (View.ld W (Rect.unit ![b, 0, h * 128] ![1, 64, 128] (colsIn hb hh)))) (View.ld U (Rect.unit ![b, 0, h * 128] ![1, 64, 128] (colsIn hb hh))))
      (View.ld K (Rect.unit ![b, 0, h, 0, 0] ![1, 1, 1, 128, 64] (keysIn hb hh))))
    (View.ld G (Rect.unit ![b, 0, e, 0] ![1, 1, 1, 128] (decayIn hb he)))

/-- The output the kernel stores for one sequence, direction and head. -/
def headOut (b d h : ℕ) (hb : b < 4) (hd : d < 2) (hh : h < 4) : FVec Ideal S1x64x128 .f32 :=
  k0_pay231 (k0_pay101 (k0_pay35 (k0_pay3 (View.ld X (Rect.unit ![b, d, h, 0, 0] ![1, 1, 1, 128, 128] (stateIn hb hd hh)))))
      (View.ld Q (Rect.unit ![b, 0, h * 128] ![1, 64, 128] (colsIn hb hh))))
    (k0_pay167 (k0_pay133 (k0_pay67 (k0_pay35 (k0_pay3 (View.ld X (Rect.unit ![b, d, h, 0, 0] ![1, 1, 1, 128, 128] (stateIn hb hd hh)))))
      (View.ld W (Rect.unit ![b, 0, h * 128] ![1, 64, 128] (colsIn hb hh)))) (View.ld U (Rect.unit ![b, 0, h * 128] ![1, 64, 128] (colsIn hb hh))))
      (View.ld A (Rect.unit ![b, 0, h, 0, 0] ![1, 1, 1, 64, 64] (attnIn hb hh))))

/-- The new state over loaded blocks. -/
theorem next_apply (S : FVec Ideal S1x1x1x128x128 .f32) (u : FVec Ideal S1x64x128 .f32) (w : FVec Ideal S1x64x128 .bf16)
    (kt : FVec Ideal S1x1x1x128x64 .bf16) (g : FVec Ideal S1x1x1x128 .f32) (k v : Fin 128) :
    (k0_pay232 (k0_pay3 S) (k0_pay199 (k0_pay133 (k0_pay67 (k0_pay35 (k0_pay3 S)) w) u) kt) g : FVec Ideal S1x1x1x128x128 .f32) (ix5 0 0 0 k v)
      = next (fun i v => u (ix3 0 i v)) (fun i v => w (ix3 0 i v)) (fun k i => kt (ix5 0 0 0 k i)) (fun v => g (ix4 0 0 0 v))
          (fun k v => S (ix5 0 0 0 k v)) k v := by
  pointwise [k0_pay232, k0_pay3, k0_pay199, k0_pay133, k0_pay67, k0_pay35, next, fresh]

/-- The output over loaded blocks. -/
theorem out_apply (S : FVec Ideal S1x1x1x128x128 .f32) (u : FVec Ideal S1x64x128 .f32) (w q : FVec Ideal S1x64x128 .bf16)
    (a : FVec Ideal S1x1x1x64x64 .bf16) (i : Fin 64) (v : Fin 128) :
    (k0_pay231 (k0_pay101 (k0_pay35 (k0_pay3 S)) q) (k0_pay167 (k0_pay133 (k0_pay67 (k0_pay35 (k0_pay3 S)) w) u) a) : FVec Ideal S1x64x128 .f32) (ix3 0 i v)
      = out (fun i v => u (ix3 0 i v)) (fun i v => w (ix3 0 i v)) (fun i v => q (ix3 0 i v)) (fun i j => a (ix5 0 0 0 i j))
          (fun k v => S (ix5 0 0 0 k v)) i v := by
  pointwise [k0_pay231, k0_pay3, k0_pay101, k0_pay167, k0_pay133, k0_pay67, k0_pay35, out, fresh]

/-- A head's columns of a sequence read from a block. -/
theorem ld_cols {e : EltTy} (Y : Vec Ideal S4x64x512 e) (b h : Fin 4) (i : Fin 64) (v : Fin 128) :
    (View.ld Y (Rect.unit ![b.val, 0, h.val * 128] ![1, 64, 128] (colsIn b.isLt h.isLt)) : Vec Ideal S1x64x128 e) (ix3 0 i v) = Y (ix3 b i (col h v)) :=
  View.ld_unit_apply_of _ _ _ _ _ _ (by intro a; fin_cases a <;> simp [ix3, col])

/-- A head's state of a sequence read from the scratch buffer. -/
theorem ld_state (b : Fin 4) (d : Fin 2) (h : Fin 4) (k v : Fin 128) :
    (View.ld X (Rect.unit ![b.val, d.val, h.val, 0, 0] ![1, 1, 1, 128, 128] (stateIn b.isLt d.isLt h.isLt)) : FVec Ideal S1x1x1x128x128 .f32) (ix5 0 0 0 k v)
      = X (ix5 b d h k v) :=
  View.ld_unit_apply_of _ _ _ _ _ _ (by intro a; fin_cases a <;> simp [ix5])

/-- A head's keys of a sequence read from a block. -/
theorem ld_keys (b h : Fin 4) (k : Fin 128) (i : Fin 64) :
    (View.ld K (Rect.unit ![b.val, 0, h.val, 0, 0] ![1, 1, 1, 128, 64] (keysIn b.isLt h.isLt)) : FVec Ideal S1x1x1x128x64 .bf16) (ix5 0 0 0 k i)
      = K (ix5 b 0 h k i) :=
  View.ld_unit_apply_of _ _ _ _ _ _ (by intro a; fin_cases a <;> simp [ix5])

/-- A head's attention of a sequence read from a block. -/
theorem ld_attn (b h : Fin 4) (i j : Fin 64) :
    (View.ld A (Rect.unit ![b.val, 0, h.val, 0, 0] ![1, 1, 1, 64, 64] (attnIn b.isLt h.isLt)) : FVec Ideal S1x1x1x64x64 .bf16) (ix5 0 0 0 i j)
      = A (ix5 b 0 h i j) :=
  View.ld_unit_apply_of _ _ _ _ _ _ (by intro a; fin_cases a <;> simp [ix5])

/-- A head's decay of a sequence read from a block. -/
theorem ld_decay (b : Fin 4) (e : Fin 8) (v : Fin 128) :
    (View.ld G (Rect.unit ![b.val, 0, e.val, 0] ![1, 1, 1, 128] (decayIn b.isLt e.isLt)) : FVec Ideal S1x1x1x128 .f32) (ix4 0 0 0 v)
      = G (ix4 b 0 e v) :=
  View.ld_unit_apply_of _ _ _ _ _ _ (by intro a; fin_cases a <;> simp [ix4])

/-- The stored state of a head, by the recurrence's own step. -/
theorem headState_apply (b : Fin 4) (d : Fin 2) (h : Fin 4) (e : Fin 8) (k v : Fin 128) :
    headState X U W K G b d h e b.isLt d.isLt h.isLt e.isLt (ix5 0 0 0 k v)
      = next (fun i v => U (ix3 b i (col h v))) (fun i v => W (ix3 b i (col h v))) (fun k i => K (ix5 b 0 h k i)) (fun v => G (ix4 b 0 e v))
          (fun k v => X (ix5 b d h k v)) k v := by
  exact (next_apply _ _ _ _ _ k v).trans (next_congr (ld_cols U b h) (ld_cols W b h) (ld_keys K b h) (ld_decay G b e) (ld_state X b d h) k v)

/-- The stored output of a head, by the recurrence's own step. -/
theorem headOut_apply (b : Fin 4) (d : Fin 2) (h : Fin 4) (i : Fin 64) (v : Fin 128) :
    headOut X U W Q A b d h b.isLt d.isLt h.isLt (ix3 0 i v)
      = out (fun i v => U (ix3 b i (col h v))) (fun i v => W (ix3 b i (col h v))) (fun i v => Q (ix3 b i (col h v))) (fun i j => A (ix5 b 0 h i j))
          (fun k v => X (ix5 b d h k v)) i v := by
  exact (out_apply _ _ _ _ _ i v).trans (out_congr (ld_cols U b h) (ld_cols W b h) (ld_cols Q b h) (ld_attn A b h) (ld_state X b d h) i v)

end Head

end Cert.ScanPIdeal.Scan
-- ==== Proof.ScanP.Arrays.lean ====
/- The recurrence of the prompt batch in its argument and result arrays. -/
module

public import proofs.«01_k».proof.Proof.Gen.ScanPIdeal
public import proofs.«01_k».proof.Proof.ScanP.Spec
public import Idealize.ShloMosaic.Lib.Pointwise

@[expose] public section

noncomputable section

open Idealize.ShloMosaic Idealize.ShloMosaic.TcCoe Idealize.SL.Sem

namespace Cert.ScanP

open Cert.ScanPIdeal
open Cert.Scan (col)

/-- The row of the decay's block that direction `d` and head `h` read. -/
def drow (d : Fin 2) (h : Fin 4) : Fin 8 := ⟨d * 4 + h, by omega⟩

/-- The recurrence's operands, of the eleven argument arrays. -/
def ofArrays (uf : FVec Ideal S32x2048x512 .f32) (wf qf : FVec Ideal S32x2048x512 .bf16) (kf : FVec Ideal S32x32x4x128x64 .bf16)
    (af : FVec Ideal S32x32x4x64x64 .bf16) (ub : FVec Ideal S32x2048x512 .f32) (wb qb : FVec Ideal S32x2048x512 .bf16)
    (kb : FVec Ideal S32x32x4x128x64 .bf16) (ab : FVec Ideal S32x32x4x64x64 .bf16) (g : FVec Ideal S32x32x8x128 .f32) : Args where
  u d s r j := if d = 0 then uf (ix3 s r j) else ub (ix3 s r j)
  w d s r j := if d = 0 then wf (ix3 s r j) else wb (ix3 s r j)
  q d s r j := if d = 0 then qf (ix3 s r j) else qb (ix3 s r j)
  k d s b h k i := if d = 0 then kf (ix5 s b h k i) else kb (ix5 s b h k i)
  a d s b h i j := if d = 0 then af (ix5 s b h i j) else ab (ix5 s b h i j)
  g d s b h v := g (ix4 s b (drow d h) v)

/-- A direction's outputs as an array by sequence, token and column. -/
def outs (A : Args) (d : Fin 2) : FVec Ideal S32x2048x512 .f32 := fun y =>
  A.out d (y 0) ⟨(y 2 : ℕ) / 128, by have := (y 2).isLt; change (y 2 : ℕ) < 512 at this; omega⟩
    (if d = 0 then (y 1 : ℕ) / 64 else 31 - (y 1 : ℕ) / 64) ⟨(y 1 : ℕ) % 64, by omega⟩ ⟨(y 2 : ℕ) % 128, by omega⟩

/-- The array at a sequence, a token of a chunk and a column of a head. -/
theorem outs_apply (A : Args) (d : Fin 2) (s : Fin 32) (n : ℕ) (hn : n < 32) (h : Fin 4) (i : Fin 64) (v : Fin 128) :
    outs A d (ix3 s (row (chunk d n) i) (col h v)) = A.out d s h n i v := by
  have hc : (if d = 0 then (chunk d n : ℕ) else 31 - (chunk d n : ℕ)) = n := by
    unfold chunk
    split_ifs <;> simp only <;> omega
  have e0 : ((row (chunk d n) i : Fin 2048) : ℕ) / 64 = chunk d n := by simp only [row]; omega
  have e1 : (⟨((row (chunk d n) i : Fin 2048) : ℕ) % 64, by omega⟩ : Fin 64) = i := Fin.ext (by simp only [row]; omega)
  have e2 : (⟨(col h v : ℕ) / 128, by have := (col h v).isLt; omega⟩ : Fin 4) = h := Fin.ext (by simp only [col]; omega)
  have e3 : (⟨(col h v : ℕ) % 128, by omega⟩ : Fin 128) = v := Fin.ext (by simp only [col]; omega)
  show A.out d s ⟨(col h v : ℕ) / 128, _⟩ (if d = 0 then ((row (chunk d n) i : Fin 2048) : ℕ) / 64 else 31 - ((row (chunk d n) i : Fin 2048) : ℕ) / 64)
    ⟨((row (chunk d n) i : Fin 2048) : ℕ) % 64, _⟩ ⟨(col h v : ℕ) % 128, _⟩ = _
  rw [e1, e2, e3, e0, hc]

end Cert.ScanP
-- ==== Proof.ScanP.Tiles.lean ====
/- What each grid point of the recurrence's kernel at the prompt batch leaves in its two output blocks and in the state,
   over the state that the point before left. -/
module

public import proofs.«01_k».proof.Proof.ScanP.Block
public import proofs.«01_k».proof.Proof.ScanP.Arrays

@[expose] public section

set_option maxRecDepth 16384

noncomputable section

open Idealize.ShloMosaic Idealize.ShloMosaic.TcCoe Idealize.SL.Sem
open Idealize.ShloMosaic.Pipeline (Dat)

namespace Cert.ScanPIdeal.Scan

open Cert.ScanPIdeal Cert.ScanPIdeal.Gen
open Cert.Scan (fresh out next col out_congr next_congr)
open Cert.ScanP (drow)

/-- The first of two things for the forward direction, the second for the backward one. -/
abbrev pick {α : Type} (d : Fin 2) (x y : α) : α := if d = 0 then x else y

section Pieces

variable (X : Vec Ideal S4x2x4x128x128 .f32) (U : Vec Ideal S4x64x512 .f32) (W Q : Vec Ideal S4x64x512 .bf16)
  (K : Vec Ideal S4x1x4x128x64 .bf16) (A : Vec Ideal S4x1x4x64x64 .bf16) (G : Vec Ideal S4x1x8x128 .f32)

/-- A head's output piece, where it holds a place of the block. -/
theorem outTile (b' : Fin 4) (d : Fin 2) (h' : Fin 4) (b h : Fin 4) (i : Fin 64) (v : Fin 128) :
    View.TileAt (Val := Elt Ideal) (S := S4x64x512) (e := .f32) (ix3 b i (col h v)) ![b'.val, 0, h'.val * 128] ![1, 64, 128]
      (headOut X U W Q A b' d h' b'.isLt d.isLt h'.isLt)
      (out (fun i v => U (ix3 b i (col h v))) (fun i v => W (ix3 b i (col h v))) (fun i v => Q (ix3 b i (col h v))) (fun i j => A (ix5 b 0 h i j))
          (fun k v => X (ix5 b d h k v)) i v) := by
  intro x hx
  have e0 : (b : ℕ) = b' + x 0 := hx 0
  have e1 : (i : ℕ) = 0 + x 1 := hx 1
  have e2 : (h : ℕ) * 128 + v = h' * 128 + x 2 := hx 2
  have h0 : (x 0 : ℕ) < 1 := (x 0).isLt
  have h2 : (x 2 : ℕ) < 128 := (x 2).isLt
  have hv := v.isLt
  obtain rfl : b' = b := Fin.ext (by omega)
  obtain rfl : h' = h := Fin.ext (by omega)
  have ex : x = ix3 0 i v := by
    funext a
    fin_cases a
    · exact Subsingleton.elim (α := Fin 1) _ _
    · exact Fin.ext (by change (x 1 : ℕ) = i; omega)
    · exact Fin.ext (by change (x 2 : ℕ) = v; omega)
  rw [ex]
  exact headOut_apply X U W Q A b' d h' i v

/-- One direction's outputs as the body stores them. -/
abbrev outPieces (d : ℕ) (hd : d < 2) : List (View.Piece (Elt Ideal) S4x64x512 .f32) :=
  [⟨Rect.unit ![3, 0, 384] ![1, 64, 128] (colsIn (b := 3) (h := 3) (by decide) (by decide)), headOut X U W Q A 3 d 3 (by decide) hd (by decide)⟩,
   ⟨Rect.unit ![3, 0, 256] ![1, 64, 128] (colsIn (b := 3) (h := 2) (by decide) (by decide)), headOut X U W Q A 3 d 2 (by decide) hd (by decide)⟩,
   ⟨Rect.unit ![3, 0, 128] ![1, 64, 128] (colsIn (b := 3) (h := 1) (by decide) (by decide)), headOut X U W Q A 3 d 1 (by decide) hd (by decide)⟩,
   ⟨Rect.unit ![3, 0, 0] ![1, 64, 128] (colsIn (b := 3) (h := 0) (by decide) (by decide)), headOut X U W Q A 3 d 0 (by decide) hd (by decide)⟩,
   ⟨Rect.unit ![2, 0, 384] ![1, 64, 128] (colsIn (b := 2) (h := 3) (by decide) (by decide)), headOut X U W Q A 2 d 3 (by decide) hd (by decide)⟩,
   ⟨Rect.unit ![2, 0, 256] ![1, 64, 128] (colsIn (b := 2) (h := 2) (by decide) (by decide)), headOut X U W Q A 2 d 2 (by decide) hd (by decide)⟩,
   ⟨Rect.unit ![2, 0, 128] ![1, 64, 128] (colsIn (b := 2) (h := 1) (by decide) (by decide)), headOut X U W Q A 2 d 1 (by decide) hd (by decide)⟩,
   ⟨Rect.unit ![2, 0, 0] ![1, 64, 128] (colsIn (b := 2) (h := 0) (by decide) (by decide)), headOut X U W Q A 2 d 0 (by decide) hd (by decide)⟩,
   ⟨Rect.unit ![1, 0, 384] ![1, 64, 128] (colsIn (b := 1) (h := 3) (by decide) (by decide)), headOut X U W Q A 1 d 3 (by decide) hd (by decide)⟩,
   ⟨Rect.unit ![1, 0, 256] ![1, 64, 128] (colsIn (b := 1) (h := 2) (by decide) (by decide)), headOut X U W Q A 1 d 2 (by decide) hd (by decide)⟩,
   ⟨Rect.unit ![1, 0, 128] ![1, 64, 128] (colsIn (b := 1) (h := 1) (by decide) (by decide)), headOut X U W Q A 1 d 1 (by decide) hd (by decide)⟩,
   ⟨Rect.unit ![1, 0, 0] ![1, 64, 128] (colsIn (b := 1) (h := 0) (by decide) (by decide)), headOut X U W Q A 1 d 0 (by decide) hd (by decide)⟩,
   ⟨Rect.unit ![0, 0, 384] ![1, 64, 128] (colsIn (b := 0) (h := 3) (by decide) (by decide)), headOut X U W Q A 0 d 3 (by decide) hd (by decide)⟩,
   ⟨Rect.unit ![0, 0, 256] ![1, 64, 128] (colsIn (b := 0) (h := 2) (by decide) (by decide)), headOut X U W Q A 0 d 2 (by decide) hd (by decide)⟩,
   ⟨Rect.unit ![0, 0, 128] ![1, 64, 128] (colsIn (b := 0) (h := 1) (by decide) (by decide)), headOut X U W Q A 0 d 1 (by decide) hd (by decide)⟩,
   ⟨Rect.unit ![0, 0, 0] ![1, 64, 128] (colsIn (b := 0) (h := 0) (by decide) (by decide)), headOut X U W Q A 0 d 0 (by decide) hd (by decide)⟩]

/-- The stored outputs, at a place of the block. -/
theorem outBlock (d : ℕ) (hd : d < 2) (b h : Fin 4) (i : Fin 64) (v : Fin 128) :
    View.canon (outPieces X U W Q A d hd) (ix3 b i (col h v))
      = out (fun i v => U (ix3 b i (col h v))) (fun i v => W (ix3 b i (col h v))) (fun i v => Q (ix3 b i (col h v))) (fun i j => A (ix5 b 0 h i j))
          (fun k v => X (ix5 b ⟨d, hd⟩ h k v)) i v :=
  View.canon_eq_of_allAt _ _ _ (View.cover_of_tiled _ ![1, 64, 128] rfl _)
    (View.allAt_cons_unit _ _ _ _ _ (outTile X U W Q A 3 ⟨d, hd⟩ 3 b h i v)
    (View.allAt_cons_unit _ _ _ _ _ (outTile X U W Q A 3 ⟨d, hd⟩ 2 b h i v)
    (View.allAt_cons_unit _ _ _ _ _ (outTile X U W Q A 3 ⟨d, hd⟩ 1 b h i v)
    (View.allAt_cons_unit _ _ _ _ _ (outTile X U W Q A 3 ⟨d, hd⟩ 0 b h i v)
    (View.allAt_cons_unit _ _ _ _ _ (outTile X U W Q A 2 ⟨d, hd⟩ 3 b h i v)
    (View.allAt_cons_unit _ _ _ _ _ (outTile X U W Q A 2 ⟨d, hd⟩ 2 b h i v)
    (View.allAt_cons_unit _ _ _ _ _ (outTile X U W Q A 2 ⟨d, hd⟩ 1 b h i v)
    (View.allAt_cons_unit _ _ _ _ _ (outTile X U W Q A 2 ⟨d, hd⟩ 0 b h i v)
    (View.allAt_cons_unit _ _ _ _ _ (outTile X U W Q A 1 ⟨d, hd⟩ 3 b h i v)
    (View.allAt_cons_unit _ _ _ _ _ (outTile X U W Q A 1 ⟨d, hd⟩ 2 b h i v)
    (View.allAt_cons_unit _ _ _ _ _ (outTile X U W Q A 1 ⟨d, hd⟩ 1 b h i v)
    (View.allAt_cons_unit _ _ _ _ _ (outTile X U W Q A 1 ⟨d, hd⟩ 0 b h i v)
    (View.allAt_cons_unit _ _ _ _ _ (outTile X U W Q A 0 ⟨d, hd⟩ 3 b h i v)
    (View.allAt_cons_unit _ _ _ _ _ (outTile X U W Q A 0 ⟨d, hd⟩ 2 b h i v)
    (View.allAt_cons_unit _ _ _ _ _ (outTile X U W Q A 0 ⟨d, hd⟩ 1 b h i v)
    (View.allAt_cons_unit _ _ _ _ _ (outTile X U W Q A 0 ⟨d, hd⟩ 0 b h i v)
    (View.allAt_nil _ _)))))))))))))))))

end Pieces

section States

variable (X : Vec Ideal S4x2x4x128x128 .f32) (U U' : Vec Ideal S4x64x512 .f32) (W W' : Vec Ideal S4x64x512 .bf16)
  (K K' : Vec Ideal S4x1x4x128x64 .bf16) (G G' : Vec Ideal S4x1x8x128 .f32)

/-- A head's state piece, where it holds a place of the scratch buffer. -/
theorem stateTile (b' : Fin 4) (d' : Fin 2) (h' : Fin 4) (b : Fin 4) (d : Fin 2) (h : Fin 4) (k v : Fin 128) :
    View.TileAt (Val := Elt Ideal) (S := S4x2x4x128x128) (e := .f32) (ix5 b d h k v) ![b'.val, d'.val, h'.val, 0, 0] ![1, 1, 1, 128, 128]
      (headState X (pick d' U U') (pick d' W W') (pick d' K K') (pick d' G G') b' d' h' (drow d' h') b'.isLt d'.isLt h'.isLt (drow d' h').isLt)
      (next (fun i v => (pick d U U') (ix3 b i (col h v))) (fun i v => (pick d W W') (ix3 b i (col h v)))
          (fun k i => (pick d K K') (ix5 b 0 h k i)) (fun v => (pick d G G') (ix4 b 0 (drow d h) v))
          (fun k v => X (ix5 b d h k v)) k v) := by
  intro x hx
  have e0 : (b : ℕ) = b' + x 0 := hx 0
  have e1 : (d : ℕ) = d' + x 1 := hx 1
  have e2 : (h : ℕ) = h' + x 2 := hx 2
  have e3 : (k : ℕ) = 0 + x 3 := hx 3
  have e4 : (v : ℕ) = 0 + x 4 := hx 4
  have h0 : (x 0 : ℕ) < 1 := (x 0).isLt
  have h1 : (x 1 : ℕ) < 1 := (x 1).isLt
  have h2 : (x 2 : ℕ) < 1 := (x 2).isLt
  obtain rfl : b' = b := Fin.ext (by omega)
  obtain rfl : d' = d := Fin.ext (by omega)
  obtain rfl : h' = h := Fin.ext (by omega)
  have ex : x = ix5 0 0 0 k v := by
    funext a
    fin_cases a
    · exact Subsingleton.elim (α := Fin 1) _ _
    · exact Subsingleton.elim (α := Fin 1) _ _
    · exact Subsingleton.elim (α := Fin 1) _ _
    · exact Fin.ext (by change (x 3 : ℕ) = k; omega)
    · exact Fin.ext (by change (x 4 : ℕ) = v; omega)
  rw [ex]
  exact headState_apply X _ _ _ _ b' d' h' (drow d' h') k v

/-- The heads' states as the body stores them. -/
abbrev states : List (View.Piece (Elt Ideal) S4x2x4x128x128 .f32) :=
  [⟨Rect.unit ![3, 1, 3, 0, 0] ![1, 1, 1, 128, 128] (stateIn (by decide) (by decide) (by decide)), headState X U' W' K' G' 3 1 3 7 (by decide) (by decide) (by decide) (by decide)⟩,
   ⟨Rect.unit ![3, 1, 2, 0, 0] ![1, 1, 1, 128, 128] (stateIn (by decide) (by decide) (by decide)), headState X U' W' K' G' 3 1 2 6 (by decide) (by decide) (by decide) (by decide)⟩,
   ⟨Rect.unit ![3, 1, 1, 0, 0] ![1, 1, 1, 128, 128] (stateIn (by decide) (by decide) (by decide)), headState X U' W' K' G' 3 1 1 5 (by decide) (by decide) (by decide) (by decide)⟩,
   ⟨Rect.unit ![3, 1, 0, 0, 0] ![1, 1, 1, 128, 128] (stateIn (by decide) (by decide) (by decide)), headState X U' W' K' G' 3 1 0 4 (by decide) (by decide) (by decide) (by decide)⟩,
   ⟨Rect.unit ![3, 0, 3, 0, 0] ![1, 1, 1, 128, 128] (stateIn (by decide) (by decide) (by decide)), headState X U W K G 3 0 3 3 (by decide) (by decide) (by decide) (by decide)⟩,
   ⟨Rect.unit ![3, 0, 2, 0, 0] ![1, 1, 1, 128, 128] (stateIn (by decide) (by decide) (by decide)), headState X U W K G 3 0 2 2 (by decide) (by decide) (by decide) (by decide)⟩,
   ⟨Rect.unit ![3, 0, 1, 0, 0] ![1, 1, 1, 128, 128] (stateIn (by decide) (by decide) (by decide)), headState X U W K G 3 0 1 1 (by decide) (by decide) (by decide) (by decide)⟩,
   ⟨Rect.unit ![3, 0, 0, 0, 0] ![1, 1, 1, 128, 128] (stateIn (by decide) (by decide) (by decide)), headState X U W K G 3 0 0 0 (by decide) (by decide) (by decide) (by decide)⟩,
   ⟨Rect.unit ![2, 1, 3, 0, 0] ![1, 1, 1, 128, 128] (stateIn (by decide) (by decide) (by decide)), headState X U' W' K' G' 2 1 3 7 (by decide) (by decide) (by decide) (by decide)⟩,
   ⟨Rect.unit ![2, 1, 2, 0, 0] ![1, 1, 1, 128, 128] (stateIn (by decide) (by decide) (by decide)), headState X U' W' K' G' 2 1 2 6 (by decide) (by decide) (by decide) (by decide)⟩,
   ⟨Rect.unit ![2, 1, 1, 0, 0] ![1, 1, 1, 128, 128] (stateIn (by decide) (by decide) (by decide)), headState X U' W' K' G' 2 1 1 5 (by decide) (by decide) (by decide) (by decide)⟩,
   ⟨Rect.unit ![2, 1, 0, 0, 0] ![1, 1, 1, 128, 128] (stateIn (by decide) (by decide) (by decide)), headState X U' W' K' G' 2 1 0 4 (by decide) (by decide) (by decide) (by decide)⟩,
   ⟨Rect.unit ![2, 0, 3, 0, 0] ![1, 1, 1, 128, 128] (stateIn (by decide) (by decide) (by decide)), headState X U W K G 2 0 3 3 (by decide) (by decide) (by decide) (by decide)⟩,
   ⟨Rect.unit ![2, 0, 2, 0, 0] ![1, 1, 1, 128, 128] (stateIn (by decide) (by decide) (by decide)), headState X U W K G 2 0 2 2 (by decide) (by decide) (by decide) (by decide)⟩,
   ⟨Rect.unit ![2, 0, 1, 0, 0] ![1, 1, 1, 128, 128] (stateIn (by decide) (by decide) (by decide)), headState X U W K G 2 0 1 1 (by decide) (by decide) (by decide) (by decide)⟩,
   ⟨Rect.unit ![2, 0, 0, 0, 0] ![1, 1, 1, 128, 128] (stateIn (by decide) (by decide) (by decide)), headState X U W K G 2 0 0 0 (by decide) (by decide) (by decide) (by decide)⟩,
   ⟨Rect.unit ![1, 1, 3, 0, 0] ![1, 1, 1, 128, 128] (stateIn (by decide) (by decide) (by decide)), headState X U' W' K' G' 1 1 3 7 (by decide) (by decide) (by decide) (by decide)⟩,
   ⟨Rect.unit ![1, 1, 2, 0, 0] ![1, 1, 1, 128, 128] (stateIn (by decide) (by decide) (by decide)), headState X U' W' K' G' 1 1 2 6 (by decide) (by decide) (by decide) (by decide)⟩,
   ⟨Rect.unit ![1, 1, 1, 0, 0] ![1, 1, 1, 128, 128] (stateIn (by decide) (by decide) (by decide)), headState X U' W' K' G' 1 1 1 5 (by decide) (by decide) (by decide) (by decide)⟩,
   ⟨Rect.unit ![1, 1, 0, 0, 0] ![1, 1, 1, 128, 128] (stateIn (by decide) (by decide) (by decide)), headState X U' W' K' G' 1 1 0 4 (by decide) (by decide) (by decide) (by decide)⟩,
   ⟨Rect.unit ![1, 0, 3, 0, 0] ![1, 1, 1, 128, 128] (stateIn (by decide) (by decide) (by decide)), headState X U W K G 1 0 3 3 (by decide) (by decide) (by decide) (by decide)⟩,
   ⟨Rect.unit ![1, 0, 2, 0, 0] ![1, 1, 1, 128, 128] (stateIn (by decide) (by decide) (by decide)), headState X U W K G 1 0 2 2 (by decide) (by decide) (by decide) (by decide)⟩,
   ⟨Rect.unit ![1, 0, 1, 0, 0] ![1, 1, 1, 128, 128] (stateIn (by decide) (by decide) (by decide)), headState X U W K G 1 0 1 1 (by decide) (by decide) (by decide) (by decide)⟩,
   ⟨Rect.unit ![1, 0, 0, 0, 0] ![1, 1, 1, 128, 128] (stateIn (by decide) (by decide) (by decide)), headState X U W K G 1 0 0 0 (by decide) (by decide) (by decide) (by decide)⟩,
   ⟨Rect.unit ![0, 1, 3, 0, 0] ![1, 1, 1, 128, 128] (stateIn (by decide) (by decide) (by decide)), headState X U' W' K' G' 0 1 3 7 (by decide) (by decide) (by decide) (by decide)⟩,
   ⟨Rect.unit ![0, 1, 2, 0, 0] ![1, 1, 1, 128, 128] (stateIn (by decide) (by decide) (by decide)), headState X U' W' K' G' 0 1 2 6 (by decide) (by decide) (by decide) (by decide)⟩,
   ⟨Rect.unit ![0, 1, 1, 0, 0] ![1, 1, 1, 128, 128] (stateIn (by decide) (by decide) (by decide)), headState X U' W' K' G' 0 1 1 5 (by decide) (by decide) (by decide) (by decide)⟩,
   ⟨Rect.unit ![0, 1, 0, 0, 0] ![1, 1, 1, 128, 128] (stateIn (by decide) (by decide) (by decide)), headState X U' W' K' G' 0 1 0 4 (by decide) (by decide) (by decide) (by decide)⟩,
   ⟨Rect.unit ![0, 0, 3, 0, 0] ![1, 1, 1, 128, 128] (stateIn (by decide) (by decide) (by decide)), headState X U W K G 0 0 3 3 (by decide) (by decide) (by decide) (by decide)⟩,
   ⟨Rect.unit ![0, 0, 2, 0, 0] ![1, 1, 1, 128, 128] (stateIn (by decide) (by decide) (by decide)), headState X U W K G 0 0 2 2 (by decide) (by decide) (by decide) (by decide)⟩,
   ⟨Rect.unit ![0, 0, 1, 0, 0] ![1, 1, 1, 128, 128] (stateIn (by decide) (by decide) (by decide)), headState X U W K G 0 0 1 1 (by decide) (by decide) (by decide) (by decide)⟩,
   ⟨Rect.unit ![0, 0, 0, 0, 0] ![1, 1, 1, 128, 128] (stateIn (by decide) (by decide) (by decide)), headState X U W K G 0 0 0 0 (by decide) (by decide) (by decide) (by decide)⟩]

/-- The states cover the scratch buffer. -/
theorem states_cover (y : S4x2x4x128x128.Idx) : ∃ p ∈ states X U U' W W' K K' G G', y ∈ p.1.set :=
  View.cover_of_tiled _ ![1, 1, 1, 128, 128] rfl y

/-- The stored states at a place of the scratch buffer. -/
theorem statesBlock (b : Fin 4) (d : Fin 2) (h : Fin 4) (k v : Fin 128) :
    View.canon (states X U U' W W' K K' G G') (ix5 b d h k v)
      = next (fun i v => (pick d U U') (ix3 b i (col h v))) (fun i v => (pick d W W') (ix3 b i (col h v)))
          (fun k i => (pick d K K') (ix5 b 0 h k i)) (fun v => (pick d G G') (ix4 b 0 (drow d h) v))
          (fun k v => X (ix5 b d h k v)) k v :=
  View.canon_eq_of_allAt _ _ _ (states_cover X U U' W W' K K' G G' _)
    (View.allAt_cons_unit _ _ _ _ _ (stateTile X U U' W W' K K' G G' 3 1 3 b d h k v)
    (View.allAt_cons_unit _ _ _ _ _ (stateTile X U U' W W' K K' G G' 3 1 2 b d h k v)
    (View.allAt_cons_unit _ _ _ _ _ (stateTile X U U' W W' K K' G G' 3 1 1 b d h k v)
    (View.allAt_cons_unit _ _ _ _ _ (stateTile X U U' W W' K K' G G' 3 1 0 b d h k v)
    (View.allAt_cons_unit _ _ _ _ _ (stateTile X U U' W W' K K' G G' 3 0 3 b d h k v)
    (View.allAt_cons_unit _ _ _ _ _ (stateTile X U U' W W' K K' G G' 3 0 2 b d h k v)
    (View.allAt_cons_unit _ _ _ _ _ (stateTile X U U' W W' K K' G G' 3 0 1 b d h k v)
    (View.allAt_cons_unit _ _ _ _ _ (stateTile X U U' W W' K K' G G' 3 0 0 b d h k v)
    (View.allAt_cons_unit _ _ _ _ _ (stateTile X U U' W W' K K' G G' 2 1 3 b d h k v)
    (View.allAt_cons_unit _ _ _ _ _ (stateTile X U U' W W' K K' G G' 2 1 2 b d h k v)
    (View.allAt_cons_unit _ _ _ _ _ (stateTile X U U' W W' K K' G G' 2 1 1 b d h k v)
    (View.allAt_cons_unit _ _ _ _ _ (stateTile X U U' W W' K K' G G' 2 1 0 b d h k v)
    (View.allAt_cons_unit _ _ _ _ _ (stateTile X U U' W W' K K' G G' 2 0 3 b d h k v)
    (View.allAt_cons_unit _ _ _ _ _ (stateTile X U U' W W' K K' G G' 2 0 2 b d h k v)
    (View.allAt_cons_unit _ _ _ _ _ (stateTile X U U' W W' K K' G G' 2 0 1 b d h k v)
    (View.allAt_cons_unit _ _ _ _ _ (stateTile X U U' W W' K K' G G' 2 0 0 b d h k v)
    (View.allAt_cons_unit _ _ _ _ _ (stateTile X U U' W W' K K' G G' 1 1 3 b d h k v)
    (View.allAt_cons_unit _ _ _ _ _ (stateTile X U U' W W' K K' G G' 1 1 2 b d h k v)
    (View.allAt_cons_unit _ _ _ _ _ (stateTile X U U' W W' K K' G G' 1 1 1 b d h k v)
    (View.allAt_cons_unit _ _ _ _ _ (stateTile X U U' W W' K K' G G' 1 1 0 b d h k v)
    (View.allAt_cons_unit _ _ _ _ _ (stateTile X U U' W W' K K' G G' 1 0 3 b d h k v)
    (View.allAt_cons_unit _ _ _ _ _ (stateTile X U U' W W' K K' G G' 1 0 2 b d h k v)
    (View.allAt_cons_unit _ _ _ _ _ (stateTile X U U' W W' K K' G G' 1 0 1 b d h k v)
    (View.allAt_cons_unit _ _ _ _ _ (stateTile X U U' W W' K K' G G' 1 0 0 b d h k v)
    (View.allAt_cons_unit _ _ _ _ _ (stateTile X U U' W W' K K' G G' 0 1 3 b d h k v)
    (View.allAt_cons_unit _ _ _ _ _ (stateTile X U U' W W' K K' G G' 0 1 2 b d h k v)
    (View.allAt_cons_unit _ _ _ _ _ (stateTile X U U' W W' K K' G G' 0 1 1 b d h k v)
    (View.allAt_cons_unit _ _ _ _ _ (stateTile X U U' W W' K K' G G' 0 1 0 b d h k v)
    (View.allAt_cons_unit _ _ _ _ _ (stateTile X U U' W W' K K' G G' 0 0 3 b d h k v)
    (View.allAt_cons_unit _ _ _ _ _ (stateTile X U U' W W' K K' G G' 0 0 2 b d h k v)
    (View.allAt_cons_unit _ _ _ _ _ (stateTile X U U' W W' K K' G G' 0 0 1 b d h k v)
    (View.allAt_cons_unit _ _ _ _ _ (stateTile X U U' W W' K K' G G' 0 0 0 b d h k v)
    (View.allAt_nil _ _)))))))))))))))))))))))))))))))))

end States

end Cert.ScanPIdeal.Scan
-- ==== Proof.ScanP.Point.lean ====
/- Each grid point's output blocks and state at the prompt batch, read off the kernel's run. -/
module

public import proofs.«01_k».proof.Proof.ScanP.Tiles
public import proofs.«01_k».proof.Proof.Scan.Point

@[expose] public section

set_option maxRecDepth 16384

noncomputable section

open Idealize.ShloMosaic Idealize.ShloMosaic.TcCoe Idealize.SL.Sem
open Idealize.ShloMosaic.Pipeline (Dat)

namespace Cert.ScanPIdeal.Scan

open Cert.ScanPIdeal Cert.ScanPIdeal.Gen
open Cert.Scan (fresh out next col out_congr next_congr)
open Cert.ScanP (drow)
open Cert.KernelIdeal.Scan (canon_append)

variable (m : (ℓ : Loc nD τ sig) → Buf (Elt Ideal) ℓ)

/-- The states that point `t` finds: zeros at a sequence's first chunk, else what the point before left. -/
def found (c : Dev nD) (t : Fin cfg0.N) : Vec Ideal S4x2x4x128x128 .f32 :=
  if t.val % 32 = 0 then k0_pay2 (F := Ideal) else (outsAt0 m c (t.val - 1) (by have := t.isLt; omega)).2.2

/-- The first output block after point `t`. -/
theorem out12_pt (c : Dev nD) (t : Fin cfg0.N) (b h : Fin 4) (i : Fin 64) (v : Fin 128) :
    (outsAt0 m c t.val t.isLt).1 (ix3 b i (col h v))
      = out (fun i v => (iblk m c 0 t : Vec Ideal S4x64x512 .f32) (ix3 b i (col h v))) (fun i v => (iblk m c 1 t : Vec Ideal S4x64x512 .bf16) (ix3 b i (col h v)))
          (fun i v => (iblk m c 2 t : Vec Ideal S4x64x512 .bf16) (ix3 b i (col h v))) (fun i j => (iblk m c 4 t : Vec Ideal S4x1x4x64x64 .bf16) (ix5 b 0 h i j))
          (fun k v => found m c t (ix5 b 0 h k v)) i v := by
  refine Eq.trans ?_ (outBlock (found m c t) (iblk m c 0 t) (iblk m c 1 t) (iblk m c 2 t) (iblk m c 4 t) 0 (by decide) b h i v)
  by_cases h0 : t.val % 32 = 0
  · rw [show found m c t = k0_pay2 (F := Ideal) from if_pos h0, outsAt0_A m c t h0]
    frame_open
    simp (disch := decide) only [↓ View.readCov_skip, ↓ View.readCov_cons_toLoadRect, ↓ View.readCov_fill]
    frame_out
    rfl
  · rw [show found m c t = _ from if_neg h0, outsAt0_B m c t h0]
    frame_out
    simp only [read_unread_whole]
    rfl

/-- The second output block after point `t`. -/
theorem out13_pt (c : Dev nD) (t : Fin cfg0.N) (b h : Fin 4) (i : Fin 64) (v : Fin 128) :
    (outsAt0 m c t.val t.isLt).2.1 (ix3 b i (col h v))
      = out (fun i v => (iblk m c 6 t : Vec Ideal S4x64x512 .f32) (ix3 b i (col h v))) (fun i v => (iblk m c 7 t : Vec Ideal S4x64x512 .bf16) (ix3 b i (col h v)))
          (fun i v => (iblk m c 8 t : Vec Ideal S4x64x512 .bf16) (ix3 b i (col h v))) (fun i j => (iblk m c 10 t : Vec Ideal S4x1x4x64x64 .bf16) (ix5 b 0 h i j))
          (fun k v => found m c t (ix5 b 1 h k v)) i v := by
  refine Eq.trans ?_ (outBlock (found m c t) (iblk m c 6 t) (iblk m c 7 t) (iblk m c 8 t) (iblk m c 10 t) 1 (by decide) b h i v)
  by_cases h0 : t.val % 32 = 0
  · rw [show found m c t = k0_pay2 (F := Ideal) from if_pos h0, outsAt0_A m c t h0]
    frame_open
    simp (disch := decide) only [↓ View.readCov_skip, ↓ View.readCov_cons_toLoadRect, ↓ View.readCov_fill]
    frame_out
    rfl
  · rw [show found m c t = _ from if_neg h0, outsAt0_B m c t h0]
    frame_out
    simp only [read_unread_whole]
    rfl

/-- The states after point `t`. -/
theorem state_pt (c : Dev nD) (t : Fin cfg0.N) (b : Fin 4) (d : Fin 2) (h : Fin 4) (k v : Fin 128) :
    (outsAt0 m c t.val t.isLt).2.2 (ix5 b d h k v)
      = next (fun i v => (pick d (iblk m c 0 t : Vec Ideal S4x64x512 .f32) (iblk m c 6 t)) (ix3 b i (col h v)))
          (fun i v => (pick d (iblk m c 1 t : Vec Ideal S4x64x512 .bf16) (iblk m c 7 t)) (ix3 b i (col h v)))
          (fun k i => (pick d (iblk m c 3 t : Vec Ideal S4x1x4x128x64 .bf16) (iblk m c 9 t)) (ix5 b 0 h k i))
          (fun v => (pick d (iblk m c 5 t : Vec Ideal S4x1x8x128 .f32) (iblk m c 11 t)) (ix4 b 0 (drow d h) v))
          (fun k v => found m c t (ix5 b d h k v)) k v := by
  refine Eq.trans ?_ (statesBlock (found m c t) (iblk m c 0 t) (iblk m c 6 t) (iblk m c 1 t) (iblk m c 7 t) (iblk m c 3 t) (iblk m c 9 t)
    (iblk m c 5 t) (iblk m c 11 t) b d h k v)
  by_cases h0 : t.val % 32 = 0
  · rw [show found m c t = k0_pay2 (F := Ideal) from if_pos h0, outsAt0_A m c t h0]
    frame_open
    simp (disch := decide) only [↓ View.readCov_skip, ↓ View.readCov_cons_toLoadRect, ↓ View.readCov_fill]
    frame_out
    exact canon_append (states (k0_pay2 (F := Ideal)) (iblk m c 0 t) (iblk m c 6 t) (iblk m c 1 t) (iblk m c 7 t) (iblk m c 3 t) (iblk m c 9 t)
      (iblk m c 5 t) (iblk m c 11 t)) [_] _ (states_cover _ _ _ _ _ _ _ _ _ _)
  · rw [show found m c t = _ from if_neg h0, outsAt0_B m c t h0]
    frame_out
    simp only [read_unread_whole]
    rfl

end Cert.ScanPIdeal.Scan
-- ==== Proof.ScanP.Kernel.lean ====
/- The recurrence's kernel at the prompt batch over its whole grid: the states after each point, and the two result arrays. -/
module

public import proofs.«01_k».proof.Proof.ScanP.Point

@[expose] public section

set_option maxRecDepth 16384

noncomputable section

open Idealize.ShloMosaic Idealize.ShloMosaic.TcCoe Idealize.SL.Sem
open Idealize.ShloMosaic.Pipeline (Dat)

namespace Cert.ScanPIdeal.Scan

open Cert.ScanPIdeal Cert.ScanPIdeal.Gen
open Cert.Scan (fresh out next col out_congr next_congr)
open Cert.ScanP

variable (m : (ℓ : Loc nD τ sig) → Buf (Elt Ideal) ℓ)

/-- The recurrence's operands in the kernel's arguments. -/
abbrev args (c : Dev nD) : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Which block each window of the forward direction shows at point `t`. -/
theorem idxF : ∀ t : Fin cfg0.N, win0_0.index t = ![t.val / 32, t.val % 32, 0] ∧ win0_1.index t = ![t.val / 32, t.val % 32, 0] ∧ win0_2.index t = ![t.val / 32, t.val % 32, 0]
    ∧ win0_3.index t = ![t.val / 32, t.val % 32, 0, 0, 0] ∧ win0_4.index t = ![t.val / 32, t.val % 32, 0, 0, 0] ∧ win0_5.index t = ![t.val / 32, t.val % 32, 0, 0]
    ∧ win0_12.index t = ![t.val / 32, t.val % 32, 0] :=
  (by decide +kernel : ∀ t : Fin grid0.N, _)

/-- Which block each window of the backward direction shows at point `t`. -/
theorem idxB : ∀ t : Fin cfg0.N, win0_6.index t = ![t.val / 32, 31 - t.val % 32, 0] ∧ win0_7.index t = ![t.val / 32, 31 - t.val % 32, 0] ∧ win0_8.index t = ![t.val / 32, 31 - t.val % 32, 0]
    ∧ win0_9.index t = ![t.val / 32, 31 - t.val % 32, 0, 0, 0] ∧ win0_10.index t = ![t.val / 32, 31 - t.val % 32, 0, 0, 0] ∧ win0_11.index t = ![t.val / 32, 31 - t.val % 32, 0, 0]
    ∧ win0_13.index t = ![t.val / 32, 31 - t.val % 32, 0] :=
  (by decide +kernel : ∀ t : Fin grid0.N, _)

/-- The sequence that a point works on at row `b` of its blocks. -/
def seq (t : ℕ) (b : Fin 4) : Fin 32 := ⟨(t / 32 * 4 + b) % 32, by omega⟩

/-- Its number. -/
theorem seq_val (t : Fin cfg0.N) (b : Fin 4) : (seq t.val b).val = t.val / 32 * 4 + b := by
  have : t.val < 256 := t.isLt
  show (t.val / 32 * 4 + (b : ℕ)) % 32 = _
  omega

/-- The forward chunk of a point. -/
theorem chunk_zero (t : Fin cfg0.N) : (chunk 0 (t.val % 32)).val = t.val % 32 := by
  simp only [chunk, if_pos]; omega

/-- The backward chunk of a point. -/
theorem chunk_one (t : Fin cfg0.N) : (chunk 1 (t.val % 32)).val = 31 - t.val % 32 := by
  simp only [chunk, if_neg (by decide : ¬(1 : Fin 2) = 0)]; omega

section Blocks

variable (c : Dev nD) (t : Fin cfg0.N)

/-- The forward values at a point. -/
theorem u0 (b h : Fin 4) (i : Fin 64) (v : Fin 128) :
    (iblk m c 0 t : Vec Ideal S4x64x512 .f32) (ix3 b i (col h v)) = (args m c).u 0 (seq t.val b) (row (chunk 0 (t.val % 32)) i) (col h v) := by
  have e := chunk_zero t
  have es := seq_val t b
  simp only [ofArrays, if_pos]
  generalize chunk 0 (t.val % 32) = r at e
  generalize seq t.val b = s at es
  blk_point [iblk, V, idxF t, row, col]

/-- The forward weights `w` at a point. -/
theorem w0 (b h : Fin 4) (i : Fin 64) (v : Fin 128) :
    (iblk m c 1 t : Vec Ideal S4x64x512 .bf16) (ix3 b i (col h v)) = (args m c).w 0 (seq t.val b) (row (chunk 0 (t.val % 32)) i) (col h v) := by
  have e := chunk_zero t
  have es := seq_val t b
  simp only [ofArrays, if_pos]
  generalize chunk 0 (t.val % 32) = r at e
  generalize seq t.val b = s at es
  blk_point [iblk, V, idxF t, row, col]

/-- The forward queries at a point. -/
theorem q0 (b h : Fin 4) (i : Fin 64) (v : Fin 128) :
    (iblk m c 2 t : Vec Ideal S4x64x512 .bf16) (ix3 b i (col h v)) = (args m c).q 0 (seq t.val b) (row (chunk 0 (t.val % 32)) i) (col h v) := by
  have e := chunk_zero t
  have es := seq_val t b
  simp only [ofArrays, if_pos]
  generalize chunk 0 (t.val % 32) = r at e
  generalize seq t.val b = s at es
  blk_point [iblk, V, idxF t, row, col]

/-- The forward keys at a point. -/
theorem k0 (b h : Fin 4) (k : Fin 128) (i : Fin 64) :
    (iblk m c 3 t : Vec Ideal S4x1x4x128x64 .bf16) (ix5 b 0 h k i) = (args m c).k 0 (seq t.val b) (chunk 0 (t.val % 32)) h k i := by
  have e := chunk_zero t
  have es := seq_val t b
  simp only [ofArrays, if_pos]
  generalize chunk 0 (t.val % 32) = r at e
  generalize seq t.val b = s at es
  blk_point [iblk, V, idxF t, row, col]

/-- The forward attention at a point. -/
theorem a0 (b h : Fin 4) (i j : Fin 64) :
    (iblk m c 4 t : Vec Ideal S4x1x4x64x64 .bf16) (ix5 b 0 h i j) = (args m c).a 0 (seq t.val b) (chunk 0 (t.val % 32)) h i j := by
  have e := chunk_zero t
  have es := seq_val t b
  simp only [ofArrays, if_pos]
  generalize chunk 0 (t.val % 32) = r at e
  generalize seq t.val b = s at es
  blk_point [iblk, V, idxF t, row, col]

/-- The forward decay at a point. -/
theorem g0 (b h : Fin 4) (v : Fin 128) :
    (iblk m c 5 t : Vec Ideal S4x1x8x128 .f32) (ix4 b 0 (drow 0 h) v) = (args m c).g 0 (seq t.val b) (chunk 0 (t.val % 32)) h v := by
  have e := chunk_zero t
  have es := seq_val t b
  simp only [ofArrays, if_pos]
  generalize chunk 0 (t.val % 32) = r at e
  generalize seq t.val b = s at es
  blk_point [iblk, V, idxF t, row, col]

/-- The backward values at a point. -/
theorem u1 (b h : Fin 4) (i : Fin 64) (v : Fin 128) :
    (iblk m c 6 t : Vec Ideal S4x64x512 .f32) (ix3 b i (col h v)) = (args m c).u 1 (seq t.val b) (row (chunk 1 (t.val % 32)) i) (col h v) := by
  have e := chunk_one t
  have es := seq_val t b
  simp only [ofArrays, if_neg (by decide : ¬(1 : Fin 2) = 0)]
  generalize chunk 1 (t.val % 32) = r at e
  generalize seq t.val b = s at es
  blk_point [iblk, V, idxB t, row, col]

/-- The backward weights `w` at a point. -/
theorem w1 (b h : Fin 4) (i : Fin 64) (v : Fin 128) :
    (iblk m c 7 t : Vec Ideal S4x64x512 .bf16) (ix3 b i (col h v)) = (args m c).w 1 (seq t.val b) (row (chunk 1 (t.val % 32)) i) (col h v) := by
  have e := chunk_one t
  have es := seq_val t b
  simp only [ofArrays, if_neg (by decide : ¬(1 : Fin 2) = 0)]
  generalize chunk 1 (t.val % 32) = r at e
  generalize seq t.val b = s at es
  blk_point [iblk, V, idxB t, row, col]

/-- The backward queries at a point. -/
theorem q1 (b h : Fin 4) (i : Fin 64) (v : Fin 128) :
    (iblk m c 8 t : Vec Ideal S4x64x512 .bf16) (ix3 b i (col h v)) = (args m c).q 1 (seq t.val b) (row (chunk 1 (t.val % 32)) i) (col h v) := by
  have e := chunk_one t
  have es := seq_val t b
  simp only [ofArrays, if_neg (by decide : ¬(1 : Fin 2) = 0)]
  generalize chunk 1 (t.val % 32) = r at e
  generalize seq t.val b = s at es
  blk_point [iblk, V, idxB t, row, col]

/-- The backward keys at a point. -/
theorem k1 (b h : Fin 4) (k : Fin 128) (i : Fin 64) :
    (iblk m c 9 t : Vec Ideal S4x1x4x128x64 .bf16) (ix5 b 0 h k i) = (args m c).k 1 (seq t.val b) (chunk 1 (t.val % 32)) h k i := by
  have e := chunk_one t
  have es := seq_val t b
  simp only [ofArrays, if_neg (by decide : ¬(1 : Fin 2) = 0)]
  generalize chunk 1 (t.val % 32) = r at e
  generalize seq t.val b = s at es
  blk_point [iblk, V, idxB t, row, col]

/-- The backward attention at a point. -/
theorem a1 (b h : Fin 4) (i j : Fin 64) :
    (iblk m c 10 t : Vec Ideal S4x1x4x64x64 .bf16) (ix5 b 0 h i j) = (args m c).a 1 (seq t.val b) (chunk 1 (t.val % 32)) h i j := by
  have e := chunk_one t
  have es := seq_val t b
  simp only [ofArrays, if_neg (by decide : ¬(1 : Fin 2) = 0)]
  generalize chunk 1 (t.val % 32) = r at e
  generalize seq t.val b = s at es
  blk_point [iblk, V, idxB t, row, col]

/-- The backward decay at a point. -/
theorem g1 (b h : Fin 4) (v : Fin 128) :
    (iblk m c 11 t : Vec Ideal S4x1x8x128 .f32) (ix4 b 0 (drow 1 h) v) = (args m c).g 1 (seq t.val b) (chunk 1 (t.val % 32)) h v := by
  have e := chunk_one t
  have es := seq_val t b
  simp only [ofArrays, if_neg (by decide : ¬(1 : Fin 2) = 0)]
  generalize chunk 1 (t.val % 32) = r at e
  generalize seq t.val b = s at es
  blk_point [iblk, V, idxB t, row, col]

end Blocks

/-- One point takes the states it finds to the recurrence's next states. -/
theorem state_next (c : Dev nD) (t : Fin cfg0.N) (b : Fin 4) (d : Fin 2) (h : Fin 4)
    (ih : ∀ k v, found m c t (ix5 b d h k v) = (args m c).state d (seq t.val b) h (t.val % 32) k v) (k v : Fin 128) :
    (outsAt0 m c t.val t.isLt).2.2 (ix5 b d h k v) = (args m c).state d (seq t.val b) h (t.val % 32 + 1) k v := by
  refine (state_pt m c t b d h k v).trans ?_
  rcases (by omega : d = 0 ∨ d = 1) with rfl | rfl
  · exact next_congr (u0 m c t b h) (w0 m c t b h) (k0 m c t b h) (g0 m c t b h) ih k v
  · exact next_congr (u1 m c t b h) (w1 m c t b h) (k1 m c t b h) (g1 m c t b h) ih k v

/-- The states that point `n` finds are the recurrence's before its chunk. -/
theorem found_eq (c : Dev nD) (b : Fin 4) (d : Fin 2) (h : Fin 4) : ∀ (n : ℕ) (hn : n < cfg0.N) (k v : Fin 128),
    found m c ⟨n, hn⟩ (ix5 b d h k v) = (args m c).state d (seq n b) h (n % 32) k v
  | 0, hn, k, v => by
    rw [show found m c ⟨0, hn⟩ = k0_pay2 (F := Ideal) from if_pos rfl]
    pointwise [k0_pay2, Args.state]
  | n + 1, hn, k, v => by
    by_cases h0 : (n + 1) % 32 = 0
    · rw [show found m c ⟨n + 1, hn⟩ = k0_pay2 (F := Ideal) from if_pos h0, h0]
      pointwise [k0_pay2, Args.state]
    · rw [show found m c ⟨n + 1, hn⟩ = (outsAt0 m c n (by omega)).2.2 from if_neg h0,
        show (n + 1) % 32 = n % 32 + 1 by omega, show seq (n + 1) b = seq n b from Fin.ext (by simp only [seq]; omega)]
      exact state_next m c ⟨n, by omega⟩ b d h (found_eq c b d h n (by omega)) k v

/-- The first output block after point `t` is the recurrence's forward outputs at the point's step. -/
theorem out12_eq (c : Dev nD) (t : Fin cfg0.N) (b h : Fin 4) (i : Fin 64) (v : Fin 128) :
    (outsAt0 m c t.val t.isLt).1 (ix3 b i (col h v)) = (args m c).out 0 (seq t.val b) h (t.val % 32) i v :=
  (out12_pt m c t b h i v).trans
    (out_congr (u0 m c t b h) (w0 m c t b h) (q0 m c t b h) (a0 m c t b h) (found_eq m c b 0 h t.val t.isLt) i v)

/-- The second output block after point `t` is the recurrence's backward outputs at the point's step. -/
theorem out13_eq (c : Dev nD) (t : Fin cfg0.N) (b h : Fin 4) (i : Fin 64) (v : Fin 128) :
    (outsAt0 m c t.val t.isLt).2.1 (ix3 b i (col h v)) = (args m c).out 1 (seq t.val b) h (t.val % 32) i v :=
  (out13_pt m c t b h i v).trans
    (out_congr (u1 m c t b h) (w1 m c t b h) (q1 m c t b h) (a1 m c t b h) (found_eq m c b 1 h t.val t.isLt) i v)

/-- A place of the block is a row, a token of the chunk and a column of a head. -/
theorem place (y : S4x64x512.Idx) : ∃ (b h : Fin 4) (i : Fin 64) (v : Fin 128), y = ix3 b i (col h v) := by
  have h2 : (y 2 : ℕ) < 512 := (y 2).isLt
  refine ⟨y 0, ⟨(y 2 : ℕ) / 128, by omega⟩, y 1, ⟨(y 2 : ℕ) % 128, by omega⟩, ?_⟩
  funext a
  fin_cases a
  · rfl
  · rfl
  · exact Fin.ext (by show (y 2 : ℕ) = (y 2 : ℕ) / 128 * 128 + (y 2 : ℕ) % 128; omega)

/-- The first result array. -/
theorem result12 (c : Dev nD) : (dats m 0 c).arrAt 12 (cfgs 0).N = outs (args m c) 0 := by
  refine (dats m 0 c).arrAt_eq_of_covers 12 _ (by decide +kernel) fun t _ y => ?_
  blk_simp
  rw [after0_12]
  obtain ⟨b, h, i, v, rfl⟩ := place y
  have e := chunk_zero t
  have es := seq_val t b
  refine (out12_eq m c t b h i v).trans ((outs_apply _ 0 (seq t.val b) (t.val % 32) (Nat.mod_lt _ (by omega)) h i v).symm.trans (congrArg _ ?_))
  generalize chunk 0 (t.val % 32) = r at e
  generalize seq t.val b = s at es
  blk_ext [idxF t, row, col]

/-- The second result array. -/
theorem result13 (c : Dev nD) : (dats m 0 c).arrAt 13 (cfgs 0).N = outs (args m c) 1 := by
  refine (dats m 0 c).arrAt_eq_of_covers 13 _ (by decide +kernel) fun t _ y => ?_
  blk_simp
  rw [after0_13]
  obtain ⟨b, h, i, v, rfl⟩ := place y
  have e := chunk_one t
  have es := seq_val t b
  refine (out13_eq m c t b h i v).trans ((outs_apply _ 1 (seq t.val b) (t.val % 32) (Nat.mod_lt _ (by omega)) h i v).symm.trans (congrArg _ ?_))
  generalize chunk 1 (t.val % 32) = r at e
  generalize seq t.val b = s at es
  blk_ext [idxB t, row, col]

end Cert.ScanPIdeal.Scan
-- ==== Proof.ScanP.Loop.lean ====
/- The reference's loop over chunks at the prompt batch: one trip on the eight stacked heads of each sequence, entry by entry. -/
module

public import proofs.«01_k».proof.Proof.Gen.ScanPRefIdeal.Run
public import proofs.«01_k».proof.Proof.ScanP.Arrays
public import Idealize.ShloMosaic.Lib.Pipeline.ValueKit
public import Idealize.ShloMosaic.Lib.DynamicIndex
public import Idealize.ShloMosaic.Lib.WordCmp
public import Idealize.ShloMosaic.Lib.Pointwise

@[expose] public section

set_option maxRecDepth 16384

noncomputable section

open Idealize.ShloMosaic Idealize.ShloMosaic.TcCoe Idealize.SL.Sem Idealize.ShloMosaic.StableHlo

namespace Cert.ScanPRefIdeal.Scan

open Cert.ScanPRefIdeal Cert.ScanPRefIdeal.Gen Cert.ScanPRefIdeal.Value Cert.ScanP
open Cert.Scan (fresh out next col out_congr next_congr)

section Trip

variable (k : Fin 32) (start : Fin 5 → Int) (hs : ∀ a, start a = ((![k.val, 0, 0, 0, 0] : Fin 5 → ℕ) a : Int))

include hs

/-- The chunk of an operand by tokens that trip `k` reads. -/
theorem cut_rows (X : FVec Ideal S32x32x8x64x128 .f32) (s : Fin 32) (e : Fin 8) (i : Fin 64) (v : Fin 128) :
    (shapeCast S32x8x64x128 (Host.dynamicSlice S1x32x8x64x128 X start sliceFits_S32x32x8x64x128_S1x32x8x64x128) shapeCasts_S1x32x8x64x128_S32x8x64x128 : FVec Ideal S32x8x64x128 .f32) (ix4 s e i v)
      = X (ix5 k s e i v) := by
  have hk := k.isLt
  rw [Host.dynamicSlice_eq_extractStridedSlice S1x32x8x64x128 X start ![k.val, 0, 0, 0, 0] sliceFits_S32x32x8x64x128_S1x32x8x64x128 ⟨rfl, by intro a; fin_cases a <;> simp <;> omega⟩ hs]
  pointwise

/-- The attention of the chunk that trip `k` reads. -/
theorem cut_attn (X : FVec Ideal S32x32x8x64x64 .f32) (s : Fin 32) (e : Fin 8) (i j : Fin 64) :
    (shapeCast S32x8x64x64 (Host.dynamicSlice S1x32x8x64x64 X start sliceFits_S32x32x8x64x64_S1x32x8x64x64) shapeCasts_S1x32x8x64x64_S32x8x64x64 : FVec Ideal S32x8x64x64 .f32) (ix4 s e i j)
      = X (ix5 k s e i j) := by
  have hk := k.isLt
  rw [Host.dynamicSlice_eq_extractStridedSlice S1x32x8x64x64 X start ![k.val, 0, 0, 0, 0] sliceFits_S32x32x8x64x64_S1x32x8x64x64 ⟨rfl, by intro a; fin_cases a <;> simp <;> omega⟩ hs]
  pointwise

/-- The keys of the chunk that trip `k` reads. -/
theorem cut_keys (X : FVec Ideal S32x32x8x128x64 .f32) (s : Fin 32) (e : Fin 8) (i : Fin 128) (j : Fin 64) :
    (shapeCast S32x8x128x64 (Host.dynamicSlice S1x32x8x128x64 X start sliceFits_S32x32x8x128x64_S1x32x8x128x64) shapeCasts_S1x32x8x128x64_S32x8x128x64 : FVec Ideal S32x8x128x64 .f32) (ix4 s e i j)
      = X (ix5 k s e i j) := by
  have hk := k.isLt
  rw [Host.dynamicSlice_eq_extractStridedSlice S1x32x8x128x64 X start ![k.val, 0, 0, 0, 0] sliceFits_S32x32x8x128x64_S1x32x8x128x64 ⟨rfl, by intro a; fin_cases a <;> simp <;> omega⟩ hs]
  pointwise

/-- The decay of the chunk that trip `k` reads. -/
theorem cut_decay (X : FVec Ideal S32x32x8x1x128 .f32) (s : Fin 32) (e : Fin 8) (v : Fin 128) :
    (shapeCast S32x8x1x128 (Host.dynamicSlice S1x32x8x1x128 X start sliceFits_S32x32x8x1x128_S1x32x8x1x128) shapeCasts_S1x32x8x1x128_S32x8x1x128 : FVec Ideal S32x8x1x128 .f32) (ix4 s e 0 v)
      = X (ix5 k s e 0 v) := by
  have hk := k.isLt
  rw [Host.dynamicSlice_eq_extractStridedSlice S1x32x8x1x128 X start ![k.val, 0, 0, 0, 0] sliceFits_S32x32x8x1x128_S1x32x8x1x128 ⟨rfl, by intro a; fin_cases a <;> simp <;> omega⟩ hs]
  pointwise

/-- The outputs after trip `k`: its chunk is the trip's, the others stay. -/
theorem put_rows (X : FVec Ideal S32x32x8x64x128 .f32) (o : FVec Ideal S32x8x64x128 .f32) (n : Fin 32) (s : Fin 32) (e : Fin 8) (i : Fin 64) (v : Fin 128) :
    Host.dynamicUpdateSlice X (broadcastInDim S1x32x8x64x128 ![1, 2, 3, 4] bcast_S32x8x64x128_S1x32x8x64x128_1_2_3_4 o) start updateFits_S32x32x8x64x128_S1x32x8x64x128 (ix5 n s e i v)
      = if n = k then o (ix4 s e i v) else X (ix5 n s e i v) := by
  have hk := k.isLt
  rw [WordCmp.dynamicUpdateSlice_eq_update X _ start updateFits_S32x32x8x64x128_S1x32x8x64x128 ![k.val, 0, 0, 0, 0] ⟨rfl, by intro a; fin_cases a <;> simp <;> omega⟩ hs]
  unfold updateSlice
  by_cases hn : n = k
  · subst hn
    rw [if_pos rfl, dif_pos (by intro a; fin_cases a <;> simp [ix5] <;> omega)]
    pointwise
    blk_ext
  · rw [if_neg hn, dif_neg]
    intro h
    have h0 := h 0
    refine hn (Fin.ext ?_)
    have h1 : k.val ≤ n.val ∧ n.val < k.val + 1 := h0
    omega

end Trip

/-- The new values of the stacked heads. -/
theorem fresh_at (u w : FVec Ideal S32x8x64x128 .f32) (S : FVec Ideal S32x8x128x128 .f32) (s : Fin 32) (e : Fin 8) (i : Fin 64) (v : Fin 128) :
    subf u (Host.dotGeneral dot_S32x8x64x128_S32x8x128x128_S32x8x64x128_3_2_2_3_01_01 none w S) (ix4 s e i v)
      = fresh (fun i v => u (ix4 s e i v)) (fun i v => w (ix4 s e i v)) (fun k v => S (ix4 s e k v)) i v := by
  pointwise [fresh]

/-- The stacked heads' states after a trip. -/
theorem next_at (u w : FVec Ideal S32x8x64x128 .f32) (kt : FVec Ideal S32x8x128x64 .f32) (g : FVec Ideal S32x8x1x128 .f32) (S : FVec Ideal S32x8x128x128 .f32)
    (s : Fin 32) (e : Fin 8) (k v : Fin 128) :
    addf (mulf S (broadcastInDim S32x8x128x128 ![0, 1, 2, 3] bcast_S32x8x1x128_S32x8x128x128_0_1_2_3 g))
        (Host.dotGeneral dot_S32x8x128x64_S32x8x64x128_S32x8x128x128_3_2_2_3_01_01 none kt (subf u (Host.dotGeneral dot_S32x8x64x128_S32x8x128x128_S32x8x64x128_3_2_2_3_01_01 none w S))) (ix4 s e k v)
      = next (fun i v => u (ix4 s e i v)) (fun i v => w (ix4 s e i v)) (fun k i => kt (ix4 s e k i)) (fun v => g (ix4 s e 0 v)) (fun k v => S (ix4 s e k v)) k v := by
  pointwise [next, fresh]

/-- The stacked heads' outputs at a trip. -/
theorem out_at (u w q : FVec Ideal S32x8x64x128 .f32) (a : FVec Ideal S32x8x64x64 .f32) (S : FVec Ideal S32x8x128x128 .f32)
    (s : Fin 32) (e : Fin 8) (i : Fin 64) (v : Fin 128) :
    addf (Host.dotGeneral dot_S32x8x64x128_S32x8x128x128_S32x8x64x128_3_2_2_3_01_01 none q S)
        (Host.dotGeneral dot_S32x8x64x64_S32x8x64x128_S32x8x64x128_3_2_2_3_01_01 none a (subf u (Host.dotGeneral dot_S32x8x64x128_S32x8x128x128_S32x8x64x128_3_2_2_3_01_01 none w S))) (ix4 s e i v)
      = out (fun i v => u (ix4 s e i v)) (fun i v => w (ix4 s e i v)) (fun i v => q (ix4 s e i v)) (fun i j => a (ix4 s e i j)) (fun k v => S (ix4 s e k v)) i v := by
  pointwise [out, fresh]

section Entry

variable (m : (ℓ : Loc nD τ sig) → Buf (Elt Ideal) ℓ)

/-- An operand by tokens, cut into chunks and heads. -/
abbrev chunks (X : FVec Ideal S32x2048x512 .f32) : FVec Ideal S32x32x4x64x128 .f32 :=
  transpose S32x32x4x64x128 [1, 0, 3, 2, 4] (shapeCast S32x32x64x4x128 X shapeCasts_S32x2048x512_S32x32x64x4x128) transposes_S32x32x64x4x128_S32x32x4x64x128_1_0_3_2_4

/-- Both directions' chunks stacked, the second's in reverse. -/
abbrev bothRows (X Y : FVec Ideal S32x2048x512 .f32) : FVec Ideal S32x32x8x64x128 .f32 :=
  concatenate S32x32x8x64x128 2 [⟨S32x32x4x64x128, chunks X⟩, ⟨S32x32x4x64x128, Host.reverse [0] (chunks Y)⟩]
    concatenates_S32x32x4x64x128_S32x32x4x64x128_S32x32x8x64x128_d2

/-- Both directions' keys stacked. -/
abbrev bothKeys (X Y : FVec Ideal S32x32x4x128x64 .f32) : FVec Ideal S32x32x8x128x64 .f32 :=
  concatenate S32x32x8x128x64 2 [⟨S32x32x4x128x64, transpose S32x32x4x128x64 [1, 0, 2, 3, 4] X transposes_S32x32x4x128x64_S32x32x4x128x64_1_0_2_3_4⟩,
    ⟨S32x32x4x128x64, Host.reverse [0] (transpose S32x32x4x128x64 [1, 0, 2, 3, 4] Y transposes_S32x32x4x128x64_S32x32x4x128x64_1_0_2_3_4)⟩]
    concatenates_S32x32x4x128x64_S32x32x4x128x64_S32x32x8x128x64_d2

/-- Both directions' attentions stacked. -/
abbrev bothAttn (X Y : FVec Ideal S32x32x4x64x64 .f32) : FVec Ideal S32x32x8x64x64 .f32 :=
  concatenate S32x32x8x64x64 2 [⟨S32x32x4x64x64, transpose S32x32x4x64x64 [1, 0, 2, 3, 4] X transposes_S32x32x4x64x64_S32x32x4x64x64_1_0_2_3_4⟩,
    ⟨S32x32x4x64x64, Host.reverse [0] (transpose S32x32x4x64x64 [1, 0, 2, 3, 4] Y transposes_S32x32x4x64x64_S32x32x4x64x64_1_0_2_3_4)⟩]
    concatenates_S32x32x4x64x64_S32x32x4x64x64_S32x32x8x64x64_d2

/-- Both directions' decays stacked. -/
abbrev bothDecay (X : FVec Ideal S32x32x8x128 .f32) : FVec Ideal S32x32x8x1x128 .f32 :=
  broadcastInDim S32x32x8x1x128 ![0, 1, 2, 4] bcast_S32x32x8x128_S32x32x8x1x128_0_1_2_4
    (concatenate S32x32x8x128 2 [⟨S32x32x4x128, transpose S32x32x4x128 [1, 0, 2, 3] (extractStridedSlice S32x32x4x128 ![0, 0, 0, 0] X slices_S32x32x8x128_S32x32x4x128_0_0_0_0) transposes_S32x32x4x128_S32x32x4x128_1_0_2_3⟩,
      ⟨S32x32x4x128, Host.reverse [0] (transpose S32x32x4x128 [1, 0, 2, 3] (extractStridedSlice S32x32x4x128 ![0, 0, 4, 0] X slices_S32x32x8x128_S32x32x4x128_0_0_4_0) transposes_S32x32x4x128_S32x32x4x128_1_0_2_3)⟩]
      concatenates_S32x32x4x128_S32x32x4x128_S32x32x8x128_d2)

/-- A stacked operand by tokens at a chunk, direction and head. -/
theorem bothRows_at (X Y : FVec Ideal S32x2048x512 .f32) (n : Fin 32) (s : Fin 32) (d : Fin 2) (h : Fin 4) (i : Fin 64) (v : Fin 128) :
    bothRows X Y (ix5 n s (drow d h) i v) = (if d = 0 then X (ix3 s (row (chunk d n) i) (col h v)) else Y (ix3 s (row (chunk d n) i) (col h v))) := by
  have hn := n.isLt
  rcases (by omega : d = 0 ∨ d = 1) with rfl | rfl
  · pointwise [bothRows, chunks, drow, row, col, chunk]
    blk_ext
  · pointwise [bothRows, chunks, drow, row, col, chunk]
    simp only [List.mem_singleton, Fin.isValue, reduceIte, Fin.reduceEq]
    refine congrArg Y ?_
    blk_ext [Fin.val_rev]

/-- The stacked keys at a chunk, direction and head. -/
theorem bothKeys_at (X Y : FVec Ideal S32x32x4x128x64 .f32) (n : Fin 32) (s : Fin 32) (d : Fin 2) (h : Fin 4) (k : Fin 128) (i : Fin 64) :
    bothKeys X Y (ix5 n s (drow d h) k i) = (if d = 0 then X (ix5 s (chunk d n) h k i) else Y (ix5 s (chunk d n) h k i)) := by
  have hn := n.isLt
  rcases (by omega : d = 0 ∨ d = 1) with rfl | rfl
  · pointwise [bothKeys, drow, chunk]
    blk_ext
  · pointwise [bothKeys, drow, chunk]
    simp only [List.mem_singleton, Fin.isValue, reduceIte, Fin.reduceEq]
    refine congrArg Y ?_
    blk_ext [Fin.val_rev]

/-- The stacked attentions at a chunk, direction and head. -/
theorem bothAttn_at (X Y : FVec Ideal S32x32x4x64x64 .f32) (n : Fin 32) (s : Fin 32) (d : Fin 2) (h : Fin 4) (i j : Fin 64) :
    bothAttn X Y (ix5 n s (drow d h) i j) = (if d = 0 then X (ix5 s (chunk d n) h i j) else Y (ix5 s (chunk d n) h i j)) := by
  have hn := n.isLt
  rcases (by omega : d = 0 ∨ d = 1) with rfl | rfl
  · pointwise [bothAttn, drow, chunk]
    blk_ext
  · pointwise [bothAttn, drow, chunk]
    simp only [List.mem_singleton, Fin.isValue, reduceIte, Fin.reduceEq]
    refine congrArg Y ?_
    blk_ext [Fin.val_rev]

/-- The stacked decays at a chunk, direction and head. -/
theorem bothDecay_at (X : FVec Ideal S32x32x8x128 .f32) (n : Fin 32) (s : Fin 32) (d : Fin 2) (h : Fin 4) (v : Fin 128) :
    bothDecay X (ix5 n s (drow d h) 0 v) = X (ix4 s (chunk d n) (drow d h) v) := by
  have hn := n.isLt
  rcases (by omega : d = 0 ∨ d = 1) with rfl | rfl
  · pointwise [bothDecay, drow, chunk]
    blk_ext
  · pointwise [bothDecay, drow, chunk]
    simp only [List.mem_singleton, Fin.isValue, reduceIte, Fin.reduceEq]
    refine congrArg X ?_
    blk_ext [Fin.val_rev]

/-- The stacked values before the loop. -/
theorem entry_u (c : Dev nD) : entryContents preI m c (Proc.devRef .tc main_v43_0)
    = bothRows (m ((c.tc : Thread nD τ).loc main_arg0)) (m ((c.tc : Thread nD τ).loc main_arg5)) := by
  simp only [entryContents, afterL_cons, afterL_nil]
  after_reads_simp
  refine congrArg₂ (fun a b => concatenate S32x32x8x64x128 2 [⟨S32x32x4x64x128, a⟩, ⟨S32x32x4x64x128, b⟩] concatenates_S32x32x4x64x128_S32x32x4x64x128_S32x32x8x64x128_d2) ?_ ?_
  · after_reads_simp
    rfl
  · after_reads_simp
    rfl

/-- The stacked weights `w` before the loop. -/
theorem entry_w (c : Dev nD) : entryContents preI m c (Proc.devRef .tc main_v43_1)
    = bothRows (extf .f32 (m ((c.tc : Thread nD τ).loc main_arg1) : FVec Ideal S32x2048x512 .bf16) bitsLt_bf16_f32) (extf .f32 (m ((c.tc : Thread nD τ).loc main_arg6) : FVec Ideal S32x2048x512 .bf16) bitsLt_bf16_f32) := by
  simp only [entryContents, afterL_cons, afterL_nil]
  after_reads_simp
  refine congrArg₂ (fun a b => concatenate S32x32x8x64x128 2 [⟨S32x32x4x64x128, a⟩, ⟨S32x32x4x64x128, b⟩] concatenates_S32x32x4x64x128_S32x32x4x64x128_S32x32x8x64x128_d2) ?_ ?_
  · after_reads_simp
    rfl
  · after_reads_simp
    rfl

/-- The stacked attentions before the loop. -/
theorem entry_a (c : Dev nD) : entryContents preI m c (Proc.devRef .tc main_v43_2)
    = bothAttn (extf .f32 (m ((c.tc : Thread nD τ).loc main_arg4) : FVec Ideal S32x32x4x64x64 .bf16) bitsLt_bf16_f32) (extf .f32 (m ((c.tc : Thread nD τ).loc main_arg9) : FVec Ideal S32x32x4x64x64 .bf16) bitsLt_bf16_f32) := by
  simp only [entryContents, afterL_cons, afterL_nil]
  after_reads_simp
  refine congrArg₂ (fun a b => concatenate S32x32x8x64x64 2 [⟨S32x32x4x64x64, a⟩, ⟨S32x32x4x64x64, b⟩] concatenates_S32x32x4x64x64_S32x32x4x64x64_S32x32x8x64x64_d2) ?_ ?_
  · after_reads_simp <;> rfl
  · after_reads_simp
    rfl

/-- The stacked queries before the loop. -/
theorem entry_q (c : Dev nD) : entryContents preI m c (Proc.devRef .tc main_v43_3)
    = bothRows (extf .f32 (m ((c.tc : Thread nD τ).loc main_arg2) : FVec Ideal S32x2048x512 .bf16) bitsLt_bf16_f32) (extf .f32 (m ((c.tc : Thread nD τ).loc main_arg7) : FVec Ideal S32x2048x512 .bf16) bitsLt_bf16_f32) := by
  simp only [entryContents, afterL_cons, afterL_nil]
  after_reads_simp
  refine congrArg₂ (fun a b => concatenate S32x32x8x64x128 2 [⟨S32x32x4x64x128, a⟩, ⟨S32x32x4x64x128, b⟩] concatenates_S32x32x4x64x128_S32x32x4x64x128_S32x32x8x64x128_d2) ?_ ?_
  · after_reads_simp
    rfl
  · after_reads_simp
    rfl

/-- The stacked keys before the loop. -/
theorem entry_k (c : Dev nD) : entryContents preI m c (Proc.devRef .tc main_v43_4)
    = bothKeys (extf .f32 (m ((c.tc : Thread nD τ).loc main_arg3) : FVec Ideal S32x32x4x128x64 .bf16) bitsLt_bf16_f32) (extf .f32 (m ((c.tc : Thread nD τ).loc main_arg8) : FVec Ideal S32x32x4x128x64 .bf16) bitsLt_bf16_f32) := by
  simp only [entryContents, afterL_cons, afterL_nil]
  after_reads_simp
  refine congrArg₂ (fun a b => concatenate S32x32x8x128x64 2 [⟨S32x32x4x128x64, a⟩, ⟨S32x32x4x128x64, b⟩] concatenates_S32x32x4x128x64_S32x32x4x128x64_S32x32x8x128x64_d2) ?_ ?_
  · after_reads_simp <;> rfl
  · after_reads_simp
    rfl

/-- The stacked decays before the loop. -/
theorem entry_g (c : Dev nD) : entryContents preI m c (Proc.devRef .tc main_v43_5) = bothDecay (m ((c.tc : Thread nD τ).loc main_arg10)) := by
  simp only [entryContents, afterL_cons, afterL_nil]
  after_reads_simp
  refine congrArg₂ (fun a b => broadcastInDim S32x32x8x1x128 ![0, 1, 2, 4] bcast_S32x32x8x128_S32x32x8x1x128_0_1_2_4
    (concatenate S32x32x8x128 2 [⟨S32x32x4x128, a⟩, ⟨S32x32x4x128, b⟩] concatenates_S32x32x4x128_S32x32x4x128_S32x32x8x128_d2)) ?_ ?_
  · after_reads_simp <;> rfl
  · after_reads_simp
    rfl

/-- The stacked states before the loop are zeros. -/
theorem entry_S (c : Dev nD) (y : S32x8x128x128.Idx) : entryContents preI m c (Proc.devRef .tc main_v43_7) y = (0 : EReal) := by
  have e : entryContents preI m c (Proc.devRef .tc main_v43_7)
      = (broadcastInDim S32x8x128x128 ![] bcast_S_S32x8x128x128 (constant S_ .f32 0x00000000#32) : FVec Ideal S32x8x128x128 .f32) := by
    simp only [entryContents, afterL_cons, afterL_nil]
    after_reads_simp
    rfl
  rw [e]
  pointwise

end Entry

section Iterate

variable (m : (ℓ : Loc nD τ sig) → Buf (Elt Ideal) ℓ)

/-- The recurrence's operands in the reference's arguments. -/
abbrev args (c : Dev nD) : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- What the loop's buffers hold before trip `k`: the operands and the counter, the recurrence's states, and the outputs
    of the trips so far. -/
structure Holds (c : Dev nD) (k : ℕ) (V : Valuation τ sig (Elt Ideal)) : Prop where
  u : V (Proc.devRef .tc main_v43_0) = entryContents preI m c (Proc.devRef .tc main_v43_0)
  w : V (Proc.devRef .tc main_v43_1) = entryContents preI m c (Proc.devRef .tc main_v43_1)
  a : V (Proc.devRef .tc main_v43_2) = entryContents preI m c (Proc.devRef .tc main_v43_2)
  q : V (Proc.devRef .tc main_v43_3) = entryContents preI m c (Proc.devRef .tc main_v43_3)
  kt : V (Proc.devRef .tc main_v43_4) = entryContents preI m c (Proc.devRef .tc main_v43_4)
  g : V (Proc.devRef .tc main_v43_5) = entryContents preI m c (Proc.devRef .tc main_v43_5)
  ctr : V (Proc.devRef .tc main_v43_6) = fun _ => Scf.iv 0#32 1#32 k
  state : ∀ (s : Fin 32) (d : Fin 2) (h : Fin 4) (i v : Fin 128), (V (Proc.devRef .tc main_v43_7) : FVec Ideal S32x8x128x128 .f32) (ix4 s (drow d h) i v) = (args m c).state d s h k i v
  outs : ∀ (n : Fin 32), n.val < k → ∀ (s : Fin 32) (d : Fin 2) (h : Fin 4) (i : Fin 64) (v : Fin 128),
    (V (Proc.devRef .tc main_v43_8) : FVec Ideal S32x32x8x64x128 .f32) (ix5 n s (drow d h) i v) = (args m c).out d s h n i v

/-- The start of the slices of trip `k`. -/
theorem start_at (k : Fin 32) (x : (⟨S_, .i32⟩ : BufTy).Contents (Elt Ideal)) (hx : x = fun _ => Scf.iv 0#32 1#32 k.val) (a : Fin 5) :
    (((![x, constantI S_ 32 0#32, constantI S_ 32 0#32, constantI S_ 32 0#32, constantI S_ 32 0#32] : Fin 5 → (⟨S_, .i32⟩ : BufTy).Contents (Elt Ideal))) a (Shape.Idx.first h_S_)).toInt
      = ((![k.val, 0, 0, 0, 0] : Fin 5 → ℕ) a : Int) := by
  subst hx
  have hk := k.isLt
  fin_cases a
  · show (Scf.iv 0#32 1#32 k.val).toInt = (k.val : Int)
    rw [show Scf.iv 0#32 1#32 k.val = BitVec.ofNat 32 k.val by simp [Scf.iv]]
    exact toInt_ofNat_of_lt (by omega)
  · rfl
  · rfl
  · rfl
  · rfl

/-- The operands at a trip, direction and head. -/
theorem operands (c : Dev nD) (V : Valuation τ sig (Elt Ideal)) (k : Fin 32) (H : Holds m c k V) (s : Fin 32) (d : Fin 2) (h : Fin 4) :
    (∀ i v, (V (Proc.devRef .tc main_v43_0) : FVec Ideal S32x32x8x64x128 .f32) (ix5 k s (drow d h) i v) = (args m c).u d s (row (chunk d k) i) (col h v))
    ∧ (∀ i v, (V (Proc.devRef .tc main_v43_1) : FVec Ideal S32x32x8x64x128 .f32) (ix5 k s (drow d h) i v) = (args m c).w d s (row (chunk d k) i) (col h v))
    ∧ (∀ i v, (V (Proc.devRef .tc main_v43_3) : FVec Ideal S32x32x8x64x128 .f32) (ix5 k s (drow d h) i v) = (args m c).q d s (row (chunk d k) i) (col h v))
    ∧ (∀ i j, (V (Proc.devRef .tc main_v43_2) : FVec Ideal S32x32x8x64x64 .f32) (ix5 k s (drow d h) i j) = (args m c).a d s (chunk d k) h i j)
    ∧ (∀ i j, (V (Proc.devRef .tc main_v43_4) : FVec Ideal S32x32x8x128x64 .f32) (ix5 k s (drow d h) i j) = (args m c).k d s (chunk d k) h i j)
    ∧ (∀ v, (V (Proc.devRef .tc main_v43_5) : FVec Ideal S32x32x8x1x128 .f32) (ix5 k s (drow d h) 0 v) = (args m c).g d s (chunk d k) h v) := by
  refine ⟨fun i v => ?_, fun i v => ?_, fun i v => ?_, fun i j => ?_, fun i j => ?_, fun v => ?_⟩
  · rw [H.u, entry_u]; exact bothRows_at _ _ k s d h i v
  · rw [H.w, entry_w]; exact bothRows_at _ _ k s d h i v
  · rw [H.q, entry_q]; exact bothRows_at _ _ k s d h i v
  · rw [H.a, entry_a]; exact bothAttn_at _ _ k s d h i j
  · rw [H.kt, entry_k]; exact bothKeys_at _ _ k s d h i j
  · rw [H.g, entry_g]; exact bothDecay_at _ k s d h v

/-- A trip's state is the recurrence's next one. -/
theorem step_state (c : Dev nD) (V : Valuation τ sig (Elt Ideal)) (k : Fin 32) (H : Holds m c k V) (s : Fin 32) (d : Fin 2) (h : Fin 4) (i v : Fin 128) :
    (step_main_v43_7 V : FVec Ideal S32x8x128x128 .f32) (ix4 s (drow d h) i v) = (args m c).state d s h (k + 1) i v := by
  obtain ⟨hu, hw, hq, ha, hk, hg⟩ := operands m c V k H s d h
  have hs := start_at k _ H.ctr
  unfold step_main_v43_7 res_main_while0b_v58
  refine (next_at _ _ _ _ _ s (drow d h) i v).trans ?_
  exact next_congr (fun i v => (cut_rows k _ hs _ _ _ i v).trans (hu i v)) (fun i v => (cut_rows k _ hs _ _ _ i v).trans (hw i v))
    (fun i j => (cut_keys k _ hs _ _ _ i j).trans (hk i j)) (fun v => (cut_decay k _ hs _ _ _ v).trans (hg v)) (H.state s d h) i v

/-- A trip's outputs are the recurrence's, beside those of the trips before. -/
theorem step_outs (c : Dev nD) (V : Valuation τ sig (Elt Ideal)) (k : Fin 32) (H : Holds m c k V) (n : Fin 32) (hn : n.val < k.val + 1)
    (s : Fin 32) (d : Fin 2) (h : Fin 4) (i : Fin 64) (v : Fin 128) :
    (step_main_v43_8 V : FVec Ideal S32x32x8x64x128 .f32) (ix5 n s (drow d h) i v) = (args m c).out d s h n i v := by
  obtain ⟨hu, hw, hq, ha, hk, hg⟩ := operands m c V k H s d h
  have hs := start_at k _ H.ctr
  unfold step_main_v43_8 res_main_while0b_v58
  refine (put_rows k _ hs _ _ n s (drow d h) i v).trans ?_
  by_cases hnk : n = k
  · subst hnk
    rw [if_pos rfl]
    refine (out_at _ _ _ _ _ s (drow d h) i v).trans ?_
    exact out_congr (fun i v => (cut_rows n _ hs _ _ _ i v).trans (hu i v)) (fun i v => (cut_rows n _ hs _ _ _ i v).trans (hw i v))
      (fun i v => (cut_rows n _ hs _ _ _ i v).trans (hq i v)) (fun i j => (cut_attn n _ hs _ _ _ i j).trans (ha i j)) (H.state s d h) i v
  · rw [if_neg hnk]
    exact H.outs n (by have : n.val ≠ k.val := fun e => hnk (Fin.ext e); omega) s d h i v

/-- One trip keeps what the loop's buffers hold. -/
theorem holds_succ (c : Dev nD) (V : Valuation τ sig (Elt Ideal)) (k : Fin 32) (H : Holds m c k V) : Holds m c (k + 1) (STEP V) where
  u := (STEP_main_v43_0 V).trans H.u
  w := (STEP_main_v43_1 V).trans H.w
  a := (STEP_main_v43_2 V).trans H.a
  q := (STEP_main_v43_3 V).trans H.q
  kt := (STEP_main_v43_4 V).trans H.kt
  g := (STEP_main_v43_5 V).trans H.g
  ctr := by rw [STEP_main_v43_6, step_main_v43_6, H.ctr, Scf.iv_succ]; rfl
  state s d h i v := (congrFun (STEP_main_v43_7 V) _).trans (step_state m c V k H s d h i v)
  outs n hn s d h i v := (congrFun (STEP_main_v43_8 V) _).trans (step_outs m c V k H n hn s d h i v)

/-- The loop's buffers before the first trip. -/
theorem holds_zero (c : Dev nD) : Holds m c 0 (entryContents preI m c) where
  u := rfl
  w := rfl
  a := rfl
  q := rfl
  kt := rfl
  g := rfl
  ctr := by rw [ctr_entry, Scf.iv_zero]
  state s d h i v := entry_S m c _
  outs n hn := absurd hn (Nat.not_lt_zero _)

/-- The loop's buffers before each trip. -/
theorem holds (c : Dev nD) (k : ℕ) (hk : k ≤ 32) : Holds m c k (STEP^[k] (entryContents preI m c)) := by
  induction k with
  | zero => exact holds_zero m c
  | succ k ih =>
    rw [Function.iterate_succ_apply']
    exact holds_succ m c _ ⟨k, by omega⟩ (ih (by omega))

end Iterate

section Results

variable (m : (ℓ : Loc nD τ sig) → Buf (Elt Ideal) ℓ)

/-- A place of a result is a token of a step's chunk and a column of a head. -/
theorem token (d : Fin 2) (y : S32x2048x512.Idx) : ∃ (n s : Fin 32) (h : Fin 4) (i : Fin 64) (v : Fin 128),
    y = ix3 s (row (chunk d n) i) (col h v) ∧ ((chunk d n : Fin 32) : ℕ) = if d = 0 then n.val else 31 - n.val := by
  have h1 : (y 1 : ℕ) < 2048 := (y 1).isLt
  have h2 : (y 2 : ℕ) < 512 := (y 2).isLt
  refine ⟨if d = 0 then ⟨(y 1 : ℕ) / 64, by omega⟩ else ⟨31 - (y 1 : ℕ) / 64, by omega⟩, y 0, ⟨(y 2 : ℕ) / 128, by omega⟩, ⟨(y 1 : ℕ) % 64, by omega⟩,
    ⟨(y 2 : ℕ) % 128, by omega⟩, ?_, ?_⟩
  · funext a
    fin_cases a
    · rfl
    · refine Fin.ext ?_
      show (y 1 : ℕ) = (chunk d _ : ℕ) * 64 + (y 1 : ℕ) % 64
      unfold chunk
      split_ifs <;> simp only <;> omega
    · exact Fin.ext (by show (y 2 : ℕ) = (y 2 : ℕ) / 128 * 128 + (y 2 : ℕ) % 128; omega)
  · unfold chunk
    split_ifs <;> simp only <;> omega

/-- The first result at a token of a chunk and a column of a head. -/
theorem fwd_at (X : FVec Ideal S32x32x8x64x128 .f32) (n : Fin 32) (b : Fin 32) (hb : b.val = n.val) (s : Fin 32) (h : Fin 4) (i : Fin 64) (v : Fin 128) :
    (shapeCast S32x2048x512 (transpose S32x32x64x4x128 [1, 0, 3, 2, 4] (extractStridedSlice S32x32x4x64x128 ![0, 0, 0, 0, 0] X slices_S32x32x8x64x128_S32x32x4x64x128_0_0_0_0_0)
      transposes_S32x32x4x64x128_S32x32x64x4x128_1_0_3_2_4) shapeCasts_S32x32x64x4x128_S32x2048x512 : FVec Ideal S32x2048x512 .f32) (ix3 s (row b i) (col h v))
      = X (ix5 n s (drow 0 h) i v) := by
  pointwise [row, col, drow]
  blk_ext

/-- The second result at a token of a chunk and a column of a head. -/
theorem bwd_at (X : FVec Ideal S32x32x8x64x128 .f32) (n : Fin 32) (b : Fin 32) (hb : b.val = 31 - n.val) (s : Fin 32) (h : Fin 4) (i : Fin 64) (v : Fin 128) :
    (shapeCast S32x2048x512 (transpose S32x32x64x4x128 [1, 0, 3, 2, 4] (Host.reverse [0] (extractStridedSlice S32x32x4x64x128 ![0, 0, 4, 0, 0] X slices_S32x32x8x64x128_S32x32x4x64x128_0_0_4_0_0))
      transposes_S32x32x4x64x128_S32x32x64x4x128_1_0_3_2_4) shapeCasts_S32x32x64x4x128_S32x2048x512 : FVec Ideal S32x2048x512 .f32) (ix3 s (row b i) (col h v))
      = X (ix5 n s (drow 1 h) i v) := by
  have hn := n.isLt
  pointwise [row, col, drow]
  simp only [List.mem_singleton, Fin.isValue, reduceIte, Fin.reduceEq]
  refine congrArg X ?_
  blk_ext [Fin.val_rev]

/-- The reference's first result is the recurrence's forward outputs. -/
theorem result_fwd (c : Dev nD) : out_main_v46 (STEP^[32] (entryContents preI m c)) = Cert.ScanP.outs (args m c) 0 := by
  funext y
  obtain ⟨n, s, h, i, v, rfl, hc⟩ := token 0 y
  refine (fwd_at _ n _ hc s h i v).trans ?_
  rw [(holds m c 32 le_rfl).outs n n.isLt s 0 h i v]
  exact (Cert.ScanP.outs_apply _ 0 s n n.isLt h i v).symm

/-- The reference's second result is the recurrence's backward outputs. -/
theorem result_bwd (c : Dev nD) : out_main_v50 (STEP^[32] (entryContents preI m c)) = Cert.ScanP.outs (args m c) 1 := by
  funext y
  obtain ⟨n, s, h, i, v, rfl, hc⟩ := token 1 y
  refine (bwd_at _ n _ hc s h i v).trans ?_
  rw [(holds m c 32 le_rfl).outs n n.isLt s 1 h i v]
  exact (Cert.ScanP.outs_apply _ 1 s n n.isLt h i v).symm

end Results

end Cert.ScanPRefIdeal.Scan
-- ==== Proof.lean ====
/- The claims about the calls of the layer: each kernel, as printed and idealized, runs with its arguments unchanged, and the
   idealized kernel and its reference end with equal results. The frames of the kernels are the generated ones; the reference's
   frame is its generated run cut down to its arguments; the equal results are the value theorems of the modules imported last. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import Idealize.ShloMosaic.Adequacy
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.InProj.Value
public import proofs.«01_k».proof.Proof.Scan.Kernel
public import proofs.«01_k».proof.Proof.Scan.Loop
public import proofs.«01_k».proof.Proof.Merge.Value
public import proofs.«01_k».proof.Proof.Final.Value
public import proofs.«01_k».proof.Proof.Prep.Value
public import proofs.«01_k».proof.Proof.Gen.InProjP
public import proofs.«01_k».proof.Proof.Gen.InProjP.Skeleton
public import proofs.«01_k».proof.Proof.Gen.InProjP.Launch
public import proofs.«01_k».proof.Proof.Gen.InProjP.Points
public import proofs.«01_k».proof.Proof.Gen.InProjP.Frame
public import proofs.«01_k».proof.Proof.Gen.InProjPIdeal
public import proofs.«01_k».proof.Proof.Gen.InProjPIdeal.Skeleton
public import proofs.«01_k».proof.Proof.Gen.InProjPIdeal.Launch
public import proofs.«01_k».proof.Proof.Gen.InProjPIdeal.Points
public import proofs.«01_k».proof.Proof.Gen.InProjPIdeal.Frame
public import proofs.«01_k».proof.Proof.Gen.InProjPIdeal.Value
public import proofs.«01_k».proof.Proof.Gen.InProjPRefIdeal
public import proofs.«01_k».proof.Proof.Gen.InProjPRefIdeal.Run
public import proofs.«01_k».proof.Proof.InProjP.Value
public import proofs.«01_k».proof.Proof.Gen.MergeP
public import proofs.«01_k».proof.Proof.Gen.MergeP.Skeleton
public import proofs.«01_k».proof.Proof.Gen.MergeP.Launch
public import proofs.«01_k».proof.Proof.Gen.MergeP.Points
public import proofs.«01_k».proof.Proof.Gen.MergeP.Frame
public import proofs.«01_k».proof.Proof.Gen.MergePIdeal
public import proofs.«01_k».proof.Proof.Gen.MergePIdeal.Skeleton
public import proofs.«01_k».proof.Proof.Gen.MergePIdeal.Launch
public import proofs.«01_k».proof.Proof.Gen.MergePIdeal.Points
public import proofs.«01_k».proof.Proof.Gen.MergePIdeal.Frame
public import proofs.«01_k».proof.Proof.Gen.MergePIdeal.Value
public import proofs.«01_k».proof.Proof.Gen.MergePRefIdeal
public import proofs.«01_k».proof.Proof.Gen.MergePRefIdeal.Run
public import proofs.«01_k».proof.Proof.MergeP.Value
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPIdeal.Value
public import proofs.«01_k».proof.Proof.Gen.FinalPRefIdeal
public import proofs.«01_k».proof.Proof.Gen.FinalPRefIdeal.Run
public import proofs.«01_k».proof.Proof.FinalP.Value
public import proofs.«01_k».proof.Proof.Gen.PrepP
public import proofs.«01_k».proof.Proof.Gen.PrepP.Skeleton
public import proofs.«01_k».proof.Proof.Gen.PrepP.Launch
public import proofs.«01_k».proof.Proof.Gen.PrepP.Points
public import proofs.«01_k».proof.Proof.Gen.PrepP.Frame
public import proofs.«01_k».proof.Proof.Gen.PrepPIdeal
public import proofs.«01_k».proof.Proof.Gen.PrepPIdeal.Skeleton
public import proofs.«01_k».proof.Proof.Gen.PrepPIdeal.Launch
public import proofs.«01_k».proof.Proof.Gen.PrepPIdeal.Points
public import proofs.«01_k».proof.Proof.Gen.PrepPIdeal.Frame
public import proofs.«01_k».proof.Proof.Gen.PrepPIdeal.Value
public import proofs.«01_k».proof.Proof.Gen.PrepPRefIdeal
public import proofs.«01_k».proof.Proof.Gen.PrepPRefIdeal.Run
public import proofs.«01_k».proof.Proof.PrepP.Value
public import proofs.«01_k».proof.Proof.Gen.ScanP
public import proofs.«01_k».proof.Proof.Gen.ScanP.Skeleton
public import proofs.«01_k».proof.Proof.Gen.ScanP.Launch
public import proofs.«01_k».proof.Proof.Gen.ScanP.Points
public import proofs.«01_k».proof.Proof.Gen.ScanP.Frame
public import proofs.«01_k».proof.Proof.Gen.ScanPIdeal
public import proofs.«01_k».proof.Proof.Gen.ScanPIdeal.Skeleton
public import proofs.«01_k».proof.Proof.Gen.ScanPIdeal.Launch
public import proofs.«01_k».proof.Proof.Gen.ScanPIdeal.Points
public import proofs.«01_k».proof.Proof.Gen.ScanPIdeal.Frame
public import proofs.«01_k».proof.Proof.Gen.ScanPIdeal.Value
public import proofs.«01_k».proof.Proof.Gen.ScanPRefIdeal
public import proofs.«01_k».proof.Proof.Gen.ScanPRefIdeal.Run
public import proofs.«01_k».proof.Proof.ScanP.Kernel
public import proofs.«01_k».proof.Proof.ScanP.Loop
public import Idealize.ShloMosaic.Lib.Quiescent
public import Idealize.ShloMosaic.Init

@[expose] public section

set_option maxRecDepth 16384

noncomputable section

namespace Cert.Proof

open Idealize.ShloMosaic Idealize.ShloMosaic.TcCoe Idealize.SL.Sem

/-- The reference of the scan runs, its arguments unchanged, every semaphore at zero. -/
theorem frame_ReferenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The reference of the projections runs, its arguments unchanged, every semaphore at zero. -/
theorem frame_InProjRefIdeal : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The reference of the merge runs, its arguments unchanged, every semaphore at zero. -/
theorem frame_MergeRefIdeal : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The reference of the last normalization runs, its arguments unchanged, every semaphore at zero. -/
theorem frame_FinalRefIdeal : Cert.quiescent_FinalRefIdeal := fun m ρ _ =>
  (θ_run Cert.FinalRefIdeal.defs _ _).mono (fun r h => ⟨fun c => (h c).2, Idealize.ShloMosaic.sem_eq_zero_of_no_sems (by decide) r.2⟩)
    (Cert.FinalRefIdeal.Value.run (F := Ideal) m ρ)

/-- The scan: kernel and reference end with the outputs of both directions' recurrences over the chunks. -/
theorem scan : Cert.algebraic_KernelIdeal_ReferenceIdeal := by
  intro m ρ m' ρ' _ hagree
  refine ⟨fun c => Cert.KernelIdeal.Scan.outs (Cert.KernelIdeal.Scan.args m c) 0, fun c => Cert.KernelIdeal.Scan.outs (Cert.KernelIdeal.Scan.args m c) 1, ?_, ?_⟩
  · exact (θ_run Cert.KernelIdeal.defs _ _).mono (fun _ h c =>
      ⟨(h c).1.trans (Cert.KernelIdeal.Scan.result12 m c), (h c).2.1.trans (Cert.KernelIdeal.Scan.result13 m c), (h c).2.2⟩)
      (Cert.KernelIdeal.Value.run_blocks (F := Ideal) m ρ)
  · have hargs (c : Dev Cert.KernelIdeal.nD) : Cert.ReferenceIdeal.Scan.args m' c = Cert.KernelIdeal.Scan.args m c := by
      obtain ⟨h0, h1, h2, h3, h4, h5, h6, h7, h8, h9, h10⟩ := hagree c
      unfold Cert.ReferenceIdeal.Scan.args Cert.KernelIdeal.Scan.args
      rw [h0, h1, h2, h3, h4, h5, h6, h7, h8, h9, h10]
    refine (θ_run Cert.ReferenceIdeal.defs _ _).mono (fun _ h c => ⟨(h c).1.trans ?_, (h c).2.1.trans ?_, (h c).2.2⟩)
      (Cert.ReferenceIdeal.Value.run (F := Ideal) m' ρ')
    · exact (Cert.ReferenceIdeal.Scan.result_fwd m' c).trans (by rw [hargs c])
    · exact (Cert.ReferenceIdeal.Scan.result_bwd m' c).trans (by rw [hargs c])

/-- The projections: kernel and reference end with the normalized rows times the matrix, its columns in their new order. -/
theorem projections : Cert.algebraic_InProjIdeal_InProjRefIdeal := by
  intro m ρ m' ρ' _ hagree
  refine ⟨fun c => Cert.InProjIdeal.Proj.REF (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg2)), ?_, ?_⟩
  · exact (θ_run Cert.InProjIdeal.defs _ _).mono (fun _ h c => ⟨(h c).1.trans (Cert.InProjIdeal.Proj.result m c), (h c).2⟩)
      (Cert.InProjIdeal.Value.run_blocks (F := Ideal) m ρ)
  · refine (θ_run Cert.InProjRefIdeal.defs _ _).mono (fun _ h c => ⟨(h c).1.trans ?_, (h c).2⟩) (Cert.InProjRefIdeal.Value.run (F := Ideal) m' ρ')
    obtain ⟨h0, h1, h2⟩ := hagree c
    unfold Cert.InProjRefIdeal.Value.res_main_v20
    rw [h0, h1, h2]

/-- The merge: kernel and reference end with the layer's input plus both gated branches through the output matrix. -/
theorem merge : Cert.algebraic_MergeIdeal_MergeRefIdeal := by
  intro m ρ m' ρ' _ hagree
  refine ⟨fun c => Cert.MergeIdeal.Join.REF (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg2)) (m ((c : Thread Cert.MergeIdeal.nD Cert.MergeIdeal.τ).loc Cert.MergeIdeal.main_arg3)) (m ((c : Thread Cert.MergeIdeal.nD Cert.MergeIdeal.τ).loc Cert.MergeIdeal.main_arg4)) (m ((c : Thread Cert.MergeIdeal.nD Cert.MergeIdeal.τ).loc Cert.MergeIdeal.main_arg5)) (m ((c : Thread Cert.MergeIdeal.nD Cert.MergeIdeal.τ).loc Cert.MergeIdeal.main_arg6)) (m ((c : Thread Cert.MergeIdeal.nD Cert.MergeIdeal.τ).loc Cert.MergeIdeal.main_arg7)) (m ((c : Thread Cert.MergeIdeal.nD Cert.MergeIdeal.τ).loc Cert.MergeIdeal.main_arg8)), ?_, ?_⟩
  · exact (θ_run Cert.MergeIdeal.defs _ _).mono (fun _ h c => ⟨(h c).1.trans (Cert.MergeIdeal.Join.result m c), (h c).2⟩)
      (Cert.MergeIdeal.Value.run_blocks (F := Ideal) m ρ)
  · refine (θ_run Cert.MergeRefIdeal.defs _ _).mono (fun _ h c => ⟨(h c).1.trans ?_, (h c).2⟩) (Cert.MergeRefIdeal.Value.run (F := Ideal) m' ρ')
    obtain ⟨h0, h1, h2, h3, h4, h5, h6, h7, h8⟩ := hagree c
    rw [h0, h1, h2, h3, h4, h5, h6, h7, h8]

/-- The last normalization: kernel and reference end with the normalized sum times the gain. -/
theorem last : Cert.algebraic_FinalIdeal_FinalRefIdeal := by
  intro m ρ m' ρ' _ hagree
  refine ⟨fun c => Cert.FinalIdeal.Last.REF (m ((c : Thread Cert.FinalIdeal.nD Cert.FinalIdeal.τ).loc Cert.FinalIdeal.main_arg0)) (m ((c : Thread Cert.FinalIdeal.nD Cert.FinalIdeal.τ).loc Cert.FinalIdeal.main_arg1)) (m ((c : Thread Cert.FinalIdeal.nD Cert.FinalIdeal.τ).loc Cert.FinalIdeal.main_arg2)), ?_, ?_⟩
  · exact (θ_run Cert.FinalIdeal.defs _ _).mono (fun _ h c => ⟨(h c).1.trans (Cert.FinalIdeal.Last.result m c), (h c).2⟩)
      (Cert.FinalIdeal.Value.run_blocks (F := Ideal) m ρ)
  · refine (θ_run Cert.FinalRefIdeal.defs _ _).mono (fun _ h c => ⟨(h c).1.trans ?_, (h c).2⟩) (Cert.FinalRefIdeal.Value.run (F := Ideal) m' ρ')
    obtain ⟨h0, h1, h2⟩ := hagree c
    rw [h0, h1, h2]

/-- The reference of the preparation runs, its arguments unchanged, every semaphore at zero. -/
theorem frame_PrepRefIdeal : Cert.quiescent_PrepRefIdeal := fun m ρ _ =>
  (θ_run Cert.PrepRefIdeal.defs _ _).mono (fun r h => ⟨fun c => (h c).2.2, Idealize.ShloMosaic.sem_eq_zero_of_no_sems (by decide) r.2⟩)
    (Cert.PrepRefIdeal.Value.run (F := Ideal) m ρ)

/-- The preparation: kernel and reference end with the convolved columns, their heads normalized, and with the gates. -/
theorem preparation : Cert.algebraic_PrepIdeal_PrepRefIdeal := by
  intro m ρ m' ρ' _ hagree
  refine ⟨fun c => Cert.PrepRefIdeal.Entry.REF0 (m ((c : Thread Cert.PrepIdeal.nD Cert.PrepIdeal.τ).loc Cert.PrepIdeal.main_arg0)) (m ((c : Thread Cert.PrepIdeal.nD Cert.PrepIdeal.τ).loc Cert.PrepIdeal.main_arg1)),
    fun c => Cert.PrepRefIdeal.Entry.REF1 (m ((c : Thread Cert.PrepIdeal.nD Cert.PrepIdeal.τ).loc Cert.PrepIdeal.main_arg0)) (m ((c : Thread Cert.PrepIdeal.nD Cert.PrepIdeal.τ).loc Cert.PrepIdeal.main_arg2)) (m ((c : Thread Cert.PrepIdeal.nD Cert.PrepIdeal.τ).loc Cert.PrepIdeal.main_arg3)), ?_, ?_⟩
  · exact (θ_run Cert.PrepIdeal.defs _ _).mono (fun _ h c =>
      ⟨(h c).1.trans (Cert.PrepIdeal.Block.result7 m c), (h c).2.1.trans (Cert.PrepIdeal.Block.result8 m c), (h c).2.2⟩)
      (Cert.PrepIdeal.Value.run_blocks (F := Ideal) m ρ)
  · refine (θ_run Cert.PrepRefIdeal.defs _ _).mono (fun _ h c => ⟨(h c).1.trans ?_, (h c).2.1.trans ?_, (h c).2.2⟩)
      (Cert.PrepRefIdeal.Value.run (F := Ideal) m' ρ')
    · obtain ⟨h0, h1, h2, h3⟩ := hagree c
      unfold Cert.PrepRefIdeal.Value.res_main_v103
      rw [h0, h1]
    · obtain ⟨h0, h1, h2, h3⟩ := hagree c
      unfold Cert.PrepRefIdeal.Value.res_main_v104
      rw [h0, h2, h3]

/-- For the prompt batch, the reference of the projections runs, its arguments unchanged, every semaphore at zero. -/
theorem frame_InProjPRefIdeal : Cert.quiescent_InProjPRefIdeal := fun m ρ _ =>
  (θ_run Cert.InProjPRefIdeal.defs _ _).mono (fun r h => ⟨fun c => (h c).2, Idealize.ShloMosaic.sem_eq_zero_of_no_sems (by decide) r.2⟩)
    (Cert.InProjPRefIdeal.Value.run (F := Ideal) m ρ)

/-- The projections for the prompt batch: kernel and reference end with the normalized rows times the matrix, its columns in their new order. -/
theorem projectionsP : Cert.algebraic_InProjPIdeal_InProjPRefIdeal := by
  intro m ρ m' ρ' _ hagree
  refine ⟨fun c => Cert.InProjPIdeal.Proj.REF (m ((c : Thread Cert.InProjPIdeal.nD Cert.InProjPIdeal.τ).loc Cert.InProjPIdeal.main_arg0)) (m ((c : Thread Cert.InProjPIdeal.nD Cert.InProjPIdeal.τ).loc Cert.InProjPIdeal.main_arg1)) (m ((c : Thread Cert.InProjPIdeal.nD Cert.InProjPIdeal.τ).loc Cert.InProjPIdeal.main_arg2)), ?_, ?_⟩
  · exact (θ_run Cert.InProjPIdeal.defs _ _).mono (fun _ h c => ⟨(h c).1.trans (Cert.InProjPIdeal.Proj.result m c), (h c).2⟩)
      (Cert.InProjPIdeal.Value.run_blocks (F := Ideal) m ρ)
  · refine (θ_run Cert.InProjPRefIdeal.defs _ _).mono (fun _ h c => ⟨(h c).1.trans ?_, (h c).2⟩) (Cert.InProjPRefIdeal.Value.run (F := Ideal) m' ρ')
    obtain ⟨h0, h1, h2⟩ := hagree c
    unfold Cert.InProjPRefIdeal.Value.res_main_v20
    rw [h0, h1, h2]

/-- For the prompt batch, the reference of the merge runs, its arguments unchanged, every semaphore at zero. -/
theorem frame_MergePRefIdeal : Cert.quiescent_MergePRefIdeal := fun m ρ _ =>
  (θ_run Cert.MergePRefIdeal.defs _ _).mono (fun r h => ⟨fun c => (h c).2, Idealize.ShloMosaic.sem_eq_zero_of_no_sems (by decide) r.2⟩)
    (Cert.MergePRefIdeal.Value.run (F := Ideal) m ρ)

/-- The merge for the prompt batch: kernel and reference end with the layer's input plus both gated branches through the output matrix. -/
theorem mergeP : Cert.algebraic_MergePIdeal_MergePRefIdeal := by
  intro m ρ m' ρ' _ hagree
  refine ⟨fun c => Cert.MergePIdeal.Join.REF (m ((c : Thread Cert.MergePIdeal.nD Cert.MergePIdeal.τ).loc Cert.MergePIdeal.main_arg0)) (m ((c : Thread Cert.MergePIdeal.nD Cert.MergePIdeal.τ).loc Cert.MergePIdeal.main_arg1)) (m ((c : Thread Cert.MergePIdeal.nD Cert.MergePIdeal.τ).loc Cert.MergePIdeal.main_arg2)) (m ((c : Thread Cert.MergePIdeal.nD Cert.MergePIdeal.τ).loc Cert.MergePIdeal.main_arg3)) (m ((c : Thread Cert.MergePIdeal.nD Cert.MergePIdeal.τ).loc Cert.MergePIdeal.main_arg4)) (m ((c : Thread Cert.MergePIdeal.nD Cert.MergePIdeal.τ).loc Cert.MergePIdeal.main_arg5)) (m ((c : Thread Cert.MergePIdeal.nD Cert.MergePIdeal.τ).loc Cert.MergePIdeal.main_arg6)) (m ((c : Thread Cert.MergePIdeal.nD Cert.MergePIdeal.τ).loc Cert.MergePIdeal.main_arg7)) (m ((c : Thread Cert.MergePIdeal.nD Cert.MergePIdeal.τ).loc Cert.MergePIdeal.main_arg8)), ?_, ?_⟩
  · exact (θ_run Cert.MergePIdeal.defs _ _).mono (fun _ h c => ⟨(h c).1.trans (Cert.MergePIdeal.Join.result m c), (h c).2⟩)
      (Cert.MergePIdeal.Value.run_blocks (F := Ideal) m ρ)
  · refine (θ_run Cert.MergePRefIdeal.defs _ _).mono (fun _ h c => ⟨(h c).1.trans ?_, (h c).2⟩) (Cert.MergePRefIdeal.Value.run (F := Ideal) m' ρ')
    obtain ⟨h0, h1, h2, h3, h4, h5, h6, h7, h8⟩ := hagree c
    rw [h0, h1, h2, h3, h4, h5, h6, h7, h8]

/-- For the prompt batch, the reference of the last normalization runs, its arguments unchanged, every semaphore at zero. -/
theorem frame_FinalPRefIdeal : Cert.quiescent_FinalPRefIdeal := fun m ρ _ =>
  (θ_run Cert.FinalPRefIdeal.defs _ _).mono (fun r h => ⟨fun c => (h c).2, Idealize.ShloMosaic.sem_eq_zero_of_no_sems (by decide) r.2⟩)
    (Cert.FinalPRefIdeal.Value.run (F := Ideal) m ρ)

/-- The last normalization for the prompt batch: kernel and reference end with the normalized sum times the gain. -/
theorem lastP : Cert.algebraic_FinalPIdeal_FinalPRefIdeal := by
  intro m ρ m' ρ' _ hagree
  refine ⟨fun c => Cert.FinalPIdeal.Last.REF (m ((c : Thread Cert.FinalPIdeal.nD Cert.FinalPIdeal.τ).loc Cert.FinalPIdeal.main_arg0)) (m ((c : Thread Cert.FinalPIdeal.nD Cert.FinalPIdeal.τ).loc Cert.FinalPIdeal.main_arg1)) (m ((c : Thread Cert.FinalPIdeal.nD Cert.FinalPIdeal.τ).loc Cert.FinalPIdeal.main_arg2)), ?_, ?_⟩
  · exact (θ_run Cert.FinalPIdeal.defs _ _).mono (fun _ h c => ⟨(h c).1.trans (Cert.FinalPIdeal.Last.result m c), (h c).2⟩)
      (Cert.FinalPIdeal.Value.run_blocks (F := Ideal) m ρ)
  · refine (θ_run Cert.FinalPRefIdeal.defs _ _).mono (fun _ h c => ⟨(h c).1.trans ?_, (h c).2⟩) (Cert.FinalPRefIdeal.Value.run (F := Ideal) m' ρ')
    obtain ⟨h0, h1, h2⟩ := hagree c
    rw [h0, h1, h2]

/-- For the prompt batch, the reference of the preparation runs, its arguments unchanged, every semaphore at zero. -/
theorem frame_PrepPRefIdeal : Cert.quiescent_PrepPRefIdeal := fun m ρ _ =>
  (θ_run Cert.PrepPRefIdeal.defs _ _).mono (fun r h => ⟨fun c => (h c).2.2, Idealize.ShloMosaic.sem_eq_zero_of_no_sems (by decide) r.2⟩)
    (Cert.PrepPRefIdeal.Value.run (F := Ideal) m ρ)

/-- The preparation for the prompt batch: kernel and reference end with the convolved columns, their heads normalized, and with the gates. -/
theorem preparationP : Cert.algebraic_PrepPIdeal_PrepPRefIdeal := by
  intro m ρ m' ρ' _ hagree
  refine ⟨fun c => Cert.PrepPRefIdeal.Entry.REF0 (m ((c : Thread Cert.PrepPIdeal.nD Cert.PrepPIdeal.τ).loc Cert.PrepPIdeal.main_arg0)) (m ((c : Thread Cert.PrepPIdeal.nD Cert.PrepPIdeal.τ).loc Cert.PrepPIdeal.main_arg1)),
    fun c => Cert.PrepPRefIdeal.Entry.REF1 (m ((c : Thread Cert.PrepPIdeal.nD Cert.PrepPIdeal.τ).loc Cert.PrepPIdeal.main_arg0)) (m ((c : Thread Cert.PrepPIdeal.nD Cert.PrepPIdeal.τ).loc Cert.PrepPIdeal.main_arg2)) (m ((c : Thread Cert.PrepPIdeal.nD Cert.PrepPIdeal.τ).loc Cert.PrepPIdeal.main_arg3)), ?_, ?_⟩
  · exact (θ_run Cert.PrepPIdeal.defs _ _).mono (fun _ h c =>
      ⟨(h c).1.trans (Cert.PrepPIdeal.Block.result7 m c), (h c).2.1.trans (Cert.PrepPIdeal.Block.result8 m c), (h c).2.2⟩)
      (Cert.PrepPIdeal.Value.run_blocks (F := Ideal) m ρ)
  · refine (θ_run Cert.PrepPRefIdeal.defs _ _).mono (fun _ h c => ⟨(h c).1.trans ?_, (h c).2.1.trans ?_, (h c).2.2⟩)
      (Cert.PrepPRefIdeal.Value.run (F := Ideal) m' ρ')
    · obtain ⟨h0, h1, h2, h3⟩ := hagree c
      unfold Cert.PrepPRefIdeal.Value.res_main_v103
      rw [h0, h1]
    · obtain ⟨h0, h1, h2, h3⟩ := hagree c
      unfold Cert.PrepPRefIdeal.Value.res_main_v104
      rw [h0, h2, h3]

/-- The reference of the scan at the prompt batch runs, its arguments unchanged, every semaphore at zero. -/
theorem frame_ScanPRefIdeal : Cert.quiescent_ScanPRefIdeal := fun m ρ _ =>
  (θ_run Cert.ScanPRefIdeal.defs _ _).mono (fun r h => ⟨fun c => (h c).2.2, Idealize.ShloMosaic.sem_eq_zero_of_no_sems (by decide) r.2⟩)
    (Cert.ScanPRefIdeal.Value.run (F := Ideal) m ρ)

/-- The scan at the prompt batch: kernel and reference end with the outputs of both directions' recurrences over each sequence's chunks. -/
theorem scanP : Cert.algebraic_ScanPIdeal_ScanPRefIdeal := by
  intro m ρ m' ρ' _ hagree
  refine ⟨fun c => Cert.ScanP.outs (Cert.ScanPIdeal.Scan.args m c) 0, fun c => Cert.ScanP.outs (Cert.ScanPIdeal.Scan.args m c) 1, ?_, ?_⟩
  · exact (θ_run Cert.ScanPIdeal.defs _ _).mono (fun _ h c =>
      ⟨(h c).1.trans (Cert.ScanPIdeal.Scan.result12 m c), (h c).2.1.trans (Cert.ScanPIdeal.Scan.result13 m c), (h c).2.2⟩)
      (Cert.ScanPIdeal.Value.run_blocks (F := Ideal) m ρ)
  · have hargs (c : Dev Cert.ScanPIdeal.nD) : Cert.ScanPRefIdeal.Scan.args m' c = Cert.ScanPIdeal.Scan.args m c := by
      obtain ⟨h0, h1, h2, h3, h4, h5, h6, h7, h8, h9, h10⟩ := hagree c
      unfold Cert.ScanPRefIdeal.Scan.args Cert.ScanPIdeal.Scan.args
      rw [h0, h1, h2, h3, h4, h5, h6, h7, h8, h9, h10]
    refine (θ_run Cert.ScanPRefIdeal.defs _ _).mono (fun _ h c => ⟨(h c).1.trans ?_, (h c).2.1.trans ?_, (h c).2.2⟩)
      (Cert.ScanPRefIdeal.Value.run (F := Ideal) m' ρ')
    · exact (Cert.ScanPRefIdeal.Scan.result_fwd m' c).trans (by rw [hargs c])
    · exact (Cert.ScanPRefIdeal.Scan.result_bwd m' c).trans (by rw [hargs c])

/-- Everything claimed. -/
theorem claim : Cert.Claim :=
  ⟨Cert.Kernel.Gen.facts,
    Cert.KernelIdeal.Gen.facts,
    Cert.ReferenceIdeal.Gen.facts,
    Cert.InProj.Gen.facts,
    Cert.InProjIdeal.Gen.facts,
    Cert.InProjRefIdeal.Gen.facts,
    Cert.Merge.Gen.facts,
    Cert.MergeIdeal.Gen.facts,
    Cert.MergeRefIdeal.Gen.facts,
    Cert.Final.Gen.facts,
    Cert.FinalIdeal.Gen.facts,
    Cert.FinalRefIdeal.Gen.facts,
    Cert.Prep.Gen.facts,
    Cert.PrepIdeal.Gen.facts,
    Cert.PrepRefIdeal.Gen.facts,
    Cert.InProjP.Gen.facts,
    Cert.InProjPIdeal.Gen.facts,
    Cert.InProjPRefIdeal.Gen.facts,
    Cert.MergeP.Gen.facts,
    Cert.MergePIdeal.Gen.facts,
    Cert.MergePRefIdeal.Gen.facts,
    Cert.FinalP.Gen.facts,
    Cert.FinalPIdeal.Gen.facts,
    Cert.FinalPRefIdeal.Gen.facts,
    Cert.PrepP.Gen.facts,
    Cert.PrepPIdeal.Gen.facts,
    Cert.PrepPRefIdeal.Gen.facts,
    Cert.ScanP.Gen.facts,
    Cert.ScanPIdeal.Gen.facts,
    Cert.ScanPRefIdeal.Gen.facts,
    fun m ρ _ => Cert.Kernel.Gen.frame m ρ,
    fun m ρ _ => Cert.KernelIdeal.Gen.frame m ρ,
    frame_ReferenceIdeal,
    fun m ρ _ => Cert.InProj.Gen.frame m ρ,
    fun m ρ _ => Cert.InProjIdeal.Gen.frame m ρ,
    frame_InProjRefIdeal,
    fun m ρ _ => Cert.Merge.Gen.frame m ρ,
    fun m ρ _ => Cert.MergeIdeal.Gen.frame m ρ,
    frame_MergeRefIdeal,
    fun m ρ _ => Cert.Final.Gen.frame m ρ,
    fun m ρ _ => Cert.FinalIdeal.Gen.frame m ρ,
    frame_FinalRefIdeal,
    fun m ρ _ => Cert.Prep.Gen.frame m ρ,
    fun m ρ _ => Cert.PrepIdeal.Gen.frame m ρ,
    frame_PrepRefIdeal,
    fun m ρ _ => Cert.InProjP.Gen.frame m ρ,
    fun m ρ _ => Cert.InProjPIdeal.Gen.frame m ρ,
    frame_InProjPRefIdeal,
    fun m ρ _ => Cert.MergeP.Gen.frame m ρ,
    fun m ρ _ => Cert.MergePIdeal.Gen.frame m ρ,
    frame_MergePRefIdeal,
    fun m ρ _ => Cert.FinalP.Gen.frame m ρ,
    fun m ρ _ => Cert.FinalPIdeal.Gen.frame m ρ,
    frame_FinalPRefIdeal,
    fun m ρ _ => Cert.PrepP.Gen.frame m ρ,
    fun m ρ _ => Cert.PrepPIdeal.Gen.frame m ρ,
    frame_PrepPRefIdeal,
    fun m ρ _ => Cert.ScanP.Gen.frame m ρ,
    fun m ρ _ => Cert.ScanPIdeal.Gen.frame m ρ,
    frame_ScanPRefIdeal,
    trivial, scan, trivial, projections, trivial, merge, trivial, last,
    IdealRules.named_const.statement Cert.PrepIdeal.κ "inv_sqrt_dk" .f32 0x3DB504F3#32 (((Real.sqrt 128)⁻¹ : ℝ) : EReal) rfl, preparation,
    trivial, projectionsP, trivial, mergeP, trivial, lastP,
    IdealRules.named_const.statement Cert.PrepPIdeal.κ "inv_sqrt_dk" .f32 0x3DB504F3#32 (((Real.sqrt 128)⁻¹ : ℝ) : EReal) rfl, preparationP,
    trivial, scanP⟩

end Cert.Proof

end
